-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_counted [hPre_finite_and_counted : Cert.Pre_finite_and_counted.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_counted [hPre_finite_and_counted : Cert.Pre_finite_and_counted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_counted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_counted [hKernelIdeal : Cert.KernelIdeal.Facts] [hPre_finite_and_counted : Cert.Pre_finite_and_counted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_counted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_counted [hReferenceIdeal : Cert.ReferenceIdeal.Facts] [hPre_finite_and_counted : Cert.Pre_finite_and_counted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_counted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_counted [hKernelIdeal : Cert.KernelIdeal.Facts] [hReferenceIdeal : Cert.ReferenceIdeal.Facts] [hPre_finite_and_counted : Cert.Pre_finite_and_counted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_counted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_counted : Cert.Pre_finite_and_counted.Facts),
    quiescent_Kernel (hKernel := hKernel)
    ∧ quiescent_KernelIdeal (hKernelIdeal := hKernelIdeal)
    ∧ quiescent_KernelIdeal_pre_finite_and_counted (hKernelIdeal := hKernelIdeal) (hPre_finite_and_counted := hPre_finite_and_counted)
    ∧ quiescent_ReferenceIdeal (hReferenceIdeal := hReferenceIdeal)
    ∧ quiescent_ReferenceIdeal_pre_finite_and_counted (hReferenceIdeal := hReferenceIdeal) (hPre_finite_and_counted := hPre_finite_and_counted)
    ∧ preserves_Kernel_KernelIdeal
    ∧ algebraic_KernelIdeal_ReferenceIdeal_pre_finite_and_counted (hKernelIdeal := hKernelIdeal) (hReferenceIdeal := hReferenceIdeal) (hPre_finite_and_counted := hPre_finite_and_counted)
-- ==== Pre_finite_and_counted.lean ====
abbrev S16x255x80x80 : Shape := ⟨4, ![16, 255, 80, 80]⟩
abbrev S128x6 : Shape := ⟨2, ![128, 6]⟩
abbrev S16x3x85x80x80 : Shape := ⟨5, ![16, 3, 85, 80, 80]⟩
abbrev S16x3x81x80x80 : Shape := ⟨5, ![16, 3, 81, 80, 80]⟩
abbrev S_ : Shape := ⟨0, ![]⟩
abbrev S128x1 : Shape := ⟨2, ![128, 1]⟩
abbrev S128 : Shape := ⟨1, ![128]⟩

class Facts : Prop where
  shapeCasts_S16x255x80x80_S16x3x85x80x80 : S16x255x80x80.ShapeCasts S16x3x85x80x80
  slices_S16x3x85x80x80_S16x3x81x80x80_0_0_4_0_0 : S16x3x85x80x80.Slices ![0, 0, 4, 0, 0] S16x3x81x80x80
  bcast_S_S16x3x81x80x80 : S_.BroadcastsInDim S16x3x81x80x80 (![] : Fin 0 → Fin S16x3x81x80x80.rank)
  reducesTo_S16x3x81x80x80_S_d0_1_2_3_4 : S16x3x81x80x80.ReducesTo [0, 1, 2, 3, 4] S_
  h_S_ : 0 < S_.numel
  slices_S128x6_S128x1_0_0 : S128x6.Slices ![0, 0] S128x1
  shapeCasts_S128x1_S128 : S128x1.ShapeCasts S128
  bcast_S_S128 : S_.BroadcastsInDim S128 (![] : Fin 0 → Fin S128.rank)
  reducesTo_S128_S_d0 : S128.ReducesTo [0] S_
  slices_S128x6_S128x1_0_1 : S128x6.Slices ![0, 1] S128x1

variable [Facts]

def fn_part1 {F : FTy → Type} [FloatOps F] (main_v12 : IVec S_ 1) (main_v17 : IVec S128 1) (main_c_3 : IVec S_ 1) : IVec S_ 1 :=
  let main_v18 : IVec S_ 1 := (fun x v => Host.reduce IntOp.andi x v reducesTo_S128_S_d0 h_S_) main_v17 main_c_3
  let main_v19 : IVec S_ 1 := andi main_v12 main_v18
  main_v19

def fn {F : FTy → Type} [FloatOps F] (main_arg0 : FVec F S16x255x80x80 .f32) (main_arg1 : FVec F S128x6 .f32) : IVec S_ 1 :=
  let main_v0 : FVec F S16x3x85x80x80 .f32 := shapeCast S16x3x85x80x80 main_arg0 shapeCasts_S16x255x80x80_S16x3x85x80x80
  let main_v1 : FVec F S16x3x81x80x80 .f32 := (extractStridedSlice S16x3x81x80x80 ![0, 0, 4, 0, 0] · slices_S16x3x85x80x80_S16x3x81x80x80_0_0_4_0_0) main_v0
  let main_v2 : FVec F S16x3x81x80x80 .f32 := Host.absf main_v1
  let main_cst : FVec F S_ .f32 := constant S_ .f32 0x7F800000#32
  let main_v3 : FVec F S16x3x81x80x80 .f32 := broadcastInDim S16x3x81x80x80 ![] bcast_S_S16x3x81x80x80 main_cst
  let main_v4 : IVec S16x3x81x80x80 1 := cmpf .olt main_v2 main_v3
  let main_c : IVec S_ 1 := constantI S_ 1 1#1
  let main_v5 : IVec S_ 1 := (fun x v => Host.reduce IntOp.andi x v reducesTo_S16x3x81x80x80_S_d0_1_2_3_4 h_S_) main_v4 main_c
  let main_v6 : FVec F S128x1 .f32 := (extractStridedSlice S128x1 ![0, 0] · slices_S128x6_S128x1_0_0) main_arg1
  let main_v7 : FVec F S128 .f32 := shapeCast S128 main_v6 shapeCasts_S128x1_S128
  let main_v8 : IVec S128 32 := fptosi 32 main_v7
  let main_c_0 : IVec S_ 32 := constantI S_ 32 0#32
  let main_v9 : IVec S128 32 := broadcastInDim S128 ![] bcast_S_S128 main_c_0
  let main_v10 : IVec S128 1 := cmpi .sge main_v8 main_v9
  let main_c_1 : IVec S_ 1 := constantI S_ 1 1#1
  let main_v11 : IVec S_ 1 := (fun x v => Host.reduce IntOp.andi x v reducesTo_S128_S_d0 h_S_) main_v10 main_c_1
  let main_v12 : IVec S_ 1 := andi main_v5 main_v11
  let main_v13 : FVec F S128x1 .f32 := (extractStridedSlice S128x1 ![0, 1] · slices_S128x6_S128x1_0_1) main_arg1
  let main_v14 : FVec F S128 .f32 := shapeCast S128 main_v13 shapeCasts_S128x1_S128
  let main_v15 : IVec S128 32 := fptosi 32 main_v14
  let main_c_2 : IVec S_ 32 := constantI S_ 32 0#32
  let main_v16 : IVec S128 32 := broadcastInDim S128 ![] bcast_S_S128 main_c_2
  let main_v17 : IVec S128 1 := cmpi .sge main_v15 main_v16
  let main_c_3 : IVec S_ 1 := constantI S_ 1 1#1
  fn_part1 (F := F) main_v12 main_v17 main_c_3
-- ==== Kernel.lean ====
abbrev S16x255x80x80 : Shape := ⟨4, ![16, 255, 80, 80]⟩
abbrev S128x6 : Shape := ⟨2, ![128, 6]⟩
abbrev S128x8 : Shape := ⟨2, ![128, 8]⟩
abbrev S6x128 : Shape := ⟨2, ![6, 128]⟩
abbrev S3840x80 : Shape := ⟨2, ![3840, 80]⟩
abbrev S16x3x80x80 : Shape := ⟨4, ![16, 3, 80, 80]⟩
abbrev S128x1 : Shape := ⟨2, ![128, 1]⟩
abbrev S128x2 : Shape := ⟨2, ![128, 2]⟩
abbrev S128x85x80 : Shape := ⟨3, ![128, 85, 80]⟩
abbrev S_ : Shape := ⟨0, ![]⟩
abbrev S80x80 : Shape := ⟨2, ![80, 80]⟩
abbrev S1x1x80x80 : Shape := ⟨4, ![1, 1, 80, 80]⟩
abbrev S1x1 : Shape := ⟨2, ![1, 1]⟩
abbrev S1x85x80 : Shape := ⟨3, ![1, 85, 80]⟩
abbrev S85x80 : Shape := ⟨2, ![85, 80]⟩
abbrev S1x85x1x80 : Shape := ⟨4, ![1, 85, 1, 80]⟩
abbrev S1x128 : Shape := ⟨2, ![1, 128]⟩
abbrev S128x128 : Shape := ⟨2, ![128, 128]⟩
abbrev S128 : Shape := ⟨1, ![128]⟩
abbrev S128x1x1 : Shape := ⟨3, ![128, 1, 1]⟩
abbrev S128x85 : Shape := ⟨2, ![128, 85]⟩
abbrev S128x80 : Shape := ⟨2, ![128, 80]⟩
abbrev S1x128x1 : Shape := ⟨3, ![1, 128, 1]⟩
abbrev S1 : Shape := ⟨1, ![1]⟩
abbrev S1x1x1 : Shape := ⟨3, ![1, 1, 1]⟩
abbrev S1x128x80 : Shape := ⟨3, ![1, 128, 80]⟩
abbrev S1x3840x80 : Shape := ⟨3, ![1, 3840, 80]⟩
abbrev S1x80 : Shape := ⟨2, ![1, 80]⟩

abbrev nBuf : Space → Nat
  | .hbm => 6
  | .vmem => 7
  | .smem => 1
  | _ => 0

abbrev bufTy : (tb : Table) → Fin (tcTables nBuf tb) → BufTy
  | .hbm, ⟨0, _⟩ => ⟨S16x255x80x80, .f32⟩
  | .hbm, ⟨1, _⟩ => ⟨S128x6, .f32⟩
  | .hbm, ⟨2, _⟩ => ⟨S128x8, .i32⟩
  | .hbm, ⟨3, _⟩ => ⟨S6x128, .f32⟩
  | .hbm, ⟨4, _⟩ => ⟨S3840x80, .f32⟩
  | .hbm, ⟨5, _⟩ => ⟨S16x3x80x80, .f32⟩
  | .local _ .vmem, ⟨0, _⟩ => ⟨S128x6, .f32⟩
  | .local _ .vmem, ⟨1, _⟩ => ⟨S128x8, .i32⟩
  | .local _ .vmem, ⟨2, _⟩ => ⟨S128x6, .f32⟩
  | .local _ .vmem, ⟨3, _⟩ => ⟨S6x128, .f32⟩
  | .local _ .vmem, ⟨4, _⟩ => ⟨S3840x80, .f32⟩
  | .local _ .vmem, ⟨5, _⟩ => ⟨S3840x80, .f32⟩
  | .local _ .vmem, ⟨6, _⟩ => ⟨S128x85x80, .f32⟩
  | .local _ .smem, ⟨0, _⟩ => ⟨S128x8, .i32⟩
  | _, _ => ⟨S16x255x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg3_0 : Ref sig .tc := ⟨.vmem, 4, rfl⟩
abbrev cc1_scratch0 : Ref sig .tc := ⟨.vmem, 5, rfl⟩
abbrev cc1_scratch1 : Ref sig .tc := ⟨.vmem, 6, rfl⟩
abbrev cc1_stg2_0 : Ref sig .tc := ⟨.smem, 0, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5

abbrev nD : Nat := 1
abbrev τ : Topo := Topo.v7x

variable {F : FTy → Type} [FloatOps F]

abbrev grid0 : Pipeline.Grid := .none

abbrev stage0_0 : Fin 1 → Memref sig .tc .vmem S128x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_off1 (v144 : BitVec 32) (v145 : BitVec 32) (v146 : BitVec 32) : Fin 4 → Nat :=
  let c85_i32 : BitVec 32 := 85#32
  let v147 : BitVec 32 := Scalar.muli v145 c85_i32
  let c0_i32_229 : BitVec 32 := 0#32
  ![v144.toNat, v147.toNat, v146.toNat, 0]

def k1_off2 (v152 : BitVec 32) (v153 : BitVec 32) (v154 : BitVec 32) : Fin 4 → Nat :=
  let c85_i32_236 : BitVec 32 := 85#32
  let v155 : BitVec 32 := Scalar.muli v153 c85_i32_236
  let c0_i32_240 : BitVec 32 := 0#32
  ![v152.toNat, v155.toNat, v154.toNat, 0]

def k1_off3 (v160 : BitVec 32) (v161 : BitVec 32) (v162 : BitVec 32) : Fin 4 → Nat :=
  let c85_i32_247 : BitVec 32 := 85#32
  let v163 : BitVec 32 := Scalar.muli v161 c85_i32_247
  let c0_i32_251 : BitVec 32 := 0#32
  ![v160.toNat, v163.toNat, v162.toNat, 0]

def k1_off4 (v168 : BitVec 32) (v169 : BitVec 32) (v170 : BitVec 32) : Fin 4 → Nat :=
  let c85_i32_257 : BitVec 32 := 85#32
  let v171 : BitVec 32 := Scalar.muli v169 c85_i32_257
  let c0_i32_261 : BitVec 32 := 0#32
  ![v168.toNat, v171.toNat, v170.toNat, 0]

def k1_off5 (v176 : BitVec 32) (v177 : BitVec 32) (v178 : BitVec 32) : Fin 4 → Nat :=
  let c85_i32_267 : BitVec 32 := 85#32
  let v179 : BitVec 32 := Scalar.muli v177 c85_i32_267
  let c0_i32_271 : BitVec 32 := 0#32
  ![v176.toNat, v179.toNat, v178.toNat, 0]

def k1_off6 (v184 : BitVec 32) (v185 : BitVec 32) (v186 : BitVec 32) : Fin 4 → Nat :=
  let c85_i32_277 : BitVec 32 := 85#32
  let v187 : BitVec 32 := Scalar.muli v185 c85_i32_277
  let c0_i32_281 : BitVec 32 := 0#32
  ![v184.toNat, v187.toNat, v186.toNat, 0]

def k1_off7 (v192 : BitVec 32) (v193 : BitVec 32) (v194 : BitVec 32) : Fin 4 → Nat :=
  let c85_i32_287 : BitVec 32 := 85#32
  let v195 : BitVec 32 := Scalar.muli v193 c85_i32_287
  let c0_i32_291 : BitVec 32 := 0#32
  ![v192.toNat, v195.toNat, v194.toNat, 0]

def k1_off8 (v200 : BitVec 32) (v201 : BitVec 32) (v202 : BitVec 32) : Fin 4 → Nat :=
  let c85_i32_297 : BitVec 32 := 85#32
  let v203 : BitVec 32 := Scalar.muli v201 c85_i32_297
  let c0_i32_301 : BitVec 32 := 0#32
  ![v200.toNat, v203.toNat, v202.toNat, 0]

def k1_off9 (v208 : BitVec 32) (v209 : BitVec 32) (v210 : BitVec 32) : Fin 4 → Nat :=
  let c85_i32_307 : BitVec 32 := 85#32
  let v211 : BitVec 32 := Scalar.muli v209 c85_i32_307
  let c0_i32_311 : BitVec 32 := 0#32
  ![v208.toNat, v211.toNat, v210.toNat, 0]

def k1_off10 (v216 : BitVec 32) (v217 : BitVec 32) (v218 : BitVec 32) : Fin 4 → Nat :=
  let c85_i32_317 : BitVec 32 := 85#32
  let v219 : BitVec 32 := Scalar.muli v217 c85_i32_317
  let c0_i32_321 : BitVec 32 := 0#32
  ![v216.toNat, v219.toNat, v218.toNat, 0]

def k1_off11 (v224 : BitVec 32) (v225 : BitVec 32) (v226 : BitVec 32) : Fin 4 → Nat :=
  let c85_i32_327 : BitVec 32 := 85#32
  let v227 : BitVec 32 := Scalar.muli v225 c85_i32_327
  let c0_i32_331 : BitVec 32 := 0#32
  ![v224.toNat, v227.toNat, v226.toNat, 0]

def k1_off12 (v232 : BitVec 32) (v233 : BitVec 32) (v234 : BitVec 32) : Fin 4 → Nat :=
  let c85_i32_337 : BitVec 32 := 85#32
  let v235 : BitVec 32 := Scalar.muli v233 c85_i32_337
  let c0_i32_341 : BitVec 32 := 0#32
  ![v232.toNat, v235.toNat, v234.toNat, 0]

def k1_off13 (v240 : BitVec 32) (v241 : BitVec 32) (v242 : BitVec 32) : Fin 4 → Nat :=
  let c85_i32_347 : BitVec 32 := 85#32
  let v243 : BitVec 32 := Scalar.muli v241 c85_i32_347
  let c0_i32_351 : BitVec 32 := 0#32
  ![v240.toNat, v243.toNat, v242.toNat, 0]

def k1_off14 (v248 : BitVec 32) (v249 : BitVec 32) (v250 : BitVec 32) : Fin 4 → Nat :=
  let c85_i32_357 : BitVec 32 := 85#32
  let v251 : BitVec 32 := Scalar.muli v249 c85_i32_357
  let c0_i32_361 : BitVec 32 := 0#32
  ![v248.toNat, v251.toNat, v250.toNat, 0]

def k1_off15 (v256 : BitVec 32) (v257 : BitVec 32) (v258 : BitVec 32) : Fin 4 → Nat :=
  let c85_i32_367 : BitVec 32 := 85#32
  let v259 : BitVec 32 := Scalar.muli v257 c85_i32_367
  let c0_i32_371 : BitVec 32 := 0#32
  ![v256.toNat, v259.toNat, v258.toNat, 0]

def k1_off16 (v264 : BitVec 32) (v265 : BitVec 32) (v266 : BitVec 32) : Fin 4 → Nat :=
  let c85_i32_377 : BitVec 32 := 85#32
  let v267 : BitVec 32 := Scalar.muli v265 c85_i32_377
  let c0_i32_381 : BitVec 32 := 0#32
  ![v264.toNat, v267.toNat, v266.toNat, 0]

def k1_off17 (v272 : BitVec 32) (v273 : BitVec 32) (v274 : BitVec 32) : Fin 4 → Nat :=
  let c85_i32_387 : BitVec 32 := 85#32
  let v275 : BitVec 32 := Scalar.muli v273 c85_i32_387
  let c0_i32_390 : BitVec 32 := 0#32
  ![v272.toNat, v275.toNat, v274.toNat, 0]

def k1_off18 (v280 : BitVec 32) (v281 : BitVec 32) (v282 : BitVec 32) : Fin 4 → Nat :=
  let c85_i32_396 : BitVec 32 := 85#32
  let v283 : BitVec 32 := Scalar.muli v281 c85_i32_396
  let c0_i32_399 : BitVec 32 := 0#32
  ![v280.toNat, v283.toNat, v282.toNat, 0]

def k1_off19 (v288 : BitVec 32) (v289 : BitVec 32) (v290 : BitVec 32) : Fin 4 → Nat :=
  let c85_i32_405 : BitVec 32 := 85#32
  let v291 : BitVec 32 := Scalar.muli v289 c85_i32_405
  let c0_i32_408 : BitVec 32 := 0#32
  ![v288.toNat, v291.toNat, v290.toNat, 0]

def k1_off20 (v296 : BitVec 32) (v297 : BitVec 32) (v298 : BitVec 32) : Fin 4 → Nat :=
  let c85_i32_414 : BitVec 32 := 85#32
  let v299 : BitVec 32 := Scalar.muli v297 c85_i32_414
  let c0_i32_417 : BitVec 32 := 0#32
  ![v296.toNat, v299.toNat, v298.toNat, 0]

def k1_off21 (v304 : BitVec 32) (v305 : BitVec 32) (v306 : BitVec 32) : Fin 4 → Nat :=
  let c85_i32_423 : BitVec 32 := 85#32
  let v307 : BitVec 32 := Scalar.muli v305 c85_i32_423
  let c0_i32_426 : BitVec 32 := 0#32
  ![v304.toNat, v307.toNat, v306.toNat, 0]

def k1_off22 (v312 : BitVec 32) (v313 : BitVec 32) (v314 : BitVec 32) : Fin 4 → Nat :=
  let c85_i32_432 : BitVec 32 := 85#32
  let v315 : BitVec 32 := Scalar.muli v313 c85_i32_432
  let c0_i32_435 : BitVec 32 := 0#32
  ![v312.toNat, v315.toNat, v314.toNat, 0]

def k1_off23 (v320 : BitVec 32) (v321 : BitVec 32) (v322 : BitVec 32) : Fin 4 → Nat :=
  let c85_i32_441 : BitVec 32 := 85#32
  let v323 : BitVec 32 := Scalar.muli v321 c85_i32_441
  let c0_i32_444 : BitVec 32 := 0#32
  ![v320.toNat, v323.toNat, v322.toNat, 0]

def k1_off24 (v328 : BitVec 32) (v329 : BitVec 32) (v330 : BitVec 32) : Fin 4 → Nat :=
  let c85_i32_450 : BitVec 32 := 85#32
  let v331 : BitVec 32 := Scalar.muli v329 c85_i32_450
  let c0_i32_453 : BitVec 32 := 0#32
  ![v328.toNat, v331.toNat, v330.toNat, 0]

def k1_off25 (v336 : BitVec 32) (v337 : BitVec 32) (v338 : BitVec 32) : Fin 4 → Nat :=
  let c85_i32_459 : BitVec 32 := 85#32
  let v339 : BitVec 32 := Scalar.muli v337 c85_i32_459
  let c0_i32_462 : BitVec 32 := 0#32
  ![v336.toNat, v339.toNat, v338.toNat, 0]

def k1_off26 (v344 : BitVec 32) (v345 : BitVec 32) (v346 : BitVec 32) : Fin 4 → Nat :=
  let c85_i32_468 : BitVec 32 := 85#32
  let v347 : BitVec 32 := Scalar.muli v345 c85_i32_468
  let c0_i32_471 : BitVec 32 := 0#32
  ![v344.toNat, v347.toNat, v346.toNat, 0]

def k1_off27 (v352 : BitVec 32) (v353 : BitVec 32) (v354 : BitVec 32) : Fin 4 → Nat :=
  let c85_i32_477 : BitVec 32 := 85#32
  let v355 : BitVec 32 := Scalar.muli v353 c85_i32_477
  let c0_i32_480 : BitVec 32 := 0#32
  ![v352.toNat, v355.toNat, v354.toNat, 0]

def k1_off28 (v360 : BitVec 32) (v361 : BitVec 32) (v362 : BitVec 32) : Fin 4 → Nat :=
  let c85_i32_486 : BitVec 32 := 85#32
  let v363 : BitVec 32 := Scalar.muli v361 c85_i32_486
  let c0_i32_489 : BitVec 32 := 0#32
  ![v360.toNat, v363.toNat, v362.toNat, 0]

def k1_off29 (v368 : BitVec 32) (v369 : BitVec 32) (v370 : BitVec 32) : Fin 4 → Nat :=
  let c85_i32_495 : BitVec 32 := 85#32
  let v371 : BitVec 32 := Scalar.muli v369 c85_i32_495
  let c0_i32_498 : BitVec 32 := 0#32
  ![v368.toNat, v371.toNat, v370.toNat, 0]

def k1_off30 (v376 : BitVec 32) (v377 : BitVec 32) (v378 : BitVec 32) : Fin 4 → Nat :=
  let c85_i32_504 : BitVec 32 := 85#32
  let v379 : BitVec 32 := Scalar.muli v377 c85_i32_504
  let c0_i32_507 : BitVec 32 := 0#32
  ![v376.toNat, v379.toNat, v378.toNat, 0]

def k1_off31 (v384 : BitVec 32) (v385 : BitVec 32) (v386 : BitVec 32) : Fin 4 → Nat :=
  let c85_i32_513 : BitVec 32 := 85#32
  let v387 : BitVec 32 := Scalar.muli v385 c85_i32_513
  let c0_i32_516 : BitVec 32 := 0#32
  ![v384.toNat, v387.toNat, v386.toNat, 0]

def k1_off32 (v392 : BitVec 32) (v393 : BitVec 32) (v394 : BitVec 32) : Fin 4 → Nat :=
  let c85_i32_522 : BitVec 32 := 85#32
  let v395 : BitVec 32 := Scalar.muli v393 c85_i32_522
  let c0_i32_525 : BitVec 32 := 0#32
  ![v392.toNat, v395.toNat, v394.toNat, 0]

def k1_off33 (v400 : BitVec 32) (v401 : BitVec 32) (v402 : BitVec 32) : Fin 4 → Nat :=
  let c85_i32_531 : BitVec 32 := 85#32
  let v403 : BitVec 32 := Scalar.muli v401 c85_i32_531
  let c0_i32_534 : BitVec 32 := 0#32
  ![v400.toNat, v403.toNat, v402.toNat, 0]

def k1_off34 (v408 : BitVec 32) (v409 : BitVec 32) (v410 : BitVec 32) : Fin 4 → Nat :=
  let c85_i32_540 : BitVec 32 := 85#32
  let v411 : BitVec 32 := Scalar.muli v409 c85_i32_540
  let c0_i32_543 : BitVec 32 := 0#32
  ![v408.toNat, v411.toNat, v410.toNat, 0]

def k1_off35 (v416 : BitVec 32) (v417 : BitVec 32) (v418 : BitVec 32) : Fin 4 → Nat :=
  let c85_i32_549 : BitVec 32 := 85#32
  let v419 : BitVec 32 := Scalar.muli v417 c85_i32_549
  let c0_i32_552 : BitVec 32 := 0#32
  ![v416.toNat, v419.toNat, v418.toNat, 0]

def k1_off36 (v424 : BitVec 32) (v425 : BitVec 32) (v426 : BitVec 32) : Fin 4 → Nat :=
  let c85_i32_558 : BitVec 32 := 85#32
  let v427 : BitVec 32 := Scalar.muli v425 c85_i32_558
  let c0_i32_561 : BitVec 32 := 0#32
  ![v424.toNat, v427.toNat, v426.toNat, 0]

def k1_off37 (v432 : BitVec 32) (v433 : BitVec 32) (v434 : BitVec 32) : Fin 4 → Nat :=
  let c85_i32_567 : BitVec 32 := 85#32
  let v435 : BitVec 32 := Scalar.muli v433 c85_i32_567
  let c0_i32_570 : BitVec 32 := 0#32
  ![v432.toNat, v435.toNat, v434.toNat, 0]

def k1_off38 (v440 : BitVec 32) (v441 : BitVec 32) (v442 : BitVec 32) : Fin 4 → Nat :=
  let c85_i32_576 : BitVec 32 := 85#32
  let v443 : BitVec 32 := Scalar.muli v441 c85_i32_576
  let c0_i32_579 : BitVec 32 := 0#32
  ![v440.toNat, v443.toNat, v442.toNat, 0]

def k1_off39 (v448 : BitVec 32) (v449 : BitVec 32) (v450 : BitVec 32) : Fin 4 → Nat :=
  let c85_i32_585 : BitVec 32 := 85#32
  let v451 : BitVec 32 := Scalar.muli v449 c85_i32_585
  let c0_i32_588 : BitVec 32 := 0#32
  ![v448.toNat, v451.toNat, v450.toNat, 0]

def k1_off40 (v456 : BitVec 32) (v457 : BitVec 32) (v458 : BitVec 32) : Fin 4 → Nat :=
  let c85_i32_594 : BitVec 32 := 85#32
  let v459 : BitVec 32 := Scalar.muli v457 c85_i32_594
  let c0_i32_597 : BitVec 32 := 0#32
  ![v456.toNat, v459.toNat, v458.toNat, 0]

def k1_off41 (v464 : BitVec 32) (v465 : BitVec 32) (v466 : BitVec 32) : Fin 4 → Nat :=
  let c85_i32_603 : BitVec 32 := 85#32
  let v467 : BitVec 32 := Scalar.muli v465 c85_i32_603
  let c0_i32_606 : BitVec 32 := 0#32
  ![v464.toNat, v467.toNat, v466.toNat, 0]

def k1_off42 (v472 : BitVec 32) (v473 : BitVec 32) (v474 : BitVec 32) : Fin 4 → Nat :=
  let c85_i32_612 : BitVec 32 := 85#32
  let v475 : BitVec 32 := Scalar.muli v473 c85_i32_612
  let c0_i32_615 : BitVec 32 := 0#32
  ![v472.toNat, v475.toNat, v474.toNat, 0]

def k1_off43 (v480 : BitVec 32) (v481 : BitVec 32) (v482 : BitVec 32) : Fin 4 → Nat :=
  let c85_i32_621 : BitVec 32 := 85#32
  let v483 : BitVec 32 := Scalar.muli v481 c85_i32_621
  let c0_i32_624 : BitVec 32 := 0#32
  ![v480.toNat, v483.toNat, v482.toNat, 0]

def k1_off44 (v488 : BitVec 32) (v489 : BitVec 32) (v490 : BitVec 32) : Fin 4 → Nat :=
  let c85_i32_630 : BitVec 32 := 85#32
  let v491 : BitVec 32 := Scalar.muli v489 c85_i32_630
  let c0_i32_633 : BitVec 32 := 0#32
  ![v488.toNat, v491.toNat, v490.toNat, 0]

def k1_off45 (v496 : BitVec 32) (v497 : BitVec 32) (v498 : BitVec 32) : Fin 4 → Nat :=
  let c85_i32_639 : BitVec 32 := 85#32
  let v499 : BitVec 32 := Scalar.muli v497 c85_i32_639
  let c0_i32_642 : BitVec 32 := 0#32
  ![v496.toNat, v499.toNat, v498.toNat, 0]

def k1_off46 (v504 : BitVec 32) (v505 : BitVec 32) (v506 : BitVec 32) : Fin 4 → Nat :=
  let c85_i32_648 : BitVec 32 := 85#32
  let v507 : BitVec 32 := Scalar.muli v505 c85_i32_648
  let c0_i32_651 : BitVec 32 := 0#32
  ![v504.toNat, v507.toNat, v506.toNat, 0]

def k1_off47 (v512 : BitVec 32) (v513 : BitVec 32) (v514 : BitVec 32) : Fin 4 → Nat :=
  let c85_i32_657 : BitVec 32 := 85#32
  let v515 : BitVec 32 := Scalar.muli v513 c85_i32_657
  let c0_i32_660 : BitVec 32 := 0#32
  ![v512.toNat, v515.toNat, v514.toNat, 0]

def k1_off48 (v520 : BitVec 32) (v521 : BitVec 32) (v522 : BitVec 32) : Fin 4 → Nat :=
  let c85_i32_666 : BitVec 32 := 85#32
  let v523 : BitVec 32 := Scalar.muli v521 c85_i32_666
  let c0_i32_669 : BitVec 32 := 0#32
  ![v520.toNat, v523.toNat, v522.toNat, 0]

def k1_off49 (v528 : BitVec 32) (v529 : BitVec 32) (v530 : BitVec 32) : Fin 4 → Nat :=
  let c85_i32_675 : BitVec 32 := 85#32
  let v531 : BitVec 32 := Scalar.muli v529 c85_i32_675
  let c0_i32_678 : BitVec 32 := 0#32
  ![v528.toNat, v531.toNat, v530.toNat, 0]

def k1_off50 (v536 : BitVec 32) (v537 : BitVec 32) (v538 : BitVec 32) : Fin 4 → Nat :=
  let c85_i32_684 : BitVec 32 := 85#32
  let v539 : BitVec 32 := Scalar.muli v537 c85_i32_684
  let c0_i32_687 : BitVec 32 := 0#32
  ![v536.toNat, v539.toNat, v538.toNat, 0]

def k1_off51 (v544 : BitVec 32) (v545 : BitVec 32) (v546 : BitVec 32) : Fin 4 → Nat :=
  let c85_i32_693 : BitVec 32 := 85#32
  let v547 : BitVec 32 := Scalar.muli v545 c85_i32_693
  let c0_i32_696 : BitVec 32 := 0#32
  ![v544.toNat, v547.toNat, v546.toNat, 0]

def k1_off52 (v552 : BitVec 32) (v553 : BitVec 32) (v554 : BitVec 32) : Fin 4 → Nat :=
  let c85_i32_702 : BitVec 32 := 85#32
  let v555 : BitVec 32 := Scalar.muli v553 c85_i32_702
  let c0_i32_705 : BitVec 32 := 0#32
  ![v552.toNat, v555.toNat, v554.toNat, 0]

def k1_off53 (v560 : BitVec 32) (v561 : BitVec 32) (v562 : BitVec 32) : Fin 4 → Nat :=
  let c85_i32_711 : BitVec 32 := 85#32
  let v563 : BitVec 32 := Scalar.muli v561 c85_i32_711
  let c0_i32_714 : BitVec 32 := 0#32
  ![v560.toNat, v563.toNat, v562.toNat, 0]

def k1_off54 (v568 : BitVec 32) (v569 : BitVec 32) (v570 : BitVec 32) : Fin 4 → Nat :=
  let c85_i32_720 : BitVec 32 := 85#32
  let v571 : BitVec 32 := Scalar.muli v569 c85_i32_720
  let c0_i32_723 : BitVec 32 := 0#32
  ![v568.toNat, v571.toNat, v570.toNat, 0]

def k1_off55 (v576 : BitVec 32) (v577 : BitVec 32) (v578 : BitVec 32) : Fin 4 → Nat :=
  let c85_i32_729 : BitVec 32 := 85#32
  let v579 : BitVec 32 := Scalar.muli v577 c85_i32_729
  let c0_i32_732 : BitVec 32 := 0#32
  ![v576.toNat, v579.toNat, v578.toNat, 0]

def k1_off56 (v584 : BitVec 32) (v585 : BitVec 32) (v586 : BitVec 32) : Fin 4 → Nat :=
  let c85_i32_738 : BitVec 32 := 85#32
  let v587 : BitVec 32 := Scalar.muli v585 c85_i32_738
  let c0_i32_741 : BitVec 32 := 0#32
  ![v584.toNat, v587.toNat, v586.toNat, 0]

def k1_off57 (v592 : BitVec 32) (v593 : BitVec 32) (v594 : BitVec 32) : Fin 4 → Nat :=
  let c85_i32_747 : BitVec 32 := 85#32
  let v595 : BitVec 32 := Scalar.muli v593 c85_i32_747
  let c0_i32_750 : BitVec 32 := 0#32
  ![v592.toNat, v595.toNat, v594.toNat, 0]

def k1_off58 (v600 : BitVec 32) (v601 : BitVec 32) (v602 : BitVec 32) : Fin 4 → Nat :=
  let c85_i32_756 : BitVec 32 := 85#32
  let v603 : BitVec 32 := Scalar.muli v601 c85_i32_756
  let c0_i32_759 : BitVec 32 := 0#32
  ![v600.toNat, v603.toNat, v602.toNat, 0]

def k1_off59 (v608 : BitVec 32) (v609 : BitVec 32) (v610 : BitVec 32) : Fin 4 → Nat :=
  let c85_i32_765 : BitVec 32 := 85#32
  let v611 : BitVec 32 := Scalar.muli v609 c85_i32_765
  let c0_i32_768 : BitVec 32 := 0#32
  ![v608.toNat, v611.toNat, v610.toNat, 0]

def k1_off60 (v616 : BitVec 32) (v617 : BitVec 32) (v618 : BitVec 32) : Fin 4 → Nat :=
  let c85_i32_774 : BitVec 32 := 85#32
  let v619 : BitVec 32 := Scalar.muli v617 c85_i32_774
  let c0_i32_777 : BitVec 32 := 0#32
  ![v616.toNat, v619.toNat, v618.toNat, 0]

def k1_off61 (v624 : BitVec 32) (v625 : BitVec 32) (v626 : BitVec 32) : Fin 4 → Nat :=
  let c85_i32_783 : BitVec 32 := 85#32
  let v627 : BitVec 32 := Scalar.muli v625 c85_i32_783
  let c0_i32_786 : BitVec 32 := 0#32
  ![v624.toNat, v627.toNat, v626.toNat, 0]

def k1_off62 (v632 : BitVec 32) (v633 : BitVec 32) (v634 : BitVec 32) : Fin 4 → Nat :=
  let c85_i32_792 : BitVec 32 := 85#32
  let v635 : BitVec 32 := Scalar.muli v633 c85_i32_792
  let c0_i32_795 : BitVec 32 := 0#32
  ![v632.toNat, v635.toNat, v634.toNat, 0]

def k1_off63 (v640 : BitVec 32) (v641 : BitVec 32) (v642 : BitVec 32) : Fin 4 → Nat :=
  let c85_i32_801 : BitVec 32 := 85#32
  let v643 : BitVec 32 := Scalar.muli v641 c85_i32_801
  let c0_i32_804 : BitVec 32 := 0#32
  ![v640.toNat, v643.toNat, v642.toNat, 0]

def k1_off64 (v648 : BitVec 32) (v649 : BitVec 32) (v650 : BitVec 32) : Fin 4 → Nat :=
  let c85_i32_810 : BitVec 32 := 85#32
  let v651 : BitVec 32 := Scalar.muli v649 c85_i32_810
  let c0_i32_813 : BitVec 32 := 0#32
  ![v648.toNat, v651.toNat, v650.toNat, 0]

def k1_off65 (v656 : BitVec 32) (v657 : BitVec 32) (v658 : BitVec 32) : Fin 4 → Nat :=
  let c85_i32_819 : BitVec 32 := 85#32
  let v659 : BitVec 32 := Scalar.muli v657 c85_i32_819
  let c0_i32_822 : BitVec 32 := 0#32
  ![v656.toNat, v659.toNat, v658.toNat, 0]

def k1_off66 (v664 : BitVec 32) (v665 : BitVec 32) (v666 : BitVec 32) : Fin 4 → Nat :=
  let c85_i32_828 : BitVec 32 := 85#32
  let v667 : BitVec 32 := Scalar.muli v665 c85_i32_828
  let c0_i32_831 : BitVec 32 := 0#32
  ![v664.toNat, v667.toNat, v666.toNat, 0]

def k1_off67 (v672 : BitVec 32) (v673 : BitVec 32) (v674 : BitVec 32) : Fin 4 → Nat :=
  let c85_i32_837 : BitVec 32 := 85#32
  let v675 : BitVec 32 := Scalar.muli v673 c85_i32_837
  let c0_i32_840 : BitVec 32 := 0#32
  ![v672.toNat, v675.toNat, v674.toNat, 0]

def k1_off68 (v680 : BitVec 32) (v681 : BitVec 32) (v682 : BitVec 32) : Fin 4 → Nat :=
  let c85_i32_846 : BitVec 32 := 85#32
  let v683 : BitVec 32 := Scalar.muli v681 c85_i32_846
  let c0_i32_849 : BitVec 32 := 0#32
  ![v680.toNat, v683.toNat, v682.toNat, 0]

def k1_off69 (v688 : BitVec 32) (v689 : BitVec 32) (v690 : BitVec 32) : Fin 4 → Nat :=
  let c85_i32_855 : BitVec 32 := 85#32
  let v691 : BitVec 32 := Scalar.muli v689 c85_i32_855
  let c0_i32_858 : BitVec 32 := 0#32
  ![v688.toNat, v691.toNat, v690.toNat, 0]

def k1_off70 (v696 : BitVec 32) (v697 : BitVec 32) (v698 : BitVec 32) : Fin 4 → Nat :=
  let c85_i32_864 : BitVec 32 := 85#32
  let v699 : BitVec 32 := Scalar.muli v697 c85_i32_864
  let c0_i32_867 : BitVec 32 := 0#32
  ![v696.toNat, v699.toNat, v698.toNat, 0]

def k1_off71 (v704 : BitVec 32) (v705 : BitVec 32) (v706 : BitVec 32) : Fin 4 → Nat :=
  let c85_i32_873 : BitVec 32 := 85#32
  let v707 : BitVec 32 := Scalar.muli v705 c85_i32_873
  let c0_i32_876 : BitVec 32 := 0#32
  ![v704.toNat, v707.toNat, v706.toNat, 0]

def k1_off72 (v712 : BitVec 32) (v713 : BitVec 32) (v714 : BitVec 32) : Fin 4 → Nat :=
  let c85_i32_882 : BitVec 32 := 85#32
  let v715 : BitVec 32 := Scalar.muli v713 c85_i32_882
  let c0_i32_885 : BitVec 32 := 0#32
  ![v712.toNat, v715.toNat, v714.toNat, 0]

def k1_off73 (v720 : BitVec 32) (v721 : BitVec 32) (v722 : BitVec 32) : Fin 4 → Nat :=
  let c85_i32_891 : BitVec 32 := 85#32
  let v723 : BitVec 32 := Scalar.muli v721 c85_i32_891
  let c0_i32_894 : BitVec 32 := 0#32
  ![v720.toNat, v723.toNat, v722.toNat, 0]

def k1_off74 (v728 : BitVec 32) (v729 : BitVec 32) (v730 : BitVec 32) : Fin 4 → Nat :=
  let c85_i32_900 : BitVec 32 := 85#32
  let v731 : BitVec 32 := Scalar.muli v729 c85_i32_900
  let c0_i32_903 : BitVec 32 := 0#32
  ![v728.toNat, v731.toNat, v730.toNat, 0]

def k1_off75 (v736 : BitVec 32) (v737 : BitVec 32) (v738 : BitVec 32) : Fin 4 → Nat :=
  let c85_i32_909 : BitVec 32 := 85#32
  let v739 : BitVec 32 := Scalar.muli v737 c85_i32_909
  let c0_i32_912 : BitVec 32 := 0#32
  ![v736.toNat, v739.toNat, v738.toNat, 0]

def k1_off76 (v744 : BitVec 32) (v745 : BitVec 32) (v746 : BitVec 32) : Fin 4 → Nat :=
  let c85_i32_918 : BitVec 32 := 85#32
  let v747 : BitVec 32 := Scalar.muli v745 c85_i32_918
  let c0_i32_921 : BitVec 32 := 0#32
  ![v744.toNat, v747.toNat, v746.toNat, 0]

def k1_off77 (v752 : BitVec 32) (v753 : BitVec 32) (v754 : BitVec 32) : Fin 4 → Nat :=
  let c85_i32_927 : BitVec 32 := 85#32
  let v755 : BitVec 32 := Scalar.muli v753 c85_i32_927
  let c0_i32_930 : BitVec 32 := 0#32
  ![v752.toNat, v755.toNat, v754.toNat, 0]

def k1_off78 (v760 : BitVec 32) (v761 : BitVec 32) (v762 : BitVec 32) : Fin 4 → Nat :=
  let c85_i32_936 : BitVec 32 := 85#32
  let v763 : BitVec 32 := Scalar.muli v761 c85_i32_936
  let c0_i32_939 : BitVec 32 := 0#32
  ![v760.toNat, v763.toNat, v762.toNat, 0]

def k1_off79 (v768 : BitVec 32) (v769 : BitVec 32) (v770 : BitVec 32) : Fin 4 → Nat :=
  let c85_i32_945 : BitVec 32 := 85#32
  let v771 : BitVec 32 := Scalar.muli v769 c85_i32_945
  let c0_i32_948 : BitVec 32 := 0#32
  ![v768.toNat, v771.toNat, v770.toNat, 0]

def k1_off80 (v776 : BitVec 32) (v777 : BitVec 32) (v778 : BitVec 32) : Fin 4 → Nat :=
  let c85_i32_954 : BitVec 32 := 85#32
  let v779 : BitVec 32 := Scalar.muli v777 c85_i32_954
  let c0_i32_957 : BitVec 32 := 0#32
  ![v776.toNat, v779.toNat, v778.toNat, 0]

def k1_off81 (v784 : BitVec 32) (v785 : BitVec 32) (v786 : BitVec 32) : Fin 4 → Nat :=
  let c85_i32_963 : BitVec 32 := 85#32
  let v787 : BitVec 32 := Scalar.muli v785 c85_i32_963
  let c0_i32_967 : BitVec 32 := 0#32
  ![v784.toNat, v787.toNat, v786.toNat, 0]

def k1_off82 (v792 : BitVec 32) (v793 : BitVec 32) (v794 : BitVec 32) : Fin 4 → Nat :=
  let c85_i32_973 : BitVec 32 := 85#32
  let v795 : BitVec 32 := Scalar.muli v793 c85_i32_973
  let c0_i32_976 : BitVec 32 := 0#32
  ![v792.toNat, v795.toNat, v794.toNat, 0]

def k1_off83 (v800 : BitVec 32) (v801 : BitVec 32) (v802 : BitVec 32) : Fin 4 → Nat :=
  let c85_i32_982 : BitVec 32 := 85#32
  let v803 : BitVec 32 := Scalar.muli v801 c85_i32_982
  let c0_i32_985 : BitVec 32 := 0#32
  ![v800.toNat, v803.toNat, v802.toNat, 0]

def k1_off84 (v808 : BitVec 32) (v809 : BitVec 32) (v810 : BitVec 32) : Fin 4 → Nat :=
  let c85_i32_991 : BitVec 32 := 85#32
  let v811 : BitVec 32 := Scalar.muli v809 c85_i32_991
  let c0_i32_994 : BitVec 32 := 0#32
  ![v808.toNat, v811.toNat, v810.toNat, 0]

def k1_off85 (v816 : BitVec 32) (v817 : BitVec 32) (v818 : BitVec 32) : Fin 4 → Nat :=
  let c85_i32_1000 : BitVec 32 := 85#32
  let v819 : BitVec 32 := Scalar.muli v817 c85_i32_1000
  let c0_i32_1003 : BitVec 32 := 0#32
  ![v816.toNat, v819.toNat, v818.toNat, 0]

def k1_off86 (v824 : BitVec 32) (v825 : BitVec 32) (v826 : BitVec 32) : Fin 4 → Nat :=
  let c85_i32_1009 : BitVec 32 := 85#32
  let v827 : BitVec 32 := Scalar.muli v825 c85_i32_1009
  let c0_i32_1013 : BitVec 32 := 0#32
  ![v824.toNat, v827.toNat, v826.toNat, 0]

def k1_off87 (v832 : BitVec 32) (v833 : BitVec 32) (v834 : BitVec 32) : Fin 4 → Nat :=
  let c85_i32_1019 : BitVec 32 := 85#32
  let v835 : BitVec 32 := Scalar.muli v833 c85_i32_1019
  let c0_i32_1022 : BitVec 32 := 0#32
  ![v832.toNat, v835.toNat, v834.toNat, 0]

def k1_off88 (v840 : BitVec 32) (v841 : BitVec 32) (v842 : BitVec 32) : Fin 4 → Nat :=
  let c85_i32_1028 : BitVec 32 := 85#32
  let v843 : BitVec 32 := Scalar.muli v841 c85_i32_1028
  let c0_i32_1031 : BitVec 32 := 0#32
  ![v840.toNat, v843.toNat, v842.toNat, 0]

def k1_off89 (v848 : BitVec 32) (v849 : BitVec 32) (v850 : BitVec 32) : Fin 4 → Nat :=
  let c85_i32_1037 : BitVec 32 := 85#32
  let v851 : BitVec 32 := Scalar.muli v849 c85_i32_1037
  let c0_i32_1040 : BitVec 32 := 0#32
  ![v848.toNat, v851.toNat, v850.toNat, 0]

def k1_off90 (v856 : BitVec 32) (v857 : BitVec 32) (v858 : BitVec 32) : Fin 4 → Nat :=
  let c85_i32_1046 : BitVec 32 := 85#32
  let v859 : BitVec 32 := Scalar.muli v857 c85_i32_1046
  let c0_i32_1050 : BitVec 32 := 0#32
  ![v856.toNat, v859.toNat, v858.toNat, 0]

def k1_off91 (v864 : BitVec 32) (v865 : BitVec 32) (v866 : BitVec 32) : Fin 4 → Nat :=
  let c85_i32_1056 : BitVec 32 := 85#32
  let v867 : BitVec 32 := Scalar.muli v865 c85_i32_1056
  let c0_i32_1059 : BitVec 32 := 0#32
  ![v864.toNat, v867.toNat, v866.toNat, 0]

def k1_off92 (v872 : BitVec 32) (v873 : BitVec 32) (v874 : BitVec 32) : Fin 4 → Nat :=
  let c85_i32_1065 : BitVec 32 := 85#32
  let v875 : BitVec 32 := Scalar.muli v873 c85_i32_1065
  let c0_i32_1068 : BitVec 32 := 0#32
  ![v872.toNat, v875.toNat, v874.toNat, 0]

def k1_off93 (v880 : BitVec 32) (v881 : BitVec 32) (v882 : BitVec 32) : Fin 4 → Nat :=
  let c85_i32_1074 : BitVec 32 := 85#32
  let v883 : BitVec 32 := Scalar.muli v881 c85_i32_1074
  let c0_i32_1077 : BitVec 32 := 0#32
  ![v880.toNat, v883.toNat, v882.toNat, 0]

def k1_off94 (v888 : BitVec 32) (v889 : BitVec 32) (v890 : BitVec 32) : Fin 4 → Nat :=
  let c85_i32_1083 : BitVec 32 := 85#32
  let v891 : BitVec 32 := Scalar.muli v889 c85_i32_1083
  let c0_i32_1086 : BitVec 32 := 0#32
  ![v888.toNat, v891.toNat, v890.toNat, 0]

def k1_off95 (v896 : BitVec 32) (v897 : BitVec 32) (v898 : BitVec 32) : Fin 4 → Nat :=
  let c85_i32_1092 : BitVec 32 := 85#32
  let v899 : BitVec 32 := Scalar.muli v897 c85_i32_1092
  let c0_i32_1095 : BitVec 32 := 0#32
  ![v896.toNat, v899.toNat, v898.toNat, 0]

def k1_off96 (v904 : BitVec 32) (v905 : BitVec 32) (v906 : BitVec 32) : Fin 4 → Nat :=
  let c85_i32_1101 : BitVec 32 := 85#32
  let v907 : BitVec 32 := Scalar.muli v905 c85_i32_1101
  let c0_i32_1104 : BitVec 32 := 0#32
  ![v904.toNat, v907.toNat, v906.toNat, 0]

def k1_off97 (v912 : BitVec 32) (v913 : BitVec 32) (v914 : BitVec 32) : Fin 4 → Nat :=
  let c85_i32_1110 : BitVec 32 := 85#32
  let v915 : BitVec 32 := Scalar.muli v913 c85_i32_1110
  let c0_i32_1113 : BitVec 32 := 0#32
  ![v912.toNat, v915.toNat, v914.toNat, 0]

def k1_off98 (v920 : BitVec 32) (v921 : BitVec 32) (v922 : BitVec 32) : Fin 4 → Nat :=
  let c85_i32_1119 : BitVec 32 := 85#32
  let v923 : BitVec 32 := Scalar.muli v921 c85_i32_1119
  let c0_i32_1122 : BitVec 32 := 0#32
  ![v920.toNat, v923.toNat, v922.toNat, 0]

def k1_off99 (v928 : BitVec 32) (v929 : BitVec 32) (v930 : BitVec 32) : Fin 4 → Nat :=
  let c85_i32_1128 : BitVec 32 := 85#32
  let v931 : BitVec 32 := Scalar.muli v929 c85_i32_1128
  let c0_i32_1131 : BitVec 32 := 0#32
  ![v928.toNat, v931.toNat, v930.toNat, 0]

def k1_off100 (v936 : BitVec 32) (v937 : BitVec 32) (v938 : BitVec 32) : Fin 4 → Nat :=
  let c85_i32_1137 : BitVec 32 := 85#32
  let v939 : BitVec 32 := Scalar.muli v937 c85_i32_1137
  let c0_i32_1140 : BitVec 32 := 0#32
  ![v936.toNat, v939.toNat, v938.toNat, 0]

def k1_off101 (v944 : BitVec 32) (v945 : BitVec 32) (v946 : BitVec 32) : Fin 4 → Nat :=
  let c85_i32_1146 : BitVec 32 := 85#32
  let v947 : BitVec 32 := Scalar.muli v945 c85_i32_1146
  let c0_i32_1149 : BitVec 32 := 0#32
  ![v944.toNat, v947.toNat, v946.toNat, 0]

def k1_off102 (v952 : BitVec 32) (v953 : BitVec 32) (v954 : BitVec 32) : Fin 4 → Nat :=
  let c85_i32_1155 : BitVec 32 := 85#32
  let v955 : BitVec 32 := Scalar.muli v953 c85_i32_1155
  let c0_i32_1158 : BitVec 32 := 0#32
  ![v952.toNat, v955.toNat, v954.toNat, 0]

def k1_off103 (v960 : BitVec 32) (v961 : BitVec 32) (v962 : BitVec 32) : Fin 4 → Nat :=
  let c85_i32_1164 : BitVec 32 := 85#32
  let v963 : BitVec 32 := Scalar.muli v961 c85_i32_1164
  let c0_i32_1167 : BitVec 32 := 0#32
  ![v960.toNat, v963.toNat, v962.toNat, 0]

def k1_off104 (v968 : BitVec 32) (v969 : BitVec 32) (v970 : BitVec 32) : Fin 4 → Nat :=
  let c85_i32_1173 : BitVec 32 := 85#32
  let v971 : BitVec 32 := Scalar.muli v969 c85_i32_1173
  let c0_i32_1176 : BitVec 32 := 0#32
  ![v968.toNat, v971.toNat, v970.toNat, 0]

def k1_off105 (v976 : BitVec 32) (v977 : BitVec 32) (v978 : BitVec 32) : Fin 4 → Nat :=
  let c85_i32_1182 : BitVec 32 := 85#32
  let v979 : BitVec 32 := Scalar.muli v977 c85_i32_1182
  let c0_i32_1185 : BitVec 32 := 0#32
  ![v976.toNat, v979.toNat, v978.toNat, 0]

def k1_off106 (v984 : BitVec 32) (v985 : BitVec 32) (v986 : BitVec 32) : Fin 4 → Nat :=
  let c85_i32_1191 : BitVec 32 := 85#32
  let v987 : BitVec 32 := Scalar.muli v985 c85_i32_1191
  let c0_i32_1194 : BitVec 32 := 0#32
  ![v984.toNat, v987.toNat, v986.toNat, 0]

def k1_off107 (v992 : BitVec 32) (v993 : BitVec 32) (v994 : BitVec 32) : Fin 4 → Nat :=
  let c85_i32_1200 : BitVec 32 := 85#32
  let v995 : BitVec 32 := Scalar.muli v993 c85_i32_1200
  let c0_i32_1203 : BitVec 32 := 0#32
  ![v992.toNat, v995.toNat, v994.toNat, 0]

def k1_off108 (v1000 : BitVec 32) (v1001 : BitVec 32) (v1002 : BitVec 32) : Fin 4 → Nat :=
  let c85_i32_1209 : BitVec 32 := 85#32
  let v1003 : BitVec 32 := Scalar.muli v1001 c85_i32_1209
  let c0_i32_1212 : BitVec 32 := 0#32
  ![v1000.toNat, v1003.toNat, v1002.toNat, 0]

def k1_off109 (v1008 : BitVec 32) (v1009 : BitVec 32) (v1010 : BitVec 32) : Fin 4 → Nat :=
  let c85_i32_1218 : BitVec 32 := 85#32
  let v1011 : BitVec 32 := Scalar.muli v1009 c85_i32_1218
  let c0_i32_1221 : BitVec 32 := 0#32
  ![v1008.toNat, v1011.toNat, v1010.toNat, 0]

def k1_off110 (v1016 : BitVec 32) (v1017 : BitVec 32) (v1018 : BitVec 32) : Fin 4 → Nat :=
  let c85_i32_1227 : BitVec 32 := 85#32
  let v1019 : BitVec 32 := Scalar.muli v1017 c85_i32_1227
  let c0_i32_1230 : BitVec 32 := 0#32
  ![v1016.toNat, v1019.toNat, v1018.toNat, 0]

def k1_off111 (v1024 : BitVec 32) (v1025 : BitVec 32) (v1026 : BitVec 32) : Fin 4 → Nat :=
  let c85_i32_1236 : BitVec 32 := 85#32
  let v1027 : BitVec 32 := Scalar.muli v1025 c85_i32_1236
  let c0_i32_1239 : BitVec 32 := 0#32
  ![v1024.toNat, v1027.toNat, v1026.toNat, 0]

def k1_off112 (v1032 : BitVec 32) (v1033 : BitVec 32) (v1034 : BitVec 32) : Fin 4 → Nat :=
  let c85_i32_1245 : BitVec 32 := 85#32
  let v1035 : BitVec 32 := Scalar.muli v1033 c85_i32_1245
  let c0_i32_1248 : BitVec 32 := 0#32
  ![v1032.toNat, v1035.toNat, v1034.toNat, 0]

def k1_off113 (v1040 : BitVec 32) (v1041 : BitVec 32) (v1042 : BitVec 32) : Fin 4 → Nat :=
  let c85_i32_1254 : BitVec 32 := 85#32
  let v1043 : BitVec 32 := Scalar.muli v1041 c85_i32_1254
  let c0_i32_1257 : BitVec 32 := 0#32
  ![v1040.toNat, v1043.toNat, v1042.toNat, 0]

def k1_off114 (v1048 : BitVec 32) (v1049 : BitVec 32) (v1050 : BitVec 32) : Fin 4 → Nat :=
  let c85_i32_1263 : BitVec 32 := 85#32
  let v1051 : BitVec 32 := Scalar.muli v1049 c85_i32_1263
  let c0_i32_1266 : BitVec 32 := 0#32
  ![v1048.toNat, v1051.toNat, v1050.toNat, 0]

def k1_off115 (v1056 : BitVec 32) (v1057 : BitVec 32) (v1058 : BitVec 32) : Fin 4 → Nat :=
  let c85_i32_1272 : BitVec 32 := 85#32
  let v1059 : BitVec 32 := Scalar.muli v1057 c85_i32_1272
  let c0_i32_1275 : BitVec 32 := 0#32
  ![v1056.toNat, v1059.toNat, v1058.toNat, 0]

def k1_off116 (v1064 : BitVec 32) (v1065 : BitVec 32) (v1066 : BitVec 32) : Fin 4 → Nat :=
  let c85_i32_1281 : BitVec 32 := 85#32
  let v1067 : BitVec 32 := Scalar.muli v1065 c85_i32_1281
  let c0_i32_1284 : BitVec 32 := 0#32
  ![v1064.toNat, v1067.toNat, v1066.toNat, 0]

def k1_off117 (v1072 : BitVec 32) (v1073 : BitVec 32) (v1074 : BitVec 32) : Fin 4 → Nat :=
  let c85_i32_1290 : BitVec 32 := 85#32
  let v1075 : BitVec 32 := Scalar.muli v1073 c85_i32_1290
  let c0_i32_1293 : BitVec 32 := 0#32
  ![v1072.toNat, v1075.toNat, v1074.toNat, 0]

def k1_off118 (v1080 : BitVec 32) (v1081 : BitVec 32) (v1082 : BitVec 32) : Fin 4 → Nat :=
  let c85_i32_1299 : BitVec 32 := 85#32
  let v1083 : BitVec 32 := Scalar.muli v1081 c85_i32_1299
  let c0_i32_1302 : BitVec 32 := 0#32
  ![v1080.toNat, v1083.toNat, v1082.toNat, 0]

def k1_off119 (v1088 : BitVec 32) (v1089 : BitVec 32) (v1090 : BitVec 32) : Fin 4 → Nat :=
  let c85_i32_1308 : BitVec 32 := 85#32
  let v1091 : BitVec 32 := Scalar.muli v1089 c85_i32_1308
  let c0_i32_1311 : BitVec 32 := 0#32
  ![v1088.toNat, v1091.toNat, v1090.toNat, 0]

def k1_off120 (v1096 : BitVec 32) (v1097 : BitVec 32) (v1098 : BitVec 32) : Fin 4 → Nat :=
  let c85_i32_1317 : BitVec 32 := 85#32
  let v1099 : BitVec 32 := Scalar.muli v1097 c85_i32_1317
  let c0_i32_1320 : BitVec 32 := 0#32
  ![v1096.toNat, v1099.toNat, v1098.toNat, 0]

def k1_off121 (v1104 : BitVec 32) (v1105 : BitVec 32) (v1106 : BitVec 32) : Fin 4 → Nat :=
  let c85_i32_1326 : BitVec 32 := 85#32
  let v1107 : BitVec 32 := Scalar.muli v1105 c85_i32_1326
  let c0_i32_1329 : BitVec 32 := 0#32
  ![v1104.toNat, v1107.toNat, v1106.toNat, 0]

def k1_off122 (v1112 : BitVec 32) (v1113 : BitVec 32) (v1114 : BitVec 32) : Fin 4 → Nat :=
  let c85_i32_1335 : BitVec 32 := 85#32
  let v1115 : BitVec 32 := Scalar.muli v1113 c85_i32_1335
  let c0_i32_1338 : BitVec 32 := 0#32
  ![v1112.toNat, v1115.toNat, v1114.toNat, 0]

def k1_off123 (v1120 : BitVec 32) (v1121 : BitVec 32) (v1122 : BitVec 32) : Fin 4 → Nat :=
  let c85_i32_1344 : BitVec 32 := 85#32
  let v1123 : BitVec 32 := Scalar.muli v1121 c85_i32_1344
  let c0_i32_1347 : BitVec 32 := 0#32
  ![v1120.toNat, v1123.toNat, v1122.toNat, 0]

def k1_off124 (v1128 : BitVec 32) (v1129 : BitVec 32) (v1130 : BitVec 32) : Fin 4 → Nat :=
  let c85_i32_1353 : BitVec 32 := 85#32
  let v1131 : BitVec 32 := Scalar.muli v1129 c85_i32_1353
  let c0_i32_1356 : BitVec 32 := 0#32
  ![v1128.toNat, v1131.toNat, v1130.toNat, 0]

def k1_off125 (v1136 : BitVec 32) (v1137 : BitVec 32) (v1138 : BitVec 32) : Fin 4 → Nat :=
  let c85_i32_1362 : BitVec 32 := 85#32
  let v1139 : BitVec 32 := Scalar.muli v1137 c85_i32_1362
  let c0_i32_1365 : BitVec 32 := 0#32
  ![v1136.toNat, v1139.toNat, v1138.toNat, 0]

def k1_off126 (v1144 : BitVec 32) (v1145 : BitVec 32) (v1146 : BitVec 32) : Fin 4 → Nat :=
  let c85_i32_1371 : BitVec 32 := 85#32
  let v1147 : BitVec 32 := Scalar.muli v1145 c85_i32_1371
  let c0_i32_1374 : BitVec 32 := 0#32
  ![v1144.toNat, v1147.toNat, v1146.toNat, 0]

def k1_off127 (v1152 : BitVec 32) (v1153 : BitVec 32) (v1154 : BitVec 32) : Fin 4 → Nat :=
  let c85_i32_1380 : BitVec 32 := 85#32
  let v1155 : BitVec 32 := Scalar.muli v1153 c85_i32_1380
  let c0_i32_1383 : BitVec 32 := 0#32
  ![v1152.toNat, v1155.toNat, v1154.toNat, 0]

def k1_off128 (v1160 : BitVec 32) (v1161 : BitVec 32) (v1162 : BitVec 32) : Fin 4 → Nat :=
  let c85_i32_1389 : BitVec 32 := 85#32
  let v1163 : BitVec 32 := Scalar.muli v1161 c85_i32_1389
  let c0_i32_1392 : BitVec 32 := 0#32
  ![v1160.toNat, v1163.toNat, v1162.toNat, 0]

def k1_chk128 (v1160 : BitVec 32) (v1161 : BitVec 32) (v1162 : BitVec 32) : Prop :=
  (∀ a, (k1_off128 v1160 v1161 v1162) a + S1x85x1x80.size a ≤ S16x255x80x80.size a)
theorem k1_off128_inb : ∀ (v1160 : BitVec 32) (v1161 : BitVec 32) (v1162 : BitVec 32) (k1_hw128 : k1_chk128 v1160 v1161 v1162), ∀ a, (k1_off128 v1160 v1161 v1162) a + S1x85x1x80.size a ≤ S16x255x80x80.size a := fun v1160 v1161 v1162 k1_hw128 => k1_hw128

def k1_off129 (v144 : BitVec 32) (v145 : BitVec 32) (v146 : BitVec 32) : Fin 4 → Nat :=
  let c85_i32 : BitVec 32 := 85#32
  let v147 : BitVec 32 := Scalar.muli v145 c85_i32
  let c0_i32_1473 : BitVec 32 := 0#32
  ![v144.toNat, v147.toNat, v146.toNat, 0]

def k1_chk1 (v144 : BitVec 32) (v145 : BitVec 32) (v146 : BitVec 32) : Prop :=
  (∀ a, (k1_off1 v144 v145 v146) a + S1x85x1x80.size a ≤ S16x255x80x80.size a) ∧
  (∀ a, (k1_off129 v144 v145 v146) a + S1x85x1x80.size a ≤ S16x255x80x80.size a)
theorem k1_off1_inb : ∀ (v144 : BitVec 32) (v145 : BitVec 32) (v146 : BitVec 32) (k1_hw1 : k1_chk1 v144 v145 v146), ∀ a, (k1_off1 v144 v145 v146) a + S1x85x1x80.size a ≤ S16x255x80x80.size a := fun v144 v145 v146 k1_hw1 => k1_hw1.1
theorem k1_off129_inb : ∀ (v144 : BitVec 32) (v145 : BitVec 32) (v146 : BitVec 32) (k1_hw1 : k1_chk1 v144 v145 v146), ∀ a, (k1_off129 v144 v145 v146) a + S1x85x1x80.size a ≤ S16x255x80x80.size a := fun v144 v145 v146 k1_hw1 => k1_hw1.2

def k1_off130 (v152 : BitVec 32) (v153 : BitVec 32) (v154 : BitVec 32) : Fin 4 → Nat :=
  let c85_i32_236 : BitVec 32 := 85#32
  let v155 : BitVec 32 := Scalar.muli v153 c85_i32_236
  let c0_i32_1477 : BitVec 32 := 0#32
  ![v152.toNat, v155.toNat, v154.toNat, 0]

def k1_chk2 (v152 : BitVec 32) (v153 : BitVec 32) (v154 : BitVec 32) : Prop :=
  (∀ a, (k1_off2 v152 v153 v154) a + S1x85x1x80.size a ≤ S16x255x80x80.size a) ∧
  (∀ a, (k1_off130 v152 v153 v154) a + S1x85x1x80.size a ≤ S16x255x80x80.size a)
theorem k1_off2_inb : ∀ (v152 : BitVec 32) (v153 : BitVec 32) (v154 : BitVec 32) (k1_hw2 : k1_chk2 v152 v153 v154), ∀ a, (k1_off2 v152 v153 v154) a + S1x85x1x80.size a ≤ S16x255x80x80.size a := fun v152 v153 v154 k1_hw2 => k1_hw2.1
theorem k1_off130_inb : ∀ (v152 : BitVec 32) (v153 : BitVec 32) (v154 : BitVec 32) (k1_hw2 : k1_chk2 v152 v153 v154), ∀ a, (k1_off130 v152 v153 v154) a + S1x85x1x80.size a ≤ S16x255x80x80.size a := fun v152 v153 v154 k1_hw2 => k1_hw2.2

def k1_off131 (v160 : BitVec 32) (v161 : BitVec 32) (v162 : BitVec 32) : Fin 4 → Nat :=
  let c85_i32_247 : BitVec 32 := 85#32
  let v163 : BitVec 32 := Scalar.muli v161 c85_i32_247
  let c0_i32_1481 : BitVec 32 := 0#32
  ![v160.toNat, v163.toNat, v162.toNat, 0]

def k1_chk3 (v160 : BitVec 32) (v161 : BitVec 32) (v162 : BitVec 32) : Prop :=
  (∀ a, (k1_off3 v160 v161 v162) a + S1x85x1x80.size a ≤ S16x255x80x80.size a) ∧
  (∀ a, (k1_off131 v160 v161 v162) a + S1x85x1x80.size a ≤ S16x255x80x80.size a)
theorem k1_off3_inb : ∀ (v160 : BitVec 32) (v161 : BitVec 32) (v162 : BitVec 32) (k1_hw3 : k1_chk3 v160 v161 v162), ∀ a, (k1_off3 v160 v161 v162) a + S1x85x1x80.size a ≤ S16x255x80x80.size a := fun v160 v161 v162 k1_hw3 => k1_hw3.1
theorem k1_off131_inb : ∀ (v160 : BitVec 32) (v161 : BitVec 32) (v162 : BitVec 32) (k1_hw3 : k1_chk3 v160 v161 v162), ∀ a, (k1_off131 v160 v161 v162) a + S1x85x1x80.size a ≤ S16x255x80x80.size a := fun v160 v161 v162 k1_hw3 => k1_hw3.2

def k1_off132 (v168 : BitVec 32) (v169 : BitVec 32) (v170 : BitVec 32) : Fin 4 → Nat :=
  let c85_i32_257 : BitVec 32 := 85#32
  let v171 : BitVec 32 := Scalar.muli v169 c85_i32_257
  let c0_i32_1485 : BitVec 32 := 0#32
  ![v168.toNat, v171.toNat, v170.toNat, 0]

def k1_chk4 (v168 : BitVec 32) (v169 : BitVec 32) (v170 : BitVec 32) : Prop :=
  (∀ a, (k1_off4 v168 v169 v170) a + S1x85x1x80.size a ≤ S16x255x80x80.size a) ∧
  (∀ a, (k1_off132 v168 v169 v170) a + S1x85x1x80.size a ≤ S16x255x80x80.size a)
theorem k1_off4_inb : ∀ (v168 : BitVec 32) (v169 : BitVec 32) (v170 : BitVec 32) (k1_hw4 : k1_chk4 v168 v169 v170), ∀ a, (k1_off4 v168 v169 v170) a + S1x85x1x80.size a ≤ S16x255x80x80.size a := fun v168 v169 v170 k1_hw4 => k1_hw4.1
theorem k1_off132_inb : ∀ (v168 : BitVec 32) (v169 : BitVec 32) (v170 : BitVec 32) (k1_hw4 : k1_chk4 v168 v169 v170), ∀ a, (k1_off132 v168 v169 v170) a + S1x85x1x80.size a ≤ S16x255x80x80.size a := fun v168 v169 v170 k1_hw4 => k1_hw4.2

def k1_off133 (v176 : BitVec 32) (v177 : BitVec 32) (v178 : BitVec 32) : Fin 4 → Nat :=
  let c85_i32_267 : BitVec 32 := 85#32
  let v179 : BitVec 32 := Scalar.muli v177 c85_i32_267
  let c0_i32_1489 : BitVec 32 := 0#32
  ![v176.toNat, v179.toNat, v178.toNat, 0]

def k1_chk5 (v176 : BitVec 32) (v177 : BitVec 32) (v178 : BitVec 32) : Prop :=
  (∀ a, (k1_off5 v176 v177 v178) a + S1x85x1x80.size a ≤ S16x255x80x80.size a) ∧
  (∀ a, (k1_off133 v176 v177 v178) a + S1x85x1x80.size a ≤ S16x255x80x80.size a)
theorem k1_off5_inb : ∀ (v176 : BitVec 32) (v177 : BitVec 32) (v178 : BitVec 32) (k1_hw5 : k1_chk5 v176 v177 v178), ∀ a, (k1_off5 v176 v177 v178) a + S1x85x1x80.size a ≤ S16x255x80x80.size a := fun v176 v177 v178 k1_hw5 => k1_hw5.1
theorem k1_off133_inb : ∀ (v176 : BitVec 32) (v177 : BitVec 32) (v178 : BitVec 32) (k1_hw5 : k1_chk5 v176 v177 v178), ∀ a, (k1_off133 v176 v177 v178) a + S1x85x1x80.size a ≤ S16x255x80x80.size a := fun v176 v177 v178 k1_hw5 => k1_hw5.2

def k1_off134 (v184 : BitVec 32) (v185 : BitVec 32) (v186 : BitVec 32) : Fin 4 → Nat :=
  let c85_i32_277 : BitVec 32 := 85#32
  let v187 : BitVec 32 := Scalar.muli v185 c85_i32_277
  let c0_i32_1493 : BitVec 32 := 0#32
  ![v184.toNat, v187.toNat, v186.toNat, 0]

def k1_chk6 (v184 : BitVec 32) (v185 : BitVec 32) (v186 : BitVec 32) : Prop :=
  (∀ a, (k1_off6 v184 v185 v186) a + S1x85x1x80.size a ≤ S16x255x80x80.size a) ∧
  (∀ a, (k1_off134 v184 v185 v186) a + S1x85x1x80.size a ≤ S16x255x80x80.size a)
theorem k1_off6_inb : ∀ (v184 : BitVec 32) (v185 : BitVec 32) (v186 : BitVec 32) (k1_hw6 : k1_chk6 v184 v185 v186), ∀ a, (k1_off6 v184 v185 v186) a + S1x85x1x80.size a ≤ S16x255x80x80.size a := fun v184 v185 v186 k1_hw6 => k1_hw6.1
theorem k1_off134_inb : ∀ (v184 : BitVec 32) (v185 : BitVec 32) (v186 : BitVec 32) (k1_hw6 : k1_chk6 v184 v185 v186), ∀ a, (k1_off134 v184 v185 v186) a + S1x85x1x80.size a ≤ S16x255x80x80.size a := fun v184 v185 v186 k1_hw6 => k1_hw6.2

def k1_off135 (v192 : BitVec 32) (v193 : BitVec 32) (v194 : BitVec 32) : Fin 4 → Nat :=
  let c85_i32_287 : BitVec 32 := 85#32
  let v195 : BitVec 32 := Scalar.muli v193 c85_i32_287
  let c0_i32_1497 : BitVec 32 := 0#32
  ![v192.toNat, v195.toNat, v194.toNat, 0]

def k1_chk7 (v192 : BitVec 32) (v193 : BitVec 32) (v194 : BitVec 32) : Prop :=
  (∀ a, (k1_off7 v192 v193 v194) a + S1x85x1x80.size a ≤ S16x255x80x80.size a) ∧
  (∀ a, (k1_off135 v192 v193 v194) a + S1x85x1x80.size a ≤ S16x255x80x80.size a)
theorem k1_off7_inb : ∀ (v192 : BitVec 32) (v193 : BitVec 32) (v194 : BitVec 32) (k1_hw7 : k1_chk7 v192 v193 v194), ∀ a, (k1_off7 v192 v193 v194) a + S1x85x1x80.size a ≤ S16x255x80x80.size a := fun v192 v193 v194 k1_hw7 => k1_hw7.1
theorem k1_off135_inb : ∀ (v192 : BitVec 32) (v193 : BitVec 32) (v194 : BitVec 32) (k1_hw7 : k1_chk7 v192 v193 v194), ∀ a, (k1_off135 v192 v193 v194) a + S1x85x1x80.size a ≤ S16x255x80x80.size a := fun v192 v193 v194 k1_hw7 => k1_hw7.2

def k1_off136 (v200 : BitVec 32) (v201 : BitVec 32) (v202 : BitVec 32) : Fin 4 → Nat :=
  let c85_i32_297 : BitVec 32 := 85#32
  let v203 : BitVec 32 := Scalar.muli v201 c85_i32_297
  let c0_i32_1501 : BitVec 32 := 0#32
  ![v200.toNat, v203.toNat, v202.toNat, 0]

def k1_chk8 (v200 : BitVec 32) (v201 : BitVec 32) (v202 : BitVec 32) : Prop :=
  (∀ a, (k1_off8 v200 v201 v202) a + S1x85x1x80.size a ≤ S16x255x80x80.size a) ∧
  (∀ a, (k1_off136 v200 v201 v202) a + S1x85x1x80.size a ≤ S16x255x80x80.size a)
theorem k1_off8_inb : ∀ (v200 : BitVec 32) (v201 : BitVec 32) (v202 : BitVec 32) (k1_hw8 : k1_chk8 v200 v201 v202), ∀ a, (k1_off8 v200 v201 v202) a + S1x85x1x80.size a ≤ S16x255x80x80.size a := fun v200 v201 v202 k1_hw8 => k1_hw8.1
theorem k1_off136_inb : ∀ (v200 : BitVec 32) (v201 : BitVec 32) (v202 : BitVec 32) (k1_hw8 : k1_chk8 v200 v201 v202), ∀ a, (k1_off136 v200 v201 v202) a + S1x85x1x80.size a ≤ S16x255x80x80.size a := fun v200 v201 v202 k1_hw8 => k1_hw8.2

def k1_off137 (v208 : BitVec 32) (v209 : BitVec 32) (v210 : BitVec 32) : Fin 4 → Nat :=
  let c85_i32_307 : BitVec 32 := 85#32
  let v211 : BitVec 32 := Scalar.muli v209 c85_i32_307
  let c0_i32_1505 : BitVec 32 := 0#32
  ![v208.toNat, v211.toNat, v210.toNat, 0]

def k1_chk9 (v208 : BitVec 32) (v209 : BitVec 32) (v210 : BitVec 32) : Prop :=
  (∀ a, (k1_off9 v208 v209 v210) a + S1x85x1x80.size a ≤ S16x255x80x80.size a) ∧
  (∀ a, (k1_off137 v208 v209 v210) a + S1x85x1x80.size a ≤ S16x255x80x80.size a)
theorem k1_off9_inb : ∀ (v208 : BitVec 32) (v209 : BitVec 32) (v210 : BitVec 32) (k1_hw9 : k1_chk9 v208 v209 v210), ∀ a, (k1_off9 v208 v209 v210) a + S1x85x1x80.size a ≤ S16x255x80x80.size a := fun v208 v209 v210 k1_hw9 => k1_hw9.1
theorem k1_off137_inb : ∀ (v208 : BitVec 32) (v209 : BitVec 32) (v210 : BitVec 32) (k1_hw9 : k1_chk9 v208 v209 v210), ∀ a, (k1_off137 v208 v209 v210) a + S1x85x1x80.size a ≤ S16x255x80x80.size a := fun v208 v209 v210 k1_hw9 => k1_hw9.2

def k1_off138 (v216 : BitVec 32) (v217 : BitVec 32) (v218 : BitVec 32) : Fin 4 → Nat :=
  let c85_i32_317 : BitVec 32 := 85#32
  let v219 : BitVec 32 := Scalar.muli v217 c85_i32_317
  let c0_i32_1509 : BitVec 32 := 0#32
  ![v216.toNat, v219.toNat, v218.toNat, 0]

def k1_chk10 (v216 : BitVec 32) (v217 : BitVec 32) (v218 : BitVec 32) : Prop :=
  (∀ a, (k1_off10 v216 v217 v218) a + S1x85x1x80.size a ≤ S16x255x80x80.size a) ∧
  (∀ a, (k1_off138 v216 v217 v218) a + S1x85x1x80.size a ≤ S16x255x80x80.size a)
theorem k1_off10_inb : ∀ (v216 : BitVec 32) (v217 : BitVec 32) (v218 : BitVec 32) (k1_hw10 : k1_chk10 v216 v217 v218), ∀ a, (k1_off10 v216 v217 v218) a + S1x85x1x80.size a ≤ S16x255x80x80.size a := fun v216 v217 v218 k1_hw10 => k1_hw10.1
theorem k1_off138_inb : ∀ (v216 : BitVec 32) (v217 : BitVec 32) (v218 : BitVec 32) (k1_hw10 : k1_chk10 v216 v217 v218), ∀ a, (k1_off138 v216 v217 v218) a + S1x85x1x80.size a ≤ S16x255x80x80.size a := fun v216 v217 v218 k1_hw10 => k1_hw10.2

def k1_off139 (v224 : BitVec 32) (v225 : BitVec 32) (v226 : BitVec 32) : Fin 4 → Nat :=
  let c85_i32_327 : BitVec 32 := 85#32
  let v227 : BitVec 32 := Scalar.muli v225 c85_i32_327
  let c0_i32_1513 : BitVec 32 := 0#32
  ![v224.toNat, v227.toNat, v226.toNat, 0]

def k1_chk11 (v224 : BitVec 32) (v225 : BitVec 32) (v226 : BitVec 32) : Prop :=
  (∀ a, (k1_off11 v224 v225 v226) a + S1x85x1x80.size a ≤ S16x255x80x80.size a) ∧
  (∀ a, (k1_off139 v224 v225 v226) a + S1x85x1x80.size a ≤ S16x255x80x80.size a)
theorem k1_off11_inb : ∀ (v224 : BitVec 32) (v225 : BitVec 32) (v226 : BitVec 32) (k1_hw11 : k1_chk11 v224 v225 v226), ∀ a, (k1_off11 v224 v225 v226) a + S1x85x1x80.size a ≤ S16x255x80x80.size a := fun v224 v225 v226 k1_hw11 => k1_hw11.1
theorem k1_off139_inb : ∀ (v224 : BitVec 32) (v225 : BitVec 32) (v226 : BitVec 32) (k1_hw11 : k1_chk11 v224 v225 v226), ∀ a, (k1_off139 v224 v225 v226) a + S1x85x1x80.size a ≤ S16x255x80x80.size a := fun v224 v225 v226 k1_hw11 => k1_hw11.2

def k1_off140 (v232 : BitVec 32) (v233 : BitVec 32) (v234 : BitVec 32) : Fin 4 → Nat :=
  let c85_i32_337 : BitVec 32 := 85#32
  let v235 : BitVec 32 := Scalar.muli v233 c85_i32_337
  let c0_i32_1517 : BitVec 32 := 0#32
  ![v232.toNat, v235.toNat, v234.toNat, 0]

def k1_chk12 (v232 : BitVec 32) (v233 : BitVec 32) (v234 : BitVec 32) : Prop :=
  (∀ a, (k1_off12 v232 v233 v234) a + S1x85x1x80.size a ≤ S16x255x80x80.size a) ∧
  (∀ a, (k1_off140 v232 v233 v234) a + S1x85x1x80.size a ≤ S16x255x80x80.size a)
theorem k1_off12_inb : ∀ (v232 : BitVec 32) (v233 : BitVec 32) (v234 : BitVec 32) (k1_hw12 : k1_chk12 v232 v233 v234), ∀ a, (k1_off12 v232 v233 v234) a + S1x85x1x80.size a ≤ S16x255x80x80.size a := fun v232 v233 v234 k1_hw12 => k1_hw12.1
theorem k1_off140_inb : ∀ (v232 : BitVec 32) (v233 : BitVec 32) (v234 : BitVec 32) (k1_hw12 : k1_chk12 v232 v233 v234), ∀ a, (k1_off140 v232 v233 v234) a + S1x85x1x80.size a ≤ S16x255x80x80.size a := fun v232 v233 v234 k1_hw12 => k1_hw12.2

def k1_off141 (v240 : BitVec 32) (v241 : BitVec 32) (v242 : BitVec 32) : Fin 4 → Nat :=
  let c85_i32_347 : BitVec 32 := 85#32
  let v243 : BitVec 32 := Scalar.muli v241 c85_i32_347
  let c0_i32_1521 : BitVec 32 := 0#32
  ![v240.toNat, v243.toNat, v242.toNat, 0]

def k1_chk13 (v240 : BitVec 32) (v241 : BitVec 32) (v242 : BitVec 32) : Prop :=
  (∀ a, (k1_off13 v240 v241 v242) a + S1x85x1x80.size a ≤ S16x255x80x80.size a) ∧
  (∀ a, (k1_off141 v240 v241 v242) a + S1x85x1x80.size a ≤ S16x255x80x80.size a)
theorem k1_off13_inb : ∀ (v240 : BitVec 32) (v241 : BitVec 32) (v242 : BitVec 32) (k1_hw13 : k1_chk13 v240 v241 v242), ∀ a, (k1_off13 v240 v241 v242) a + S1x85x1x80.size a ≤ S16x255x80x80.size a := fun v240 v241 v242 k1_hw13 => k1_hw13.1
theorem k1_off141_inb : ∀ (v240 : BitVec 32) (v241 : BitVec 32) (v242 : BitVec 32) (k1_hw13 : k1_chk13 v240 v241 v242), ∀ a, (k1_off141 v240 v241 v242) a + S1x85x1x80.size a ≤ S16x255x80x80.size a := fun v240 v241 v242 k1_hw13 => k1_hw13.2

def k1_off142 (v248 : BitVec 32) (v249 : BitVec 32) (v250 : BitVec 32) : Fin 4 → Nat :=
  let c85_i32_357 : BitVec 32 := 85#32
  let v251 : BitVec 32 := Scalar.muli v249 c85_i32_357
  let c0_i32_1525 : BitVec 32 := 0#32
  ![v248.toNat, v251.toNat, v250.toNat, 0]

def k1_chk14 (v248 : BitVec 32) (v249 : BitVec 32) (v250 : BitVec 32) : Prop :=
  (∀ a, (k1_off14 v248 v249 v250) a + S1x85x1x80.size a ≤ S16x255x80x80.size a) ∧
  (∀ a, (k1_off142 v248 v249 v250) a + S1x85x1x80.size a ≤ S16x255x80x80.size a)
theorem k1_off14_inb : ∀ (v248 : BitVec 32) (v249 : BitVec 32) (v250 : BitVec 32) (k1_hw14 : k1_chk14 v248 v249 v250), ∀ a, (k1_off14 v248 v249 v250) a + S1x85x1x80.size a ≤ S16x255x80x80.size a := fun v248 v249 v250 k1_hw14 => k1_hw14.1
theorem k1_off142_inb : ∀ (v248 : BitVec 32) (v249 : BitVec 32) (v250 : BitVec 32) (k1_hw14 : k1_chk14 v248 v249 v250), ∀ a, (k1_off142 v248 v249 v250) a + S1x85x1x80.size a ≤ S16x255x80x80.size a := fun v248 v249 v250 k1_hw14 => k1_hw14.2

def k1_off143 (v256 : BitVec 32) (v257 : BitVec 32) (v258 : BitVec 32) : Fin 4 → Nat :=
  let c85_i32_367 : BitVec 32 := 85#32
  let v259 : BitVec 32 := Scalar.muli v257 c85_i32_367
  let c0_i32_1529 : BitVec 32 := 0#32
  ![v256.toNat, v259.toNat, v258.toNat, 0]

def k1_chk15 (v256 : BitVec 32) (v257 : BitVec 32) (v258 : BitVec 32) : Prop :=
  (∀ a, (k1_off15 v256 v257 v258) a + S1x85x1x80.size a ≤ S16x255x80x80.size a) ∧
  (∀ a, (k1_off143 v256 v257 v258) a + S1x85x1x80.size a ≤ S16x255x80x80.size a)
theorem k1_off15_inb : ∀ (v256 : BitVec 32) (v257 : BitVec 32) (v258 : BitVec 32) (k1_hw15 : k1_chk15 v256 v257 v258), ∀ a, (k1_off15 v256 v257 v258) a + S1x85x1x80.size a ≤ S16x255x80x80.size a := fun v256 v257 v258 k1_hw15 => k1_hw15.1
theorem k1_off143_inb : ∀ (v256 : BitVec 32) (v257 : BitVec 32) (v258 : BitVec 32) (k1_hw15 : k1_chk15 v256 v257 v258), ∀ a, (k1_off143 v256 v257 v258) a + S1x85x1x80.size a ≤ S16x255x80x80.size a := fun v256 v257 v258 k1_hw15 => k1_hw15.2

def k1_off144 (v264 : BitVec 32) (v265 : BitVec 32) (v266 : BitVec 32) : Fin 4 → Nat :=
  let c85_i32_377 : BitVec 32 := 85#32
  let v267 : BitVec 32 := Scalar.muli v265 c85_i32_377
  let c0_i32_1533 : BitVec 32 := 0#32
  ![v264.toNat, v267.toNat, v266.toNat, 0]

def k1_chk16 (v264 : BitVec 32) (v265 : BitVec 32) (v266 : BitVec 32) : Prop :=
  (∀ a, (k1_off16 v264 v265 v266) a + S1x85x1x80.size a ≤ S16x255x80x80.size a) ∧
  (∀ a, (k1_off144 v264 v265 v266) a + S1x85x1x80.size a ≤ S16x255x80x80.size a)
theorem k1_off16_inb : ∀ (v264 : BitVec 32) (v265 : BitVec 32) (v266 : BitVec 32) (k1_hw16 : k1_chk16 v264 v265 v266), ∀ a, (k1_off16 v264 v265 v266) a + S1x85x1x80.size a ≤ S16x255x80x80.size a := fun v264 v265 v266 k1_hw16 => k1_hw16.1
theorem k1_off144_inb : ∀ (v264 : BitVec 32) (v265 : BitVec 32) (v266 : BitVec 32) (k1_hw16 : k1_chk16 v264 v265 v266), ∀ a, (k1_off144 v264 v265 v266) a + S1x85x1x80.size a ≤ S16x255x80x80.size a := fun v264 v265 v266 k1_hw16 => k1_hw16.2

def k1_off145 (v272 : BitVec 32) (v273 : BitVec 32) (v274 : BitVec 32) : Fin 4 → Nat :=
  let c85_i32_387 : BitVec 32 := 85#32
  let v275 : BitVec 32 := Scalar.muli v273 c85_i32_387
  let c0_i32_1537 : BitVec 32 := 0#32
  ![v272.toNat, v275.toNat, v274.toNat, 0]

def k1_chk17 (v272 : BitVec 32) (v273 : BitVec 32) (v274 : BitVec 32) : Prop :=
  (∀ a, (k1_off17 v272 v273 v274) a + S1x85x1x80.size a ≤ S16x255x80x80.size a) ∧
  (∀ a, (k1_off145 v272 v273 v274) a + S1x85x1x80.size a ≤ S16x255x80x80.size a)
theorem k1_off17_inb : ∀ (v272 : BitVec 32) (v273 : BitVec 32) (v274 : BitVec 32) (k1_hw17 : k1_chk17 v272 v273 v274), ∀ a, (k1_off17 v272 v273 v274) a + S1x85x1x80.size a ≤ S16x255x80x80.size a := fun v272 v273 v274 k1_hw17 => k1_hw17.1
theorem k1_off145_inb : ∀ (v272 : BitVec 32) (v273 : BitVec 32) (v274 : BitVec 32) (k1_hw17 : k1_chk17 v272 v273 v274), ∀ a, (k1_off145 v272 v273 v274) a + S1x85x1x80.size a ≤ S16x255x80x80.size a := fun v272 v273 v274 k1_hw17 => k1_hw17.2

def k1_off146 (v280 : BitVec 32) (v281 : BitVec 32) (v282 : BitVec 32) : Fin 4 → Nat :=
  let c85_i32_396 : BitVec 32 := 85#32
  let v283 : BitVec 32 := Scalar.muli v281 c85_i32_396
  let c0_i32_1541 : BitVec 32 := 0#32
  ![v280.toNat, v283.toNat, v282.toNat, 0]

def k1_chk18 (v280 : BitVec 32) (v281 : BitVec 32) (v282 : BitVec 32) : Prop :=
  (∀ a, (k1_off18 v280 v281 v282) a + S1x85x1x80.size a ≤ S16x255x80x80.size a) ∧
  (∀ a, (k1_off146 v280 v281 v282) a + S1x85x1x80.size a ≤ S16x255x80x80.size a)
theorem k1_off18_inb : ∀ (v280 : BitVec 32) (v281 : BitVec 32) (v282 : BitVec 32) (k1_hw18 : k1_chk18 v280 v281 v282), ∀ a, (k1_off18 v280 v281 v282) a + S1x85x1x80.size a ≤ S16x255x80x80.size a := fun v280 v281 v282 k1_hw18 => k1_hw18.1
theorem k1_off146_inb : ∀ (v280 : BitVec 32) (v281 : BitVec 32) (v282 : BitVec 32) (k1_hw18 : k1_chk18 v280 v281 v282), ∀ a, (k1_off146 v280 v281 v282) a + S1x85x1x80.size a ≤ S16x255x80x80.size a := fun v280 v281 v282 k1_hw18 => k1_hw18.2

def k1_off147 (v288 : BitVec 32) (v289 : BitVec 32) (v290 : BitVec 32) : Fin 4 → Nat :=
  let c85_i32_405 : BitVec 32 := 85#32
  let v291 : BitVec 32 := Scalar.muli v289 c85_i32_405
  let c0_i32_1545 : BitVec 32 := 0#32
  ![v288.toNat, v291.toNat, v290.toNat, 0]

def k1_chk19 (v288 : BitVec 32) (v289 : BitVec 32) (v290 : BitVec 32) : Prop :=
  (∀ a, (k1_off19 v288 v289 v290) a + S1x85x1x80.size a ≤ S16x255x80x80.size a) ∧
  (∀ a, (k1_off147 v288 v289 v290) a + S1x85x1x80.size a ≤ S16x255x80x80.size a)
theorem k1_off19_inb : ∀ (v288 : BitVec 32) (v289 : BitVec 32) (v290 : BitVec 32) (k1_hw19 : k1_chk19 v288 v289 v290), ∀ a, (k1_off19 v288 v289 v290) a + S1x85x1x80.size a ≤ S16x255x80x80.size a := fun v288 v289 v290 k1_hw19 => k1_hw19.1
theorem k1_off147_inb : ∀ (v288 : BitVec 32) (v289 : BitVec 32) (v290 : BitVec 32) (k1_hw19 : k1_chk19 v288 v289 v290), ∀ a, (k1_off147 v288 v289 v290) a + S1x85x1x80.size a ≤ S16x255x80x80.size a := fun v288 v289 v290 k1_hw19 => k1_hw19.2

def k1_off148 (v296 : BitVec 32) (v297 : BitVec 32) (v298 : BitVec 32) : Fin 4 → Nat :=
  let c85_i32_414 : BitVec 32 := 85#32
  let v299 : BitVec 32 := Scalar.muli v297 c85_i32_414
  let c0_i32_1549 : BitVec 32 := 0#32
  ![v296.toNat, v299.toNat, v298.toNat, 0]

def k1_chk20 (v296 : BitVec 32) (v297 : BitVec 32) (v298 : BitVec 32) : Prop :=
  (∀ a, (k1_off20 v296 v297 v298) a + S1x85x1x80.size a ≤ S16x255x80x80.size a) ∧
  (∀ a, (k1_off148 v296 v297 v298) a + S1x85x1x80.size a ≤ S16x255x80x80.size a)
theorem k1_off20_inb : ∀ (v296 : BitVec 32) (v297 : BitVec 32) (v298 : BitVec 32) (k1_hw20 : k1_chk20 v296 v297 v298), ∀ a, (k1_off20 v296 v297 v298) a + S1x85x1x80.size a ≤ S16x255x80x80.size a := fun v296 v297 v298 k1_hw20 => k1_hw20.1
theorem k1_off148_inb : ∀ (v296 : BitVec 32) (v297 : BitVec 32) (v298 : BitVec 32) (k1_hw20 : k1_chk20 v296 v297 v298), ∀ a, (k1_off148 v296 v297 v298) a + S1x85x1x80.size a ≤ S16x255x80x80.size a := fun v296 v297 v298 k1_hw20 => k1_hw20.2

def k1_off149 (v304 : BitVec 32) (v305 : BitVec 32) (v306 : BitVec 32) : Fin 4 → Nat :=
  let c85_i32_423 : BitVec 32 := 85#32
  let v307 : BitVec 32 := Scalar.muli v305 c85_i32_423
  let c0_i32_1553 : BitVec 32 := 0#32
  ![v304.toNat, v307.toNat, v306.toNat, 0]

def k1_chk21 (v304 : BitVec 32) (v305 : BitVec 32) (v306 : BitVec 32) : Prop :=
  (∀ a, (k1_off21 v304 v305 v306) a + S1x85x1x80.size a ≤ S16x255x80x80.size a) ∧
  (∀ a, (k1_off149 v304 v305 v306) a + S1x85x1x80.size a ≤ S16x255x80x80.size a)
theorem k1_off21_inb : ∀ (v304 : BitVec 32) (v305 : BitVec 32) (v306 : BitVec 32) (k1_hw21 : k1_chk21 v304 v305 v306), ∀ a, (k1_off21 v304 v305 v306) a + S1x85x1x80.size a ≤ S16x255x80x80.size a := fun v304 v305 v306 k1_hw21 => k1_hw21.1
theorem k1_off149_inb : ∀ (v304 : BitVec 32) (v305 : BitVec 32) (v306 : BitVec 32) (k1_hw21 : k1_chk21 v304 v305 v306), ∀ a, (k1_off149 v304 v305 v306) a + S1x85x1x80.size a ≤ S16x255x80x80.size a := fun v304 v305 v306 k1_hw21 => k1_hw21.2

def k1_off150 (v312 : BitVec 32) (v313 : BitVec 32) (v314 : BitVec 32) : Fin 4 → Nat :=
  let c85_i32_432 : BitVec 32 := 85#32
  let v315 : BitVec 32 := Scalar.muli v313 c85_i32_432
  let c0_i32_1557 : BitVec 32 := 0#32
  ![v312.toNat, v315.toNat, v314.toNat, 0]

def k1_chk22 (v312 : BitVec 32) (v313 : BitVec 32) (v314 : BitVec 32) : Prop :=
  (∀ a, (k1_off22 v312 v313 v314) a + S1x85x1x80.size a ≤ S16x255x80x80.size a) ∧
  (∀ a, (k1_off150 v312 v313 v314) a + S1x85x1x80.size a ≤ S16x255x80x80.size a)
theorem k1_off22_inb : ∀ (v312 : BitVec 32) (v313 : BitVec 32) (v314 : BitVec 32) (k1_hw22 : k1_chk22 v312 v313 v314), ∀ a, (k1_off22 v312 v313 v314) a + S1x85x1x80.size a ≤ S16x255x80x80.size a := fun v312 v313 v314 k1_hw22 => k1_hw22.1
theorem k1_off150_inb : ∀ (v312 : BitVec 32) (v313 : BitVec 32) (v314 : BitVec 32) (k1_hw22 : k1_chk22 v312 v313 v314), ∀ a, (k1_off150 v312 v313 v314) a + S1x85x1x80.size a ≤ S16x255x80x80.size a := fun v312 v313 v314 k1_hw22 => k1_hw22.2

def k1_off151 (v320 : BitVec 32) (v321 : BitVec 32) (v322 : BitVec 32) : Fin 4 → Nat :=
  let c85_i32_441 : BitVec 32 := 85#32
  let v323 : BitVec 32 := Scalar.muli v321 c85_i32_441
  let c0_i32_1561 : BitVec 32 := 0#32
  ![v320.toNat, v323.toNat, v322.toNat, 0]

def k1_chk23 (v320 : BitVec 32) (v321 : BitVec 32) (v322 : BitVec 32) : Prop :=
  (∀ a, (k1_off23 v320 v321 v322) a + S1x85x1x80.size a ≤ S16x255x80x80.size a) ∧
  (∀ a, (k1_off151 v320 v321 v322) a + S1x85x1x80.size a ≤ S16x255x80x80.size a)
theorem k1_off23_inb : ∀ (v320 : BitVec 32) (v321 : BitVec 32) (v322 : BitVec 32) (k1_hw23 : k1_chk23 v320 v321 v322), ∀ a, (k1_off23 v320 v321 v322) a + S1x85x1x80.size a ≤ S16x255x80x80.size a := fun v320 v321 v322 k1_hw23 => k1_hw23.1
theorem k1_off151_inb : ∀ (v320 : BitVec 32) (v321 : BitVec 32) (v322 : BitVec 32) (k1_hw23 : k1_chk23 v320 v321 v322), ∀ a, (k1_off151 v320 v321 v322) a + S1x85x1x80.size a ≤ S16x255x80x80.size a := fun v320 v321 v322 k1_hw23 => k1_hw23.2

def k1_off152 (v328 : BitVec 32) (v329 : BitVec 32) (v330 : BitVec 32) : Fin 4 → Nat :=
  let c85_i32_450 : BitVec 32 := 85#32
  let v331 : BitVec 32 := Scalar.muli v329 c85_i32_450
  let c0_i32_1565 : BitVec 32 := 0#32
  ![v328.toNat, v331.toNat, v330.toNat, 0]

def k1_chk24 (v328 : BitVec 32) (v329 : BitVec 32) (v330 : BitVec 32) : Prop :=
  (∀ a, (k1_off24 v328 v329 v330) a + S1x85x1x80.size a ≤ S16x255x80x80.size a) ∧
  (∀ a, (k1_off152 v328 v329 v330) a + S1x85x1x80.size a ≤ S16x255x80x80.size a)
theorem k1_off24_inb : ∀ (v328 : BitVec 32) (v329 : BitVec 32) (v330 : BitVec 32) (k1_hw24 : k1_chk24 v328 v329 v330), ∀ a, (k1_off24 v328 v329 v330) a + S1x85x1x80.size a ≤ S16x255x80x80.size a := fun v328 v329 v330 k1_hw24 => k1_hw24.1
theorem k1_off152_inb : ∀ (v328 : BitVec 32) (v329 : BitVec 32) (v330 : BitVec 32) (k1_hw24 : k1_chk24 v328 v329 v330), ∀ a, (k1_off152 v328 v329 v330) a + S1x85x1x80.size a ≤ S16x255x80x80.size a := fun v328 v329 v330 k1_hw24 => k1_hw24.2

def k1_off153 (v336 : BitVec 32) (v337 : BitVec 32) (v338 : BitVec 32) : Fin 4 → Nat :=
  let c85_i32_459 : BitVec 32 := 85#32
  let v339 : BitVec 32 := Scalar.muli v337 c85_i32_459
  let c0_i32_1569 : BitVec 32 := 0#32
  ![v336.toNat, v339.toNat, v338.toNat, 0]

def k1_chk25 (v336 : BitVec 32) (v337 : BitVec 32) (v338 : BitVec 32) : Prop :=
  (∀ a, (k1_off25 v336 v337 v338) a + S1x85x1x80.size a ≤ S16x255x80x80.size a) ∧
  (∀ a, (k1_off153 v336 v337 v338) a + S1x85x1x80.size a ≤ S16x255x80x80.size a)
theorem k1_off25_inb : ∀ (v336 : BitVec 32) (v337 : BitVec 32) (v338 : BitVec 32) (k1_hw25 : k1_chk25 v336 v337 v338), ∀ a, (k1_off25 v336 v337 v338) a + S1x85x1x80.size a ≤ S16x255x80x80.size a := fun v336 v337 v338 k1_hw25 => k1_hw25.1
theorem k1_off153_inb : ∀ (v336 : BitVec 32) (v337 : BitVec 32) (v338 : BitVec 32) (k1_hw25 : k1_chk25 v336 v337 v338), ∀ a, (k1_off153 v336 v337 v338) a + S1x85x1x80.size a ≤ S16x255x80x80.size a := fun v336 v337 v338 k1_hw25 => k1_hw25.2

def k1_off154 (v344 : BitVec 32) (v345 : BitVec 32) (v346 : BitVec 32) : Fin 4 → Nat :=
  let c85_i32_468 : BitVec 32 := 85#32
  let v347 : BitVec 32 := Scalar.muli v345 c85_i32_468
  let c0_i32_1573 : BitVec 32 := 0#32
  ![v344.toNat, v347.toNat, v346.toNat, 0]

def k1_chk26 (v344 : BitVec 32) (v345 : BitVec 32) (v346 : BitVec 32) : Prop :=
  (∀ a, (k1_off26 v344 v345 v346) a + S1x85x1x80.size a ≤ S16x255x80x80.size a) ∧
  (∀ a, (k1_off154 v344 v345 v346) a + S1x85x1x80.size a ≤ S16x255x80x80.size a)
theorem k1_off26_inb : ∀ (v344 : BitVec 32) (v345 : BitVec 32) (v346 : BitVec 32) (k1_hw26 : k1_chk26 v344 v345 v346), ∀ a, (k1_off26 v344 v345 v346) a + S1x85x1x80.size a ≤ S16x255x80x80.size a := fun v344 v345 v346 k1_hw26 => k1_hw26.1
theorem k1_off154_inb : ∀ (v344 : BitVec 32) (v345 : BitVec 32) (v346 : BitVec 32) (k1_hw26 : k1_chk26 v344 v345 v346), ∀ a, (k1_off154 v344 v345 v346) a + S1x85x1x80.size a ≤ S16x255x80x80.size a := fun v344 v345 v346 k1_hw26 => k1_hw26.2

def k1_off155 (v352 : BitVec 32) (v353 : BitVec 32) (v354 : BitVec 32) : Fin 4 → Nat :=
  let c85_i32_477 : BitVec 32 := 85#32
  let v355 : BitVec 32 := Scalar.muli v353 c85_i32_477
  let c0_i32_1577 : BitVec 32 := 0#32
  ![v352.toNat, v355.toNat, v354.toNat, 0]

def k1_chk27 (v352 : BitVec 32) (v353 : BitVec 32) (v354 : BitVec 32) : Prop :=
  (∀ a, (k1_off27 v352 v353 v354) a + S1x85x1x80.size a ≤ S16x255x80x80.size a) ∧
  (∀ a, (k1_off155 v352 v353 v354) a + S1x85x1x80.size a ≤ S16x255x80x80.size a)
theorem k1_off27_inb : ∀ (v352 : BitVec 32) (v353 : BitVec 32) (v354 : BitVec 32) (k1_hw27 : k1_chk27 v352 v353 v354), ∀ a, (k1_off27 v352 v353 v354) a + S1x85x1x80.size a ≤ S16x255x80x80.size a := fun v352 v353 v354 k1_hw27 => k1_hw27.1
theorem k1_off155_inb : ∀ (v352 : BitVec 32) (v353 : BitVec 32) (v354 : BitVec 32) (k1_hw27 : k1_chk27 v352 v353 v354), ∀ a, (k1_off155 v352 v353 v354) a + S1x85x1x80.size a ≤ S16x255x80x80.size a := fun v352 v353 v354 k1_hw27 => k1_hw27.2

def k1_off156 (v360 : BitVec 32) (v361 : BitVec 32) (v362 : BitVec 32) : Fin 4 → Nat :=
  let c85_i32_486 : BitVec 32 := 85#32
  let v363 : BitVec 32 := Scalar.muli v361 c85_i32_486
  let c0_i32_1581 : BitVec 32 := 0#32
  ![v360.toNat, v363.toNat, v362.toNat, 0]

def k1_chk28 (v360 : BitVec 32) (v361 : BitVec 32) (v362 : BitVec 32) : Prop :=
  (∀ a, (k1_off28 v360 v361 v362) a + S1x85x1x80.size a ≤ S16x255x80x80.size a) ∧
  (∀ a, (k1_off156 v360 v361 v362) a + S1x85x1x80.size a ≤ S16x255x80x80.size a)
theorem k1_off28_inb : ∀ (v360 : BitVec 32) (v361 : BitVec 32) (v362 : BitVec 32) (k1_hw28 : k1_chk28 v360 v361 v362), ∀ a, (k1_off28 v360 v361 v362) a + S1x85x1x80.size a ≤ S16x255x80x80.size a := fun v360 v361 v362 k1_hw28 => k1_hw28.1
theorem k1_off156_inb : ∀ (v360 : BitVec 32) (v361 : BitVec 32) (v362 : BitVec 32) (k1_hw28 : k1_chk28 v360 v361 v362), ∀ a, (k1_off156 v360 v361 v362) a + S1x85x1x80.size a ≤ S16x255x80x80.size a := fun v360 v361 v362 k1_hw28 => k1_hw28.2

def k1_off157 (v368 : BitVec 32) (v369 : BitVec 32) (v370 : BitVec 32) : Fin 4 → Nat :=
  let c85_i32_495 : BitVec 32 := 85#32
  let v371 : BitVec 32 := Scalar.muli v369 c85_i32_495
  let c0_i32_1585 : BitVec 32 := 0#32
  ![v368.toNat, v371.toNat, v370.toNat, 0]

def k1_chk29 (v368 : BitVec 32) (v369 : BitVec 32) (v370 : BitVec 32) : Prop :=
  (∀ a, (k1_off29 v368 v369 v370) a + S1x85x1x80.size a ≤ S16x255x80x80.size a) ∧
  (∀ a, (k1_off157 v368 v369 v370) a + S1x85x1x80.size a ≤ S16x255x80x80.size a)
theorem k1_off29_inb : ∀ (v368 : BitVec 32) (v369 : BitVec 32) (v370 : BitVec 32) (k1_hw29 : k1_chk29 v368 v369 v370), ∀ a, (k1_off29 v368 v369 v370) a + S1x85x1x80.size a ≤ S16x255x80x80.size a := fun v368 v369 v370 k1_hw29 => k1_hw29.1
theorem k1_off157_inb : ∀ (v368 : BitVec 32) (v369 : BitVec 32) (v370 : BitVec 32) (k1_hw29 : k1_chk29 v368 v369 v370), ∀ a, (k1_off157 v368 v369 v370) a + S1x85x1x80.size a ≤ S16x255x80x80.size a := fun v368 v369 v370 k1_hw29 => k1_hw29.2

def k1_off158 (v376 : BitVec 32) (v377 : BitVec 32) (v378 : BitVec 32) : Fin 4 → Nat :=
  let c85_i32_504 : BitVec 32 := 85#32
  let v379 : BitVec 32 := Scalar.muli v377 c85_i32_504
  let c0_i32_1589 : BitVec 32 := 0#32
  ![v376.toNat, v379.toNat, v378.toNat, 0]

def k1_chk30 (v376 : BitVec 32) (v377 : BitVec 32) (v378 : BitVec 32) : Prop :=
  (∀ a, (k1_off30 v376 v377 v378) a + S1x85x1x80.size a ≤ S16x255x80x80.size a) ∧
  (∀ a, (k1_off158 v376 v377 v378) a + S1x85x1x80.size a ≤ S16x255x80x80.size a)
theorem k1_off30_inb : ∀ (v376 : BitVec 32) (v377 : BitVec 32) (v378 : BitVec 32) (k1_hw30 : k1_chk30 v376 v377 v378), ∀ a, (k1_off30 v376 v377 v378) a + S1x85x1x80.size a ≤ S16x255x80x80.size a := fun v376 v377 v378 k1_hw30 => k1_hw30.1
theorem k1_off158_inb : ∀ (v376 : BitVec 32) (v377 : BitVec 32) (v378 : BitVec 32) (k1_hw30 : k1_chk30 v376 v377 v378), ∀ a, (k1_off158 v376 v377 v378) a + S1x85x1x80.size a ≤ S16x255x80x80.size a := fun v376 v377 v378 k1_hw30 => k1_hw30.2

def k1_off159 (v384 : BitVec 32) (v385 : BitVec 32) (v386 : BitVec 32) : Fin 4 → Nat :=
  let c85_i32_513 : BitVec 32 := 85#32
  let v387 : BitVec 32 := Scalar.muli v385 c85_i32_513
  let c0_i32_1593 : BitVec 32 := 0#32
  ![v384.toNat, v387.toNat, v386.toNat, 0]

def k1_chk31 (v384 : BitVec 32) (v385 : BitVec 32) (v386 : BitVec 32) : Prop :=
  (∀ a, (k1_off31 v384 v385 v386) a + S1x85x1x80.size a ≤ S16x255x80x80.size a) ∧
  (∀ a, (k1_off159 v384 v385 v386) a + S1x85x1x80.size a ≤ S16x255x80x80.size a)
theorem k1_off31_inb : ∀ (v384 : BitVec 32) (v385 : BitVec 32) (v386 : BitVec 32) (k1_hw31 : k1_chk31 v384 v385 v386), ∀ a, (k1_off31 v384 v385 v386) a + S1x85x1x80.size a ≤ S16x255x80x80.size a := fun v384 v385 v386 k1_hw31 => k1_hw31.1
theorem k1_off159_inb : ∀ (v384 : BitVec 32) (v385 : BitVec 32) (v386 : BitVec 32) (k1_hw31 : k1_chk31 v384 v385 v386), ∀ a, (k1_off159 v384 v385 v386) a + S1x85x1x80.size a ≤ S16x255x80x80.size a := fun v384 v385 v386 k1_hw31 => k1_hw31.2

def k1_off160 (v392 : BitVec 32) (v393 : BitVec 32) (v394 : BitVec 32) : Fin 4 → Nat :=
  let c85_i32_522 : BitVec 32 := 85#32
  let v395 : BitVec 32 := Scalar.muli v393 c85_i32_522
  let c0_i32_1597 : BitVec 32 := 0#32
  ![v392.toNat, v395.toNat, v394.toNat, 0]

def k1_chk32 (v392 : BitVec 32) (v393 : BitVec 32) (v394 : BitVec 32) : Prop :=
  (∀ a, (k1_off32 v392 v393 v394) a + S1x85x1x80.size a ≤ S16x255x80x80.size a) ∧
  (∀ a, (k1_off160 v392 v393 v394) a + S1x85x1x80.size a ≤ S16x255x80x80.size a)
theorem k1_off32_inb : ∀ (v392 : BitVec 32) (v393 : BitVec 32) (v394 : BitVec 32) (k1_hw32 : k1_chk32 v392 v393 v394), ∀ a, (k1_off32 v392 v393 v394) a + S1x85x1x80.size a ≤ S16x255x80x80.size a := fun v392 v393 v394 k1_hw32 => k1_hw32.1
theorem k1_off160_inb : ∀ (v392 : BitVec 32) (v393 : BitVec 32) (v394 : BitVec 32) (k1_hw32 : k1_chk32 v392 v393 v394), ∀ a, (k1_off160 v392 v393 v394) a + S1x85x1x80.size a ≤ S16x255x80x80.size a := fun v392 v393 v394 k1_hw32 => k1_hw32.2

def k1_off161 (v400 : BitVec 32) (v401 : BitVec 32) (v402 : BitVec 32) : Fin 4 → Nat :=
  let c85_i32_531 : BitVec 32 := 85#32
  let v403 : BitVec 32 := Scalar.muli v401 c85_i32_531
  let c0_i32_1601 : BitVec 32 := 0#32
  ![v400.toNat, v403.toNat, v402.toNat, 0]

def k1_chk33 (v400 : BitVec 32) (v401 : BitVec 32) (v402 : BitVec 32) : Prop :=
  (∀ a, (k1_off33 v400 v401 v402) a + S1x85x1x80.size a ≤ S16x255x80x80.size a) ∧
  (∀ a, (k1_off161 v400 v401 v402) a + S1x85x1x80.size a ≤ S16x255x80x80.size a)
theorem k1_off33_inb : ∀ (v400 : BitVec 32) (v401 : BitVec 32) (v402 : BitVec 32) (k1_hw33 : k1_chk33 v400 v401 v402), ∀ a, (k1_off33 v400 v401 v402) a + S1x85x1x80.size a ≤ S16x255x80x80.size a := fun v400 v401 v402 k1_hw33 => k1_hw33.1
theorem k1_off161_inb : ∀ (v400 : BitVec 32) (v401 : BitVec 32) (v402 : BitVec 32) (k1_hw33 : k1_chk33 v400 v401 v402), ∀ a, (k1_off161 v400 v401 v402) a + S1x85x1x80.size a ≤ S16x255x80x80.size a := fun v400 v401 v402 k1_hw33 => k1_hw33.2

def k1_off162 (v408 : BitVec 32) (v409 : BitVec 32) (v410 : BitVec 32) : Fin 4 → Nat :=
  let c85_i32_540 : BitVec 32 := 85#32
  let v411 : BitVec 32 := Scalar.muli v409 c85_i32_540
  let c0_i32_1605 : BitVec 32 := 0#32
  ![v408.toNat, v411.toNat, v410.toNat, 0]

def k1_chk34 (v408 : BitVec 32) (v409 : BitVec 32) (v410 : BitVec 32) : Prop :=
  (∀ a, (k1_off34 v408 v409 v410) a + S1x85x1x80.size a ≤ S16x255x80x80.size a) ∧
  (∀ a, (k1_off162 v408 v409 v410) a + S1x85x1x80.size a ≤ S16x255x80x80.size a)
theorem k1_off34_inb : ∀ (v408 : BitVec 32) (v409 : BitVec 32) (v410 : BitVec 32) (k1_hw34 : k1_chk34 v408 v409 v410), ∀ a, (k1_off34 v408 v409 v410) a + S1x85x1x80.size a ≤ S16x255x80x80.size a := fun v408 v409 v410 k1_hw34 => k1_hw34.1
theorem k1_off162_inb : ∀ (v408 : BitVec 32) (v409 : BitVec 32) (v410 : BitVec 32) (k1_hw34 : k1_chk34 v408 v409 v410), ∀ a, (k1_off162 v408 v409 v410) a + S1x85x1x80.size a ≤ S16x255x80x80.size a := fun v408 v409 v410 k1_hw34 => k1_hw34.2

def k1_off163 (v416 : BitVec 32) (v417 : BitVec 32) (v418 : BitVec 32) : Fin 4 → Nat :=
  let c85_i32_549 : BitVec 32 := 85#32
  let v419 : BitVec 32 := Scalar.muli v417 c85_i32_549
  let c0_i32_1609 : BitVec 32 := 0#32
  ![v416.toNat, v419.toNat, v418.toNat, 0]

def k1_chk35 (v416 : BitVec 32) (v417 : BitVec 32) (v418 : BitVec 32) : Prop :=
  (∀ a, (k1_off35 v416 v417 v418) a + S1x85x1x80.size a ≤ S16x255x80x80.size a) ∧
  (∀ a, (k1_off163 v416 v417 v418) a + S1x85x1x80.size a ≤ S16x255x80x80.size a)
theorem k1_off35_inb : ∀ (v416 : BitVec 32) (v417 : BitVec 32) (v418 : BitVec 32) (k1_hw35 : k1_chk35 v416 v417 v418), ∀ a, (k1_off35 v416 v417 v418) a + S1x85x1x80.size a ≤ S16x255x80x80.size a := fun v416 v417 v418 k1_hw35 => k1_hw35.1
theorem k1_off163_inb : ∀ (v416 : BitVec 32) (v417 : BitVec 32) (v418 : BitVec 32) (k1_hw35 : k1_chk35 v416 v417 v418), ∀ a, (k1_off163 v416 v417 v418) a + S1x85x1x80.size a ≤ S16x255x80x80.size a := fun v416 v417 v418 k1_hw35 => k1_hw35.2

def k1_off164 (v424 : BitVec 32) (v425 : BitVec 32) (v426 : BitVec 32) : Fin 4 → Nat :=
  let c85_i32_558 : BitVec 32 := 85#32
  let v427 : BitVec 32 := Scalar.muli v425 c85_i32_558
  let c0_i32_1613 : BitVec 32 := 0#32
  ![v424.toNat, v427.toNat, v426.toNat, 0]

def k1_chk36 (v424 : BitVec 32) (v425 : BitVec 32) (v426 : BitVec 32) : Prop :=
  (∀ a, (k1_off36 v424 v425 v426) a + S1x85x1x80.size a ≤ S16x255x80x80.size a) ∧
  (∀ a, (k1_off164 v424 v425 v426) a + S1x85x1x80.size a ≤ S16x255x80x80.size a)
theorem k1_off36_inb : ∀ (v424 : BitVec 32) (v425 : BitVec 32) (v426 : BitVec 32) (k1_hw36 : k1_chk36 v424 v425 v426), ∀ a, (k1_off36 v424 v425 v426) a + S1x85x1x80.size a ≤ S16x255x80x80.size a := fun v424 v425 v426 k1_hw36 => k1_hw36.1
theorem k1_off164_inb : ∀ (v424 : BitVec 32) (v425 : BitVec 32) (v426 : BitVec 32) (k1_hw36 : k1_chk36 v424 v425 v426), ∀ a, (k1_off164 v424 v425 v426) a + S1x85x1x80.size a ≤ S16x255x80x80.size a := fun v424 v425 v426 k1_hw36 => k1_hw36.2

def k1_off165 (v432 : BitVec 32) (v433 : BitVec 32) (v434 : BitVec 32) : Fin 4 → Nat :=
  let c85_i32_567 : BitVec 32 := 85#32
  let v435 : BitVec 32 := Scalar.muli v433 c85_i32_567
  let c0_i32_1617 : BitVec 32 := 0#32
  ![v432.toNat, v435.toNat, v434.toNat, 0]

def k1_chk37 (v432 : BitVec 32) (v433 : BitVec 32) (v434 : BitVec 32) : Prop :=
  (∀ a, (k1_off37 v432 v433 v434) a + S1x85x1x80.size a ≤ S16x255x80x80.size a) ∧
  (∀ a, (k1_off165 v432 v433 v434) a + S1x85x1x80.size a ≤ S16x255x80x80.size a)
theorem k1_off37_inb : ∀ (v432 : BitVec 32) (v433 : BitVec 32) (v434 : BitVec 32) (k1_hw37 : k1_chk37 v432 v433 v434), ∀ a, (k1_off37 v432 v433 v434) a + S1x85x1x80.size a ≤ S16x255x80x80.size a := fun v432 v433 v434 k1_hw37 => k1_hw37.1
theorem k1_off165_inb : ∀ (v432 : BitVec 32) (v433 : BitVec 32) (v434 : BitVec 32) (k1_hw37 : k1_chk37 v432 v433 v434), ∀ a, (k1_off165 v432 v433 v434) a + S1x85x1x80.size a ≤ S16x255x80x80.size a := fun v432 v433 v434 k1_hw37 => k1_hw37.2

def k1_off166 (v440 : BitVec 32) (v441 : BitVec 32) (v442 : BitVec 32) : Fin 4 → Nat :=
  let c85_i32_576 : BitVec 32 := 85#32
  let v443 : BitVec 32 := Scalar.muli v441 c85_i32_576
  let c0_i32_1621 : BitVec 32 := 0#32
  ![v440.toNat, v443.toNat, v442.toNat, 0]

def k1_chk38 (v440 : BitVec 32) (v441 : BitVec 32) (v442 : BitVec 32) : Prop :=
  (∀ a, (k1_off38 v440 v441 v442) a + S1x85x1x80.size a ≤ S16x255x80x80.size a) ∧
  (∀ a, (k1_off166 v440 v441 v442) a + S1x85x1x80.size a ≤ S16x255x80x80.size a)
theorem k1_off38_inb : ∀ (v440 : BitVec 32) (v441 : BitVec 32) (v442 : BitVec 32) (k1_hw38 : k1_chk38 v440 v441 v442), ∀ a, (k1_off38 v440 v441 v442) a + S1x85x1x80.size a ≤ S16x255x80x80.size a := fun v440 v441 v442 k1_hw38 => k1_hw38.1
theorem k1_off166_inb : ∀ (v440 : BitVec 32) (v441 : BitVec 32) (v442 : BitVec 32) (k1_hw38 : k1_chk38 v440 v441 v442), ∀ a, (k1_off166 v440 v441 v442) a + S1x85x1x80.size a ≤ S16x255x80x80.size a := fun v440 v441 v442 k1_hw38 => k1_hw38.2

def k1_off167 (v448 : BitVec 32) (v449 : BitVec 32) (v450 : BitVec 32) : Fin 4 → Nat :=
  let c85_i32_585 : BitVec 32 := 85#32
  let v451 : BitVec 32 := Scalar.muli v449 c85_i32_585
  let c0_i32_1625 : BitVec 32 := 0#32
  ![v448.toNat, v451.toNat, v450.toNat, 0]

def k1_chk39 (v448 : BitVec 32) (v449 : BitVec 32) (v450 : BitVec 32) : Prop :=
  (∀ a, (k1_off39 v448 v449 v450) a + S1x85x1x80.size a ≤ S16x255x80x80.size a) ∧
  (∀ a, (k1_off167 v448 v449 v450) a + S1x85x1x80.size a ≤ S16x255x80x80.size a)
theorem k1_off39_inb : ∀ (v448 : BitVec 32) (v449 : BitVec 32) (v450 : BitVec 32) (k1_hw39 : k1_chk39 v448 v449 v450), ∀ a, (k1_off39 v448 v449 v450) a + S1x85x1x80.size a ≤ S16x255x80x80.size a := fun v448 v449 v450 k1_hw39 => k1_hw39.1
theorem k1_off167_inb : ∀ (v448 : BitVec 32) (v449 : BitVec 32) (v450 : BitVec 32) (k1_hw39 : k1_chk39 v448 v449 v450), ∀ a, (k1_off167 v448 v449 v450) a + S1x85x1x80.size a ≤ S16x255x80x80.size a := fun v448 v449 v450 k1_hw39 => k1_hw39.2

def k1_off168 (v456 : BitVec 32) (v457 : BitVec 32) (v458 : BitVec 32) : Fin 4 → Nat :=
  let c85_i32_594 : BitVec 32 := 85#32
  let v459 : BitVec 32 := Scalar.muli v457 c85_i32_594
  let c0_i32_1629 : BitVec 32 := 0#32
  ![v456.toNat, v459.toNat, v458.toNat, 0]

def k1_chk40 (v456 : BitVec 32) (v457 : BitVec 32) (v458 : BitVec 32) : Prop :=
  (∀ a, (k1_off40 v456 v457 v458) a + S1x85x1x80.size a ≤ S16x255x80x80.size a) ∧
  (∀ a, (k1_off168 v456 v457 v458) a + S1x85x1x80.size a ≤ S16x255x80x80.size a)
theorem k1_off40_inb : ∀ (v456 : BitVec 32) (v457 : BitVec 32) (v458 : BitVec 32) (k1_hw40 : k1_chk40 v456 v457 v458), ∀ a, (k1_off40 v456 v457 v458) a + S1x85x1x80.size a ≤ S16x255x80x80.size a := fun v456 v457 v458 k1_hw40 => k1_hw40.1
theorem k1_off168_inb : ∀ (v456 : BitVec 32) (v457 : BitVec 32) (v458 : BitVec 32) (k1_hw40 : k1_chk40 v456 v457 v458), ∀ a, (k1_off168 v456 v457 v458) a + S1x85x1x80.size a ≤ S16x255x80x80.size a := fun v456 v457 v458 k1_hw40 => k1_hw40.2

def k1_off169 (v464 : BitVec 32) (v465 : BitVec 32) (v466 : BitVec 32) : Fin 4 → Nat :=
  let c85_i32_603 : BitVec 32 := 85#32
  let v467 : BitVec 32 := Scalar.muli v465 c85_i32_603
  let c0_i32_1633 : BitVec 32 := 0#32
  ![v464.toNat, v467.toNat, v466.toNat, 0]

def k1_chk41 (v464 : BitVec 32) (v465 : BitVec 32) (v466 : BitVec 32) : Prop :=
  (∀ a, (k1_off41 v464 v465 v466) a + S1x85x1x80.size a ≤ S16x255x80x80.size a) ∧
  (∀ a, (k1_off169 v464 v465 v466) a + S1x85x1x80.size a ≤ S16x255x80x80.size a)
theorem k1_off41_inb : ∀ (v464 : BitVec 32) (v465 : BitVec 32) (v466 : BitVec 32) (k1_hw41 : k1_chk41 v464 v465 v466), ∀ a, (k1_off41 v464 v465 v466) a + S1x85x1x80.size a ≤ S16x255x80x80.size a := fun v464 v465 v466 k1_hw41 => k1_hw41.1
theorem k1_off169_inb : ∀ (v464 : BitVec 32) (v465 : BitVec 32) (v466 : BitVec 32) (k1_hw41 : k1_chk41 v464 v465 v466), ∀ a, (k1_off169 v464 v465 v466) a + S1x85x1x80.size a ≤ S16x255x80x80.size a := fun v464 v465 v466 k1_hw41 => k1_hw41.2

def k1_off170 (v472 : BitVec 32) (v473 : BitVec 32) (v474 : BitVec 32) : Fin 4 → Nat :=
  let c85_i32_612 : BitVec 32 := 85#32
  let v475 : BitVec 32 := Scalar.muli v473 c85_i32_612
  let c0_i32_1637 : BitVec 32 := 0#32
  ![v472.toNat, v475.toNat, v474.toNat, 0]

def k1_chk42 (v472 : BitVec 32) (v473 : BitVec 32) (v474 : BitVec 32) : Prop :=
  (∀ a, (k1_off42 v472 v473 v474) a + S1x85x1x80.size a ≤ S16x255x80x80.size a) ∧
  (∀ a, (k1_off170 v472 v473 v474) a + S1x85x1x80.size a ≤ S16x255x80x80.size a)
theorem k1_off42_inb : ∀ (v472 : BitVec 32) (v473 : BitVec 32) (v474 : BitVec 32) (k1_hw42 : k1_chk42 v472 v473 v474), ∀ a, (k1_off42 v472 v473 v474) a + S1x85x1x80.size a ≤ S16x255x80x80.size a := fun v472 v473 v474 k1_hw42 => k1_hw42.1
theorem k1_off170_inb : ∀ (v472 : BitVec 32) (v473 : BitVec 32) (v474 : BitVec 32) (k1_hw42 : k1_chk42 v472 v473 v474), ∀ a, (k1_off170 v472 v473 v474) a + S1x85x1x80.size a ≤ S16x255x80x80.size a := fun v472 v473 v474 k1_hw42 => k1_hw42.2

def k1_off171 (v480 : BitVec 32) (v481 : BitVec 32) (v482 : BitVec 32) : Fin 4 → Nat :=
  let c85_i32_621 : BitVec 32 := 85#32
  let v483 : BitVec 32 := Scalar.muli v481 c85_i32_621
  let c0_i32_1641 : BitVec 32 := 0#32
  ![v480.toNat, v483.toNat, v482.toNat, 0]

def k1_chk43 (v480 : BitVec 32) (v481 : BitVec 32) (v482 : BitVec 32) : Prop :=
  (∀ a, (k1_off43 v480 v481 v482) a + S1x85x1x80.size a ≤ S16x255x80x80.size a) ∧
  (∀ a, (k1_off171 v480 v481 v482) a + S1x85x1x80.size a ≤ S16x255x80x80.size a)
theorem k1_off43_inb : ∀ (v480 : BitVec 32) (v481 : BitVec 32) (v482 : BitVec 32) (k1_hw43 : k1_chk43 v480 v481 v482), ∀ a, (k1_off43 v480 v481 v482) a + S1x85x1x80.size a ≤ S16x255x80x80.size a := fun v480 v481 v482 k1_hw43 => k1_hw43.1
theorem k1_off171_inb : ∀ (v480 : BitVec 32) (v481 : BitVec 32) (v482 : BitVec 32) (k1_hw43 : k1_chk43 v480 v481 v482), ∀ a, (k1_off171 v480 v481 v482) a + S1x85x1x80.size a ≤ S16x255x80x80.size a := fun v480 v481 v482 k1_hw43 => k1_hw43.2

def k1_off172 (v488 : BitVec 32) (v489 : BitVec 32) (v490 : BitVec 32) : Fin 4 → Nat :=
  let c85_i32_630 : BitVec 32 := 85#32
  let v491 : BitVec 32 := Scalar.muli v489 c85_i32_630
  let c0_i32_1645 : BitVec 32 := 0#32
  ![v488.toNat, v491.toNat, v490.toNat, 0]

def k1_chk44 (v488 : BitVec 32) (v489 : BitVec 32) (v490 : BitVec 32) : Prop :=
  (∀ a, (k1_off44 v488 v489 v490) a + S1x85x1x80.size a ≤ S16x255x80x80.size a) ∧
  (∀ a, (k1_off172 v488 v489 v490) a + S1x85x1x80.size a ≤ S16x255x80x80.size a)
theorem k1_off44_inb : ∀ (v488 : BitVec 32) (v489 : BitVec 32) (v490 : BitVec 32) (k1_hw44 : k1_chk44 v488 v489 v490), ∀ a, (k1_off44 v488 v489 v490) a + S1x85x1x80.size a ≤ S16x255x80x80.size a := fun v488 v489 v490 k1_hw44 => k1_hw44.1
theorem k1_off172_inb : ∀ (v488 : BitVec 32) (v489 : BitVec 32) (v490 : BitVec 32) (k1_hw44 : k1_chk44 v488 v489 v490), ∀ a, (k1_off172 v488 v489 v490) a + S1x85x1x80.size a ≤ S16x255x80x80.size a := fun v488 v489 v490 k1_hw44 => k1_hw44.2

def k1_off173 (v496 : BitVec 32) (v497 : BitVec 32) (v498 : BitVec 32) : Fin 4 → Nat :=
  let c85_i32_639 : BitVec 32 := 85#32
  let v499 : BitVec 32 := Scalar.muli v497 c85_i32_639
  let c0_i32_1649 : BitVec 32 := 0#32
  ![v496.toNat, v499.toNat, v498.toNat, 0]

def k1_chk45 (v496 : BitVec 32) (v497 : BitVec 32) (v498 : BitVec 32) : Prop :=
  (∀ a, (k1_off45 v496 v497 v498) a + S1x85x1x80.size a ≤ S16x255x80x80.size a) ∧
  (∀ a, (k1_off173 v496 v497 v498) a + S1x85x1x80.size a ≤ S16x255x80x80.size a)
theorem k1_off45_inb : ∀ (v496 : BitVec 32) (v497 : BitVec 32) (v498 : BitVec 32) (k1_hw45 : k1_chk45 v496 v497 v498), ∀ a, (k1_off45 v496 v497 v498) a + S1x85x1x80.size a ≤ S16x255x80x80.size a := fun v496 v497 v498 k1_hw45 => k1_hw45.1
theorem k1_off173_inb : ∀ (v496 : BitVec 32) (v497 : BitVec 32) (v498 : BitVec 32) (k1_hw45 : k1_chk45 v496 v497 v498), ∀ a, (k1_off173 v496 v497 v498) a + S1x85x1x80.size a ≤ S16x255x80x80.size a := fun v496 v497 v498 k1_hw45 => k1_hw45.2

def k1_off174 (v504 : BitVec 32) (v505 : BitVec 32) (v506 : BitVec 32) : Fin 4 → Nat :=
  let c85_i32_648 : BitVec 32 := 85#32
  let v507 : BitVec 32 := Scalar.muli v505 c85_i32_648
  let c0_i32_1653 : BitVec 32 := 0#32
  ![v504.toNat, v507.toNat, v506.toNat, 0]

def k1_chk46 (v504 : BitVec 32) (v505 : BitVec 32) (v506 : BitVec 32) : Prop :=
  (∀ a, (k1_off46 v504 v505 v506) a + S1x85x1x80.size a ≤ S16x255x80x80.size a) ∧
  (∀ a, (k1_off174 v504 v505 v506) a + S1x85x1x80.size a ≤ S16x255x80x80.size a)
theorem k1_off46_inb : ∀ (v504 : BitVec 32) (v505 : BitVec 32) (v506 : BitVec 32) (k1_hw46 : k1_chk46 v504 v505 v506), ∀ a, (k1_off46 v504 v505 v506) a + S1x85x1x80.size a ≤ S16x255x80x80.size a := fun v504 v505 v506 k1_hw46 => k1_hw46.1
theorem k1_off174_inb : ∀ (v504 : BitVec 32) (v505 : BitVec 32) (v506 : BitVec 32) (k1_hw46 : k1_chk46 v504 v505 v506), ∀ a, (k1_off174 v504 v505 v506) a + S1x85x1x80.size a ≤ S16x255x80x80.size a := fun v504 v505 v506 k1_hw46 => k1_hw46.2

def k1_off175 (v512 : BitVec 32) (v513 : BitVec 32) (v514 : BitVec 32) : Fin 4 → Nat :=
  let c85_i32_657 : BitVec 32 := 85#32
  let v515 : BitVec 32 := Scalar.muli v513 c85_i32_657
  let c0_i32_1657 : BitVec 32 := 0#32
  ![v512.toNat, v515.toNat, v514.toNat, 0]

def k1_chk47 (v512 : BitVec 32) (v513 : BitVec 32) (v514 : BitVec 32) : Prop :=
  (∀ a, (k1_off47 v512 v513 v514) a + S1x85x1x80.size a ≤ S16x255x80x80.size a) ∧
  (∀ a, (k1_off175 v512 v513 v514) a + S1x85x1x80.size a ≤ S16x255x80x80.size a)
theorem k1_off47_inb : ∀ (v512 : BitVec 32) (v513 : BitVec 32) (v514 : BitVec 32) (k1_hw47 : k1_chk47 v512 v513 v514), ∀ a, (k1_off47 v512 v513 v514) a + S1x85x1x80.size a ≤ S16x255x80x80.size a := fun v512 v513 v514 k1_hw47 => k1_hw47.1
theorem k1_off175_inb : ∀ (v512 : BitVec 32) (v513 : BitVec 32) (v514 : BitVec 32) (k1_hw47 : k1_chk47 v512 v513 v514), ∀ a, (k1_off175 v512 v513 v514) a + S1x85x1x80.size a ≤ S16x255x80x80.size a := fun v512 v513 v514 k1_hw47 => k1_hw47.2

def k1_off176 (v520 : BitVec 32) (v521 : BitVec 32) (v522 : BitVec 32) : Fin 4 → Nat :=
  let c85_i32_666 : BitVec 32 := 85#32
  let v523 : BitVec 32 := Scalar.muli v521 c85_i32_666
  let c0_i32_1661 : BitVec 32 := 0#32
  ![v520.toNat, v523.toNat, v522.toNat, 0]

def k1_chk48 (v520 : BitVec 32) (v521 : BitVec 32) (v522 : BitVec 32) : Prop :=
  (∀ a, (k1_off48 v520 v521 v522) a + S1x85x1x80.size a ≤ S16x255x80x80.size a) ∧
  (∀ a, (k1_off176 v520 v521 v522) a + S1x85x1x80.size a ≤ S16x255x80x80.size a)
theorem k1_off48_inb : ∀ (v520 : BitVec 32) (v521 : BitVec 32) (v522 : BitVec 32) (k1_hw48 : k1_chk48 v520 v521 v522), ∀ a, (k1_off48 v520 v521 v522) a + S1x85x1x80.size a ≤ S16x255x80x80.size a := fun v520 v521 v522 k1_hw48 => k1_hw48.1
theorem k1_off176_inb : ∀ (v520 : BitVec 32) (v521 : BitVec 32) (v522 : BitVec 32) (k1_hw48 : k1_chk48 v520 v521 v522), ∀ a, (k1_off176 v520 v521 v522) a + S1x85x1x80.size a ≤ S16x255x80x80.size a := fun v520 v521 v522 k1_hw48 => k1_hw48.2

def k1_off177 (v528 : BitVec 32) (v529 : BitVec 32) (v530 : BitVec 32) : Fin 4 → Nat :=
  let c85_i32_675 : BitVec 32 := 85#32
  let v531 : BitVec 32 := Scalar.muli v529 c85_i32_675
  let c0_i32_1665 : BitVec 32 := 0#32
  ![v528.toNat, v531.toNat, v530.toNat, 0]

def k1_chk49 (v528 : BitVec 32) (v529 : BitVec 32) (v530 : BitVec 32) : Prop :=
  (∀ a, (k1_off49 v528 v529 v530) a + S1x85x1x80.size a ≤ S16x255x80x80.size a) ∧
  (∀ a, (k1_off177 v528 v529 v530) a + S1x85x1x80.size a ≤ S16x255x80x80.size a)
theorem k1_off49_inb : ∀ (v528 : BitVec 32) (v529 : BitVec 32) (v530 : BitVec 32) (k1_hw49 : k1_chk49 v528 v529 v530), ∀ a, (k1_off49 v528 v529 v530) a + S1x85x1x80.size a ≤ S16x255x80x80.size a := fun v528 v529 v530 k1_hw49 => k1_hw49.1
theorem k1_off177_inb : ∀ (v528 : BitVec 32) (v529 : BitVec 32) (v530 : BitVec 32) (k1_hw49 : k1_chk49 v528 v529 v530), ∀ a, (k1_off177 v528 v529 v530) a + S1x85x1x80.size a ≤ S16x255x80x80.size a := fun v528 v529 v530 k1_hw49 => k1_hw49.2

def k1_off178 (v536 : BitVec 32) (v537 : BitVec 32) (v538 : BitVec 32) : Fin 4 → Nat :=
  let c85_i32_684 : BitVec 32 := 85#32
  let v539 : BitVec 32 := Scalar.muli v537 c85_i32_684
  let c0_i32_1669 : BitVec 32 := 0#32
  ![v536.toNat, v539.toNat, v538.toNat, 0]

def k1_chk50 (v536 : BitVec 32) (v537 : BitVec 32) (v538 : BitVec 32) : Prop :=
  (∀ a, (k1_off50 v536 v537 v538) a + S1x85x1x80.size a ≤ S16x255x80x80.size a) ∧
  (∀ a, (k1_off178 v536 v537 v538) a + S1x85x1x80.size a ≤ S16x255x80x80.size a)
theorem k1_off50_inb : ∀ (v536 : BitVec 32) (v537 : BitVec 32) (v538 : BitVec 32) (k1_hw50 : k1_chk50 v536 v537 v538), ∀ a, (k1_off50 v536 v537 v538) a + S1x85x1x80.size a ≤ S16x255x80x80.size a := fun v536 v537 v538 k1_hw50 => k1_hw50.1
theorem k1_off178_inb : ∀ (v536 : BitVec 32) (v537 : BitVec 32) (v538 : BitVec 32) (k1_hw50 : k1_chk50 v536 v537 v538), ∀ a, (k1_off178 v536 v537 v538) a + S1x85x1x80.size a ≤ S16x255x80x80.size a := fun v536 v537 v538 k1_hw50 => k1_hw50.2

def k1_off179 (v544 : BitVec 32) (v545 : BitVec 32) (v546 : BitVec 32) : Fin 4 → Nat :=
  let c85_i32_693 : BitVec 32 := 85#32
  let v547 : BitVec 32 := Scalar.muli v545 c85_i32_693
  let c0_i32_1673 : BitVec 32 := 0#32
  ![v544.toNat, v547.toNat, v546.toNat, 0]

def k1_chk51 (v544 : BitVec 32) (v545 : BitVec 32) (v546 : BitVec 32) : Prop :=
  (∀ a, (k1_off51 v544 v545 v546) a + S1x85x1x80.size a ≤ S16x255x80x80.size a) ∧
  (∀ a, (k1_off179 v544 v545 v546) a + S1x85x1x80.size a ≤ S16x255x80x80.size a)
theorem k1_off51_inb : ∀ (v544 : BitVec 32) (v545 : BitVec 32) (v546 : BitVec 32) (k1_hw51 : k1_chk51 v544 v545 v546), ∀ a, (k1_off51 v544 v545 v546) a + S1x85x1x80.size a ≤ S16x255x80x80.size a := fun v544 v545 v546 k1_hw51 => k1_hw51.1
theorem k1_off179_inb : ∀ (v544 : BitVec 32) (v545 : BitVec 32) (v546 : BitVec 32) (k1_hw51 : k1_chk51 v544 v545 v546), ∀ a, (k1_off179 v544 v545 v546) a + S1x85x1x80.size a ≤ S16x255x80x80.size a := fun v544 v545 v546 k1_hw51 => k1_hw51.2

def k1_off180 (v552 : BitVec 32) (v553 : BitVec 32) (v554 : BitVec 32) : Fin 4 → Nat :=
  let c85_i32_702 : BitVec 32 := 85#32
  let v555 : BitVec 32 := Scalar.muli v553 c85_i32_702
  let c0_i32_1677 : BitVec 32 := 0#32
  ![v552.toNat, v555.toNat, v554.toNat, 0]

def k1_chk52 (v552 : BitVec 32) (v553 : BitVec 32) (v554 : BitVec 32) : Prop :=
  (∀ a, (k1_off52 v552 v553 v554) a + S1x85x1x80.size a ≤ S16x255x80x80.size a) ∧
  (∀ a, (k1_off180 v552 v553 v554) a + S1x85x1x80.size a ≤ S16x255x80x80.size a)
theorem k1_off52_inb : ∀ (v552 : BitVec 32) (v553 : BitVec 32) (v554 : BitVec 32) (k1_hw52 : k1_chk52 v552 v553 v554), ∀ a, (k1_off52 v552 v553 v554) a + S1x85x1x80.size a ≤ S16x255x80x80.size a := fun v552 v553 v554 k1_hw52 => k1_hw52.1
theorem k1_off180_inb : ∀ (v552 : BitVec 32) (v553 : BitVec 32) (v554 : BitVec 32) (k1_hw52 : k1_chk52 v552 v553 v554), ∀ a, (k1_off180 v552 v553 v554) a + S1x85x1x80.size a ≤ S16x255x80x80.size a := fun v552 v553 v554 k1_hw52 => k1_hw52.2

def k1_off181 (v560 : BitVec 32) (v561 : BitVec 32) (v562 : BitVec 32) : Fin 4 → Nat :=
  let c85_i32_711 : BitVec 32 := 85#32
  let v563 : BitVec 32 := Scalar.muli v561 c85_i32_711
  let c0_i32_1681 : BitVec 32 := 0#32
  ![v560.toNat, v563.toNat, v562.toNat, 0]

def k1_chk53 (v560 : BitVec 32) (v561 : BitVec 32) (v562 : BitVec 32) : Prop :=
  (∀ a, (k1_off53 v560 v561 v562) a + S1x85x1x80.size a ≤ S16x255x80x80.size a) ∧
  (∀ a, (k1_off181 v560 v561 v562) a + S1x85x1x80.size a ≤ S16x255x80x80.size a)
theorem k1_off53_inb : ∀ (v560 : BitVec 32) (v561 : BitVec 32) (v562 : BitVec 32) (k1_hw53 : k1_chk53 v560 v561 v562), ∀ a, (k1_off53 v560 v561 v562) a + S1x85x1x80.size a ≤ S16x255x80x80.size a := fun v560 v561 v562 k1_hw53 => k1_hw53.1
theorem k1_off181_inb : ∀ (v560 : BitVec 32) (v561 : BitVec 32) (v562 : BitVec 32) (k1_hw53 : k1_chk53 v560 v561 v562), ∀ a, (k1_off181 v560 v561 v562) a + S1x85x1x80.size a ≤ S16x255x80x80.size a := fun v560 v561 v562 k1_hw53 => k1_hw53.2

def k1_off182 (v568 : BitVec 32) (v569 : BitVec 32) (v570 : BitVec 32) : Fin 4 → Nat :=
  let c85_i32_720 : BitVec 32 := 85#32
  let v571 : BitVec 32 := Scalar.muli v569 c85_i32_720
  let c0_i32_1685 : BitVec 32 := 0#32
  ![v568.toNat, v571.toNat, v570.toNat, 0]

def k1_chk54 (v568 : BitVec 32) (v569 : BitVec 32) (v570 : BitVec 32) : Prop :=
  (∀ a, (k1_off54 v568 v569 v570) a + S1x85x1x80.size a ≤ S16x255x80x80.size a) ∧
  (∀ a, (k1_off182 v568 v569 v570) a + S1x85x1x80.size a ≤ S16x255x80x80.size a)
theorem k1_off54_inb : ∀ (v568 : BitVec 32) (v569 : BitVec 32) (v570 : BitVec 32) (k1_hw54 : k1_chk54 v568 v569 v570), ∀ a, (k1_off54 v568 v569 v570) a + S1x85x1x80.size a ≤ S16x255x80x80.size a := fun v568 v569 v570 k1_hw54 => k1_hw54.1
theorem k1_off182_inb : ∀ (v568 : BitVec 32) (v569 : BitVec 32) (v570 : BitVec 32) (k1_hw54 : k1_chk54 v568 v569 v570), ∀ a, (k1_off182 v568 v569 v570) a + S1x85x1x80.size a ≤ S16x255x80x80.size a := fun v568 v569 v570 k1_hw54 => k1_hw54.2

def k1_off183 (v576 : BitVec 32) (v577 : BitVec 32) (v578 : BitVec 32) : Fin 4 → Nat :=
  let c85_i32_729 : BitVec 32 := 85#32
  let v579 : BitVec 32 := Scalar.muli v577 c85_i32_729
  let c0_i32_1689 : BitVec 32 := 0#32
  ![v576.toNat, v579.toNat, v578.toNat, 0]

def k1_chk55 (v576 : BitVec 32) (v577 : BitVec 32) (v578 : BitVec 32) : Prop :=
  (∀ a, (k1_off55 v576 v577 v578) a + S1x85x1x80.size a ≤ S16x255x80x80.size a) ∧
  (∀ a, (k1_off183 v576 v577 v578) a + S1x85x1x80.size a ≤ S16x255x80x80.size a)
theorem k1_off55_inb : ∀ (v576 : BitVec 32) (v577 : BitVec 32) (v578 : BitVec 32) (k1_hw55 : k1_chk55 v576 v577 v578), ∀ a, (k1_off55 v576 v577 v578) a + S1x85x1x80.size a ≤ S16x255x80x80.size a := fun v576 v577 v578 k1_hw55 => k1_hw55.1
theorem k1_off183_inb : ∀ (v576 : BitVec 32) (v577 : BitVec 32) (v578 : BitVec 32) (k1_hw55 : k1_chk55 v576 v577 v578), ∀ a, (k1_off183 v576 v577 v578) a + S1x85x1x80.size a ≤ S16x255x80x80.size a := fun v576 v577 v578 k1_hw55 => k1_hw55.2

def k1_off184 (v584 : BitVec 32) (v585 : BitVec 32) (v586 : BitVec 32) : Fin 4 → Nat :=
  let c85_i32_738 : BitVec 32 := 85#32
  let v587 : BitVec 32 := Scalar.muli v585 c85_i32_738
  let c0_i32_1693 : BitVec 32 := 0#32
  ![v584.toNat, v587.toNat, v586.toNat, 0]

def k1_chk56 (v584 : BitVec 32) (v585 : BitVec 32) (v586 : BitVec 32) : Prop :=
  (∀ a, (k1_off56 v584 v585 v586) a + S1x85x1x80.size a ≤ S16x255x80x80.size a) ∧
  (∀ a, (k1_off184 v584 v585 v586) a + S1x85x1x80.size a ≤ S16x255x80x80.size a)
theorem k1_off56_inb : ∀ (v584 : BitVec 32) (v585 : BitVec 32) (v586 : BitVec 32) (k1_hw56 : k1_chk56 v584 v585 v586), ∀ a, (k1_off56 v584 v585 v586) a + S1x85x1x80.size a ≤ S16x255x80x80.size a := fun v584 v585 v586 k1_hw56 => k1_hw56.1
theorem k1_off184_inb : ∀ (v584 : BitVec 32) (v585 : BitVec 32) (v586 : BitVec 32) (k1_hw56 : k1_chk56 v584 v585 v586), ∀ a, (k1_off184 v584 v585 v586) a + S1x85x1x80.size a ≤ S16x255x80x80.size a := fun v584 v585 v586 k1_hw56 => k1_hw56.2

def k1_off185 (v592 : BitVec 32) (v593 : BitVec 32) (v594 : BitVec 32) : Fin 4 → Nat :=
  let c85_i32_747 : BitVec 32 := 85#32
  let v595 : BitVec 32 := Scalar.muli v593 c85_i32_747
  let c0_i32_1697 : BitVec 32 := 0#32
  ![v592.toNat, v595.toNat, v594.toNat, 0]

def k1_chk57 (v592 : BitVec 32) (v593 : BitVec 32) (v594 : BitVec 32) : Prop :=
  (∀ a, (k1_off57 v592 v593 v594) a + S1x85x1x80.size a ≤ S16x255x80x80.size a) ∧
  (∀ a, (k1_off185 v592 v593 v594) a + S1x85x1x80.size a ≤ S16x255x80x80.size a)
theorem k1_off57_inb : ∀ (v592 : BitVec 32) (v593 : BitVec 32) (v594 : BitVec 32) (k1_hw57 : k1_chk57 v592 v593 v594), ∀ a, (k1_off57 v592 v593 v594) a + S1x85x1x80.size a ≤ S16x255x80x80.size a := fun v592 v593 v594 k1_hw57 => k1_hw57.1
theorem k1_off185_inb : ∀ (v592 : BitVec 32) (v593 : BitVec 32) (v594 : BitVec 32) (k1_hw57 : k1_chk57 v592 v593 v594), ∀ a, (k1_off185 v592 v593 v594) a + S1x85x1x80.size a ≤ S16x255x80x80.size a := fun v592 v593 v594 k1_hw57 => k1_hw57.2

def k1_off186 (v600 : BitVec 32) (v601 : BitVec 32) (v602 : BitVec 32) : Fin 4 → Nat :=
  let c85_i32_756 : BitVec 32 := 85#32
  let v603 : BitVec 32 := Scalar.muli v601 c85_i32_756
  let c0_i32_1701 : BitVec 32 := 0#32
  ![v600.toNat, v603.toNat, v602.toNat, 0]

def k1_chk58 (v600 : BitVec 32) (v601 : BitVec 32) (v602 : BitVec 32) : Prop :=
  (∀ a, (k1_off58 v600 v601 v602) a + S1x85x1x80.size a ≤ S16x255x80x80.size a) ∧
  (∀ a, (k1_off186 v600 v601 v602) a + S1x85x1x80.size a ≤ S16x255x80x80.size a)
theorem k1_off58_inb : ∀ (v600 : BitVec 32) (v601 : BitVec 32) (v602 : BitVec 32) (k1_hw58 : k1_chk58 v600 v601 v602), ∀ a, (k1_off58 v600 v601 v602) a + S1x85x1x80.size a ≤ S16x255x80x80.size a := fun v600 v601 v602 k1_hw58 => k1_hw58.1
theorem k1_off186_inb : ∀ (v600 : BitVec 32) (v601 : BitVec 32) (v602 : BitVec 32) (k1_hw58 : k1_chk58 v600 v601 v602), ∀ a, (k1_off186 v600 v601 v602) a + S1x85x1x80.size a ≤ S16x255x80x80.size a := fun v600 v601 v602 k1_hw58 => k1_hw58.2

def k1_off187 (v608 : BitVec 32) (v609 : BitVec 32) (v610 : BitVec 32) : Fin 4 → Nat :=
  let c85_i32_765 : BitVec 32 := 85#32
  let v611 : BitVec 32 := Scalar.muli v609 c85_i32_765
  let c0_i32_1705 : BitVec 32 := 0#32
  ![v608.toNat, v611.toNat, v610.toNat, 0]

def k1_chk59 (v608 : BitVec 32) (v609 : BitVec 32) (v610 : BitVec 32) : Prop :=
  (∀ a, (k1_off59 v608 v609 v610) a + S1x85x1x80.size a ≤ S16x255x80x80.size a) ∧
  (∀ a, (k1_off187 v608 v609 v610) a + S1x85x1x80.size a ≤ S16x255x80x80.size a)
theorem k1_off59_inb : ∀ (v608 : BitVec 32) (v609 : BitVec 32) (v610 : BitVec 32) (k1_hw59 : k1_chk59 v608 v609 v610), ∀ a, (k1_off59 v608 v609 v610) a + S1x85x1x80.size a ≤ S16x255x80x80.size a := fun v608 v609 v610 k1_hw59 => k1_hw59.1
theorem k1_off187_inb : ∀ (v608 : BitVec 32) (v609 : BitVec 32) (v610 : BitVec 32) (k1_hw59 : k1_chk59 v608 v609 v610), ∀ a, (k1_off187 v608 v609 v610) a + S1x85x1x80.size a ≤ S16x255x80x80.size a := fun v608 v609 v610 k1_hw59 => k1_hw59.2

def k1_off188 (v616 : BitVec 32) (v617 : BitVec 32) (v618 : BitVec 32) : Fin 4 → Nat :=
  let c85_i32_774 : BitVec 32 := 85#32
  let v619 : BitVec 32 := Scalar.muli v617 c85_i32_774
  let c0_i32_1709 : BitVec 32 := 0#32
  ![v616.toNat, v619.toNat, v618.toNat, 0]

def k1_chk60 (v616 : BitVec 32) (v617 : BitVec 32) (v618 : BitVec 32) : Prop :=
  (∀ a, (k1_off60 v616 v617 v618) a + S1x85x1x80.size a ≤ S16x255x80x80.size a) ∧
  (∀ a, (k1_off188 v616 v617 v618) a + S1x85x1x80.size a ≤ S16x255x80x80.size a)
theorem k1_off60_inb : ∀ (v616 : BitVec 32) (v617 : BitVec 32) (v618 : BitVec 32) (k1_hw60 : k1_chk60 v616 v617 v618), ∀ a, (k1_off60 v616 v617 v618) a + S1x85x1x80.size a ≤ S16x255x80x80.size a := fun v616 v617 v618 k1_hw60 => k1_hw60.1
theorem k1_off188_inb : ∀ (v616 : BitVec 32) (v617 : BitVec 32) (v618 : BitVec 32) (k1_hw60 : k1_chk60 v616 v617 v618), ∀ a, (k1_off188 v616 v617 v618) a + S1x85x1x80.size a ≤ S16x255x80x80.size a := fun v616 v617 v618 k1_hw60 => k1_hw60.2

def k1_off189 (v624 : BitVec 32) (v625 : BitVec 32) (v626 : BitVec 32) : Fin 4 → Nat :=
  let c85_i32_783 : BitVec 32 := 85#32
  let v627 : BitVec 32 := Scalar.muli v625 c85_i32_783
  let c0_i32_1713 : BitVec 32 := 0#32
  ![v624.toNat, v627.toNat, v626.toNat, 0]

def k1_chk61 (v624 : BitVec 32) (v625 : BitVec 32) (v626 : BitVec 32) : Prop :=
  (∀ a, (k1_off61 v624 v625 v626) a + S1x85x1x80.size a ≤ S16x255x80x80.size a) ∧
  (∀ a, (k1_off189 v624 v625 v626) a + S1x85x1x80.size a ≤ S16x255x80x80.size a)
theorem k1_off61_inb : ∀ (v624 : BitVec 32) (v625 : BitVec 32) (v626 : BitVec 32) (k1_hw61 : k1_chk61 v624 v625 v626), ∀ a, (k1_off61 v624 v625 v626) a + S1x85x1x80.size a ≤ S16x255x80x80.size a := fun v624 v625 v626 k1_hw61 => k1_hw61.1
theorem k1_off189_inb : ∀ (v624 : BitVec 32) (v625 : BitVec 32) (v626 : BitVec 32) (k1_hw61 : k1_chk61 v624 v625 v626), ∀ a, (k1_off189 v624 v625 v626) a + S1x85x1x80.size a ≤ S16x255x80x80.size a := fun v624 v625 v626 k1_hw61 => k1_hw61.2

def k1_off190 (v632 : BitVec 32) (v633 : BitVec 32) (v634 : BitVec 32) : Fin 4 → Nat :=
  let c85_i32_792 : BitVec 32 := 85#32
  let v635 : BitVec 32 := Scalar.muli v633 c85_i32_792
  let c0_i32_1717 : BitVec 32 := 0#32
  ![v632.toNat, v635.toNat, v634.toNat, 0]

def k1_chk62 (v632 : BitVec 32) (v633 : BitVec 32) (v634 : BitVec 32) : Prop :=
  (∀ a, (k1_off62 v632 v633 v634) a + S1x85x1x80.size a ≤ S16x255x80x80.size a) ∧
  (∀ a, (k1_off190 v632 v633 v634) a + S1x85x1x80.size a ≤ S16x255x80x80.size a)
theorem k1_off62_inb : ∀ (v632 : BitVec 32) (v633 : BitVec 32) (v634 : BitVec 32) (k1_hw62 : k1_chk62 v632 v633 v634), ∀ a, (k1_off62 v632 v633 v634) a + S1x85x1x80.size a ≤ S16x255x80x80.size a := fun v632 v633 v634 k1_hw62 => k1_hw62.1
theorem k1_off190_inb : ∀ (v632 : BitVec 32) (v633 : BitVec 32) (v634 : BitVec 32) (k1_hw62 : k1_chk62 v632 v633 v634), ∀ a, (k1_off190 v632 v633 v634) a + S1x85x1x80.size a ≤ S16x255x80x80.size a := fun v632 v633 v634 k1_hw62 => k1_hw62.2

def k1_off191 (v640 : BitVec 32) (v641 : BitVec 32) (v642 : BitVec 32) : Fin 4 → Nat :=
  let c85_i32_801 : BitVec 32 := 85#32
  let v643 : BitVec 32 := Scalar.muli v641 c85_i32_801
  let c0_i32_1721 : BitVec 32 := 0#32
  ![v640.toNat, v643.toNat, v642.toNat, 0]

def k1_chk63 (v640 : BitVec 32) (v641 : BitVec 32) (v642 : BitVec 32) : Prop :=
  (∀ a, (k1_off63 v640 v641 v642) a + S1x85x1x80.size a ≤ S16x255x80x80.size a) ∧
  (∀ a, (k1_off191 v640 v641 v642) a + S1x85x1x80.size a ≤ S16x255x80x80.size a)
theorem k1_off63_inb : ∀ (v640 : BitVec 32) (v641 : BitVec 32) (v642 : BitVec 32) (k1_hw63 : k1_chk63 v640 v641 v642), ∀ a, (k1_off63 v640 v641 v642) a + S1x85x1x80.size a ≤ S16x255x80x80.size a := fun v640 v641 v642 k1_hw63 => k1_hw63.1
theorem k1_off191_inb : ∀ (v640 : BitVec 32) (v641 : BitVec 32) (v642 : BitVec 32) (k1_hw63 : k1_chk63 v640 v641 v642), ∀ a, (k1_off191 v640 v641 v642) a + S1x85x1x80.size a ≤ S16x255x80x80.size a := fun v640 v641 v642 k1_hw63 => k1_hw63.2

def k1_off192 (v648 : BitVec 32) (v649 : BitVec 32) (v650 : BitVec 32) : Fin 4 → Nat :=
  let c85_i32_810 : BitVec 32 := 85#32
  let v651 : BitVec 32 := Scalar.muli v649 c85_i32_810
  let c0_i32_1725 : BitVec 32 := 0#32
  ![v648.toNat, v651.toNat, v650.toNat, 0]

def k1_chk64 (v648 : BitVec 32) (v649 : BitVec 32) (v650 : BitVec 32) : Prop :=
  (∀ a, (k1_off64 v648 v649 v650) a + S1x85x1x80.size a ≤ S16x255x80x80.size a) ∧
  (∀ a, (k1_off192 v648 v649 v650) a + S1x85x1x80.size a ≤ S16x255x80x80.size a)
theorem k1_off64_inb : ∀ (v648 : BitVec 32) (v649 : BitVec 32) (v650 : BitVec 32) (k1_hw64 : k1_chk64 v648 v649 v650), ∀ a, (k1_off64 v648 v649 v650) a + S1x85x1x80.size a ≤ S16x255x80x80.size a := fun v648 v649 v650 k1_hw64 => k1_hw64.1
theorem k1_off192_inb : ∀ (v648 : BitVec 32) (v649 : BitVec 32) (v650 : BitVec 32) (k1_hw64 : k1_chk64 v648 v649 v650), ∀ a, (k1_off192 v648 v649 v650) a + S1x85x1x80.size a ≤ S16x255x80x80.size a := fun v648 v649 v650 k1_hw64 => k1_hw64.2

def k1_off193 (v656 : BitVec 32) (v657 : BitVec 32) (v658 : BitVec 32) : Fin 4 → Nat :=
  let c85_i32_819 : BitVec 32 := 85#32
  let v659 : BitVec 32 := Scalar.muli v657 c85_i32_819
  let c0_i32_1729 : BitVec 32 := 0#32
  ![v656.toNat, v659.toNat, v658.toNat, 0]

def k1_chk65 (v656 : BitVec 32) (v657 : BitVec 32) (v658 : BitVec 32) : Prop :=
  (∀ a, (k1_off65 v656 v657 v658) a + S1x85x1x80.size a ≤ S16x255x80x80.size a) ∧
  (∀ a, (k1_off193 v656 v657 v658) a + S1x85x1x80.size a ≤ S16x255x80x80.size a)
theorem k1_off65_inb : ∀ (v656 : BitVec 32) (v657 : BitVec 32) (v658 : BitVec 32) (k1_hw65 : k1_chk65 v656 v657 v658), ∀ a, (k1_off65 v656 v657 v658) a + S1x85x1x80.size a ≤ S16x255x80x80.size a := fun v656 v657 v658 k1_hw65 => k1_hw65.1
theorem k1_off193_inb : ∀ (v656 : BitVec 32) (v657 : BitVec 32) (v658 : BitVec 32) (k1_hw65 : k1_chk65 v656 v657 v658), ∀ a, (k1_off193 v656 v657 v658) a + S1x85x1x80.size a ≤ S16x255x80x80.size a := fun v656 v657 v658 k1_hw65 => k1_hw65.2

def k1_off194 (v664 : BitVec 32) (v665 : BitVec 32) (v666 : BitVec 32) : Fin 4 → Nat :=
  let c85_i32_828 : BitVec 32 := 85#32
  let v667 : BitVec 32 := Scalar.muli v665 c85_i32_828
  let c0_i32_1733 : BitVec 32 := 0#32
  ![v664.toNat, v667.toNat, v666.toNat, 0]

def k1_chk66 (v664 : BitVec 32) (v665 : BitVec 32) (v666 : BitVec 32) : Prop :=
  (∀ a, (k1_off66 v664 v665 v666) a + S1x85x1x80.size a ≤ S16x255x80x80.size a) ∧
  (∀ a, (k1_off194 v664 v665 v666) a + S1x85x1x80.size a ≤ S16x255x80x80.size a)
theorem k1_off66_inb : ∀ (v664 : BitVec 32) (v665 : BitVec 32) (v666 : BitVec 32) (k1_hw66 : k1_chk66 v664 v665 v666), ∀ a, (k1_off66 v664 v665 v666) a + S1x85x1x80.size a ≤ S16x255x80x80.size a := fun v664 v665 v666 k1_hw66 => k1_hw66.1
theorem k1_off194_inb : ∀ (v664 : BitVec 32) (v665 : BitVec 32) (v666 : BitVec 32) (k1_hw66 : k1_chk66 v664 v665 v666), ∀ a, (k1_off194 v664 v665 v666) a + S1x85x1x80.size a ≤ S16x255x80x80.size a := fun v664 v665 v666 k1_hw66 => k1_hw66.2

def k1_off195 (v672 : BitVec 32) (v673 : BitVec 32) (v674 : BitVec 32) : Fin 4 → Nat :=
  let c85_i32_837 : BitVec 32 := 85#32
  let v675 : BitVec 32 := Scalar.muli v673 c85_i32_837
  let c0_i32_1737 : BitVec 32 := 0#32
  ![v672.toNat, v675.toNat, v674.toNat, 0]

def k1_chk67 (v672 : BitVec 32) (v673 : BitVec 32) (v674 : BitVec 32) : Prop :=
  (∀ a, (k1_off67 v672 v673 v674) a + S1x85x1x80.size a ≤ S16x255x80x80.size a) ∧
  (∀ a, (k1_off195 v672 v673 v674) a + S1x85x1x80.size a ≤ S16x255x80x80.size a)
theorem k1_off67_inb : ∀ (v672 : BitVec 32) (v673 : BitVec 32) (v674 : BitVec 32) (k1_hw67 : k1_chk67 v672 v673 v674), ∀ a, (k1_off67 v672 v673 v674) a + S1x85x1x80.size a ≤ S16x255x80x80.size a := fun v672 v673 v674 k1_hw67 => k1_hw67.1
theorem k1_off195_inb : ∀ (v672 : BitVec 32) (v673 : BitVec 32) (v674 : BitVec 32) (k1_hw67 : k1_chk67 v672 v673 v674), ∀ a, (k1_off195 v672 v673 v674) a + S1x85x1x80.size a ≤ S16x255x80x80.size a := fun v672 v673 v674 k1_hw67 => k1_hw67.2

def k1_off196 (v680 : BitVec 32) (v681 : BitVec 32) (v682 : BitVec 32) : Fin 4 → Nat :=
  let c85_i32_846 : BitVec 32 := 85#32
  let v683 : BitVec 32 := Scalar.muli v681 c85_i32_846
  let c0_i32_1741 : BitVec 32 := 0#32
  ![v680.toNat, v683.toNat, v682.toNat, 0]

def k1_chk68 (v680 : BitVec 32) (v681 : BitVec 32) (v682 : BitVec 32) : Prop :=
  (∀ a, (k1_off68 v680 v681 v682) a + S1x85x1x80.size a ≤ S16x255x80x80.size a) ∧
  (∀ a, (k1_off196 v680 v681 v682) a + S1x85x1x80.size a ≤ S16x255x80x80.size a)
theorem k1_off68_inb : ∀ (v680 : BitVec 32) (v681 : BitVec 32) (v682 : BitVec 32) (k1_hw68 : k1_chk68 v680 v681 v682), ∀ a, (k1_off68 v680 v681 v682) a + S1x85x1x80.size a ≤ S16x255x80x80.size a := fun v680 v681 v682 k1_hw68 => k1_hw68.1
theorem k1_off196_inb : ∀ (v680 : BitVec 32) (v681 : BitVec 32) (v682 : BitVec 32) (k1_hw68 : k1_chk68 v680 v681 v682), ∀ a, (k1_off196 v680 v681 v682) a + S1x85x1x80.size a ≤ S16x255x80x80.size a := fun v680 v681 v682 k1_hw68 => k1_hw68.2

def k1_off197 (v688 : BitVec 32) (v689 : BitVec 32) (v690 : BitVec 32) : Fin 4 → Nat :=
  let c85_i32_855 : BitVec 32 := 85#32
  let v691 : BitVec 32 := Scalar.muli v689 c85_i32_855
  let c0_i32_1745 : BitVec 32 := 0#32
  ![v688.toNat, v691.toNat, v690.toNat, 0]

def k1_chk69 (v688 : BitVec 32) (v689 : BitVec 32) (v690 : BitVec 32) : Prop :=
  (∀ a, (k1_off69 v688 v689 v690) a + S1x85x1x80.size a ≤ S16x255x80x80.size a) ∧
  (∀ a, (k1_off197 v688 v689 v690) a + S1x85x1x80.size a ≤ S16x255x80x80.size a)
theorem k1_off69_inb : ∀ (v688 : BitVec 32) (v689 : BitVec 32) (v690 : BitVec 32) (k1_hw69 : k1_chk69 v688 v689 v690), ∀ a, (k1_off69 v688 v689 v690) a + S1x85x1x80.size a ≤ S16x255x80x80.size a := fun v688 v689 v690 k1_hw69 => k1_hw69.1
theorem k1_off197_inb : ∀ (v688 : BitVec 32) (v689 : BitVec 32) (v690 : BitVec 32) (k1_hw69 : k1_chk69 v688 v689 v690), ∀ a, (k1_off197 v688 v689 v690) a + S1x85x1x80.size a ≤ S16x255x80x80.size a := fun v688 v689 v690 k1_hw69 => k1_hw69.2

def k1_off198 (v696 : BitVec 32) (v697 : BitVec 32) (v698 : BitVec 32) : Fin 4 → Nat :=
  let c85_i32_864 : BitVec 32 := 85#32
  let v699 : BitVec 32 := Scalar.muli v697 c85_i32_864
  let c0_i32_1749 : BitVec 32 := 0#32
  ![v696.toNat, v699.toNat, v698.toNat, 0]

def k1_chk70 (v696 : BitVec 32) (v697 : BitVec 32) (v698 : BitVec 32) : Prop :=
  (∀ a, (k1_off70 v696 v697 v698) a + S1x85x1x80.size a ≤ S16x255x80x80.size a) ∧
  (∀ a, (k1_off198 v696 v697 v698) a + S1x85x1x80.size a ≤ S16x255x80x80.size a)
theorem k1_off70_inb : ∀ (v696 : BitVec 32) (v697 : BitVec 32) (v698 : BitVec 32) (k1_hw70 : k1_chk70 v696 v697 v698), ∀ a, (k1_off70 v696 v697 v698) a + S1x85x1x80.size a ≤ S16x255x80x80.size a := fun v696 v697 v698 k1_hw70 => k1_hw70.1
theorem k1_off198_inb : ∀ (v696 : BitVec 32) (v697 : BitVec 32) (v698 : BitVec 32) (k1_hw70 : k1_chk70 v696 v697 v698), ∀ a, (k1_off198 v696 v697 v698) a + S1x85x1x80.size a ≤ S16x255x80x80.size a := fun v696 v697 v698 k1_hw70 => k1_hw70.2

def k1_off199 (v704 : BitVec 32) (v705 : BitVec 32) (v706 : BitVec 32) : Fin 4 → Nat :=
  let c85_i32_873 : BitVec 32 := 85#32
  let v707 : BitVec 32 := Scalar.muli v705 c85_i32_873
  let c0_i32_1753 : BitVec 32 := 0#32
  ![v704.toNat, v707.toNat, v706.toNat, 0]

def k1_chk71 (v704 : BitVec 32) (v705 : BitVec 32) (v706 : BitVec 32) : Prop :=
  (∀ a, (k1_off71 v704 v705 v706) a + S1x85x1x80.size a ≤ S16x255x80x80.size a) ∧
  (∀ a, (k1_off199 v704 v705 v706) a + S1x85x1x80.size a ≤ S16x255x80x80.size a)
theorem k1_off71_inb : ∀ (v704 : BitVec 32) (v705 : BitVec 32) (v706 : BitVec 32) (k1_hw71 : k1_chk71 v704 v705 v706), ∀ a, (k1_off71 v704 v705 v706) a + S1x85x1x80.size a ≤ S16x255x80x80.size a := fun v704 v705 v706 k1_hw71 => k1_hw71.1
theorem k1_off199_inb : ∀ (v704 : BitVec 32) (v705 : BitVec 32) (v706 : BitVec 32) (k1_hw71 : k1_chk71 v704 v705 v706), ∀ a, (k1_off199 v704 v705 v706) a + S1x85x1x80.size a ≤ S16x255x80x80.size a := fun v704 v705 v706 k1_hw71 => k1_hw71.2

def k1_off200 (v712 : BitVec 32) (v713 : BitVec 32) (v714 : BitVec 32) : Fin 4 → Nat :=
  let c85_i32_882 : BitVec 32 := 85#32
  let v715 : BitVec 32 := Scalar.muli v713 c85_i32_882
  let c0_i32_1757 : BitVec 32 := 0#32
  ![v712.toNat, v715.toNat, v714.toNat, 0]

def k1_chk72 (v712 : BitVec 32) (v713 : BitVec 32) (v714 : BitVec 32) : Prop :=
  (∀ a, (k1_off72 v712 v713 v714) a + S1x85x1x80.size a ≤ S16x255x80x80.size a) ∧
  (∀ a, (k1_off200 v712 v713 v714) a + S1x85x1x80.size a ≤ S16x255x80x80.size a)
theorem k1_off72_inb : ∀ (v712 : BitVec 32) (v713 : BitVec 32) (v714 : BitVec 32) (k1_hw72 : k1_chk72 v712 v713 v714), ∀ a, (k1_off72 v712 v713 v714) a + S1x85x1x80.size a ≤ S16x255x80x80.size a := fun v712 v713 v714 k1_hw72 => k1_hw72.1
theorem k1_off200_inb : ∀ (v712 : BitVec 32) (v713 : BitVec 32) (v714 : BitVec 32) (k1_hw72 : k1_chk72 v712 v713 v714), ∀ a, (k1_off200 v712 v713 v714) a + S1x85x1x80.size a ≤ S16x255x80x80.size a := fun v712 v713 v714 k1_hw72 => k1_hw72.2

def k1_off201 (v720 : BitVec 32) (v721 : BitVec 32) (v722 : BitVec 32) : Fin 4 → Nat :=
  let c85_i32_891 : BitVec 32 := 85#32
  let v723 : BitVec 32 := Scalar.muli v721 c85_i32_891
  let c0_i32_1761 : BitVec 32 := 0#32
  ![v720.toNat, v723.toNat, v722.toNat, 0]

def k1_chk73 (v720 : BitVec 32) (v721 : BitVec 32) (v722 : BitVec 32) : Prop :=
  (∀ a, (k1_off73 v720 v721 v722) a + S1x85x1x80.size a ≤ S16x255x80x80.size a) ∧
  (∀ a, (k1_off201 v720 v721 v722) a + S1x85x1x80.size a ≤ S16x255x80x80.size a)
theorem k1_off73_inb : ∀ (v720 : BitVec 32) (v721 : BitVec 32) (v722 : BitVec 32) (k1_hw73 : k1_chk73 v720 v721 v722), ∀ a, (k1_off73 v720 v721 v722) a + S1x85x1x80.size a ≤ S16x255x80x80.size a := fun v720 v721 v722 k1_hw73 => k1_hw73.1
theorem k1_off201_inb : ∀ (v720 : BitVec 32) (v721 : BitVec 32) (v722 : BitVec 32) (k1_hw73 : k1_chk73 v720 v721 v722), ∀ a, (k1_off201 v720 v721 v722) a + S1x85x1x80.size a ≤ S16x255x80x80.size a := fun v720 v721 v722 k1_hw73 => k1_hw73.2

def k1_off202 (v728 : BitVec 32) (v729 : BitVec 32) (v730 : BitVec 32) : Fin 4 → Nat :=
  let c85_i32_900 : BitVec 32 := 85#32
  let v731 : BitVec 32 := Scalar.muli v729 c85_i32_900
  let c0_i32_1765 : BitVec 32 := 0#32
  ![v728.toNat, v731.toNat, v730.toNat, 0]

def k1_chk74 (v728 : BitVec 32) (v729 : BitVec 32) (v730 : BitVec 32) : Prop :=
  (∀ a, (k1_off74 v728 v729 v730) a + S1x85x1x80.size a ≤ S16x255x80x80.size a) ∧
  (∀ a, (k1_off202 v728 v729 v730) a + S1x85x1x80.size a ≤ S16x255x80x80.size a)
theorem k1_off74_inb : ∀ (v728 : BitVec 32) (v729 : BitVec 32) (v730 : BitVec 32) (k1_hw74 : k1_chk74 v728 v729 v730), ∀ a, (k1_off74 v728 v729 v730) a + S1x85x1x80.size a ≤ S16x255x80x80.size a := fun v728 v729 v730 k1_hw74 => k1_hw74.1
theorem k1_off202_inb : ∀ (v728 : BitVec 32) (v729 : BitVec 32) (v730 : BitVec 32) (k1_hw74 : k1_chk74 v728 v729 v730), ∀ a, (k1_off202 v728 v729 v730) a + S1x85x1x80.size a ≤ S16x255x80x80.size a := fun v728 v729 v730 k1_hw74 => k1_hw74.2

def k1_off203 (v736 : BitVec 32) (v737 : BitVec 32) (v738 : BitVec 32) : Fin 4 → Nat :=
  let c85_i32_909 : BitVec 32 := 85#32
  let v739 : BitVec 32 := Scalar.muli v737 c85_i32_909
  let c0_i32_1769 : BitVec 32 := 0#32
  ![v736.toNat, v739.toNat, v738.toNat, 0]

def k1_chk75 (v736 : BitVec 32) (v737 : BitVec 32) (v738 : BitVec 32) : Prop :=
  (∀ a, (k1_off75 v736 v737 v738) a + S1x85x1x80.size a ≤ S16x255x80x80.size a) ∧
  (∀ a, (k1_off203 v736 v737 v738) a + S1x85x1x80.size a ≤ S16x255x80x80.size a)
theorem k1_off75_inb : ∀ (v736 : BitVec 32) (v737 : BitVec 32) (v738 : BitVec 32) (k1_hw75 : k1_chk75 v736 v737 v738), ∀ a, (k1_off75 v736 v737 v738) a + S1x85x1x80.size a ≤ S16x255x80x80.size a := fun v736 v737 v738 k1_hw75 => k1_hw75.1
theorem k1_off203_inb : ∀ (v736 : BitVec 32) (v737 : BitVec 32) (v738 : BitVec 32) (k1_hw75 : k1_chk75 v736 v737 v738), ∀ a, (k1_off203 v736 v737 v738) a + S1x85x1x80.size a ≤ S16x255x80x80.size a := fun v736 v737 v738 k1_hw75 => k1_hw75.2

def k1_off204 (v744 : BitVec 32) (v745 : BitVec 32) (v746 : BitVec 32) : Fin 4 → Nat :=
  let c85_i32_918 : BitVec 32 := 85#32
  let v747 : BitVec 32 := Scalar.muli v745 c85_i32_918
  let c0_i32_1773 : BitVec 32 := 0#32
  ![v744.toNat, v747.toNat, v746.toNat, 0]

def k1_chk76 (v744 : BitVec 32) (v745 : BitVec 32) (v746 : BitVec 32) : Prop :=
  (∀ a, (k1_off76 v744 v745 v746) a + S1x85x1x80.size a ≤ S16x255x80x80.size a) ∧
  (∀ a, (k1_off204 v744 v745 v746) a + S1x85x1x80.size a ≤ S16x255x80x80.size a)
theorem k1_off76_inb : ∀ (v744 : BitVec 32) (v745 : BitVec 32) (v746 : BitVec 32) (k1_hw76 : k1_chk76 v744 v745 v746), ∀ a, (k1_off76 v744 v745 v746) a + S1x85x1x80.size a ≤ S16x255x80x80.size a := fun v744 v745 v746 k1_hw76 => k1_hw76.1
theorem k1_off204_inb : ∀ (v744 : BitVec 32) (v745 : BitVec 32) (v746 : BitVec 32) (k1_hw76 : k1_chk76 v744 v745 v746), ∀ a, (k1_off204 v744 v745 v746) a + S1x85x1x80.size a ≤ S16x255x80x80.size a := fun v744 v745 v746 k1_hw76 => k1_hw76.2

def k1_off205 (v752 : BitVec 32) (v753 : BitVec 32) (v754 : BitVec 32) : Fin 4 → Nat :=
  let c85_i32_927 : BitVec 32 := 85#32
  let v755 : BitVec 32 := Scalar.muli v753 c85_i32_927
  let c0_i32_1777 : BitVec 32 := 0#32
  ![v752.toNat, v755.toNat, v754.toNat, 0]

def k1_chk77 (v752 : BitVec 32) (v753 : BitVec 32) (v754 : BitVec 32) : Prop :=
  (∀ a, (k1_off77 v752 v753 v754) a + S1x85x1x80.size a ≤ S16x255x80x80.size a) ∧
  (∀ a, (k1_off205 v752 v753 v754) a + S1x85x1x80.size a ≤ S16x255x80x80.size a)
theorem k1_off77_inb : ∀ (v752 : BitVec 32) (v753 : BitVec 32) (v754 : BitVec 32) (k1_hw77 : k1_chk77 v752 v753 v754), ∀ a, (k1_off77 v752 v753 v754) a + S1x85x1x80.size a ≤ S16x255x80x80.size a := fun v752 v753 v754 k1_hw77 => k1_hw77.1
theorem k1_off205_inb : ∀ (v752 : BitVec 32) (v753 : BitVec 32) (v754 : BitVec 32) (k1_hw77 : k1_chk77 v752 v753 v754), ∀ a, (k1_off205 v752 v753 v754) a + S1x85x1x80.size a ≤ S16x255x80x80.size a := fun v752 v753 v754 k1_hw77 => k1_hw77.2

def k1_off206 (v760 : BitVec 32) (v761 : BitVec 32) (v762 : BitVec 32) : Fin 4 → Nat :=
  let c85_i32_936 : BitVec 32 := 85#32
  let v763 : BitVec 32 := Scalar.muli v761 c85_i32_936
  let c0_i32_1781 : BitVec 32 := 0#32
  ![v760.toNat, v763.toNat, v762.toNat, 0]

def k1_chk78 (v760 : BitVec 32) (v761 : BitVec 32) (v762 : BitVec 32) : Prop :=
  (∀ a, (k1_off78 v760 v761 v762) a + S1x85x1x80.size a ≤ S16x255x80x80.size a) ∧
  (∀ a, (k1_off206 v760 v761 v762) a + S1x85x1x80.size a ≤ S16x255x80x80.size a)
theorem k1_off78_inb : ∀ (v760 : BitVec 32) (v761 : BitVec 32) (v762 : BitVec 32) (k1_hw78 : k1_chk78 v760 v761 v762), ∀ a, (k1_off78 v760 v761 v762) a + S1x85x1x80.size a ≤ S16x255x80x80.size a := fun v760 v761 v762 k1_hw78 => k1_hw78.1
theorem k1_off206_inb : ∀ (v760 : BitVec 32) (v761 : BitVec 32) (v762 : BitVec 32) (k1_hw78 : k1_chk78 v760 v761 v762), ∀ a, (k1_off206 v760 v761 v762) a + S1x85x1x80.size a ≤ S16x255x80x80.size a := fun v760 v761 v762 k1_hw78 => k1_hw78.2

def k1_off207 (v768 : BitVec 32) (v769 : BitVec 32) (v770 : BitVec 32) : Fin 4 → Nat :=
  let c85_i32_945 : BitVec 32 := 85#32
  let v771 : BitVec 32 := Scalar.muli v769 c85_i32_945
  let c0_i32_1785 : BitVec 32 := 0#32
  ![v768.toNat, v771.toNat, v770.toNat, 0]

def k1_chk79 (v768 : BitVec 32) (v769 : BitVec 32) (v770 : BitVec 32) : Prop :=
  (∀ a, (k1_off79 v768 v769 v770) a + S1x85x1x80.size a ≤ S16x255x80x80.size a) ∧
  (∀ a, (k1_off207 v768 v769 v770) a + S1x85x1x80.size a ≤ S16x255x80x80.size a)
theorem k1_off79_inb : ∀ (v768 : BitVec 32) (v769 : BitVec 32) (v770 : BitVec 32) (k1_hw79 : k1_chk79 v768 v769 v770), ∀ a, (k1_off79 v768 v769 v770) a + S1x85x1x80.size a ≤ S16x255x80x80.size a := fun v768 v769 v770 k1_hw79 => k1_hw79.1
theorem k1_off207_inb : ∀ (v768 : BitVec 32) (v769 : BitVec 32) (v770 : BitVec 32) (k1_hw79 : k1_chk79 v768 v769 v770), ∀ a, (k1_off207 v768 v769 v770) a + S1x85x1x80.size a ≤ S16x255x80x80.size a := fun v768 v769 v770 k1_hw79 => k1_hw79.2

def k1_off208 (v776 : BitVec 32) (v777 : BitVec 32) (v778 : BitVec 32) : Fin 4 → Nat :=
  let c85_i32_954 : BitVec 32 := 85#32
  let v779 : BitVec 32 := Scalar.muli v777 c85_i32_954
  let c0_i32_1789 : BitVec 32 := 0#32
  ![v776.toNat, v779.toNat, v778.toNat, 0]

def k1_chk80 (v776 : BitVec 32) (v777 : BitVec 32) (v778 : BitVec 32) : Prop :=
  (∀ a, (k1_off80 v776 v777 v778) a + S1x85x1x80.size a ≤ S16x255x80x80.size a) ∧
  (∀ a, (k1_off208 v776 v777 v778) a + S1x85x1x80.size a ≤ S16x255x80x80.size a)
theorem k1_off80_inb : ∀ (v776 : BitVec 32) (v777 : BitVec 32) (v778 : BitVec 32) (k1_hw80 : k1_chk80 v776 v777 v778), ∀ a, (k1_off80 v776 v777 v778) a + S1x85x1x80.size a ≤ S16x255x80x80.size a := fun v776 v777 v778 k1_hw80 => k1_hw80.1
theorem k1_off208_inb : ∀ (v776 : BitVec 32) (v777 : BitVec 32) (v778 : BitVec 32) (k1_hw80 : k1_chk80 v776 v777 v778), ∀ a, (k1_off208 v776 v777 v778) a + S1x85x1x80.size a ≤ S16x255x80x80.size a := fun v776 v777 v778 k1_hw80 => k1_hw80.2

def k1_off209 (v784 : BitVec 32) (v785 : BitVec 32) (v786 : BitVec 32) : Fin 4 → Nat :=
  let c85_i32_963 : BitVec 32 := 85#32
  let v787 : BitVec 32 := Scalar.muli v785 c85_i32_963
  let c0_i32_1793 : BitVec 32 := 0#32
  ![v784.toNat, v787.toNat, v786.toNat, 0]

def k1_chk81 (v784 : BitVec 32) (v785 : BitVec 32) (v786 : BitVec 32) : Prop :=
  (∀ a, (k1_off81 v784 v785 v786) a + S1x85x1x80.size a ≤ S16x255x80x80.size a) ∧
  (∀ a, (k1_off209 v784 v785 v786) a + S1x85x1x80.size a ≤ S16x255x80x80.size a)
theorem k1_off81_inb : ∀ (v784 : BitVec 32) (v785 : BitVec 32) (v786 : BitVec 32) (k1_hw81 : k1_chk81 v784 v785 v786), ∀ a, (k1_off81 v784 v785 v786) a + S1x85x1x80.size a ≤ S16x255x80x80.size a := fun v784 v785 v786 k1_hw81 => k1_hw81.1
theorem k1_off209_inb : ∀ (v784 : BitVec 32) (v785 : BitVec 32) (v786 : BitVec 32) (k1_hw81 : k1_chk81 v784 v785 v786), ∀ a, (k1_off209 v784 v785 v786) a + S1x85x1x80.size a ≤ S16x255x80x80.size a := fun v784 v785 v786 k1_hw81 => k1_hw81.2

def k1_off210 (v792 : BitVec 32) (v793 : BitVec 32) (v794 : BitVec 32) : Fin 4 → Nat :=
  let c85_i32_973 : BitVec 32 := 85#32
  let v795 : BitVec 32 := Scalar.muli v793 c85_i32_973
  let c0_i32_1797 : BitVec 32 := 0#32
  ![v792.toNat, v795.toNat, v794.toNat, 0]

def k1_chk82 (v792 : BitVec 32) (v793 : BitVec 32) (v794 : BitVec 32) : Prop :=
  (∀ a, (k1_off82 v792 v793 v794) a + S1x85x1x80.size a ≤ S16x255x80x80.size a) ∧
  (∀ a, (k1_off210 v792 v793 v794) a + S1x85x1x80.size a ≤ S16x255x80x80.size a)
theorem k1_off82_inb : ∀ (v792 : BitVec 32) (v793 : BitVec 32) (v794 : BitVec 32) (k1_hw82 : k1_chk82 v792 v793 v794), ∀ a, (k1_off82 v792 v793 v794) a + S1x85x1x80.size a ≤ S16x255x80x80.size a := fun v792 v793 v794 k1_hw82 => k1_hw82.1
theorem k1_off210_inb : ∀ (v792 : BitVec 32) (v793 : BitVec 32) (v794 : BitVec 32) (k1_hw82 : k1_chk82 v792 v793 v794), ∀ a, (k1_off210 v792 v793 v794) a + S1x85x1x80.size a ≤ S16x255x80x80.size a := fun v792 v793 v794 k1_hw82 => k1_hw82.2

def k1_off211 (v800 : BitVec 32) (v801 : BitVec 32) (v802 : BitVec 32) : Fin 4 → Nat :=
  let c85_i32_982 : BitVec 32 := 85#32
  let v803 : BitVec 32 := Scalar.muli v801 c85_i32_982
  let c0_i32_1801 : BitVec 32 := 0#32
  ![v800.toNat, v803.toNat, v802.toNat, 0]

def k1_chk83 (v800 : BitVec 32) (v801 : BitVec 32) (v802 : BitVec 32) : Prop :=
  (∀ a, (k1_off83 v800 v801 v802) a + S1x85x1x80.size a ≤ S16x255x80x80.size a) ∧
  (∀ a, (k1_off211 v800 v801 v802) a + S1x85x1x80.size a ≤ S16x255x80x80.size a)
theorem k1_off83_inb : ∀ (v800 : BitVec 32) (v801 : BitVec 32) (v802 : BitVec 32) (k1_hw83 : k1_chk83 v800 v801 v802), ∀ a, (k1_off83 v800 v801 v802) a + S1x85x1x80.size a ≤ S16x255x80x80.size a := fun v800 v801 v802 k1_hw83 => k1_hw83.1
theorem k1_off211_inb : ∀ (v800 : BitVec 32) (v801 : BitVec 32) (v802 : BitVec 32) (k1_hw83 : k1_chk83 v800 v801 v802), ∀ a, (k1_off211 v800 v801 v802) a + S1x85x1x80.size a ≤ S16x255x80x80.size a := fun v800 v801 v802 k1_hw83 => k1_hw83.2

def k1_off212 (v808 : BitVec 32) (v809 : BitVec 32) (v810 : BitVec 32) : Fin 4 → Nat :=
  let c85_i32_991 : BitVec 32 := 85#32
  let v811 : BitVec 32 := Scalar.muli v809 c85_i32_991
  let c0_i32_1805 : BitVec 32 := 0#32
  ![v808.toNat, v811.toNat, v810.toNat, 0]

def k1_chk84 (v808 : BitVec 32) (v809 : BitVec 32) (v810 : BitVec 32) : Prop :=
  (∀ a, (k1_off84 v808 v809 v810) a + S1x85x1x80.size a ≤ S16x255x80x80.size a) ∧
  (∀ a, (k1_off212 v808 v809 v810) a + S1x85x1x80.size a ≤ S16x255x80x80.size a)
theorem k1_off84_inb : ∀ (v808 : BitVec 32) (v809 : BitVec 32) (v810 : BitVec 32) (k1_hw84 : k1_chk84 v808 v809 v810), ∀ a, (k1_off84 v808 v809 v810) a + S1x85x1x80.size a ≤ S16x255x80x80.size a := fun v808 v809 v810 k1_hw84 => k1_hw84.1
theorem k1_off212_inb : ∀ (v808 : BitVec 32) (v809 : BitVec 32) (v810 : BitVec 32) (k1_hw84 : k1_chk84 v808 v809 v810), ∀ a, (k1_off212 v808 v809 v810) a + S1x85x1x80.size a ≤ S16x255x80x80.size a := fun v808 v809 v810 k1_hw84 => k1_hw84.2

def k1_off213 (v816 : BitVec 32) (v817 : BitVec 32) (v818 : BitVec 32) : Fin 4 → Nat :=
  let c85_i32_1000 : BitVec 32 := 85#32
  let v819 : BitVec 32 := Scalar.muli v817 c85_i32_1000
  let c0_i32_1809 : BitVec 32 := 0#32
  ![v816.toNat, v819.toNat, v818.toNat, 0]

def k1_chk85 (v816 : BitVec 32) (v817 : BitVec 32) (v818 : BitVec 32) : Prop :=
  (∀ a, (k1_off85 v816 v817 v818) a + S1x85x1x80.size a ≤ S16x255x80x80.size a) ∧
  (∀ a, (k1_off213 v816 v817 v818) a + S1x85x1x80.size a ≤ S16x255x80x80.size a)
theorem k1_off85_inb : ∀ (v816 : BitVec 32) (v817 : BitVec 32) (v818 : BitVec 32) (k1_hw85 : k1_chk85 v816 v817 v818), ∀ a, (k1_off85 v816 v817 v818) a + S1x85x1x80.size a ≤ S16x255x80x80.size a := fun v816 v817 v818 k1_hw85 => k1_hw85.1
theorem k1_off213_inb : ∀ (v816 : BitVec 32) (v817 : BitVec 32) (v818 : BitVec 32) (k1_hw85 : k1_chk85 v816 v817 v818), ∀ a, (k1_off213 v816 v817 v818) a + S1x85x1x80.size a ≤ S16x255x80x80.size a := fun v816 v817 v818 k1_hw85 => k1_hw85.2

def k1_off214 (v824 : BitVec 32) (v825 : BitVec 32) (v826 : BitVec 32) : Fin 4 → Nat :=
  let c85_i32_1009 : BitVec 32 := 85#32
  let v827 : BitVec 32 := Scalar.muli v825 c85_i32_1009
  let c0_i32_1813 : BitVec 32 := 0#32
  ![v824.toNat, v827.toNat, v826.toNat, 0]

def k1_chk86 (v824 : BitVec 32) (v825 : BitVec 32) (v826 : BitVec 32) : Prop :=
  (∀ a, (k1_off86 v824 v825 v826) a + S1x85x1x80.size a ≤ S16x255x80x80.size a) ∧
  (∀ a, (k1_off214 v824 v825 v826) a + S1x85x1x80.size a ≤ S16x255x80x80.size a)
theorem k1_off86_inb : ∀ (v824 : BitVec 32) (v825 : BitVec 32) (v826 : BitVec 32) (k1_hw86 : k1_chk86 v824 v825 v826), ∀ a, (k1_off86 v824 v825 v826) a + S1x85x1x80.size a ≤ S16x255x80x80.size a := fun v824 v825 v826 k1_hw86 => k1_hw86.1
theorem k1_off214_inb : ∀ (v824 : BitVec 32) (v825 : BitVec 32) (v826 : BitVec 32) (k1_hw86 : k1_chk86 v824 v825 v826), ∀ a, (k1_off214 v824 v825 v826) a + S1x85x1x80.size a ≤ S16x255x80x80.size a := fun v824 v825 v826 k1_hw86 => k1_hw86.2

def k1_off215 (v832 : BitVec 32) (v833 : BitVec 32) (v834 : BitVec 32) : Fin 4 → Nat :=
  let c85_i32_1019 : BitVec 32 := 85#32
  let v835 : BitVec 32 := Scalar.muli v833 c85_i32_1019
  let c0_i32_1817 : BitVec 32 := 0#32
  ![v832.toNat, v835.toNat, v834.toNat, 0]

def k1_chk87 (v832 : BitVec 32) (v833 : BitVec 32) (v834 : BitVec 32) : Prop :=
  (∀ a, (k1_off87 v832 v833 v834) a + S1x85x1x80.size a ≤ S16x255x80x80.size a) ∧
  (∀ a, (k1_off215 v832 v833 v834) a + S1x85x1x80.size a ≤ S16x255x80x80.size a)
theorem k1_off87_inb : ∀ (v832 : BitVec 32) (v833 : BitVec 32) (v834 : BitVec 32) (k1_hw87 : k1_chk87 v832 v833 v834), ∀ a, (k1_off87 v832 v833 v834) a + S1x85x1x80.size a ≤ S16x255x80x80.size a := fun v832 v833 v834 k1_hw87 => k1_hw87.1
theorem k1_off215_inb : ∀ (v832 : BitVec 32) (v833 : BitVec 32) (v834 : BitVec 32) (k1_hw87 : k1_chk87 v832 v833 v834), ∀ a, (k1_off215 v832 v833 v834) a + S1x85x1x80.size a ≤ S16x255x80x80.size a := fun v832 v833 v834 k1_hw87 => k1_hw87.2

def k1_off216 (v840 : BitVec 32) (v841 : BitVec 32) (v842 : BitVec 32) : Fin 4 → Nat :=
  let c85_i32_1028 : BitVec 32 := 85#32
  let v843 : BitVec 32 := Scalar.muli v841 c85_i32_1028
  let c0_i32_1821 : BitVec 32 := 0#32
  ![v840.toNat, v843.toNat, v842.toNat, 0]

def k1_chk88 (v840 : BitVec 32) (v841 : BitVec 32) (v842 : BitVec 32) : Prop :=
  (∀ a, (k1_off88 v840 v841 v842) a + S1x85x1x80.size a ≤ S16x255x80x80.size a) ∧
  (∀ a, (k1_off216 v840 v841 v842) a + S1x85x1x80.size a ≤ S16x255x80x80.size a)
theorem k1_off88_inb : ∀ (v840 : BitVec 32) (v841 : BitVec 32) (v842 : BitVec 32) (k1_hw88 : k1_chk88 v840 v841 v842), ∀ a, (k1_off88 v840 v841 v842) a + S1x85x1x80.size a ≤ S16x255x80x80.size a := fun v840 v841 v842 k1_hw88 => k1_hw88.1
theorem k1_off216_inb : ∀ (v840 : BitVec 32) (v841 : BitVec 32) (v842 : BitVec 32) (k1_hw88 : k1_chk88 v840 v841 v842), ∀ a, (k1_off216 v840 v841 v842) a + S1x85x1x80.size a ≤ S16x255x80x80.size a := fun v840 v841 v842 k1_hw88 => k1_hw88.2

def k1_off217 (v848 : BitVec 32) (v849 : BitVec 32) (v850 : BitVec 32) : Fin 4 → Nat :=
  let c85_i32_1037 : BitVec 32 := 85#32
  let v851 : BitVec 32 := Scalar.muli v849 c85_i32_1037
  let c0_i32_1825 : BitVec 32 := 0#32
  ![v848.toNat, v851.toNat, v850.toNat, 0]

def k1_chk89 (v848 : BitVec 32) (v849 : BitVec 32) (v850 : BitVec 32) : Prop :=
  (∀ a, (k1_off89 v848 v849 v850) a + S1x85x1x80.size a ≤ S16x255x80x80.size a) ∧
  (∀ a, (k1_off217 v848 v849 v850) a + S1x85x1x80.size a ≤ S16x255x80x80.size a)
theorem k1_off89_inb : ∀ (v848 : BitVec 32) (v849 : BitVec 32) (v850 : BitVec 32) (k1_hw89 : k1_chk89 v848 v849 v850), ∀ a, (k1_off89 v848 v849 v850) a + S1x85x1x80.size a ≤ S16x255x80x80.size a := fun v848 v849 v850 k1_hw89 => k1_hw89.1
theorem k1_off217_inb : ∀ (v848 : BitVec 32) (v849 : BitVec 32) (v850 : BitVec 32) (k1_hw89 : k1_chk89 v848 v849 v850), ∀ a, (k1_off217 v848 v849 v850) a + S1x85x1x80.size a ≤ S16x255x80x80.size a := fun v848 v849 v850 k1_hw89 => k1_hw89.2

def k1_off218 (v856 : BitVec 32) (v857 : BitVec 32) (v858 : BitVec 32) : Fin 4 → Nat :=
  let c85_i32_1046 : BitVec 32 := 85#32
  let v859 : BitVec 32 := Scalar.muli v857 c85_i32_1046
  let c0_i32_1829 : BitVec 32 := 0#32
  ![v856.toNat, v859.toNat, v858.toNat, 0]

def k1_chk90 (v856 : BitVec 32) (v857 : BitVec 32) (v858 : BitVec 32) : Prop :=
  (∀ a, (k1_off90 v856 v857 v858) a + S1x85x1x80.size a ≤ S16x255x80x80.size a) ∧
  (∀ a, (k1_off218 v856 v857 v858) a + S1x85x1x80.size a ≤ S16x255x80x80.size a)
theorem k1_off90_inb : ∀ (v856 : BitVec 32) (v857 : BitVec 32) (v858 : BitVec 32) (k1_hw90 : k1_chk90 v856 v857 v858), ∀ a, (k1_off90 v856 v857 v858) a + S1x85x1x80.size a ≤ S16x255x80x80.size a := fun v856 v857 v858 k1_hw90 => k1_hw90.1
theorem k1_off218_inb : ∀ (v856 : BitVec 32) (v857 : BitVec 32) (v858 : BitVec 32) (k1_hw90 : k1_chk90 v856 v857 v858), ∀ a, (k1_off218 v856 v857 v858) a + S1x85x1x80.size a ≤ S16x255x80x80.size a := fun v856 v857 v858 k1_hw90 => k1_hw90.2

def k1_off219 (v864 : BitVec 32) (v865 : BitVec 32) (v866 : BitVec 32) : Fin 4 → Nat :=
  let c85_i32_1056 : BitVec 32 := 85#32
  let v867 : BitVec 32 := Scalar.muli v865 c85_i32_1056
  let c0_i32_1833 : BitVec 32 := 0#32
  ![v864.toNat, v867.toNat, v866.toNat, 0]

def k1_chk91 (v864 : BitVec 32) (v865 : BitVec 32) (v866 : BitVec 32) : Prop :=
  (∀ a, (k1_off91 v864 v865 v866) a + S1x85x1x80.size a ≤ S16x255x80x80.size a) ∧
  (∀ a, (k1_off219 v864 v865 v866) a + S1x85x1x80.size a ≤ S16x255x80x80.size a)
theorem k1_off91_inb : ∀ (v864 : BitVec 32) (v865 : BitVec 32) (v866 : BitVec 32) (k1_hw91 : k1_chk91 v864 v865 v866), ∀ a, (k1_off91 v864 v865 v866) a + S1x85x1x80.size a ≤ S16x255x80x80.size a := fun v864 v865 v866 k1_hw91 => k1_hw91.1
theorem k1_off219_inb : ∀ (v864 : BitVec 32) (v865 : BitVec 32) (v866 : BitVec 32) (k1_hw91 : k1_chk91 v864 v865 v866), ∀ a, (k1_off219 v864 v865 v866) a + S1x85x1x80.size a ≤ S16x255x80x80.size a := fun v864 v865 v866 k1_hw91 => k1_hw91.2

def k1_off220 (v872 : BitVec 32) (v873 : BitVec 32) (v874 : BitVec 32) : Fin 4 → Nat :=
  let c85_i32_1065 : BitVec 32 := 85#32
  let v875 : BitVec 32 := Scalar.muli v873 c85_i32_1065
  let c0_i32_1837 : BitVec 32 := 0#32
  ![v872.toNat, v875.toNat, v874.toNat, 0]

def k1_chk92 (v872 : BitVec 32) (v873 : BitVec 32) (v874 : BitVec 32) : Prop :=
  (∀ a, (k1_off92 v872 v873 v874) a + S1x85x1x80.size a ≤ S16x255x80x80.size a) ∧
  (∀ a, (k1_off220 v872 v873 v874) a + S1x85x1x80.size a ≤ S16x255x80x80.size a)
theorem k1_off92_inb : ∀ (v872 : BitVec 32) (v873 : BitVec 32) (v874 : BitVec 32) (k1_hw92 : k1_chk92 v872 v873 v874), ∀ a, (k1_off92 v872 v873 v874) a + S1x85x1x80.size a ≤ S16x255x80x80.size a := fun v872 v873 v874 k1_hw92 => k1_hw92.1
theorem k1_off220_inb : ∀ (v872 : BitVec 32) (v873 : BitVec 32) (v874 : BitVec 32) (k1_hw92 : k1_chk92 v872 v873 v874), ∀ a, (k1_off220 v872 v873 v874) a + S1x85x1x80.size a ≤ S16x255x80x80.size a := fun v872 v873 v874 k1_hw92 => k1_hw92.2

def k1_off221 (v880 : BitVec 32) (v881 : BitVec 32) (v882 : BitVec 32) : Fin 4 → Nat :=
  let c85_i32_1074 : BitVec 32 := 85#32
  let v883 : BitVec 32 := Scalar.muli v881 c85_i32_1074
  let c0_i32_1841 : BitVec 32 := 0#32
  ![v880.toNat, v883.toNat, v882.toNat, 0]

def k1_chk93 (v880 : BitVec 32) (v881 : BitVec 32) (v882 : BitVec 32) : Prop :=
  (∀ a, (k1_off93 v880 v881 v882) a + S1x85x1x80.size a ≤ S16x255x80x80.size a) ∧
  (∀ a, (k1_off221 v880 v881 v882) a + S1x85x1x80.size a ≤ S16x255x80x80.size a)
theorem k1_off93_inb : ∀ (v880 : BitVec 32) (v881 : BitVec 32) (v882 : BitVec 32) (k1_hw93 : k1_chk93 v880 v881 v882), ∀ a, (k1_off93 v880 v881 v882) a + S1x85x1x80.size a ≤ S16x255x80x80.size a := fun v880 v881 v882 k1_hw93 => k1_hw93.1
theorem k1_off221_inb : ∀ (v880 : BitVec 32) (v881 : BitVec 32) (v882 : BitVec 32) (k1_hw93 : k1_chk93 v880 v881 v882), ∀ a, (k1_off221 v880 v881 v882) a + S1x85x1x80.size a ≤ S16x255x80x80.size a := fun v880 v881 v882 k1_hw93 => k1_hw93.2

def k1_off222 (v888 : BitVec 32) (v889 : BitVec 32) (v890 : BitVec 32) : Fin 4 → Nat :=
  let c85_i32_1083 : BitVec 32 := 85#32
  let v891 : BitVec 32 := Scalar.muli v889 c85_i32_1083
  let c0_i32_1845 : BitVec 32 := 0#32
  ![v888.toNat, v891.toNat, v890.toNat, 0]

def k1_chk94 (v888 : BitVec 32) (v889 : BitVec 32) (v890 : BitVec 32) : Prop :=
  (∀ a, (k1_off94 v888 v889 v890) a + S1x85x1x80.size a ≤ S16x255x80x80.size a) ∧
  (∀ a, (k1_off222 v888 v889 v890) a + S1x85x1x80.size a ≤ S16x255x80x80.size a)
theorem k1_off94_inb : ∀ (v888 : BitVec 32) (v889 : BitVec 32) (v890 : BitVec 32) (k1_hw94 : k1_chk94 v888 v889 v890), ∀ a, (k1_off94 v888 v889 v890) a + S1x85x1x80.size a ≤ S16x255x80x80.size a := fun v888 v889 v890 k1_hw94 => k1_hw94.1
theorem k1_off222_inb : ∀ (v888 : BitVec 32) (v889 : BitVec 32) (v890 : BitVec 32) (k1_hw94 : k1_chk94 v888 v889 v890), ∀ a, (k1_off222 v888 v889 v890) a + S1x85x1x80.size a ≤ S16x255x80x80.size a := fun v888 v889 v890 k1_hw94 => k1_hw94.2

def k1_off223 (v896 : BitVec 32) (v897 : BitVec 32) (v898 : BitVec 32) : Fin 4 → Nat :=
  let c85_i32_1092 : BitVec 32 := 85#32
  let v899 : BitVec 32 := Scalar.muli v897 c85_i32_1092
  let c0_i32_1849 : BitVec 32 := 0#32
  ![v896.toNat, v899.toNat, v898.toNat, 0]

def k1_chk95 (v896 : BitVec 32) (v897 : BitVec 32) (v898 : BitVec 32) : Prop :=
  (∀ a, (k1_off95 v896 v897 v898) a + S1x85x1x80.size a ≤ S16x255x80x80.size a) ∧
  (∀ a, (k1_off223 v896 v897 v898) a + S1x85x1x80.size a ≤ S16x255x80x80.size a)
theorem k1_off95_inb : ∀ (v896 : BitVec 32) (v897 : BitVec 32) (v898 : BitVec 32) (k1_hw95 : k1_chk95 v896 v897 v898), ∀ a, (k1_off95 v896 v897 v898) a + S1x85x1x80.size a ≤ S16x255x80x80.size a := fun v896 v897 v898 k1_hw95 => k1_hw95.1
theorem k1_off223_inb : ∀ (v896 : BitVec 32) (v897 : BitVec 32) (v898 : BitVec 32) (k1_hw95 : k1_chk95 v896 v897 v898), ∀ a, (k1_off223 v896 v897 v898) a + S1x85x1x80.size a ≤ S16x255x80x80.size a := fun v896 v897 v898 k1_hw95 => k1_hw95.2

def k1_off224 (v904 : BitVec 32) (v905 : BitVec 32) (v906 : BitVec 32) : Fin 4 → Nat :=
  let c85_i32_1101 : BitVec 32 := 85#32
  let v907 : BitVec 32 := Scalar.muli v905 c85_i32_1101
  let c0_i32_1853 : BitVec 32 := 0#32
  ![v904.toNat, v907.toNat, v906.toNat, 0]

def k1_chk96 (v904 : BitVec 32) (v905 : BitVec 32) (v906 : BitVec 32) : Prop :=
  (∀ a, (k1_off96 v904 v905 v906) a + S1x85x1x80.size a ≤ S16x255x80x80.size a) ∧
  (∀ a, (k1_off224 v904 v905 v906) a + S1x85x1x80.size a ≤ S16x255x80x80.size a)
theorem k1_off96_inb : ∀ (v904 : BitVec 32) (v905 : BitVec 32) (v906 : BitVec 32) (k1_hw96 : k1_chk96 v904 v905 v906), ∀ a, (k1_off96 v904 v905 v906) a + S1x85x1x80.size a ≤ S16x255x80x80.size a := fun v904 v905 v906 k1_hw96 => k1_hw96.1
theorem k1_off224_inb : ∀ (v904 : BitVec 32) (v905 : BitVec 32) (v906 : BitVec 32) (k1_hw96 : k1_chk96 v904 v905 v906), ∀ a, (k1_off224 v904 v905 v906) a + S1x85x1x80.size a ≤ S16x255x80x80.size a := fun v904 v905 v906 k1_hw96 => k1_hw96.2

def k1_off225 (v912 : BitVec 32) (v913 : BitVec 32) (v914 : BitVec 32) : Fin 4 → Nat :=
  let c85_i32_1110 : BitVec 32 := 85#32
  let v915 : BitVec 32 := Scalar.muli v913 c85_i32_1110
  let c0_i32_1857 : BitVec 32 := 0#32
  ![v912.toNat, v915.toNat, v914.toNat, 0]

def k1_chk97 (v912 : BitVec 32) (v913 : BitVec 32) (v914 : BitVec 32) : Prop :=
  (∀ a, (k1_off97 v912 v913 v914) a + S1x85x1x80.size a ≤ S16x255x80x80.size a) ∧
  (∀ a, (k1_off225 v912 v913 v914) a + S1x85x1x80.size a ≤ S16x255x80x80.size a)
theorem k1_off97_inb : ∀ (v912 : BitVec 32) (v913 : BitVec 32) (v914 : BitVec 32) (k1_hw97 : k1_chk97 v912 v913 v914), ∀ a, (k1_off97 v912 v913 v914) a + S1x85x1x80.size a ≤ S16x255x80x80.size a := fun v912 v913 v914 k1_hw97 => k1_hw97.1
theorem k1_off225_inb : ∀ (v912 : BitVec 32) (v913 : BitVec 32) (v914 : BitVec 32) (k1_hw97 : k1_chk97 v912 v913 v914), ∀ a, (k1_off225 v912 v913 v914) a + S1x85x1x80.size a ≤ S16x255x80x80.size a := fun v912 v913 v914 k1_hw97 => k1_hw97.2

def k1_off226 (v920 : BitVec 32) (v921 : BitVec 32) (v922 : BitVec 32) : Fin 4 → Nat :=
  let c85_i32_1119 : BitVec 32 := 85#32
  let v923 : BitVec 32 := Scalar.muli v921 c85_i32_1119
  let c0_i32_1861 : BitVec 32 := 0#32
  ![v920.toNat, v923.toNat, v922.toNat, 0]

def k1_chk98 (v920 : BitVec 32) (v921 : BitVec 32) (v922 : BitVec 32) : Prop :=
  (∀ a, (k1_off98 v920 v921 v922) a + S1x85x1x80.size a ≤ S16x255x80x80.size a) ∧
  (∀ a, (k1_off226 v920 v921 v922) a + S1x85x1x80.size a ≤ S16x255x80x80.size a)
theorem k1_off98_inb : ∀ (v920 : BitVec 32) (v921 : BitVec 32) (v922 : BitVec 32) (k1_hw98 : k1_chk98 v920 v921 v922), ∀ a, (k1_off98 v920 v921 v922) a + S1x85x1x80.size a ≤ S16x255x80x80.size a := fun v920 v921 v922 k1_hw98 => k1_hw98.1
theorem k1_off226_inb : ∀ (v920 : BitVec 32) (v921 : BitVec 32) (v922 : BitVec 32) (k1_hw98 : k1_chk98 v920 v921 v922), ∀ a, (k1_off226 v920 v921 v922) a + S1x85x1x80.size a ≤ S16x255x80x80.size a := fun v920 v921 v922 k1_hw98 => k1_hw98.2

def k1_off227 (v928 : BitVec 32) (v929 : BitVec 32) (v930 : BitVec 32) : Fin 4 → Nat :=
  let c85_i32_1128 : BitVec 32 := 85#32
  let v931 : BitVec 32 := Scalar.muli v929 c85_i32_1128
  let c0_i32_1865 : BitVec 32 := 0#32
  ![v928.toNat, v931.toNat, v930.toNat, 0]

def k1_chk99 (v928 : BitVec 32) (v929 : BitVec 32) (v930 : BitVec 32) : Prop :=
  (∀ a, (k1_off99 v928 v929 v930) a + S1x85x1x80.size a ≤ S16x255x80x80.size a) ∧
  (∀ a, (k1_off227 v928 v929 v930) a + S1x85x1x80.size a ≤ S16x255x80x80.size a)
theorem k1_off99_inb : ∀ (v928 : BitVec 32) (v929 : BitVec 32) (v930 : BitVec 32) (k1_hw99 : k1_chk99 v928 v929 v930), ∀ a, (k1_off99 v928 v929 v930) a + S1x85x1x80.size a ≤ S16x255x80x80.size a := fun v928 v929 v930 k1_hw99 => k1_hw99.1
theorem k1_off227_inb : ∀ (v928 : BitVec 32) (v929 : BitVec 32) (v930 : BitVec 32) (k1_hw99 : k1_chk99 v928 v929 v930), ∀ a, (k1_off227 v928 v929 v930) a + S1x85x1x80.size a ≤ S16x255x80x80.size a := fun v928 v929 v930 k1_hw99 => k1_hw99.2

def k1_off228 (v936 : BitVec 32) (v937 : BitVec 32) (v938 : BitVec 32) : Fin 4 → Nat :=
  let c85_i32_1137 : BitVec 32 := 85#32
  let v939 : BitVec 32 := Scalar.muli v937 c85_i32_1137
  let c0_i32_1869 : BitVec 32 := 0#32
  ![v936.toNat, v939.toNat, v938.toNat, 0]

def k1_chk100 (v936 : BitVec 32) (v937 : BitVec 32) (v938 : BitVec 32) : Prop :=
  (∀ a, (k1_off100 v936 v937 v938) a + S1x85x1x80.size a ≤ S16x255x80x80.size a) ∧
  (∀ a, (k1_off228 v936 v937 v938) a + S1x85x1x80.size a ≤ S16x255x80x80.size a)
theorem k1_off100_inb : ∀ (v936 : BitVec 32) (v937 : BitVec 32) (v938 : BitVec 32) (k1_hw100 : k1_chk100 v936 v937 v938), ∀ a, (k1_off100 v936 v937 v938) a + S1x85x1x80.size a ≤ S16x255x80x80.size a := fun v936 v937 v938 k1_hw100 => k1_hw100.1
theorem k1_off228_inb : ∀ (v936 : BitVec 32) (v937 : BitVec 32) (v938 : BitVec 32) (k1_hw100 : k1_chk100 v936 v937 v938), ∀ a, (k1_off228 v936 v937 v938) a + S1x85x1x80.size a ≤ S16x255x80x80.size a := fun v936 v937 v938 k1_hw100 => k1_hw100.2

def k1_off229 (v944 : BitVec 32) (v945 : BitVec 32) (v946 : BitVec 32) : Fin 4 → Nat :=
  let c85_i32_1146 : BitVec 32 := 85#32
  let v947 : BitVec 32 := Scalar.muli v945 c85_i32_1146
  let c0_i32_1873 : BitVec 32 := 0#32
  ![v944.toNat, v947.toNat, v946.toNat, 0]

def k1_chk101 (v944 : BitVec 32) (v945 : BitVec 32) (v946 : BitVec 32) : Prop :=
  (∀ a, (k1_off101 v944 v945 v946) a + S1x85x1x80.size a ≤ S16x255x80x80.size a) ∧
  (∀ a, (k1_off229 v944 v945 v946) a + S1x85x1x80.size a ≤ S16x255x80x80.size a)
theorem k1_off101_inb : ∀ (v944 : BitVec 32) (v945 : BitVec 32) (v946 : BitVec 32) (k1_hw101 : k1_chk101 v944 v945 v946), ∀ a, (k1_off101 v944 v945 v946) a + S1x85x1x80.size a ≤ S16x255x80x80.size a := fun v944 v945 v946 k1_hw101 => k1_hw101.1
theorem k1_off229_inb : ∀ (v944 : BitVec 32) (v945 : BitVec 32) (v946 : BitVec 32) (k1_hw101 : k1_chk101 v944 v945 v946), ∀ a, (k1_off229 v944 v945 v946) a + S1x85x1x80.size a ≤ S16x255x80x80.size a := fun v944 v945 v946 k1_hw101 => k1_hw101.2

def k1_off230 (v952 : BitVec 32) (v953 : BitVec 32) (v954 : BitVec 32) : Fin 4 → Nat :=
  let c85_i32_1155 : BitVec 32 := 85#32
  let v955 : BitVec 32 := Scalar.muli v953 c85_i32_1155
  let c0_i32_1877 : BitVec 32 := 0#32
  ![v952.toNat, v955.toNat, v954.toNat, 0]

def k1_chk102 (v952 : BitVec 32) (v953 : BitVec 32) (v954 : BitVec 32) : Prop :=
  (∀ a, (k1_off102 v952 v953 v954) a + S1x85x1x80.size a ≤ S16x255x80x80.size a) ∧
  (∀ a, (k1_off230 v952 v953 v954) a + S1x85x1x80.size a ≤ S16x255x80x80.size a)
theorem k1_off102_inb : ∀ (v952 : BitVec 32) (v953 : BitVec 32) (v954 : BitVec 32) (k1_hw102 : k1_chk102 v952 v953 v954), ∀ a, (k1_off102 v952 v953 v954) a + S1x85x1x80.size a ≤ S16x255x80x80.size a := fun v952 v953 v954 k1_hw102 => k1_hw102.1
theorem k1_off230_inb : ∀ (v952 : BitVec 32) (v953 : BitVec 32) (v954 : BitVec 32) (k1_hw102 : k1_chk102 v952 v953 v954), ∀ a, (k1_off230 v952 v953 v954) a + S1x85x1x80.size a ≤ S16x255x80x80.size a := fun v952 v953 v954 k1_hw102 => k1_hw102.2

def k1_off231 (v960 : BitVec 32) (v961 : BitVec 32) (v962 : BitVec 32) : Fin 4 → Nat :=
  let c85_i32_1164 : BitVec 32 := 85#32
  let v963 : BitVec 32 := Scalar.muli v961 c85_i32_1164
  let c0_i32_1881 : BitVec 32 := 0#32
  ![v960.toNat, v963.toNat, v962.toNat, 0]

def k1_chk103 (v960 : BitVec 32) (v961 : BitVec 32) (v962 : BitVec 32) : Prop :=
  (∀ a, (k1_off103 v960 v961 v962) a + S1x85x1x80.size a ≤ S16x255x80x80.size a) ∧
  (∀ a, (k1_off231 v960 v961 v962) a + S1x85x1x80.size a ≤ S16x255x80x80.size a)
theorem k1_off103_inb : ∀ (v960 : BitVec 32) (v961 : BitVec 32) (v962 : BitVec 32) (k1_hw103 : k1_chk103 v960 v961 v962), ∀ a, (k1_off103 v960 v961 v962) a + S1x85x1x80.size a ≤ S16x255x80x80.size a := fun v960 v961 v962 k1_hw103 => k1_hw103.1
theorem k1_off231_inb : ∀ (v960 : BitVec 32) (v961 : BitVec 32) (v962 : BitVec 32) (k1_hw103 : k1_chk103 v960 v961 v962), ∀ a, (k1_off231 v960 v961 v962) a + S1x85x1x80.size a ≤ S16x255x80x80.size a := fun v960 v961 v962 k1_hw103 => k1_hw103.2

def k1_off232 (v968 : BitVec 32) (v969 : BitVec 32) (v970 : BitVec 32) : Fin 4 → Nat :=
  let c85_i32_1173 : BitVec 32 := 85#32
  let v971 : BitVec 32 := Scalar.muli v969 c85_i32_1173
  let c0_i32_1885 : BitVec 32 := 0#32
  ![v968.toNat, v971.toNat, v970.toNat, 0]

def k1_chk104 (v968 : BitVec 32) (v969 : BitVec 32) (v970 : BitVec 32) : Prop :=
  (∀ a, (k1_off104 v968 v969 v970) a + S1x85x1x80.size a ≤ S16x255x80x80.size a) ∧
  (∀ a, (k1_off232 v968 v969 v970) a + S1x85x1x80.size a ≤ S16x255x80x80.size a)
theorem k1_off104_inb : ∀ (v968 : BitVec 32) (v969 : BitVec 32) (v970 : BitVec 32) (k1_hw104 : k1_chk104 v968 v969 v970), ∀ a, (k1_off104 v968 v969 v970) a + S1x85x1x80.size a ≤ S16x255x80x80.size a := fun v968 v969 v970 k1_hw104 => k1_hw104.1
theorem k1_off232_inb : ∀ (v968 : BitVec 32) (v969 : BitVec 32) (v970 : BitVec 32) (k1_hw104 : k1_chk104 v968 v969 v970), ∀ a, (k1_off232 v968 v969 v970) a + S1x85x1x80.size a ≤ S16x255x80x80.size a := fun v968 v969 v970 k1_hw104 => k1_hw104.2

def k1_off233 (v976 : BitVec 32) (v977 : BitVec 32) (v978 : BitVec 32) : Fin 4 → Nat :=
  let c85_i32_1182 : BitVec 32 := 85#32
  let v979 : BitVec 32 := Scalar.muli v977 c85_i32_1182
  let c0_i32_1889 : BitVec 32 := 0#32
  ![v976.toNat, v979.toNat, v978.toNat, 0]

def k1_chk105 (v976 : BitVec 32) (v977 : BitVec 32) (v978 : BitVec 32) : Prop :=
  (∀ a, (k1_off105 v976 v977 v978) a + S1x85x1x80.size a ≤ S16x255x80x80.size a) ∧
  (∀ a, (k1_off233 v976 v977 v978) a + S1x85x1x80.size a ≤ S16x255x80x80.size a)
theorem k1_off105_inb : ∀ (v976 : BitVec 32) (v977 : BitVec 32) (v978 : BitVec 32) (k1_hw105 : k1_chk105 v976 v977 v978), ∀ a, (k1_off105 v976 v977 v978) a + S1x85x1x80.size a ≤ S16x255x80x80.size a := fun v976 v977 v978 k1_hw105 => k1_hw105.1
theorem k1_off233_inb : ∀ (v976 : BitVec 32) (v977 : BitVec 32) (v978 : BitVec 32) (k1_hw105 : k1_chk105 v976 v977 v978), ∀ a, (k1_off233 v976 v977 v978) a + S1x85x1x80.size a ≤ S16x255x80x80.size a := fun v976 v977 v978 k1_hw105 => k1_hw105.2

def k1_off234 (v984 : BitVec 32) (v985 : BitVec 32) (v986 : BitVec 32) : Fin 4 → Nat :=
  let c85_i32_1191 : BitVec 32 := 85#32
  let v987 : BitVec 32 := Scalar.muli v985 c85_i32_1191
  let c0_i32_1893 : BitVec 32 := 0#32
  ![v984.toNat, v987.toNat, v986.toNat, 0]

def k1_chk106 (v984 : BitVec 32) (v985 : BitVec 32) (v986 : BitVec 32) : Prop :=
  (∀ a, (k1_off106 v984 v985 v986) a + S1x85x1x80.size a ≤ S16x255x80x80.size a) ∧
  (∀ a, (k1_off234 v984 v985 v986) a + S1x85x1x80.size a ≤ S16x255x80x80.size a)
theorem k1_off106_inb : ∀ (v984 : BitVec 32) (v985 : BitVec 32) (v986 : BitVec 32) (k1_hw106 : k1_chk106 v984 v985 v986), ∀ a, (k1_off106 v984 v985 v986) a + S1x85x1x80.size a ≤ S16x255x80x80.size a := fun v984 v985 v986 k1_hw106 => k1_hw106.1
theorem k1_off234_inb : ∀ (v984 : BitVec 32) (v985 : BitVec 32) (v986 : BitVec 32) (k1_hw106 : k1_chk106 v984 v985 v986), ∀ a, (k1_off234 v984 v985 v986) a + S1x85x1x80.size a ≤ S16x255x80x80.size a := fun v984 v985 v986 k1_hw106 => k1_hw106.2

def k1_off235 (v992 : BitVec 32) (v993 : BitVec 32) (v994 : BitVec 32) : Fin 4 → Nat :=
  let c85_i32_1200 : BitVec 32 := 85#32
  let v995 : BitVec 32 := Scalar.muli v993 c85_i32_1200
  let c0_i32_1897 : BitVec 32 := 0#32
  ![v992.toNat, v995.toNat, v994.toNat, 0]

def k1_chk107 (v992 : BitVec 32) (v993 : BitVec 32) (v994 : BitVec 32) : Prop :=
  (∀ a, (k1_off107 v992 v993 v994) a + S1x85x1x80.size a ≤ S16x255x80x80.size a) ∧
  (∀ a, (k1_off235 v992 v993 v994) a + S1x85x1x80.size a ≤ S16x255x80x80.size a)
theorem k1_off107_inb : ∀ (v992 : BitVec 32) (v993 : BitVec 32) (v994 : BitVec 32) (k1_hw107 : k1_chk107 v992 v993 v994), ∀ a, (k1_off107 v992 v993 v994) a + S1x85x1x80.size a ≤ S16x255x80x80.size a := fun v992 v993 v994 k1_hw107 => k1_hw107.1
theorem k1_off235_inb : ∀ (v992 : BitVec 32) (v993 : BitVec 32) (v994 : BitVec 32) (k1_hw107 : k1_chk107 v992 v993 v994), ∀ a, (k1_off235 v992 v993 v994) a + S1x85x1x80.size a ≤ S16x255x80x80.size a := fun v992 v993 v994 k1_hw107 => k1_hw107.2

def k1_off236 (v1000 : BitVec 32) (v1001 : BitVec 32) (v1002 : BitVec 32) : Fin 4 → Nat :=
  let c85_i32_1209 : BitVec 32 := 85#32
  let v1003 : BitVec 32 := Scalar.muli v1001 c85_i32_1209
  let c0_i32_1901 : BitVec 32 := 0#32
  ![v1000.toNat, v1003.toNat, v1002.toNat, 0]

def k1_chk108 (v1000 : BitVec 32) (v1001 : BitVec 32) (v1002 : BitVec 32) : Prop :=
  (∀ a, (k1_off108 v1000 v1001 v1002) a + S1x85x1x80.size a ≤ S16x255x80x80.size a) ∧
  (∀ a, (k1_off236 v1000 v1001 v1002) a + S1x85x1x80.size a ≤ S16x255x80x80.size a)
theorem k1_off108_inb : ∀ (v1000 : BitVec 32) (v1001 : BitVec 32) (v1002 : BitVec 32) (k1_hw108 : k1_chk108 v1000 v1001 v1002), ∀ a, (k1_off108 v1000 v1001 v1002) a + S1x85x1x80.size a ≤ S16x255x80x80.size a := fun v1000 v1001 v1002 k1_hw108 => k1_hw108.1
theorem k1_off236_inb : ∀ (v1000 : BitVec 32) (v1001 : BitVec 32) (v1002 : BitVec 32) (k1_hw108 : k1_chk108 v1000 v1001 v1002), ∀ a, (k1_off236 v1000 v1001 v1002) a + S1x85x1x80.size a ≤ S16x255x80x80.size a := fun v1000 v1001 v1002 k1_hw108 => k1_hw108.2

def k1_off237 (v1008 : BitVec 32) (v1009 : BitVec 32) (v1010 : BitVec 32) : Fin 4 → Nat :=
  let c85_i32_1218 : BitVec 32 := 85#32
  let v1011 : BitVec 32 := Scalar.muli v1009 c85_i32_1218
  let c0_i32_1905 : BitVec 32 := 0#32
  ![v1008.toNat, v1011.toNat, v1010.toNat, 0]

def k1_chk109 (v1008 : BitVec 32) (v1009 : BitVec 32) (v1010 : BitVec 32) : Prop :=
  (∀ a, (k1_off109 v1008 v1009 v1010) a + S1x85x1x80.size a ≤ S16x255x80x80.size a) ∧
  (∀ a, (k1_off237 v1008 v1009 v1010) a + S1x85x1x80.size a ≤ S16x255x80x80.size a)
theorem k1_off109_inb : ∀ (v1008 : BitVec 32) (v1009 : BitVec 32) (v1010 : BitVec 32) (k1_hw109 : k1_chk109 v1008 v1009 v1010), ∀ a, (k1_off109 v1008 v1009 v1010) a + S1x85x1x80.size a ≤ S16x255x80x80.size a := fun v1008 v1009 v1010 k1_hw109 => k1_hw109.1
theorem k1_off237_inb : ∀ (v1008 : BitVec 32) (v1009 : BitVec 32) (v1010 : BitVec 32) (k1_hw109 : k1_chk109 v1008 v1009 v1010), ∀ a, (k1_off237 v1008 v1009 v1010) a + S1x85x1x80.size a ≤ S16x255x80x80.size a := fun v1008 v1009 v1010 k1_hw109 => k1_hw109.2

def k1_off238 (v1016 : BitVec 32) (v1017 : BitVec 32) (v1018 : BitVec 32) : Fin 4 → Nat :=
  let c85_i32_1227 : BitVec 32 := 85#32
  let v1019 : BitVec 32 := Scalar.muli v1017 c85_i32_1227
  let c0_i32_1909 : BitVec 32 := 0#32
  ![v1016.toNat, v1019.toNat, v1018.toNat, 0]

def k1_chk110 (v1016 : BitVec 32) (v1017 : BitVec 32) (v1018 : BitVec 32) : Prop :=
  (∀ a, (k1_off110 v1016 v1017 v1018) a + S1x85x1x80.size a ≤ S16x255x80x80.size a) ∧
  (∀ a, (k1_off238 v1016 v1017 v1018) a + S1x85x1x80.size a ≤ S16x255x80x80.size a)
theorem k1_off110_inb : ∀ (v1016 : BitVec 32) (v1017 : BitVec 32) (v1018 : BitVec 32) (k1_hw110 : k1_chk110 v1016 v1017 v1018), ∀ a, (k1_off110 v1016 v1017 v1018) a + S1x85x1x80.size a ≤ S16x255x80x80.size a := fun v1016 v1017 v1018 k1_hw110 => k1_hw110.1
theorem k1_off238_inb : ∀ (v1016 : BitVec 32) (v1017 : BitVec 32) (v1018 : BitVec 32) (k1_hw110 : k1_chk110 v1016 v1017 v1018), ∀ a, (k1_off238 v1016 v1017 v1018) a + S1x85x1x80.size a ≤ S16x255x80x80.size a := fun v1016 v1017 v1018 k1_hw110 => k1_hw110.2

def k1_off239 (v1024 : BitVec 32) (v1025 : BitVec 32) (v1026 : BitVec 32) : Fin 4 → Nat :=
  let c85_i32_1236 : BitVec 32 := 85#32
  let v1027 : BitVec 32 := Scalar.muli v1025 c85_i32_1236
  let c0_i32_1913 : BitVec 32 := 0#32
  ![v1024.toNat, v1027.toNat, v1026.toNat, 0]

def k1_chk111 (v1024 : BitVec 32) (v1025 : BitVec 32) (v1026 : BitVec 32) : Prop :=
  (∀ a, (k1_off111 v1024 v1025 v1026) a + S1x85x1x80.size a ≤ S16x255x80x80.size a) ∧
  (∀ a, (k1_off239 v1024 v1025 v1026) a + S1x85x1x80.size a ≤ S16x255x80x80.size a)
theorem k1_off111_inb : ∀ (v1024 : BitVec 32) (v1025 : BitVec 32) (v1026 : BitVec 32) (k1_hw111 : k1_chk111 v1024 v1025 v1026), ∀ a, (k1_off111 v1024 v1025 v1026) a + S1x85x1x80.size a ≤ S16x255x80x80.size a := fun v1024 v1025 v1026 k1_hw111 => k1_hw111.1
theorem k1_off239_inb : ∀ (v1024 : BitVec 32) (v1025 : BitVec 32) (v1026 : BitVec 32) (k1_hw111 : k1_chk111 v1024 v1025 v1026), ∀ a, (k1_off239 v1024 v1025 v1026) a + S1x85x1x80.size a ≤ S16x255x80x80.size a := fun v1024 v1025 v1026 k1_hw111 => k1_hw111.2

def k1_off240 (v1032 : BitVec 32) (v1033 : BitVec 32) (v1034 : BitVec 32) : Fin 4 → Nat :=
  let c85_i32_1245 : BitVec 32 := 85#32
  let v1035 : BitVec 32 := Scalar.muli v1033 c85_i32_1245
  let c0_i32_1917 : BitVec 32 := 0#32
  ![v1032.toNat, v1035.toNat, v1034.toNat, 0]

def k1_chk112 (v1032 : BitVec 32) (v1033 : BitVec 32) (v1034 : BitVec 32) : Prop :=
  (∀ a, (k1_off112 v1032 v1033 v1034) a + S1x85x1x80.size a ≤ S16x255x80x80.size a) ∧
  (∀ a, (k1_off240 v1032 v1033 v1034) a + S1x85x1x80.size a ≤ S16x255x80x80.size a)
theorem k1_off112_inb : ∀ (v1032 : BitVec 32) (v1033 : BitVec 32) (v1034 : BitVec 32) (k1_hw112 : k1_chk112 v1032 v1033 v1034), ∀ a, (k1_off112 v1032 v1033 v1034) a + S1x85x1x80.size a ≤ S16x255x80x80.size a := fun v1032 v1033 v1034 k1_hw112 => k1_hw112.1
theorem k1_off240_inb : ∀ (v1032 : BitVec 32) (v1033 : BitVec 32) (v1034 : BitVec 32) (k1_hw112 : k1_chk112 v1032 v1033 v1034), ∀ a, (k1_off240 v1032 v1033 v1034) a + S1x85x1x80.size a ≤ S16x255x80x80.size a := fun v1032 v1033 v1034 k1_hw112 => k1_hw112.2

def k1_off241 (v1040 : BitVec 32) (v1041 : BitVec 32) (v1042 : BitVec 32) : Fin 4 → Nat :=
  let c85_i32_1254 : BitVec 32 := 85#32
  let v1043 : BitVec 32 := Scalar.muli v1041 c85_i32_1254
  let c0_i32_1921 : BitVec 32 := 0#32
  ![v1040.toNat, v1043.toNat, v1042.toNat, 0]

def k1_chk113 (v1040 : BitVec 32) (v1041 : BitVec 32) (v1042 : BitVec 32) : Prop :=
  (∀ a, (k1_off113 v1040 v1041 v1042) a + S1x85x1x80.size a ≤ S16x255x80x80.size a) ∧
  (∀ a, (k1_off241 v1040 v1041 v1042) a + S1x85x1x80.size a ≤ S16x255x80x80.size a)
theorem k1_off113_inb : ∀ (v1040 : BitVec 32) (v1041 : BitVec 32) (v1042 : BitVec 32) (k1_hw113 : k1_chk113 v1040 v1041 v1042), ∀ a, (k1_off113 v1040 v1041 v1042) a + S1x85x1x80.size a ≤ S16x255x80x80.size a := fun v1040 v1041 v1042 k1_hw113 => k1_hw113.1
theorem k1_off241_inb : ∀ (v1040 : BitVec 32) (v1041 : BitVec 32) (v1042 : BitVec 32) (k1_hw113 : k1_chk113 v1040 v1041 v1042), ∀ a, (k1_off241 v1040 v1041 v1042) a + S1x85x1x80.size a ≤ S16x255x80x80.size a := fun v1040 v1041 v1042 k1_hw113 => k1_hw113.2

def k1_off242 (v1048 : BitVec 32) (v1049 : BitVec 32) (v1050 : BitVec 32) : Fin 4 → Nat :=
  let c85_i32_1263 : BitVec 32 := 85#32
  let v1051 : BitVec 32 := Scalar.muli v1049 c85_i32_1263
  let c0_i32_1925 : BitVec 32 := 0#32
  ![v1048.toNat, v1051.toNat, v1050.toNat, 0]

def k1_chk114 (v1048 : BitVec 32) (v1049 : BitVec 32) (v1050 : BitVec 32) : Prop :=
  (∀ a, (k1_off114 v1048 v1049 v1050) a + S1x85x1x80.size a ≤ S16x255x80x80.size a) ∧
  (∀ a, (k1_off242 v1048 v1049 v1050) a + S1x85x1x80.size a ≤ S16x255x80x80.size a)
theorem k1_off114_inb : ∀ (v1048 : BitVec 32) (v1049 : BitVec 32) (v1050 : BitVec 32) (k1_hw114 : k1_chk114 v1048 v1049 v1050), ∀ a, (k1_off114 v1048 v1049 v1050) a + S1x85x1x80.size a ≤ S16x255x80x80.size a := fun v1048 v1049 v1050 k1_hw114 => k1_hw114.1
theorem k1_off242_inb : ∀ (v1048 : BitVec 32) (v1049 : BitVec 32) (v1050 : BitVec 32) (k1_hw114 : k1_chk114 v1048 v1049 v1050), ∀ a, (k1_off242 v1048 v1049 v1050) a + S1x85x1x80.size a ≤ S16x255x80x80.size a := fun v1048 v1049 v1050 k1_hw114 => k1_hw114.2

def k1_off243 (v1056 : BitVec 32) (v1057 : BitVec 32) (v1058 : BitVec 32) : Fin 4 → Nat :=
  let c85_i32_1272 : BitVec 32 := 85#32
  let v1059 : BitVec 32 := Scalar.muli v1057 c85_i32_1272
  let c0_i32_1929 : BitVec 32 := 0#32
  ![v1056.toNat, v1059.toNat, v1058.toNat, 0]

def k1_chk115 (v1056 : BitVec 32) (v1057 : BitVec 32) (v1058 : BitVec 32) : Prop :=
  (∀ a, (k1_off115 v1056 v1057 v1058) a + S1x85x1x80.size a ≤ S16x255x80x80.size a) ∧
  (∀ a, (k1_off243 v1056 v1057 v1058) a + S1x85x1x80.size a ≤ S16x255x80x80.size a)
theorem k1_off115_inb : ∀ (v1056 : BitVec 32) (v1057 : BitVec 32) (v1058 : BitVec 32) (k1_hw115 : k1_chk115 v1056 v1057 v1058), ∀ a, (k1_off115 v1056 v1057 v1058) a + S1x85x1x80.size a ≤ S16x255x80x80.size a := fun v1056 v1057 v1058 k1_hw115 => k1_hw115.1
theorem k1_off243_inb : ∀ (v1056 : BitVec 32) (v1057 : BitVec 32) (v1058 : BitVec 32) (k1_hw115 : k1_chk115 v1056 v1057 v1058), ∀ a, (k1_off243 v1056 v1057 v1058) a + S1x85x1x80.size a ≤ S16x255x80x80.size a := fun v1056 v1057 v1058 k1_hw115 => k1_hw115.2

def k1_off244 (v1064 : BitVec 32) (v1065 : BitVec 32) (v1066 : BitVec 32) : Fin 4 → Nat :=
  let c85_i32_1281 : BitVec 32 := 85#32
  let v1067 : BitVec 32 := Scalar.muli v1065 c85_i32_1281
  let c0_i32_1933 : BitVec 32 := 0#32
  ![v1064.toNat, v1067.toNat, v1066.toNat, 0]

def k1_chk116 (v1064 : BitVec 32) (v1065 : BitVec 32) (v1066 : BitVec 32) : Prop :=
  (∀ a, (k1_off116 v1064 v1065 v1066) a + S1x85x1x80.size a ≤ S16x255x80x80.size a) ∧
  (∀ a, (k1_off244 v1064 v1065 v1066) a + S1x85x1x80.size a ≤ S16x255x80x80.size a)
theorem k1_off116_inb : ∀ (v1064 : BitVec 32) (v1065 : BitVec 32) (v1066 : BitVec 32) (k1_hw116 : k1_chk116 v1064 v1065 v1066), ∀ a, (k1_off116 v1064 v1065 v1066) a + S1x85x1x80.size a ≤ S16x255x80x80.size a := fun v1064 v1065 v1066 k1_hw116 => k1_hw116.1
theorem k1_off244_inb : ∀ (v1064 : BitVec 32) (v1065 : BitVec 32) (v1066 : BitVec 32) (k1_hw116 : k1_chk116 v1064 v1065 v1066), ∀ a, (k1_off244 v1064 v1065 v1066) a + S1x85x1x80.size a ≤ S16x255x80x80.size a := fun v1064 v1065 v1066 k1_hw116 => k1_hw116.2

def k1_off245 (v1072 : BitVec 32) (v1073 : BitVec 32) (v1074 : BitVec 32) : Fin 4 → Nat :=
  let c85_i32_1290 : BitVec 32 := 85#32
  let v1075 : BitVec 32 := Scalar.muli v1073 c85_i32_1290
  let c0_i32_1937 : BitVec 32 := 0#32
  ![v1072.toNat, v1075.toNat, v1074.toNat, 0]

def k1_chk117 (v1072 : BitVec 32) (v1073 : BitVec 32) (v1074 : BitVec 32) : Prop :=
  (∀ a, (k1_off117 v1072 v1073 v1074) a + S1x85x1x80.size a ≤ S16x255x80x80.size a) ∧
  (∀ a, (k1_off245 v1072 v1073 v1074) a + S1x85x1x80.size a ≤ S16x255x80x80.size a)
theorem k1_off117_inb : ∀ (v1072 : BitVec 32) (v1073 : BitVec 32) (v1074 : BitVec 32) (k1_hw117 : k1_chk117 v1072 v1073 v1074), ∀ a, (k1_off117 v1072 v1073 v1074) a + S1x85x1x80.size a ≤ S16x255x80x80.size a := fun v1072 v1073 v1074 k1_hw117 => k1_hw117.1
theorem k1_off245_inb : ∀ (v1072 : BitVec 32) (v1073 : BitVec 32) (v1074 : BitVec 32) (k1_hw117 : k1_chk117 v1072 v1073 v1074), ∀ a, (k1_off245 v1072 v1073 v1074) a + S1x85x1x80.size a ≤ S16x255x80x80.size a := fun v1072 v1073 v1074 k1_hw117 => k1_hw117.2

def k1_off246 (v1080 : BitVec 32) (v1081 : BitVec 32) (v1082 : BitVec 32) : Fin 4 → Nat :=
  let c85_i32_1299 : BitVec 32 := 85#32
  let v1083 : BitVec 32 := Scalar.muli v1081 c85_i32_1299
  let c0_i32_1941 : BitVec 32 := 0#32
  ![v1080.toNat, v1083.toNat, v1082.toNat, 0]

def k1_chk118 (v1080 : BitVec 32) (v1081 : BitVec 32) (v1082 : BitVec 32) : Prop :=
  (∀ a, (k1_off118 v1080 v1081 v1082) a + S1x85x1x80.size a ≤ S16x255x80x80.size a) ∧
  (∀ a, (k1_off246 v1080 v1081 v1082) a + S1x85x1x80.size a ≤ S16x255x80x80.size a)
theorem k1_off118_inb : ∀ (v1080 : BitVec 32) (v1081 : BitVec 32) (v1082 : BitVec 32) (k1_hw118 : k1_chk118 v1080 v1081 v1082), ∀ a, (k1_off118 v1080 v1081 v1082) a + S1x85x1x80.size a ≤ S16x255x80x80.size a := fun v1080 v1081 v1082 k1_hw118 => k1_hw118.1
theorem k1_off246_inb : ∀ (v1080 : BitVec 32) (v1081 : BitVec 32) (v1082 : BitVec 32) (k1_hw118 : k1_chk118 v1080 v1081 v1082), ∀ a, (k1_off246 v1080 v1081 v1082) a + S1x85x1x80.size a ≤ S16x255x80x80.size a := fun v1080 v1081 v1082 k1_hw118 => k1_hw118.2

def k1_off247 (v1088 : BitVec 32) (v1089 : BitVec 32) (v1090 : BitVec 32) : Fin 4 → Nat :=
  let c85_i32_1308 : BitVec 32 := 85#32
  let v1091 : BitVec 32 := Scalar.muli v1089 c85_i32_1308
  let c0_i32_1945 : BitVec 32 := 0#32
  ![v1088.toNat, v1091.toNat, v1090.toNat, 0]

def k1_chk119 (v1088 : BitVec 32) (v1089 : BitVec 32) (v1090 : BitVec 32) : Prop :=
  (∀ a, (k1_off119 v1088 v1089 v1090) a + S1x85x1x80.size a ≤ S16x255x80x80.size a) ∧
  (∀ a, (k1_off247 v1088 v1089 v1090) a + S1x85x1x80.size a ≤ S16x255x80x80.size a)
theorem k1_off119_inb : ∀ (v1088 : BitVec 32) (v1089 : BitVec 32) (v1090 : BitVec 32) (k1_hw119 : k1_chk119 v1088 v1089 v1090), ∀ a, (k1_off119 v1088 v1089 v1090) a + S1x85x1x80.size a ≤ S16x255x80x80.size a := fun v1088 v1089 v1090 k1_hw119 => k1_hw119.1
theorem k1_off247_inb : ∀ (v1088 : BitVec 32) (v1089 : BitVec 32) (v1090 : BitVec 32) (k1_hw119 : k1_chk119 v1088 v1089 v1090), ∀ a, (k1_off247 v1088 v1089 v1090) a + S1x85x1x80.size a ≤ S16x255x80x80.size a := fun v1088 v1089 v1090 k1_hw119 => k1_hw119.2

def k1_off248 (v1096 : BitVec 32) (v1097 : BitVec 32) (v1098 : BitVec 32) : Fin 4 → Nat :=
  let c85_i32_1317 : BitVec 32 := 85#32
  let v1099 : BitVec 32 := Scalar.muli v1097 c85_i32_1317
  let c0_i32_1949 : BitVec 32 := 0#32
  ![v1096.toNat, v1099.toNat, v1098.toNat, 0]

def k1_chk120 (v1096 : BitVec 32) (v1097 : BitVec 32) (v1098 : BitVec 32) : Prop :=
  (∀ a, (k1_off120 v1096 v1097 v1098) a + S1x85x1x80.size a ≤ S16x255x80x80.size a) ∧
  (∀ a, (k1_off248 v1096 v1097 v1098) a + S1x85x1x80.size a ≤ S16x255x80x80.size a)
theorem k1_off120_inb : ∀ (v1096 : BitVec 32) (v1097 : BitVec 32) (v1098 : BitVec 32) (k1_hw120 : k1_chk120 v1096 v1097 v1098), ∀ a, (k1_off120 v1096 v1097 v1098) a + S1x85x1x80.size a ≤ S16x255x80x80.size a := fun v1096 v1097 v1098 k1_hw120 => k1_hw120.1
theorem k1_off248_inb : ∀ (v1096 : BitVec 32) (v1097 : BitVec 32) (v1098 : BitVec 32) (k1_hw120 : k1_chk120 v1096 v1097 v1098), ∀ a, (k1_off248 v1096 v1097 v1098) a + S1x85x1x80.size a ≤ S16x255x80x80.size a := fun v1096 v1097 v1098 k1_hw120 => k1_hw120.2

def k1_off249 (v1104 : BitVec 32) (v1105 : BitVec 32) (v1106 : BitVec 32) : Fin 4 → Nat :=
  let c85_i32_1326 : BitVec 32 := 85#32
  let v1107 : BitVec 32 := Scalar.muli v1105 c85_i32_1326
  let c0_i32_1953 : BitVec 32 := 0#32
  ![v1104.toNat, v1107.toNat, v1106.toNat, 0]

def k1_chk121 (v1104 : BitVec 32) (v1105 : BitVec 32) (v1106 : BitVec 32) : Prop :=
  (∀ a, (k1_off121 v1104 v1105 v1106) a + S1x85x1x80.size a ≤ S16x255x80x80.size a) ∧
  (∀ a, (k1_off249 v1104 v1105 v1106) a + S1x85x1x80.size a ≤ S16x255x80x80.size a)
theorem k1_off121_inb : ∀ (v1104 : BitVec 32) (v1105 : BitVec 32) (v1106 : BitVec 32) (k1_hw121 : k1_chk121 v1104 v1105 v1106), ∀ a, (k1_off121 v1104 v1105 v1106) a + S1x85x1x80.size a ≤ S16x255x80x80.size a := fun v1104 v1105 v1106 k1_hw121 => k1_hw121.1
theorem k1_off249_inb : ∀ (v1104 : BitVec 32) (v1105 : BitVec 32) (v1106 : BitVec 32) (k1_hw121 : k1_chk121 v1104 v1105 v1106), ∀ a, (k1_off249 v1104 v1105 v1106) a + S1x85x1x80.size a ≤ S16x255x80x80.size a := fun v1104 v1105 v1106 k1_hw121 => k1_hw121.2

def k1_off250 (v1112 : BitVec 32) (v1113 : BitVec 32) (v1114 : BitVec 32) : Fin 4 → Nat :=
  let c85_i32_1335 : BitVec 32 := 85#32
  let v1115 : BitVec 32 := Scalar.muli v1113 c85_i32_1335
  let c0_i32_1957 : BitVec 32 := 0#32
  ![v1112.toNat, v1115.toNat, v1114.toNat, 0]

def k1_chk122 (v1112 : BitVec 32) (v1113 : BitVec 32) (v1114 : BitVec 32) : Prop :=
  (∀ a, (k1_off122 v1112 v1113 v1114) a + S1x85x1x80.size a ≤ S16x255x80x80.size a) ∧
  (∀ a, (k1_off250 v1112 v1113 v1114) a + S1x85x1x80.size a ≤ S16x255x80x80.size a)
theorem k1_off122_inb : ∀ (v1112 : BitVec 32) (v1113 : BitVec 32) (v1114 : BitVec 32) (k1_hw122 : k1_chk122 v1112 v1113 v1114), ∀ a, (k1_off122 v1112 v1113 v1114) a + S1x85x1x80.size a ≤ S16x255x80x80.size a := fun v1112 v1113 v1114 k1_hw122 => k1_hw122.1
theorem k1_off250_inb : ∀ (v1112 : BitVec 32) (v1113 : BitVec 32) (v1114 : BitVec 32) (k1_hw122 : k1_chk122 v1112 v1113 v1114), ∀ a, (k1_off250 v1112 v1113 v1114) a + S1x85x1x80.size a ≤ S16x255x80x80.size a := fun v1112 v1113 v1114 k1_hw122 => k1_hw122.2

def k1_off251 (v1120 : BitVec 32) (v1121 : BitVec 32) (v1122 : BitVec 32) : Fin 4 → Nat :=
  let c85_i32_1344 : BitVec 32 := 85#32
  let v1123 : BitVec 32 := Scalar.muli v1121 c85_i32_1344
  let c0_i32_1961 : BitVec 32 := 0#32
  ![v1120.toNat, v1123.toNat, v1122.toNat, 0]

def k1_chk123 (v1120 : BitVec 32) (v1121 : BitVec 32) (v1122 : BitVec 32) : Prop :=
  (∀ a, (k1_off123 v1120 v1121 v1122) a + S1x85x1x80.size a ≤ S16x255x80x80.size a) ∧
  (∀ a, (k1_off251 v1120 v1121 v1122) a + S1x85x1x80.size a ≤ S16x255x80x80.size a)
theorem k1_off123_inb : ∀ (v1120 : BitVec 32) (v1121 : BitVec 32) (v1122 : BitVec 32) (k1_hw123 : k1_chk123 v1120 v1121 v1122), ∀ a, (k1_off123 v1120 v1121 v1122) a + S1x85x1x80.size a ≤ S16x255x80x80.size a := fun v1120 v1121 v1122 k1_hw123 => k1_hw123.1
theorem k1_off251_inb : ∀ (v1120 : BitVec 32) (v1121 : BitVec 32) (v1122 : BitVec 32) (k1_hw123 : k1_chk123 v1120 v1121 v1122), ∀ a, (k1_off251 v1120 v1121 v1122) a + S1x85x1x80.size a ≤ S16x255x80x80.size a := fun v1120 v1121 v1122 k1_hw123 => k1_hw123.2

def k1_off252 (v1128 : BitVec 32) (v1129 : BitVec 32) (v1130 : BitVec 32) : Fin 4 → Nat :=
  let c85_i32_1353 : BitVec 32 := 85#32
  let v1131 : BitVec 32 := Scalar.muli v1129 c85_i32_1353
  let c0_i32_1965 : BitVec 32 := 0#32
  ![v1128.toNat, v1131.toNat, v1130.toNat, 0]

def k1_chk124 (v1128 : BitVec 32) (v1129 : BitVec 32) (v1130 : BitVec 32) : Prop :=
  (∀ a, (k1_off124 v1128 v1129 v1130) a + S1x85x1x80.size a ≤ S16x255x80x80.size a) ∧
  (∀ a, (k1_off252 v1128 v1129 v1130) a + S1x85x1x80.size a ≤ S16x255x80x80.size a)
theorem k1_off124_inb : ∀ (v1128 : BitVec 32) (v1129 : BitVec 32) (v1130 : BitVec 32) (k1_hw124 : k1_chk124 v1128 v1129 v1130), ∀ a, (k1_off124 v1128 v1129 v1130) a + S1x85x1x80.size a ≤ S16x255x80x80.size a := fun v1128 v1129 v1130 k1_hw124 => k1_hw124.1
theorem k1_off252_inb : ∀ (v1128 : BitVec 32) (v1129 : BitVec 32) (v1130 : BitVec 32) (k1_hw124 : k1_chk124 v1128 v1129 v1130), ∀ a, (k1_off252 v1128 v1129 v1130) a + S1x85x1x80.size a ≤ S16x255x80x80.size a := fun v1128 v1129 v1130 k1_hw124 => k1_hw124.2

def k1_off253 (v1136 : BitVec 32) (v1137 : BitVec 32) (v1138 : BitVec 32) : Fin 4 → Nat :=
  let c85_i32_1362 : BitVec 32 := 85#32
  let v1139 : BitVec 32 := Scalar.muli v1137 c85_i32_1362
  let c0_i32_1969 : BitVec 32 := 0#32
  ![v1136.toNat, v1139.toNat, v1138.toNat, 0]

def k1_chk125 (v1136 : BitVec 32) (v1137 : BitVec 32) (v1138 : BitVec 32) : Prop :=
  (∀ a, (k1_off125 v1136 v1137 v1138) a + S1x85x1x80.size a ≤ S16x255x80x80.size a) ∧
  (∀ a, (k1_off253 v1136 v1137 v1138) a + S1x85x1x80.size a ≤ S16x255x80x80.size a)
theorem k1_off125_inb : ∀ (v1136 : BitVec 32) (v1137 : BitVec 32) (v1138 : BitVec 32) (k1_hw125 : k1_chk125 v1136 v1137 v1138), ∀ a, (k1_off125 v1136 v1137 v1138) a + S1x85x1x80.size a ≤ S16x255x80x80.size a := fun v1136 v1137 v1138 k1_hw125 => k1_hw125.1
theorem k1_off253_inb : ∀ (v1136 : BitVec 32) (v1137 : BitVec 32) (v1138 : BitVec 32) (k1_hw125 : k1_chk125 v1136 v1137 v1138), ∀ a, (k1_off253 v1136 v1137 v1138) a + S1x85x1x80.size a ≤ S16x255x80x80.size a := fun v1136 v1137 v1138 k1_hw125 => k1_hw125.2

def k1_off254 (v1144 : BitVec 32) (v1145 : BitVec 32) (v1146 : BitVec 32) : Fin 4 → Nat :=
  let c85_i32_1371 : BitVec 32 := 85#32
  let v1147 : BitVec 32 := Scalar.muli v1145 c85_i32_1371
  let c0_i32_1973 : BitVec 32 := 0#32
  ![v1144.toNat, v1147.toNat, v1146.toNat, 0]

def k1_chk126 (v1144 : BitVec 32) (v1145 : BitVec 32) (v1146 : BitVec 32) : Prop :=
  (∀ a, (k1_off126 v1144 v1145 v1146) a + S1x85x1x80.size a ≤ S16x255x80x80.size a) ∧
  (∀ a, (k1_off254 v1144 v1145 v1146) a + S1x85x1x80.size a ≤ S16x255x80x80.size a)
theorem k1_off126_inb : ∀ (v1144 : BitVec 32) (v1145 : BitVec 32) (v1146 : BitVec 32) (k1_hw126 : k1_chk126 v1144 v1145 v1146), ∀ a, (k1_off126 v1144 v1145 v1146) a + S1x85x1x80.size a ≤ S16x255x80x80.size a := fun v1144 v1145 v1146 k1_hw126 => k1_hw126.1
theorem k1_off254_inb : ∀ (v1144 : BitVec 32) (v1145 : BitVec 32) (v1146 : BitVec 32) (k1_hw126 : k1_chk126 v1144 v1145 v1146), ∀ a, (k1_off254 v1144 v1145 v1146) a + S1x85x1x80.size a ≤ S16x255x80x80.size a := fun v1144 v1145 v1146 k1_hw126 => k1_hw126.2

def k1_off255 (v1152 : BitVec 32) (v1153 : BitVec 32) (v1154 : BitVec 32) : Fin 4 → Nat :=
  let c85_i32_1380 : BitVec 32 := 85#32
  let v1155 : BitVec 32 := Scalar.muli v1153 c85_i32_1380
  let c0_i32_1977 : BitVec 32 := 0#32
  ![v1152.toNat, v1155.toNat, v1154.toNat, 0]

def k1_chk127 (v1152 : BitVec 32) (v1153 : BitVec 32) (v1154 : BitVec 32) : Prop :=
  (∀ a, (k1_off127 v1152 v1153 v1154) a + S1x85x1x80.size a ≤ S16x255x80x80.size a) ∧
  (∀ a, (k1_off255 v1152 v1153 v1154) a + S1x85x1x80.size a ≤ S16x255x80x80.size a)
theorem k1_off127_inb : ∀ (v1152 : BitVec 32) (v1153 : BitVec 32) (v1154 : BitVec 32) (k1_hw127 : k1_chk127 v1152 v1153 v1154), ∀ a, (k1_off127 v1152 v1153 v1154) a + S1x85x1x80.size a ≤ S16x255x80x80.size a := fun v1152 v1153 v1154 k1_hw127 => k1_hw127.1
theorem k1_off255_inb : ∀ (v1152 : BitVec 32) (v1153 : BitVec 32) (v1154 : BitVec 32) (k1_hw127 : k1_chk127 v1152 v1153 v1154), ∀ a, (k1_off255 v1152 v1153 v1154) a + S1x85x1x80.size a ≤ S16x255x80x80.size a := fun v1152 v1153 v1154 k1_hw127 => k1_hw127.2

@[reducible] def k1_t1_loop : Scf.Loop 32 :=
  let c0_i32_2314 : BitVec 32 := 0#32
  let c128_i32 : BitVec 32 := 128#32
  let v2210 : BitVec 32 := Scalar.addi c0_i32_2314 c128_i32
  let c1_i32_2315 : BitVec 32 := 1#32
  ⟨c0_i32_2314, v2210, c1_i32_2315⟩
def k1_off256 (k1_t1 : Fin k1_t1_loop.trips) : Fin 2 → Nat :=
  let c0_i32_2314 : BitVec 32 := 0#32
  let c1_i32_2315 : BitVec 32 := 1#32
  let arg9 : BitVec 32 := Scf.iv c0_i32_2314 c1_i32_2315 k1_t1
  let v2211 : Index := Scalar.indexCast arg9
  let c5_2317 : Index := 5#32
  ![v2211.toNat, 5]
def k1_off257 (k1_t1 : Fin k1_t1_loop.trips) : Fin 2 → Nat :=
  let c0_i32_2314 : BitVec 32 := 0#32
  let c1_i32_2315 : BitVec 32 := 1#32
  let arg9 : BitVec 32 := Scf.iv c0_i32_2314 c1_i32_2315 k1_t1
  let v2213 : Index := Scalar.indexCast arg9
  let c3_2318 : Index := 3#32
  ![v2213.toNat, 3]
def k1_off258 (k1_t1 : Fin k1_t1_loop.trips) : Fin 2 → Nat :=
  let c0_i32_2314 : BitVec 32 := 0#32
  let c1_i32_2315 : BitVec 32 := 1#32
  let arg9 : BitVec 32 := Scf.iv c0_i32_2314 c1_i32_2315 k1_t1
  let v2215 : Index := Scalar.indexCast arg9
  let c4_2319 : Index := 4#32
  ![v2215.toNat, 4]
def k1_off259 (v2212 : BitVec 32) : Fin 2 → Nat :=
  let v2217 : Index := Scalar.indexCast v2212
  let c0_2320 : Index := 0#32
  ![v2217.toNat, 0]

def k1_chk129 (v2212 : BitVec 32) : Prop :=
  (∀ a, (k1_off259 v2212) a + S1x80.size a ≤ S3840x80.size a)
theorem k1_off259_inb : ∀ (v2212 : BitVec 32) (k1_hw129 : k1_chk129 v2212), ∀ a, (k1_off259 v2212) a + S1x80.size a ≤ S3840x80.size a := fun v2212 k1_hw129 => k1_hw129

abbrev stage1_0 : Fin 1 → Memref sig .tc .vmem S128x6 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S6x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S128x8 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S3840x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S16x255x80x80 : Shape := ⟨4, ![16, 255, 80, 80]⟩
abbrev S128x6 : Shape := ⟨2, ![128, 6]⟩
abbrev S6 : Shape := ⟨1, ![6]⟩
abbrev S3x2 : Shape := ⟨2, ![3, 2]⟩
abbrev S_ : Shape := ⟨0, ![]⟩
abbrev S16x3x85x80x80 : Shape := ⟨5, ![16, 3, 85, 80, 80]⟩
abbrev S16x3x80x80x85 : Shape := ⟨5, ![16, 3, 80, 80, 85]⟩
abbrev S16x3x80x80x1 : Shape := ⟨5, ![16, 3, 80, 80, 1]⟩
abbrev S16x3x80x80 : Shape := ⟨4, ![16, 3, 80, 80]⟩
abbrev S16x3x80x80x80 : Shape := ⟨5, ![16, 3, 80, 80, 80]⟩
abbrev S128x4 : Shape := ⟨2, ![128, 4]⟩
abbrev S128x1 : Shape := ⟨2, ![128, 1]⟩
abbrev S128 : Shape := ⟨1, ![128]⟩
abbrev S128x2 : Shape := ⟨2, ![128, 2]⟩
abbrev S128x1x2 : Shape := ⟨3, ![128, 1, 2]⟩
abbrev S1x3x2 : Shape := ⟨3, ![1, 3, 2]⟩
abbrev S128x3x2 : Shape := ⟨3, ![128, 3, 2]⟩
abbrev S128x3x1 : Shape := ⟨3, ![128, 3, 1]⟩
abbrev S128x3 : Shape := ⟨2, ![128, 3]⟩
abbrev S3x1 : Shape := ⟨2, ![3, 1]⟩
abbrev S3 : Shape := ⟨1, ![3]⟩
abbrev S1x3 : Shape := ⟨2, ![1, 3]⟩
abbrev S128x5 : Shape := ⟨2, ![128, 5]⟩
abbrev S16x3x80x80x4 : Shape := ⟨5, ![16, 3, 80, 80, 4]⟩
abbrev S80 : Shape := ⟨1, ![80]⟩
abbrev S1x1x1x80 : Shape := ⟨4, ![1, 1, 1, 80]⟩
abbrev S1x1x80x1 : Shape := ⟨4, ![1, 1, 80, 1]⟩
abbrev S16x3x80x80x2 : Shape := ⟨5, ![16, 3, 80, 80, 2]⟩
abbrev S1x3x1x1x2 : Shape := ⟨5, ![1, 3, 1, 1, 2]⟩

abbrev nBuf : Space → Nat
  | .hbm => 363
  | .vmem => 0
  | .smem => 0
  | _ => 0

abbrev hbmTy0_0 (i : Nat) : BufTy := match i % 128 with
  | 0 => ⟨S16x255x80x80, .f32⟩
  | 1 => ⟨S128x6, .f32⟩
  | 2 => ⟨S6, .f32⟩
  | 3 => ⟨S3x2, .f32⟩
  | 4 => ⟨S_, .f32⟩
  | 5 => ⟨S3x2, .f32⟩
  | 6 => ⟨S3x2, .f32⟩
  | 7 => ⟨S16x3x85x80x80, .f32⟩
  | 8 => ⟨S16x3x80x80x85, .f32⟩
  | 9 => ⟨S16x3x80x80x1, .f32⟩
  | 10 => ⟨S16x3x80x80, .f32⟩
  | 11 => ⟨S16x3x80x80, .f32⟩
  | 12 => ⟨S16x3x80x80, .f32⟩
  | 13 => ⟨S_, .f32⟩
  | 14 => ⟨S16x3x80x80, .f32⟩
  | 15 => ⟨S16x3x80x80, .f32⟩
  | 16 => ⟨S_, .f32⟩
  | 17 => ⟨S16x3x80x80, .f32⟩
  | 18 => ⟨S16x3x80x80, .f32⟩
  | 19 => ⟨S16x3x80x80x1, .f32⟩
  | 20 => ⟨S16x3x80x80, .f32⟩
  | 21 => ⟨S16x3x80x80, .f32⟩
  | 22 => ⟨S16x3x80x80, .f32⟩
  | 23 => ⟨S_, .f32⟩
  | 24 => ⟨S16x3x80x80, .f32⟩
  | 25 => ⟨S16x3x80x80, .f32⟩
  | 26 => ⟨S_, .f32⟩
  | 27 => ⟨S16x3x80x80, .f32⟩
  | 28 => ⟨S16x3x80x80, .f32⟩
  | 29 => ⟨S16x3x80x80x1, .f32⟩
  | 30 => ⟨S16x3x80x80, .f32⟩
  | 31 => ⟨S16x3x80x80x1, .f32⟩
  | 32 => ⟨S16x3x80x80, .f32⟩
  | 33 => ⟨S16x3x80x80x1, .f32⟩
  | 34 => ⟨S16x3x80x80, .f32⟩
  | 35 => ⟨S16x3x80x80x80, .f32⟩
  | 36 => ⟨S128x4, .f32⟩
  | 37 => ⟨S128x1, .f32⟩
  | 38 => ⟨S128, .f32⟩
  | 39 => ⟨S128, .i32⟩
  | 40 => ⟨S128x1, .f32⟩
  | 41 => ⟨S128, .f32⟩
  | 42 => ⟨S128, .i32⟩
  | 43 => ⟨S_, .f32⟩
  | 44 => ⟨S128x4, .f32⟩
  | 45 => ⟨S128x4, .f32⟩
  | 46 => ⟨S128x2, .f32⟩
  | 47 => ⟨S128x1x2, .f32⟩
  | 48 => ⟨S1x3x2, .f32⟩
  | 49 => ⟨S128x3x2, .f32⟩
  | 50 => ⟨S128x3x2, .f32⟩
  | 51 => ⟨S128x3x2, .f32⟩
  | 52 => ⟨S128x3x1, .f32⟩
  | 53 => ⟨S128x3, .f32⟩
  | 54 => ⟨S128x3x1, .f32⟩
  | 55 => ⟨S128x3, .f32⟩
  | 56 => ⟨S128x3, .f32⟩
  | 57 => ⟨S128x1, .f32⟩
  | 58 => ⟨S128, .f32⟩
  | 59 => ⟨S128x1, .f32⟩
  | 60 => ⟨S128, .f32⟩
  | 61 => ⟨S128, .f32⟩
  | 62 => ⟨S3x1, .f32⟩
  | 63 => ⟨S3, .f32⟩
  | 64 => ⟨S3x1, .f32⟩
  | 65 => ⟨S3, .f32⟩
  | 66 => ⟨S3, .f32⟩
  | 67 => ⟨S128x1, .f32⟩
  | 68 => ⟨S1x3, .f32⟩
  | 69 => ⟨S128x3, .f32⟩
  | 70 => ⟨S128x3, .f32⟩
  | 71 => ⟨S128x3, .f32⟩
  | 72 => ⟨S128x3, .f32⟩
  | 73 => ⟨S_, .f32⟩
  | 74 => ⟨S128x3, .f32⟩
  | 75 => ⟨S128x3, .f32⟩
  | 76 => ⟨S128x3, .f32⟩
  | 77 => ⟨S_, .f32⟩
  | 78 => ⟨S128, .f32⟩
  | 79 => ⟨S128x1, .f32⟩
  | 80 => ⟨S3, .i32⟩
  | 81 => ⟨S128x3, .i32⟩
  | 82 => ⟨S128x3, .f32⟩
  | 83 => ⟨S128x3, .i1⟩
  | 84 => ⟨S_, .i32⟩
  | 85 => ⟨S128x3, .i32⟩
  | 86 => ⟨S128x3, .i32⟩
  | 87 => ⟨S_, .i32⟩
  | 88 => ⟨S128, .i32⟩
  | 89 => ⟨S128x1, .f32⟩
  | 90 => ⟨S128, .f32⟩
  | 91 => ⟨S128, .i32⟩
  | 92 => ⟨S128x1, .f32⟩
  | 93 => ⟨S128, .f32⟩
  | 94 => ⟨S128, .i32⟩
  | 95 => ⟨S_, .i32⟩
  | 96 => ⟨S128, .i32⟩
  | 97 => ⟨S128, .i1⟩
  | 98 => ⟨S_, .i32⟩
  | 99 => ⟨S128, .i32⟩
  | 100 => ⟨S128, .i1⟩
  | 101 => ⟨S128, .i1⟩
  | 102 => ⟨S_, .i32⟩
  | 103 => ⟨S128, .i32⟩
  | 104 => ⟨S128, .i1⟩
  | 105 => ⟨S128, .i1⟩
  | 106 => ⟨S_, .i32⟩
  | 107 => ⟨S128, .i32⟩
  | 108 => ⟨S128, .i1⟩
  | 109 => ⟨S128, .i1⟩
  | 110 => ⟨S_, .i32⟩
  | 111 => ⟨S128, .i32⟩
  | 112 => ⟨S128, .i1⟩
  | 113 => ⟨S128, .i1⟩
  | 114 => ⟨S_, .i32⟩
  | 115 => ⟨S128, .i32⟩
  | 116 => ⟨S128, .i32⟩
  | 117 => ⟨S_, .f32⟩
  | 118 => ⟨S16x3x80x80, .f32⟩
  | 119 => ⟨S_, .i32⟩
  | 120 => ⟨S128, .i32⟩
  | 121 => ⟨S128, .i1⟩
  | 122 => ⟨S_, .i32⟩
  | 123 => ⟨S128, .i32⟩
  | 124 => ⟨S128, .i32⟩
  | 125 => ⟨S128, .i32⟩
  | 126 => ⟨S_, .i32⟩
  | 127 => ⟨S128, .i32⟩
  | _ => ⟨S16x255x80x80, .f32⟩

abbrev hbmTy0_1 (i : Nat) : BufTy := match i % 128 with
  | 0 => ⟨S128, .i1⟩
  | 1 => ⟨S_, .i32⟩
  | 2 => ⟨S128, .i32⟩
  | 3 => ⟨S128, .i32⟩
  | 4 => ⟨S128, .i32⟩
  | 5 => ⟨S_, .i32⟩
  | 6 => ⟨S128, .i32⟩
  | 7 => ⟨S128, .i1⟩
  | 8 => ⟨S_, .i32⟩
  | 9 => ⟨S128, .i32⟩
  | 10 => ⟨S128, .i32⟩
  | 11 => ⟨S128, .i32⟩
  | 12 => ⟨S_, .i32⟩
  | 13 => ⟨S128, .i32⟩
  | 14 => ⟨S128, .i1⟩
  | 15 => ⟨S_, .i32⟩
  | 16 => ⟨S128, .i32⟩
  | 17 => ⟨S128, .i32⟩
  | 18 => ⟨S128, .i32⟩
  | 19 => ⟨S128x1, .i32⟩
  | 20 => ⟨S128x1, .i32⟩
  | 21 => ⟨S128x1, .i32⟩
  | 22 => ⟨S128x1, .i32⟩
  | 23 => ⟨S128x4, .i32⟩
  | 24 => ⟨S_, .f32⟩
  | 25 => ⟨S128, .f32⟩
  | 26 => ⟨S16x3x80x80, .f32⟩
  | 27 => ⟨S_, .i32⟩
  | 28 => ⟨S128, .i32⟩
  | 29 => ⟨S128, .i1⟩
  | 30 => ⟨S128, .i1⟩
  | 31 => ⟨S_, .i32⟩
  | 32 => ⟨S128, .i32⟩
  | 33 => ⟨S128, .i32⟩
  | 34 => ⟨S_, .f32⟩
  | 35 => ⟨S16x3x80x80x80, .f32⟩
  | 36 => ⟨S_, .i32⟩
  | 37 => ⟨S128, .i32⟩
  | 38 => ⟨S128, .i1⟩
  | 39 => ⟨S_, .i32⟩
  | 40 => ⟨S128, .i32⟩
  | 41 => ⟨S128, .i32⟩
  | 42 => ⟨S128, .i32⟩
  | 43 => ⟨S_, .i32⟩
  | 44 => ⟨S128, .i32⟩
  | 45 => ⟨S128, .i1⟩
  | 46 => ⟨S_, .i32⟩
  | 47 => ⟨S128, .i32⟩
  | 48 => ⟨S128, .i32⟩
  | 49 => ⟨S128, .i32⟩
  | 50 => ⟨S_, .i32⟩
  | 51 => ⟨S128, .i32⟩
  | 52 => ⟨S128, .i1⟩
  | 53 => ⟨S_, .i32⟩
  | 54 => ⟨S128, .i32⟩
  | 55 => ⟨S128, .i32⟩
  | 56 => ⟨S128, .i32⟩
  | 57 => ⟨S_, .i32⟩
  | 58 => ⟨S128, .i32⟩
  | 59 => ⟨S128, .i1⟩
  | 60 => ⟨S_, .i32⟩
  | 61 => ⟨S128, .i32⟩
  | 62 => ⟨S128, .i32⟩
  | 63 => ⟨S128, .i32⟩
  | 64 => ⟨S_, .i32⟩
  | 65 => ⟨S128, .i32⟩
  | 66 => ⟨S128, .i1⟩
  | 67 => ⟨S_, .i32⟩
  | 68 => ⟨S128, .i32⟩
  | 69 => ⟨S128, .i32⟩
  | 70 => ⟨S128, .i32⟩
  | 71 => ⟨S128x1, .i32⟩
  | 72 => ⟨S128x1, .i32⟩
  | 73 => ⟨S128x1, .i32⟩
  | 74 => ⟨S128x1, .i32⟩
  | 75 => ⟨S128x1, .i32⟩
  | 76 => ⟨S128x5, .i32⟩
  | 77 => ⟨S_, .f32⟩
  | 78 => ⟨S128, .f32⟩
  | 79 => ⟨S16x3x80x80x80, .f32⟩
  | 80 => ⟨S_, .f32⟩
  | 81 => ⟨S16x3x80x80x4, .f32⟩
  | 82 => ⟨S_, .i32⟩
  | 83 => ⟨S128, .i32⟩
  | 84 => ⟨S128, .i1⟩
  | 85 => ⟨S_, .i32⟩
  | 86 => ⟨S128, .i32⟩
  | 87 => ⟨S128, .i32⟩
  | 88 => ⟨S128, .i32⟩
  | 89 => ⟨S_, .i32⟩
  | 90 => ⟨S128, .i32⟩
  | 91 => ⟨S128, .i1⟩
  | 92 => ⟨S_, .i32⟩
  | 93 => ⟨S128, .i32⟩
  | 94 => ⟨S128, .i32⟩
  | 95 => ⟨S128, .i32⟩
  | 96 => ⟨S_, .i32⟩
  | 97 => ⟨S128, .i32⟩
  | 98 => ⟨S128, .i1⟩
  | 99 => ⟨S_, .i32⟩
  | 100 => ⟨S128, .i32⟩
  | 101 => ⟨S128, .i32⟩
  | 102 => ⟨S128, .i32⟩
  | 103 => ⟨S_, .i32⟩
  | 104 => ⟨S128, .i32⟩
  | 105 => ⟨S128, .i1⟩
  | 106 => ⟨S_, .i32⟩
  | 107 => ⟨S128, .i32⟩
  | 108 => ⟨S128, .i32⟩
  | 109 => ⟨S128, .i32⟩
  | 110 => ⟨S128x1, .i32⟩
  | 111 => ⟨S128x1, .i32⟩
  | 112 => ⟨S128x1, .i32⟩
  | 113 => ⟨S128x1, .i32⟩
  | 114 => ⟨S128x4, .i32⟩
  | 115 => ⟨S16x3x80x80x4, .f32⟩
  | 116 => ⟨S_, .f32⟩
  | 117 => ⟨S16x3x80x80, .f32⟩
  | 118 => ⟨S16x3x80x80, .f32⟩
  | 119 => ⟨S16x3x80x80, .f32⟩
  | 120 => ⟨S16x3x80x80, .f32⟩
  | 121 => ⟨S16x3x80x80, .f32⟩
  | 122 => ⟨S16x3x80x80, .f32⟩
  | 123 => ⟨S16x3x80x80, .f32⟩
  | 124 => ⟨S16x3x80x80, .f32⟩
  | 125 => ⟨S16x3x80x80, .f32⟩
  | 126 => ⟨S_, .f32⟩
  | 127 => ⟨S_, .f32⟩
  | _ => ⟨S16x255x80x80, .f32⟩

abbrev hbmTy0_2 (i : Nat) : BufTy := match i % 128 with
  | 0 => ⟨S_, .f32⟩
  | 1 => ⟨S_, .f32⟩
  | 2 => ⟨S_, .f32⟩
  | 3 => ⟨S16x3x80x80, .f32⟩
  | 4 => ⟨S16x3x80x80, .f32⟩
  | 5 => ⟨S_, .f32⟩
  | 6 => ⟨S16x3x80x80, .f32⟩
  | 7 => ⟨S_, .f32⟩
  | 8 => ⟨S16x3x80x80, .f32⟩
  | 9 => ⟨S16x3x80x80, .f32⟩
  | 10 => ⟨S16x3x80x80, .f32⟩
  | 11 => ⟨S16x3x80x80, .f32⟩
  | 12 => ⟨S16x3x80x80, .f32⟩
  | 13 => ⟨S16x3x80x80, .f32⟩
  | 14 => ⟨S16x3x80x80, .f32⟩
  | 15 => ⟨S16x3x80x80, .f32⟩
  | 16 => ⟨S16x3x80x80, .f32⟩
  | 17 => ⟨S_, .f32⟩
  | 18 => ⟨S16x3x80x80, .f32⟩
  | 19 => ⟨S16x3x80x80, .f32⟩
  | 20 => ⟨S16x3x80x80, .f32⟩
  | 21 => ⟨S16x3x80x80, .f32⟩
  | 22 => ⟨S16x3x80x80, .f32⟩
  | 23 => ⟨S_, .f32⟩
  | 24 => ⟨S16x3x80x80x80, .f32⟩
  | 25 => ⟨S16x3x80x80x80, .f32⟩
  | 26 => ⟨S16x3x80x80x80, .f32⟩
  | 27 => ⟨S16x3x80x80x80, .f32⟩
  | 28 => ⟨S16x3x80x80x80, .f32⟩
  | 29 => ⟨S16x3x80x80x80, .f32⟩
  | 30 => ⟨S16x3x80x80x80, .f32⟩
  | 31 => ⟨S16x3x80x80x80, .f32⟩
  | 32 => ⟨S16x3x80x80x80, .f32⟩
  | 33 => ⟨S16x3x80x80x1, .f32⟩
  | 34 => ⟨S16x3x80x80x80, .f32⟩
  | 35 => ⟨S16x3x80x80x80, .f32⟩
  | 36 => ⟨S_, .f32⟩
  | 37 => ⟨S_, .f32⟩
  | 38 => ⟨S_, .f32⟩
  | 39 => ⟨S_, .f32⟩
  | 40 => ⟨S80, .i32⟩
  | 41 => ⟨S80, .f32⟩
  | 42 => ⟨S16x3x80x80x1, .f32⟩
  | 43 => ⟨S16x3x80x80, .f32⟩
  | 44 => ⟨S_, .f32⟩
  | 45 => ⟨S16x3x80x80, .f32⟩
  | 46 => ⟨S16x3x80x80, .f32⟩
  | 47 => ⟨S1x1x1x80, .f32⟩
  | 48 => ⟨S16x3x80x80, .f32⟩
  | 49 => ⟨S16x3x80x80, .f32⟩
  | 50 => ⟨S16x3x80x80x1, .f32⟩
  | 51 => ⟨S16x3x80x80, .f32⟩
  | 52 => ⟨S_, .f32⟩
  | 53 => ⟨S16x3x80x80, .f32⟩
  | 54 => ⟨S16x3x80x80, .f32⟩
  | 55 => ⟨S1x1x80x1, .f32⟩
  | 56 => ⟨S16x3x80x80, .f32⟩
  | 57 => ⟨S16x3x80x80, .f32⟩
  | 58 => ⟨S16x3x80x80x2, .f32⟩
  | 59 => ⟨S1x3x1x1x2, .f32⟩
  | 60 => ⟨S_, .f32⟩
  | 61 => ⟨S1x3x1x1x2, .f32⟩
  | 62 => ⟨S1x3x1x1x2, .f32⟩
  | 63 => ⟨S16x3x80x80x2, .f32⟩
  | 64 => ⟨S16x3x80x80x2, .f32⟩
  | 65 => ⟨S_, .f32⟩
  | 66 => ⟨S16x3x80x80x2, .f32⟩
  | 67 => ⟨S16x3x80x80x2, .f32⟩
  | 68 => ⟨S16x3x80x80x2, .f32⟩
  | 69 => ⟨S16x3x80x80, .f32⟩
  | 70 => ⟨S16x3x80x80, .f32⟩
  | 71 => ⟨S16x3x80x80, .f32⟩
  | 72 => ⟨S_, .f32⟩
  | 73 => ⟨S_, .f32⟩
  | 74 => ⟨S_, .f32⟩
  | 75 => ⟨S_, .f32⟩
  | 76 => ⟨S16x3x80x80, .f32⟩
  | 77 => ⟨S16x3x80x80, .f32⟩
  | 78 => ⟨S16x3x80x80, .f32⟩
  | 79 => ⟨S_, .f32⟩
  | 80 => ⟨S_, .f32⟩
  | 81 => ⟨S_, .f32⟩
  | 82 => ⟨S_, .f32⟩
  | 83 => ⟨S_, .f32⟩
  | 84 => ⟨S16x3x80x80x1, .f32⟩
  | 85 => ⟨S16x3x80x80, .f32⟩
  | 86 => ⟨S16x3x80x80, .f32⟩
  | 87 => ⟨S16x3x80x80, .f32⟩
  | 88 => ⟨S16x3x80x80, .f32⟩
  | 89 => ⟨S_, .f32⟩
  | 90 => ⟨S_, .f32⟩
  | 91 => ⟨S_, .f32⟩
  | 92 => ⟨S_, .f32⟩
  | 93 => ⟨S_, .f32⟩
  | 94 => ⟨S16x3x80x80x1, .f32⟩
  | 95 => ⟨S16x3x80x80, .f32⟩
  | 96 => ⟨S16x3x80x80, .f32⟩
  | 97 => ⟨S16x3x80x80, .f32⟩
  | 98 => ⟨S16x3x80x80, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S16x3x80x80, .f32⟩
  | 106 => ⟨S16x3x80x80, .f32⟩
  | _ => ⟨S16x255x80x80, .f32⟩

abbrev hbmTy (i : Nat) : BufTy := match i / 128 with
  | 0 => hbmTy0_0 i
  | 1 => hbmTy0_1 i
  | 2 => hbmTy0_2 i
  | _ => ⟨S16x255x80x80, .f32⟩

abbrev bufTy : (tb : Table) → Fin (tcTables nBuf tb) → BufTy
  | .hbm, ⟨i, _⟩ => hbmTy i
  | _, _ => ⟨S16x255x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_6 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_7 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_c : Ref sig .tc := ⟨.hbm, 84, rfl⟩
abbrev main_v73 : Ref sig .tc := ⟨.hbm, 85, rfl⟩
abbrev main_v74 : Ref sig .tc := ⟨.hbm, 86, rfl⟩
abbrev main_c_8 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_c_9 : Ref sig .tc := ⟨.hbm, 95, rfl⟩
abbrev main_v82 : Ref sig .tc := ⟨.hbm, 96, rfl⟩
abbrev main_v83 : Ref sig .tc := ⟨.hbm, 97, rfl⟩
abbrev main_c_10 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_c_11 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_c_12 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_c_13 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_c_14 : Ref sig .tc := ⟨.hbm, 114, rfl⟩
abbrev main_v96 : Ref sig .tc := ⟨.hbm, 115, rfl⟩
abbrev main_v97 : Ref sig .tc := ⟨.hbm, 116, rfl⟩
abbrev main_cst_15 : Ref sig .tc := ⟨.hbm, 117, rfl⟩
abbrev main_v98 : Ref sig .tc := ⟨.hbm, 118, rfl⟩
abbrev main_c_16 : Ref sig .tc := ⟨.hbm, 119, rfl⟩
abbrev main_v99 : Ref sig .tc := ⟨.hbm, 120, rfl⟩
abbrev main_v100 : Ref sig .tc := ⟨.hbm, 121, rfl⟩
abbrev main_c_17 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_c_18 : Ref sig .tc := ⟨.hbm, 126, rfl⟩
abbrev main_v104 : Ref sig .tc := ⟨.hbm, 127, rfl⟩
abbrev main_v105 : Ref sig .tc := ⟨.hbm, 128, rfl⟩
abbrev main_c_19 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_c_20 : Ref sig .tc := ⟨.hbm, 133, rfl⟩
abbrev main_v109 : Ref sig .tc := ⟨.hbm, 134, rfl⟩
abbrev main_v110 : Ref sig .tc := ⟨.hbm, 135, rfl⟩
abbrev main_c_21 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_c_22 : Ref sig .tc := ⟨.hbm, 140, rfl⟩
abbrev main_v114 : Ref sig .tc := ⟨.hbm, 141, rfl⟩
abbrev main_v115 : Ref sig .tc := ⟨.hbm, 142, rfl⟩
abbrev main_c_23 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_24 : Ref sig .tc := ⟨.hbm, 152, rfl⟩
abbrev main_v124 : Ref sig .tc := ⟨.hbm, 153, rfl⟩
abbrev main_v125 : Ref sig .tc := ⟨.hbm, 154, rfl⟩
abbrev main_c_25 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_c_26 : Ref sig .tc := ⟨.hbm, 159, rfl⟩
abbrev main_v129 : Ref sig .tc := ⟨.hbm, 160, rfl⟩
abbrev main_v130 : Ref sig .tc := ⟨.hbm, 161, rfl⟩
abbrev main_cst_27 : Ref sig .tc := ⟨.hbm, 162, rfl⟩
abbrev main_v131 : Ref sig .tc := ⟨.hbm, 163, rfl⟩
abbrev main_c_28 : Ref sig .tc := ⟨.hbm, 164, rfl⟩
abbrev main_v132 : Ref sig .tc := ⟨.hbm, 165, rfl⟩
abbrev main_v133 : Ref sig .tc := ⟨.hbm, 166, rfl⟩
abbrev main_c_29 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_c_30 : Ref sig .tc := ⟨.hbm, 171, rfl⟩
abbrev main_v137 : Ref sig .tc := ⟨.hbm, 172, rfl⟩
abbrev main_v138 : Ref sig .tc := ⟨.hbm, 173, rfl⟩
abbrev main_c_31 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_c_32 : Ref sig .tc := ⟨.hbm, 178, rfl⟩
abbrev main_v142 : Ref sig .tc := ⟨.hbm, 179, rfl⟩
abbrev main_v143 : Ref sig .tc := ⟨.hbm, 180, rfl⟩
abbrev main_c_33 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_c_34 : Ref sig .tc := ⟨.hbm, 185, rfl⟩
abbrev main_v147 : Ref sig .tc := ⟨.hbm, 186, rfl⟩
abbrev main_v148 : Ref sig .tc := ⟨.hbm, 187, rfl⟩
abbrev main_c_35 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_c_36 : Ref sig .tc := ⟨.hbm, 192, rfl⟩
abbrev main_v152 : Ref sig .tc := ⟨.hbm, 193, rfl⟩
abbrev main_v153 : Ref sig .tc := ⟨.hbm, 194, rfl⟩
abbrev main_c_37 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_38 : Ref sig .tc := ⟨.hbm, 205, rfl⟩
abbrev main_v163 : Ref sig .tc := ⟨.hbm, 206, rfl⟩
abbrev main_v164 : Ref sig .tc := ⟨.hbm, 207, rfl⟩
abbrev main_cst_39 : Ref sig .tc := ⟨.hbm, 208, rfl⟩
abbrev main_v165 : Ref sig .tc := ⟨.hbm, 209, rfl⟩
abbrev main_c_40 : Ref sig .tc := ⟨.hbm, 210, rfl⟩
abbrev main_v166 : Ref sig .tc := ⟨.hbm, 211, rfl⟩
abbrev main_v167 : Ref sig .tc := ⟨.hbm, 212, rfl⟩
abbrev main_c_41 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_c_42 : Ref sig .tc := ⟨.hbm, 217, rfl⟩
abbrev main_v171 : Ref sig .tc := ⟨.hbm, 218, rfl⟩
abbrev main_v172 : Ref sig .tc := ⟨.hbm, 219, rfl⟩
abbrev main_c_43 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_c_44 : Ref sig .tc := ⟨.hbm, 224, rfl⟩
abbrev main_v176 : Ref sig .tc := ⟨.hbm, 225, rfl⟩
abbrev main_v177 : Ref sig .tc := ⟨.hbm, 226, rfl⟩
abbrev main_c_45 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_c_46 : Ref sig .tc := ⟨.hbm, 231, rfl⟩
abbrev main_v181 : Ref sig .tc := ⟨.hbm, 232, rfl⟩
abbrev main_v182 : Ref sig .tc := ⟨.hbm, 233, rfl⟩
abbrev main_c_47 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_cst_48 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_49 : Ref sig .tc := ⟨.hbm, 254, rfl⟩
abbrev main_v201 : Ref sig .tc := ⟨.hbm, 255, rfl⟩
abbrev main_cst_50 : Ref sig .tc := ⟨.hbm, 256, rfl⟩
abbrev main_v202 : Ref sig .tc := ⟨.hbm, 257, rfl⟩
abbrev main_cst_51 : Ref sig .tc := ⟨.hbm, 258, rfl⟩
abbrev main_v203 : Ref sig .tc := ⟨.hbm, 259, rfl⟩
abbrev main_v204 : Ref sig .tc := ⟨.hbm, 260, rfl⟩
abbrev main_cst_52 : Ref sig .tc := ⟨.hbm, 261, rfl⟩
abbrev main_v205 : Ref sig .tc := ⟨.hbm, 262, rfl⟩
abbrev main_cst_53 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_cst_54 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_cst_55 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_cst_56 : Ref sig .tc := ⟨.hbm, 292, rfl⟩
abbrev main_v232 : Ref sig .tc := ⟨.hbm, 293, rfl⟩
abbrev main_cst_57 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_cst_58 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_cst_59 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_cst_60 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_cst_61 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_cst_62 : Ref sig .tc := ⟨.hbm, 328, rfl⟩
abbrev main_v262 : Ref sig .tc := ⟨.hbm, 329, rfl⟩
abbrev main_cst_63 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_cst_64 : Ref sig .tc := ⟨.hbm, 335, rfl⟩
abbrev main_v267 : Ref sig .tc := ⟨.hbm, 336, rfl⟩
abbrev main_cst_65 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_cst_66 : Ref sig .tc := ⟨.hbm, 345, rfl⟩
abbrev main_v275 : Ref sig .tc := ⟨.hbm, 346, rfl⟩
abbrev main_cst_67 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_cst_68 : Ref sig .tc := ⟨.hbm, 355, rfl⟩
abbrev main_v283 : Ref sig .tc := ⟨.hbm, 356, rfl⟩
abbrev main_cst_69 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩

abbrev nD : Nat := 1
abbrev τ : Topo := Topo.v7x

variable {F : FTy → Type} [FloatOps F]
-- ==== Proof.KernelProg.lean ====
module

public import proofs.«01_k».proof.Proof.Gen.Kernel.Skeleton

@[expose] public section

noncomputable section

namespace Cert.Kernel.Main

open Idealize.ShloMosaic Idealize.ShloMosaic.TcCoe
open Idealize.SL Idealize.SL.Sem
open Cert.Kernel Cert.Kernel.Gen

variable {F : FTy → Type} [FloatOps F]

/-- The kernel's thread programs. -/
abbrev KProg (F : FTy → Type) [FloatOps F] (α : Type) := Prog (TpuEff nD τ sig (Elt F) Λ₀ .tc) α

/-! ## The kernel's unrolled copies, as iterations -/

/-- A row's offset of a plane among the 48 is inside the prediction array. -/
theorem objSrc_inb {i : Nat} (h : i < 48) :
    ∀ a, (![i / 3, 4 + 85 * (i % 3), 0, 0] : Fin 4 → Nat) a + S1x1x80x80.size a ≤ S16x255x80x80.size a := by
  have h1 : i / 3 + 1 ≤ 16 := by omega
  have h2 : 4 + 85 * (i % 3) + 1 ≤ 255 := by omega
  intro a
  fin_cases a
  · exact h1
  · exact h2
  · exact Nat.le_refl 80
  · exact Nat.le_refl 80

/-- The rows of plane `i` are inside the gathered objectness buffer. -/
theorem objDst_inb {i : Nat} (h : i < 48) :
    ∀ a, (![80 * i, 0] : Fin 2 → Nat) a + S80x80.size a ≤ S3840x80.size a := by
  have h1 : 80 * i + 80 ≤ 3840 := by omega
  intro a
  fin_cases a
  · exact h1
  · exact Nat.le_refl 80

/-- A target's word is inside the table of words. -/
theorem word_inb {t j : Nat} (h : t < 128) (hj : j < 8) :
    ∀ a, (![t, j] : Fin 2 → Nat) a + S1x1.size a ≤ S128x8.size a := by
  intro a
  fin_cases a
  · exact h
  · exact hj

/-- A target's slot is inside the gathered-cells buffer. -/
theorem slot_inb {t : Nat} (h : t < 128) :
    ∀ a, (![t, 0, 0] : Fin 3 → Nat) a + S1x85x80.size a ≤ S128x85x80.size a := by
  intro a
  fin_cases a
  · exact h
  · exact Nat.le_refl 85
  · exact Nat.le_refl 80

/-- Plane `i` of the predictions: image `i / 3`, channel `4 + 85 (i mod 3)`. -/
abbrev objSrc (arg0 : Memref sig .tc .hbm S16x255x80x80 .f32) (i : Nat) (h : i < 48) : Memref sig .tc .hbm S80x80 .f32 :=
  (arg0.slice (Rect.unit (s := S16x255x80x80) ![i / 3, 4 + 85 * (i % 3), 0, 0] S1x1x80x80.size (objSrc_inb h)) (fun _ => rfl)).squeeze
    S80x80 squeezes_S1x1x80x80_S80x80

/-- The rows plane `i` is gathered to. -/
abbrev objDst (arg5 : Memref sig .tc .vmem S3840x80 .f32) (i : Nat) (h : i < 48) : Memref sig .tc .vmem S80x80 .f32 :=
  arg5.slice (Rect.unit (s := S3840x80) ![80 * i, 0] S80x80.size (objDst_inb h)) (fun _ => rfl)

/-- Gather the planes `i, i + 1, …, i + n - 1` and go on. -/
def objRun {α : Type} (arg0 : Memref sig .tc .hbm S16x255x80x80 .f32) (arg5 : Memref sig .tc .vmem S3840x80 .f32) (sem : DmaSem sig) :
    (n i : Nat) → i + n ≤ 48 → KProg F α → KProg F α
  | 0, _, _, k => k
  | n + 1, i, h, k =>
    .op (.enqueueDma (objSrc arg0 i (by omega)) (.here (objDst arg5 i (by omega))) (.dma sem)
      ((View.wordExact_bits rfl).reshape _ _) (View.wordExact_bits rfl) ⟨Or.inl rfl, trivial⟩)
      fun _ => objRun arg0 arg5 sem n (i + 1) (by omega) k

/-- Wait for the planes `i, …, i + n - 1`. -/
def objWait {α : Type} (arg5 : Memref sig .tc .vmem S3840x80 .f32) (sem : DmaSem sig) :
    (n i : Nat) → i + n ≤ 48 → KProg F α → KProg F α
  | 0, _, _, k => k
  | n + 1, i, h, k =>
    .op (.waitDma2 sem (objDst arg5 i (by omega)) (objDst arg5 i (by omega)) (View.wordExact_bits rfl) (View.wordExact_bits rfl))
      fun _ => objWait arg5 sem n (i + 1) (by omega) k

/-- The block of predictions a target's three words name. -/
abbrev cellSrc (arg0 : Memref sig .tc .hbm S16x255x80x80 .f32) (b a y : BitVec 32)
    (h : ∀ x, (k1_off1 b a y) x + S1x85x1x80.size x ≤ S16x255x80x80.size x) : Memref sig .tc .hbm S85x80 .f32 :=
  (arg0.slice (Rect.unit (s := S16x255x80x80) (k1_off1 b a y) S1x85x1x80.size h) (fun _ => rfl)).squeeze
    S85x80 squeezes_S1x85x1x80_S85x80

/-- Target `t`'s slot. -/
abbrev cellDst (arg6 : Memref sig .tc .vmem S128x85x80 .f32) (t : Nat) (h : t < 128) : Memref sig .tc .vmem S85x80 .f32 :=
  (arg6.slice (Rect.unit (s := S128x85x80) ![t, 0, 0] S1x85x80.size (slot_inb h)) (fun _ => rfl)).squeeze S85x80 squeezes_S1x85x80_S85x80

/-- Read target `t`'s three words, assume the side condition on them, and start the copy of the
    block they name to the target's slot. -/
def cellStep {α : Type} (arg0 : Memref sig .tc .hbm S16x255x80x80 .f32) (arg3 : Memref sig .tc .smem S128x8 .i32)
    (arg6 : Memref sig .tc .vmem S128x85x80 .f32) (sem : DmaSem sig)
    (chk : BitVec 32 → BitVec 32 → BitVec 32 → Prop) (dec : ∀ b a y, Decidable (chk b a y))
    (hchk : ∀ b a y, chk b a y → ∀ x, (k1_off1 b a y) x + S1x85x1x80.size x ≤ S16x255x80x80.size x)
    (t : Nat) (h : t < 128) (k : KProg F α) : KProg F α :=
  smemLoad arg3 (Rect.unit (s := S128x8) ![t, 0] S1x1.size (word_inb h (by decide))) numel1_S1x1 rfl >>= fun b : Elt F .i32 =>
  smemLoad arg3 (Rect.unit (s := S128x8) ![t, 1] S1x1.size (word_inb h (by decide))) numel1_S1x1 rfl >>= fun a : Elt F .i32 =>
  smemLoad arg3 (Rect.unit (s := S128x8) ![t, 2] S1x1.size (word_inb h (by decide))) numel1_S1x1 rfl >>= fun y : Elt F .i32 =>
  .op (TpuEff.assume (chk b a y) (dec b a y)) fun hw =>
  .op (.enqueueDma (cellSrc arg0 b a y (hchk b a y hw.down)) (.here (cellDst arg6 t h)) (.dma sem)
    ((View.wordExact_bits rfl).reshape _ _) ((View.wordExact_bits rfl).reshape _ _) ⟨Or.inl rfl, trivial⟩)
    fun _ => k

/-- The steps of targets `t, …, t + n - 1`, the last target's excluded. -/
def cellRun {α : Type} (arg0 : Memref sig .tc .hbm S16x255x80x80 .f32) (arg3 : Memref sig .tc .smem S128x8 .i32)
    (arg6 : Memref sig .tc .vmem S128x85x80 .f32) (sem : DmaSem sig) :
    (n t : Nat) → t + n ≤ 127 → KProg F α → KProg F α
  | 0, _, _, k => k
  | n + 1, t, h, k =>
    cellStep arg0 arg3 arg6 sem k1_chk1 k1_chk1.dec (fun b a y h => h.1) t (by omega)
      (cellRun arg0 arg3 arg6 sem n (t + 1) (by omega) k)

/-- Wait for the slots of targets `t, …, t + n - 1`. -/
def cellWait {α : Type} (arg6 : Memref sig .tc .vmem S128x85x80 .f32) (sem : DmaSem sig) :
    (n t : Nat) → t + n ≤ 128 → KProg F α → KProg F α
  | 0, _, _, k => k
  | n + 1, t, h, k =>
    .op (.waitDma2 sem (cellDst arg6 t (by omega)) (cellDst arg6 t (by omega))
      ((View.wordExact_bits rfl).reshape _ _) ((View.wordExact_bits rfl).reshape _ _))
      fun _ => cellWait arg6 sem n (t + 1) (by omega) k

/-- The scalar of the targets' losses: the printed payloads in order, over the targets `T`, their
    transpose `U` and the gathered cells `g`. -/
def sparseOf (T : Vec F S128x6 .f32) (U : Vec F S6x128 .f32) (g : Vec F S128x85x80 .f32) : F .f32 :=
  let cst : F .f32 := Scalar.ofBits .f32 0x42A00000#32
  let v1171 := k1_pay2 T
  let v1172 := k1_pay3 T
  let v1173 := k1_pay4 T
  let v1174 := k1_pay5 T
  let v1175 := k1_pay6 T
  let v1176 := k1_pay7 T
  let v1179 := k1_pay8 v1171 cst
  let v1182 := k1_pay9 v1172
  let v1214 := k1_pay14 v1173 v1174
  let v1230 := k1_pay18 v1214 (k1_pay15 v1173 v1174) (k1_pay16 v1173 v1174) (k1_pay17 v1173 v1174)
  let v1247 := k1_pay19 v1175 v1179 v1182
  let v1255 := k1_pay21 U
  let v1256 := k1_pay22 U
  let v1257 := k1_pay23 U
  let v1260 := k1_pay24 U
  let v1263 := k1_pay25 U
  let v1311 := k1_pay28 v1255 (k1_pay26 U) (k1_pay27 (F := F))
  let v1328 := k1_pay29 v1256 v1260 v1263
  let v1329 : IVec S128x128 32 := iota .tc S128x128 32 [0] iota_S128x128_d0_w32
  let v1330 : IVec S128x128 32 := iota .tc S128x128 32 [1] iota_S128x128_d1_w32
  let v1332 : IVec S1x128 32 := iota .tc S1x128 32 [1] iota_S1x128_d1_w32
  let v1344 := k1_pay30 v1175 v1179 v1182 v1230 v1247
  let v1350 := k1_pay31 v1176 v1247
  let v1356 := k1_pay32 v1175 v1176 v1179 v1182 v1230 v1247
  let v1396 := k1_pay34 (F := F) v1247 v1256 v1260 v1263 v1311 v1328 v1329 v1330 v1332 v1344 3#32
  let v1403 := k1_pay35 v1256 v1257 v1260 v1263 v1311 v1328 v1329 v1330 v1332 v1356 3#32
  let v1414 := k1_pay36 (F := F) v1396
  let v1416 := k1_pay37 v1350 v1403 (Scalar.ofBits .f32 0x3F800000#32 : F .f32)
  let v1946 := k1_pay43 v1179 g
  let v2040 := k1_pay50 v1171 v1172 v1173 v1174 v1179 v1182 v1414 (k1_pay39 v1179 g) (k1_pay40 v1179 g) (k1_pay41 v1179 g)
    (k1_pay42 v1179 g) (k1_pay47 (F := F) v1230) (k1_pay48 (F := F) v1230) (k1_pay49 (F := F))
  k1_pay53 v2040 (k1_pay51 (k1_pay44 v1179 v1414 g)) (k1_pay52 (k1_pay45 v1414 v1946) (k1_pay46 v1176 v1416 v1946))

/-- The main kernel's body with its unrolled stretches as iterations. -/
def bodyRun (arg0 : Memref sig .tc .hbm S16x255x80x80 .f32) (harg0 : arg0.IsWhole) (arg1 : Memref sig .tc .vmem S128x6 .f32) (harg1 : arg1.IsWhole)
    (arg2 : Memref sig .tc .vmem S6x128 .f32) (harg2 : arg2.IsWhole) (arg3 : Memref sig .tc .smem S128x8 .i32) (harg3 : arg3.IsWhole)
    (arg4 : Memref sig .tc .vmem S3840x80 .f32) (harg4 : arg4.IsWhole) (arg5 : Memref sig .tc .vmem S3840x80 .f32) (harg5 : arg5.IsWhole)
    (arg6 : Memref sig .tc .vmem S128x85x80 .f32) (harg6 : arg6.IsWhole) (arg7 : DmaSems sig S_) (arg8 : DmaSems sig S_) : KProg F PUnit :=
  objRun arg0 arg5 arg7.sem 48 0 (by decide) <|
  cellRun arg0 arg3 arg6 arg8.sem 127 0 (by decide) <|
  cellStep arg0 arg3 arg6 arg8.sem k1_chk128 k1_chk128.dec (fun _ _ _ h => h) 127 (by decide) <|
  .op (.load arg1 (Rect.unit (s := S128x6) ![0, 0] S128x6.size inb_S128x6_S128x6_0_0).toLoadRect (View.loadsAt_vmem h_S128x6)) fun T =>
  .op (.load arg2 (Rect.unit (s := S6x128) ![0, 0] S6x128.size inb_S6x128_S6x128_0_0).toLoadRect (View.loadsAt_vmem h_S6x128)) fun U =>
  cellWait arg6 arg8.sem 128 0 (by decide) <|
  .op (.load arg6 (Rect.unit (s := S128x85x80) ![0, 0, 0] S128x85x80.size inb_S128x85x80_S128x85x80_0_0_0).toLoadRect (View.loadsAt_vmem h_S128x85x80)) fun g =>
  objWait arg5 arg7.sem 48 0 (by decide) <|
  .op (.load arg5 (Rect.unit (s := S3840x80) ![0, 0] S3840x80.size inb_S3840x80_S3840x80_0_0).toLoadRect (View.loadsAt_vmem h_S3840x80)) fun o =>
  .op (.load arg4 (Rect.unit (s := S3840x80) ![0, 0] S3840x80.size inb_S3840x80_S3840x80_0_0).toLoadRect (View.loadsAt_vmem h_S3840x80)) fun _ =>
  .op (.store arg4 (Rect.unit (s := S3840x80) ![0, 0] S3840x80.size inb_S3840x80_S3840x80_0_0) (k1_pay56 (sparseOf T U g) o) Finset.univ (View.stores_vmem_bits_univ h_S3840x80 rfl) (.inl rfl)) fun _ =>
  (Scf.Loop.for k1_t1_loop k1_t1_ok ⟨⟩ fun k1_t1 _ =>
    k1_t1_body arg0 harg0 arg1 harg1 arg2 harg2 arg3 harg3 arg4 harg4 arg5 harg5 arg6 harg6 arg7 arg8
      (k1_pay55 (sparseOf T U g) o) (iota .tc S1x80 32 [1] iota_S1x80_d1_w32) k1_t1 ⟨⟩) >>= fun _ => pure ⟨⟩

end Cert.Kernel.Main
-- ==== Proof.KernelCopies.lean ====
module

public import proofs.«01_k».proof.Proof.KernelProg
public import Idealize.ShloMosaic.Lib.Batch
public import Idealize.ShloMosaic.Lib.Tactic
public import Idealize.ShloMosaic.Lib.ValueLayout
public import Idealize.ShloMosaic.Lib.Pipeline.Kit

@[expose] public section

noncomputable section

namespace Cert.Kernel.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.ValueIdx

variable {F : FTy → Type} [FloatOps F]

/-- The algebra of the proofs: the pipeline's, beside the counters of the copies. -/
abbrev UU (nD : Nat) (τ : Topo) : Type := UR sig nD τ × Counters

local notation "𝕄" => MT nD τ sig Unit (Elt F) ℕ (UU nD τ) ℕ

/-- The buffer of `b` on core `c`, held whole at `f`. -/
abbrev pt (c : Dev nD) (b : Ref sig .tc) (f : Buf (Elt F) ((c : Thread nD τ).loc b)) : sProp 𝕄 :=
  ((c : Thread nD τ).loc b) ↦{fullShare} f

/-! ## What the copies leave -/

/-- The predictions' array. -/
abbrev predM : Memref sig .tc .hbm S16x255x80x80 .f32 := Memref.whole main_arg0
/-- The buffer the objectness planes are gathered to. -/
abbrev objM : Memref sig .tc .vmem S3840x80 .f32 := Memref.whole cc1_scratch0
/-- The buffer the targets' blocks are gathered to. -/
abbrev cellM : Memref sig .tc .vmem S128x85x80 .f32 := Memref.whole cc1_scratch1

/-- The gathered objectness planes: row `80 i + y` is row `y` of plane `i`. -/
def objVal (P : Vec F S16x255x80x80 .f32) : Vec F S3840x80 .f32 := fun j =>
  P (ix4 ⟨(j 0).val / 80 / 3, by have := (j 0).isLt; change (j 0).val < 3840 at this; omega⟩
    ⟨4 + 85 * ((j 0).val / 80 % 3), by omega⟩ ⟨(j 0).val % 80, by omega⟩ (j 1))

/-- Where slot `t`'s element at channel `k` and lane `x` comes from, given the target's three words. -/
def cellIdx (b a y : BitVec 32) (k : Fin 85) (x : Fin 80) : S16x255x80x80.Idx :=
  ix4 ⟨k1_off1 b a y 0 % 16, Nat.mod_lt _ (by decide)⟩ ⟨(k1_off1 b a y 1 + k.val) % 255, Nat.mod_lt _ (by decide)⟩
    ⟨k1_off1 b a y 2 % 80, Nat.mod_lt _ (by decide)⟩ x

/-- Word `j` of target `t` in the table of words. -/
def word (M : IVec S128x8 32) (t : Fin 128) (j : Fin 8) : BitVec 32 := M (ix2 t j)

/-- The gathered blocks. -/
def cellVal (P : Vec F S16x255x80x80 .f32) (M : IVec S128x8 32) : Vec F S128x85x80 .f32 := fun j =>
  P (cellIdx (word M (j 0) 0) (word M (j 0) 1) (word M (j 0) 2) (j 1) (j 2))

/-- The block the words of target `t` name is inside the predictions. -/
abbrev CellIn (b a y : BitVec 32) : Prop := ∀ x, (k1_off1 b a y) x + S1x85x1x80.size x ≤ S16x255x80x80.size x

/-- An index of two axes is its two coordinates. -/
theorem idx2_eta {n m : Nat} (x : (⟨2, ![n, m]⟩ : Shape).Idx) : x = ix2 (x 0) (x 1) := by
  funext a; fin_cases a <;> rfl

/-- An index `(x, y)` matched with shape `[1, a, 1, b]` is `(0, x, 0, y)`. -/
theorem reshape_1a1b {a b : ℕ} (h : (⟨2, ![a, b]⟩ : Shape).numel = (⟨4, ![1, a, 1, b]⟩ : Shape).numel)
    (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

/-- Plane `i` landed is the gathered planes there. -/
theorem obj_landed (P : Vec F S16x255x80x80 .f32) (fd : Vec F S3840x80 .f32) (i : Nat) (h : i < 48) :
    ∀ j ∈ (objDst objM i h).view.set,
      ((objDst objM i h).view.write (Elt F) fd ((objSrc predM i h).view.read (Elt F) P) Finset.univ : Vec F S3840x80 .f32) j = objVal P j := by
  intro j hj
  obtain ⟨x, -, rfl⟩ := Finset.mem_map.mp hj
  refine ((objDst objM i h).view.write_emb (Val := Elt F) fd _ Finset.univ x).trans ?_
  rw [if_pos (Finset.mem_univ _)]
  obtain ⟨y, l, rfl⟩ : ∃ (y : Fin 80) (l : Fin 80), x = ix2 y l := ⟨x 0, x 1, idx2_eta (n := 80) (m := 80) x⟩
  show P ((Rect.unit (s := S16x255x80x80) ![i / 3, 4 + 85 * (i % 3), 0, 0] S1x1x80x80.size (objSrc_inb h)).emb
          (Shape.reshapeEquiv squeezes_S1x1x80x80_S80x80.numel_eq (ix2 y l)))
    = objVal P ((Rect.unit (s := S3840x80) ![80 * i, 0] S80x80.size (objDst_inb h)).emb (ix2 y l))
  rw [reshapeEquiv_ix2_11ab]
  have h0 : y.val < 80 := y.isLt
  have e : (Rect.unit (s := S3840x80) ![80 * i, 0] S80x80.size (objDst_inb h)).emb (ix2 y l)
      = ix2 (n0 := 3840) (n1 := 80) ⟨80 * i + y.val, by omega⟩ l := by
    funext a; apply Fin.ext
    fin_cases a
    · show 80 * i + 1 * y.val = 80 * i + y.val; omega
    · show 0 + 1 * l.val = l.val; omega
  rw [e]
  unfold objVal
  congr 1
  funext a; apply Fin.ext
  fin_cases a
  · show i / 3 + 1 * 0 = (80 * i + y.val) / 80 / 3; omega
  · show 4 + 85 * (i % 3) + 1 * 0 = 4 + 85 * ((80 * i + y.val) / 80 % 3); omega
  · show 0 + 1 * y.val = (80 * i + y.val) % 80; omega
  · show 0 + 1 * l.val = l.val; omega

/-- Slot `t` landed is the gathered blocks there. -/
theorem cell_landed (P : Vec F S16x255x80x80 .f32) (M : IVec S128x8 32) (fd : Vec F S128x85x80 .f32) (t : Nat) (ht : t < 128)
    (h : CellIn (word M ⟨t, ht⟩ 0) (word M ⟨t, ht⟩ 1) (word M ⟨t, ht⟩ 2)) :
    ∀ j ∈ (cellDst cellM t ht).view.set,
      ((cellDst cellM t ht).view.write (Elt F) fd
        ((cellSrc predM (word M ⟨t, ht⟩ 0) (word M ⟨t, ht⟩ 1) (word M ⟨t, ht⟩ 2) h).view.read (Elt F) P) Finset.univ : Vec F S128x85x80 .f32) j
        = cellVal P M j := by
  intro j hj
  obtain ⟨x, -, rfl⟩ := Finset.mem_map.mp hj
  refine ((cellDst cellM t ht).view.write_emb (Val := Elt F) fd _ Finset.univ x).trans ?_
  rw [if_pos (Finset.mem_univ _)]
  obtain ⟨k, l, rfl⟩ : ∃ (k : Fin 85) (l : Fin 80), x = ix2 k l := ⟨x 0, x 1, idx2_eta (n := 85) (m := 80) x⟩
  show P ((Rect.unit (s := S16x255x80x80) (k1_off1 (word M ⟨t, ht⟩ 0) (word M ⟨t, ht⟩ 1) (word M ⟨t, ht⟩ 2)) S1x85x1x80.size h).emb
          (Shape.reshapeEquiv squeezes_S1x85x1x80_S85x80.numel_eq (ix2 k l)))
    = cellVal P M ((Rect.unit (s := S128x85x80) ![t, 0, 0] S1x85x80.size (slot_inb ht)).emb (Shape.reshapeEquiv squeezes_S1x85x80_S85x80.numel_eq (ix2 k l)))
  rw [reshape_1a1b, reshapeEquiv_ix2_1ab]
  have e : (Rect.unit (s := S128x85x80) ![t, 0, 0] S1x85x80.size (slot_inb ht)).emb (ix3 (⟨0, Nat.one_pos⟩ : Fin 1) k l)
      = ix3 (n0 := 128) (n1 := 85) (n2 := 80) ⟨t, ht⟩ k l := by
    funext a; apply Fin.ext
    fin_cases a
    · show t + 1 * 0 = t; omega
    · show 0 + 1 * k.val = k.val; omega
    · show 0 + 1 * l.val = l.val; omega
  rw [e]
  show P _ = P (cellIdx (word M ⟨t, ht⟩ 0) (word M ⟨t, ht⟩ 1) (word M ⟨t, ht⟩ 2) k l)
  congr 1
  funext a; apply Fin.ext
  have hk := k.isLt
  have h0 := h 0; have h1 := h 1; have h2 := h 2; have h3 := h 3
  change _ + 1 ≤ 16 at h0
  change _ + 85 ≤ 255 at h1
  change _ + 1 ≤ 80 at h2
  change _ + 80 ≤ 80 at h3
  fin_cases a
  · show _ + 1 * 0 = _ % 16; rw [Nat.mod_eq_of_lt (by omega)]; rfl
  · show _ + 1 * k.val = (_ + k.val) % 255; rw [Nat.mod_eq_of_lt (by omega), Nat.one_mul]; rfl
  · show _ + 1 * 0 = _ % 80; rw [Nat.mod_eq_of_lt (by omega)]; rfl
  · show k1_off1 (word M ⟨t, ht⟩ 0) (word M ⟨t, ht⟩ 1) (word M ⟨t, ht⟩ 2) (3 : Fin 4) + 1 * l.val = l.val
    have : k1_off1 (word M ⟨t, ht⟩ 0) (word M ⟨t, ht⟩ 1) (word M ⟨t, ht⟩ 2) (3 : Fin 4) = 0 := by omega
    rw [this]; omega

/-! ## The destinations split and join their buffers -/

/-- The elements of a block's destination. -/
theorem objDst_set (i : Nat) (h : i < 48) (j : S3840x80.Idx) : j ∈ (objDst objM i h).view.set ↔ (j 0).val / 80 = i := by
  constructor
  · intro hj
    obtain ⟨x, -, rfl⟩ := Finset.mem_map.mp hj
    have h0 : (x 0).val < 80 := (x 0).isLt
    show (80 * i + 1 * (x 0).val) / 80 = i
    omega
  · intro hj
    have hj' : (80 * i ≤ (j 0).val) ∧ (j 0).val < 80 * i + 80 := by omega
    refine Finset.mem_map.mpr ⟨ix2 (n0 := 80) (n1 := 80) ⟨(j 0).val - 80 * i, by omega⟩ (j 1), Finset.mem_univ _, ?_⟩
    funext a; apply Fin.ext
    fin_cases a
    · show 80 * i + 1 * ((j 0).val - 80 * i) = (j 0).val; omega
    · show 0 + 1 * (j 1).val = (j 1).val; omega

/-- The elements of a gathered cell's destination. -/
theorem cellDst_set (t : Nat) (h : t < 128) (j : S128x85x80.Idx) : j ∈ (cellDst cellM t h).view.set ↔ (j 0).val = t := by
  constructor
  · intro hj
    obtain ⟨x, -, rfl⟩ := Finset.mem_map.mp hj
    obtain ⟨k, l, rfl⟩ : ∃ (k : Fin 85) (l : Fin 80), x = ix2 k l := ⟨x 0, x 1, idx2_eta (n := 85) (m := 80) x⟩
    show ((Rect.unit (s := S128x85x80) ![t, 0, 0] S1x85x80.size (slot_inb h)).emb (Shape.reshapeEquiv squeezes_S1x85x80_S85x80.numel_eq (ix2 k l)) (0 : Fin 3)).val = t
    rw [reshapeEquiv_ix2_1ab]
    show t + 1 * 0 = t
    omega
  · intro hj
    obtain ⟨u, k, l, rfl⟩ : ∃ (u : Fin 128) (k : Fin 85) (l : Fin 80), j = ix3 u k l :=
      ⟨j 0, j 1, j 2, by funext a; fin_cases a <;> rfl⟩
    refine Finset.mem_map.mpr ⟨ix2 k l, Finset.mem_univ _, ?_⟩
    show (Rect.unit (s := S128x85x80) ![t, 0, 0] S1x85x80.size (slot_inb h)).emb (Shape.reshapeEquiv squeezes_S1x85x80_S85x80.numel_eq (ix2 k l)) = ix3 u k l
    rw [reshapeEquiv_ix2_1ab]
    have hu : u.val = t := hj
    funext a; apply Fin.ext
    fin_cases a
    · show t + 1 * 0 = u.val; omega
    · show 0 + 1 * k.val = k.val; omega
    · show 0 + 1 * l.val = l.val; omega

/-- The planes' rows cover the buffer. -/
theorem objDst_cover : (Finset.univ : Finset S3840x80.Idx) = (Finset.univ : Finset (Fin 48)).biUnion fun i => (objDst objM i.1 i.2).view.set := by
  ext j
  have h0 : (j 0).val < 3840 := (j 0).isLt
  have h1 : (j 0).val / 80 < 48 := by omega
  constructor
  · intro _
    exact Finset.mem_biUnion.mpr ⟨⟨(j 0).val / 80, h1⟩, Finset.mem_univ _, (objDst_set _ h1 j).mpr rfl⟩
  · intro _; exact Finset.mem_univ _

/-- Two planes' rows are apart. -/
theorem objDst_disjoint (a b : Fin 48) (hab : a ≠ b) : Disjoint ((objDst objM a.1 a.2).view.set) ((objDst objM b.1 b.2).view.set) :=
  Finset.disjoint_left.mpr fun j h1 h2 =>
    hab (Fin.ext (((objDst_set _ a.2 j).mp h1).symm.trans ((objDst_set _ b.2 j).mp h2)))

/-- The slots cover the buffer. -/
theorem cellDst_cover : (Finset.univ : Finset S128x85x80.Idx) = (Finset.univ : Finset (Fin 128)).biUnion fun i => (cellDst cellM i.1 i.2).view.set := by
  ext j
  constructor
  · intro _
    exact Finset.mem_biUnion.mpr ⟨⟨(j 0).val, (j 0).isLt⟩, Finset.mem_univ _, (cellDst_set _ (j 0).isLt j).mpr rfl⟩
  · intro _; exact Finset.mem_univ _

/-- Two slots are apart. -/
theorem cellDst_disjoint (a b : Fin 128) (hab : a ≠ b) : Disjoint ((cellDst cellM a.1 a.2).view.set) ((cellDst cellM b.1 b.2).view.set) :=
  Finset.disjoint_left.mpr fun j h1 h2 =>
    hab (Fin.ext (((cellDst_set _ a.2 j).mp h1).symm.trans ((cellDst_set _ b.2 j).mp h2)))

/-- The planes' rows are the whole buffer. -/
theorem obj_split (c : Dev nD) (f : Buf (Elt F) ((c : Thread nD τ).loc cc1_scratch0)) :
    (pt c cc1_scratch0 f : sProp 𝕄)
      = bigSep Finset.univ fun i : Fin 48 => ((c : Thread nD τ).loc cc1_scratch0) ↦[(objDst objM i.1 i.2).view.set]{fullShare} f :=
  (congrArg (fun s => (((c : Thread nD τ).loc cc1_scratch0) ↦[s]{fullShare} f : sProp 𝕄)) objDst_cover).trans
    (pointsTo_biUnion (ℓ := (c : Thread nD τ).loc cc1_scratch0) (q := fullShare) (f := f) Finset.univ (fun i : Fin 48 => (objDst objM i.1 i.2).view.set)
      fun a _ b _ hab => objDst_disjoint a b hab)

/-- The slots are the whole buffer. -/
theorem cell_split (c : Dev nD) (f : Buf (Elt F) ((c : Thread nD τ).loc cc1_scratch1)) :
    (pt c cc1_scratch1 f : sProp 𝕄)
      = bigSep Finset.univ fun i : Fin 128 => ((c : Thread nD τ).loc cc1_scratch1) ↦[(cellDst cellM i.1 i.2).view.set]{fullShare} f :=
  (congrArg (fun s => (((c : Thread nD τ).loc cc1_scratch1) ↦[s]{fullShare} f : sProp 𝕄)) cellDst_cover).trans
    (pointsTo_biUnion (ℓ := (c : Thread nD τ).loc cc1_scratch1) (q := fullShare) (f := f) Finset.univ (fun i : Fin 128 => (cellDst cellM i.1 i.2).view.set)
      fun a _ b _ hab => cellDst_disjoint a b hab)

end Cert.Kernel.Main

end
-- ==== Proof.KernelBody.lean ====
module

public import proofs.«01_k».proof.Proof.KernelCopies

@[expose] public section

noncomputable section

namespace Cert.Kernel.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.ValueIdx

variable {F : FTy → Type} [FloatOps F]

local notation "𝕄" => MT nD τ sig Unit (Elt F) ℕ (UU nD τ) ℕ
local notation "EC" => countersEmb (nD := nD) (τ := τ) (sig := sig) (Ix := Unit) (Val := Elt F) (Name := ℕ) (U := UU nD τ) (Lvl := ℕ)

/-- The weakest precondition of a kernel's program on core `c`. -/
abbrev wpK {α : Type} (c : Dev nD) (p : KProg F α) (Q : α → sProp 𝕄) : sProp 𝕄 :=
  wp frame (wpE (defs₀ (F := F)) Variants.none (c : Thread nD τ) none) Set.univ p Q

/-! ## The copies' deliveries -/

/-- What one plane's copy counts. -/
abbrev objN : ℕ := (cc1_scratch0 : Ref sig .tc).dmaCredit S80x80 .f32
/-- What one block's copy counts. -/
abbrev cellN : ℕ := (cc1_scratch1 : Ref sig .tc).dmaCredit S85x80 .f32

/-- The source elements of plane `i`, at share `q i`. -/
abbrev objS (c : Dev nD) (P : Vec F S16x255x80x80 .f32) (q : Fin 48 → PosShare TreeShare) (i : Fin 48) : sProp 𝕄 :=
  ((c : Thread nD τ).loc main_arg0) ↦[(objSrc predM i.1 i.2).view.set]{q i} P

/-- What plane `i`'s copy gives back. -/
def objD (c : Dev nD) (P : Vec F S16x255x80x80 .f32) (q : Fin 48 → PosShare TreeShare) (i : Fin 48) : sProp 𝕄 :=
  iprop((((c : Thread nD τ).loc cc1_scratch0) ↦[(objDst objM i.1 i.2).view.set]{fullShare} objVal P) ∗ objS c P q i)

/-- The shares of a block's copy can be stored. -/
instance objD_storable (c : Dev nD) (P : Vec F S16x255x80x80 .f32) (q : Fin 48 → PosShare TreeShare) (i : Fin 48) :
    Storable (upEmb : UEmb _ 𝕄) (objD c P q i) := by unfold objD; infer_instance

/-- Every target's block is inside the predictions. -/
abbrev CellsIn (M : IVec S128x8 32) : Prop := ∀ t : Fin 128, CellIn (word M t 0) (word M t 1) (word M t 2)

/-- The source elements of target `t`'s block, at share `q t`. -/
abbrev cellS (c : Dev nD) (P : Vec F S16x255x80x80 .f32) (M : IVec S128x8 32) (hM : CellsIn M) (q : Fin 128 → PosShare TreeShare) (t : Fin 128) : sProp 𝕄 :=
  ((c : Thread nD τ).loc main_arg0) ↦[(cellSrc predM (word M t 0) (word M t 1) (word M t 2) (hM t)).view.set]{q t} P

/-- What target `t`'s copy gives back. -/
def cellD (c : Dev nD) (P : Vec F S16x255x80x80 .f32) (M : IVec S128x8 32) (hM : CellsIn M) (q : Fin 128 → PosShare TreeShare) (t : Fin 128) : sProp 𝕄 :=
  iprop((((c : Thread nD τ).loc cc1_scratch1) ↦[(cellDst cellM t.1 t.2).view.set]{fullShare} cellVal P M) ∗ cellS c P M hM q t)

/-- The shares of a gathered cell's copy can be stored. -/
instance cellD_storable (c : Dev nD) (P : Vec F S16x255x80x80 .f32) (M : IVec S128x8 32) (hM : CellsIn M) (q : Fin 128 → PosShare TreeShare) (t : Fin 128) :
    Storable (upEmb : UEmb _ 𝕄) (cellD c P M hM q t) := by unfold cellD; infer_instance

/-- Take the first of the pending ones out. -/
theorem pending_take {n : ℕ} (A : Fin n → sProp 𝕄) {k : ℕ} (hk : k < n) :
    (bigSep (Transfers.pending (n := n) k) A : sProp 𝕄) ⊢ iprop(A ⟨k, hk⟩ ∗ bigSep (Transfers.pending (n := n) (k + 1)) A) :=
  Entails.of_eq (by rw [Transfers.pending_succ hk, bigSep_insert (Transfers.not_mem_pending_succ hk)]; rfl)

/-! ## Starting the copies -/

/-- The run of the planes' copies: each takes its rows and its source, and the batch has them issued. -/
theorem wp_objRun (c : Dev nD) (P : Vec F S16x255x80x80 .f32) (fd : Vec F S3840x80 .f32) (q : Fin 48 → PosShare TreeShare) (sem : DmaSem sig)
    {α : Type} (k : KProg F α) (Q : α → sProp 𝕄) : ∀ (n i : Nat) (h : i + n ≤ 48),
    iprop((bigSep (Transfers.pending (n := 48) i) fun j => ((c : Thread nD τ).loc cc1_scratch0) ↦[(objDst objM j.1 j.2).view.set]{fullShare} fd)
        ∗ (bigSep (Transfers.pending (n := 48) i) (objS c P q))
        ∗ Transfers.Batch EC (c : Thread nD τ) (.dma sem) () objN (objD c P q) i 0
        ∗ (Transfers.Batch EC (c : Thread nD τ) (.dma sem) () objN (objD c P q) (i + n) 0 -∗ wpK c k Q))
      ⊢ wpK c (objRun predM objM sem n i h k) Q
  | 0, i, h => by
    iintro ⟨_, _, HB, HK⟩
    iapply HK
    iexact HB
  | n + 1, i, h => by
    have hi : i < 48 := by omega
    have h' : i + 1 + n ≤ 48 := by omega
    iintro ⟨Hd, Hs, HB, HK⟩
    ihave Hd' := (pending_take _ hi) $$ Hd
    icases Hd' with ⟨Hd0, Hd⟩
    ihave Hs' := (pending_take _ hi) $$ Hs
    icases Hs' with ⟨Hs0, Hs⟩
    unfold objRun
    iapply (Transfers.wp_dmaBatch EC Variants.none (c : Thread nD τ) none (src := objSrc predM i hi) (dst := objDst objM i hi)
      (Sd := (objDst objM i hi).view.set) (fd := fd) (fs := P) (q := q ⟨i, hi⟩) () objN rfl (Finset.Subset.refl _) hi (Nat.zero_le _)
      (D := objD c P q) ?_) $$ [Hs0 Hd0 HB]
    · unfold objD
      exact sep_mono (BIBase.Entails.of_eq (pointsTo_congr fun j hj => obj_landed P fd i hi j hj)) BIBase.Entails.rfl
    · isplitl [Hs0]; · iexact Hs0
      isplitl [Hd0]; · iexact Hd0
      iexact HB
    iintro HB
    iapply (wp_objRun c P fd q sem k Q n (i + 1) h')
    isplitl [Hd]; · iexact Hd
    isplitl [Hs]; · iexact Hs
    isplitl [HB]; · iexact HB
    rw [show i + 1 + n = i + (n + 1) by omega]
    iexact HK

/-- The table of words. -/
abbrev metaM : Memref sig .tc .smem S128x8 .i32 := Memref.whole cc1_stg2_0

/-- A word loaded is the table's. -/
theorem word_read (M : IVec S128x8 32) (t j : Nat) (ht : t < 128) (hj : j < 8)
    (x : (Rect.unit (s := S128x8) ![t, j] S1x1.size (word_inb ht hj)).shape.Idx) :
    (metaM.access (Rect.unit (s := S128x8) ![t, j] S1x1.size (word_inb ht hj))).read (Elt F) M x = word M ⟨t, ht⟩ ⟨j, hj⟩ := by
  show M ((Rect.unit (s := S128x8) ![t, j] S1x1.size (word_inb ht hj)).emb x) = M (ix2 ⟨t, ht⟩ ⟨j, hj⟩)
  congr 1
  funext a; apply Fin.ext
  fin_cases a
  · have h0 : (x (0 : Fin 2)).val < 1 := (x 0).isLt
    show t + 1 * (x (0 : Fin 2)).val = t; omega
  · have h0 : (x (1 : Fin 2)).val < 1 := (x 1).isLt
    show j + 1 * (x (1 : Fin 2)).val = j; omega

/-- Loading a word at the head of a program. -/
theorem wp_word (c : Dev nD) (M : IVec S128x8 32) (t j : Nat) (ht : t < 128) (hj : j < 8) {α : Type}
    (k : BitVec 32 → KProg F α) (Q : α → sProp 𝕄) :
    iprop(pt c cc1_stg2_0 M ∗ (pt c cc1_stg2_0 M -∗ wpK c (k (word M ⟨t, ht⟩ ⟨j, hj⟩)) Q))
      ⊢ wpK c (smemLoad metaM (Rect.unit (s := S128x8) ![t, j] S1x1.size (word_inb ht hj)) numel1_S1x1 rfl >>= fun w : Elt F .i32 => k w) Q := by
  rw [← word_read (F := F) M t j ht hj (Shape.Idx.first (numel1_S1x1.symm ▸ Nat.one_pos))]
  have e : (smemLoad metaM (Rect.unit (s := S128x8) ![t, j] S1x1.size (word_inb ht hj)) numel1_S1x1 rfl >>= fun w : Elt F .i32 => k w : KProg F α)
      = smemLoadElt metaM (Rect.unit (s := S128x8) ![t, j] S1x1.size (word_inb ht hj)) (View.loads_smem_one rfl numel1_S1x1) (Shape.Idx.first (numel1_S1x1.symm ▸ Nat.one_pos)) k := rfl
  rw [e]
  iintro ⟨HM, HK⟩
  iapply (wp_smemLoadElt Variants.none (c : Thread nD τ) none Set.univ (m := metaM)
    (r := Rect.unit (s := S128x8) ![t, j] S1x1.size (word_inb ht hj)) (S := Finset.univ) (k := k) (f := M) (Finset.subset_univ _)) $$ [HM]
  · iexact HM
  iexact HK

/-- One target's step: its block's copy is issued. -/
theorem wp_cellStep (c : Dev nD) (P : Vec F S16x255x80x80 .f32) (M : IVec S128x8 32) (hM : CellsIn M) (fd : Vec F S128x85x80 .f32)
    (q : Fin 128 → PosShare TreeShare) (sem : DmaSem sig)
    (chk : BitVec 32 → BitVec 32 → BitVec 32 → Prop) (dec : ∀ b a y, Decidable (chk b a y))
    (hchk : ∀ b a y, chk b a y → ∀ x, (k1_off1 b a y) x + S1x85x1x80.size x ≤ S16x255x80x80.size x)
    (hM' : ∀ t : Fin 128, chk (word M t 0) (word M t 1) (word M t 2))
    {α : Type} (k : KProg F α) (Q : α → sProp 𝕄) (t : Nat) (ht : t < 128) :
    iprop(pt c cc1_stg2_0 M
        ∗ (((c : Thread nD τ).loc cc1_scratch1) ↦[(cellDst cellM t ht).view.set]{fullShare} fd)
        ∗ cellS c P M hM q ⟨t, ht⟩
        ∗ Transfers.Batch EC (c : Thread nD τ) (.dma sem) () cellN (cellD c P M hM q) t 0
        ∗ (pt c cc1_stg2_0 M -∗ Transfers.Batch EC (c : Thread nD τ) (.dma sem) () cellN (cellD c P M hM q) (t + 1) 0 -∗ wpK c k Q))
      ⊢ wpK c (cellStep predM metaM cellM sem chk dec hchk t ht k) Q := by
  iintro ⟨HM, Hd0, Hs0, HB, HK⟩
  unfold cellStep
  iapply (wp_word c M t 0 ht (by decide)); isplitl [HM]; · iexact HM
  iintro HM
  iapply (wp_word c M t 1 ht (by decide)); isplitl [HM]; · iexact HM
  iintro HM
  iapply (wp_word c M t 2 ht (by decide)); isplitl [HM]; · iexact HM
  iintro HM
  iapply (wp_assume Variants.none (c : Thread nD τ) none Set.univ (hM' ⟨t, ht⟩))
  iapply (Transfers.wp_dmaBatch EC Variants.none (c : Thread nD τ) none
      (src := cellSrc predM (word M ⟨t, ht⟩ 0) (word M ⟨t, ht⟩ 1) (word M ⟨t, ht⟩ 2) (hM ⟨t, ht⟩)) (dst := cellDst cellM t ht)
      (Sd := (cellDst cellM t ht).view.set) (fd := fd) (fs := P) (q := q ⟨t, ht⟩) () cellN rfl (Finset.Subset.refl _) ht (Nat.zero_le _)
      (D := cellD c P M hM q) ?_) $$ [Hs0 Hd0 HB]
  · unfold cellD
    exact sep_mono (BIBase.Entails.of_eq (pointsTo_congr fun j hj => cell_landed P M fd t ht (hM ⟨t, ht⟩) j hj)) BIBase.Entails.rfl
  · isplitl [Hs0]; · iexact Hs0
    isplitl [Hd0]; · iexact Hd0
    iexact HB
  iintro HB
  iapply HK $$ HM HB

/-- The run of the targets' steps. -/
theorem wp_cellRun (c : Dev nD) (P : Vec F S16x255x80x80 .f32) (M : IVec S128x8 32) (hM : CellsIn M) (fd : Vec F S128x85x80 .f32)
    (q : Fin 128 → PosShare TreeShare) (sem : DmaSem sig) (hM' : ∀ t : Fin 128, k1_chk1 (word M t 0) (word M t 1) (word M t 2))
    {α : Type} (k : KProg F α) (Q : α → sProp 𝕄) : ∀ (n t : Nat) (h : t + n ≤ 127),
    iprop(pt c cc1_stg2_0 M
        ∗ (bigSep (Transfers.pending (n := 128) t) fun j => ((c : Thread nD τ).loc cc1_scratch1) ↦[(cellDst cellM j.1 j.2).view.set]{fullShare} fd)
        ∗ (bigSep (Transfers.pending (n := 128) t) (cellS c P M hM q))
        ∗ Transfers.Batch EC (c : Thread nD τ) (.dma sem) () cellN (cellD c P M hM q) t 0
        ∗ (pt c cc1_stg2_0 M
          -∗ (bigSep (Transfers.pending (n := 128) (t + n)) fun j => ((c : Thread nD τ).loc cc1_scratch1) ↦[(cellDst cellM j.1 j.2).view.set]{fullShare} fd)
          -∗ (bigSep (Transfers.pending (n := 128) (t + n)) (cellS c P M hM q))
          -∗ Transfers.Batch EC (c : Thread nD τ) (.dma sem) () cellN (cellD c P M hM q) (t + n) 0 -∗ wpK c k Q))
      ⊢ wpK c (cellRun predM metaM cellM sem n t h k) Q
  | 0, t, h => by
    iintro ⟨HM, Hd, Hs, HB, HK⟩
    iapply HK $$ HM Hd Hs HB
  | n + 1, t, h => by
    have ht : t < 128 := by omega
    have h' : t + 1 + n ≤ 127 := by omega
    iintro ⟨HM, Hd, Hs, HB, HK⟩
    ihave Hd' := (pending_take _ ht) $$ Hd
    icases Hd' with ⟨Hd0, Hd⟩
    ihave Hs' := (pending_take _ ht) $$ Hs
    icases Hs' with ⟨Hs0, Hs⟩
    unfold cellRun
    iapply (wp_cellStep c P M hM fd q sem k1_chk1 k1_chk1.dec (fun b a y h => h.1) hM' _ Q t ht)
    isplitl [HM]; · iexact HM
    isplitl [Hd0]; · iexact Hd0
    isplitl [Hs0]; · iexact Hs0
    isplitl [HB]; · iexact HB
    iintro HM HB
    iapply (wp_cellRun c P M hM fd q sem hM' k Q n (t + 1) h')
    isplitl [HM]; · iexact HM
    isplitl [Hd]; · iexact Hd
    isplitl [Hs]; · iexact Hs
    isplitl [HB]; · iexact HB
    rw [show t + 1 + n = t + (n + 1) by omega]
    iexact HK

/-! ## Waiting for them -/

/-- The waits for the planes: the last one hands every delivery back. -/
theorem wp_objWait (c : Dev nD) (sem : DmaSem sig) (D : Fin 48 → sProp 𝕄) {α : Type} (k : KProg F α) (Q : α → sProp 𝕄) :
    ∀ (n i : Nat) (h : i + (n + 1) ≤ 48) (he : i + (n + 1) = 48) (W : Waits sig Unit),
    iprop(Transfers.Batch EC (c : Thread nD τ) (.dma sem) () objN D 48 (i * objN) ∗ owes (c : Thread nD τ) 0 W
        ∗ (bigSep Finset.univ D -∗ semVal ((c : Thread nD τ), .dma sem) 0 -∗ (∃ W', owes (c : Thread nD τ) 0 W') -∗ wpK c k Q))
      ⊢ wpK c (objWait objM sem (n + 1) i h k) Q
  | 0, i, h, he, W => by
    unfold objWait
    iintro ⟨HB, HO, HK⟩
    iapply (Transfers.wp_waitBatchLast EC Variants.none (c : Thread nD τ) none () (N := objN) rfl (by decide) (D := D) (u := i * objN)
      (by rw [show i = 47 by omega]; omega) (W := W)) $$ [HB HO]
    · isplitl [HB]; · iexact HB
      iexact HO
    iintro ⟨HD, HV, HO⟩
    unfold objWait
    iapply HK $$ HD HV
    iexists _
    iexact HO
  | n + 1, i, h, he, W => by
    have h' : i + 1 + (n + 1) ≤ 48 := by omega
    unfold objWait
    iintro ⟨HB, HO, HK⟩
    iapply (Transfers.wp_waitBatch EC Variants.none (c : Thread nD τ) none () (N := objN) rfl (D := D) (u := i * objN)
      (by have : 0 < objN := by decide
          rw [← Nat.succ_mul, Nat.mul_comm objN 48]; exact Nat.mul_lt_mul_of_pos_right (by omega) this) (W := W)) $$ [HB HO]
    · isplitl [HB]; · iexact HB
      iexact HO
    iintro ⟨HB, HO⟩
    iapply (wp_objWait c sem D k Q n (i + 1) h' (by omega) _)
    isplitl [HB]; · rw [Nat.succ_mul]; iexact HB
    isplitl [HO]; · iexact HO
    iexact HK

/-- The waits for the targets' blocks: the last one hands every delivery back. -/
theorem wp_cellWait (c : Dev nD) (sem : DmaSem sig) (D : Fin 128 → sProp 𝕄) {α : Type} (k : KProg F α) (Q : α → sProp 𝕄) :
    ∀ (n i : Nat) (h : i + (n + 1) ≤ 128) (he : i + (n + 1) = 128) (W : Waits sig Unit),
    iprop(Transfers.Batch EC (c : Thread nD τ) (.dma sem) () cellN D 128 (i * cellN) ∗ owes (c : Thread nD τ) 0 W
        ∗ (bigSep Finset.univ D -∗ semVal ((c : Thread nD τ), .dma sem) 0 -∗ (∃ W', owes (c : Thread nD τ) 0 W') -∗ wpK c k Q))
      ⊢ wpK c (cellWait cellM sem (n + 1) i h k) Q
  | 0, i, h, he, W => by
    unfold cellWait
    iintro ⟨HB, HO, HK⟩
    iapply (Transfers.wp_waitBatchLast EC Variants.none (c : Thread nD τ) none () (N := cellN) rfl (by decide) (D := D) (u := i * cellN)
      (by rw [show i = 127 by omega]; omega) (W := W)) $$ [HB HO]
    · isplitl [HB]; · iexact HB
      iexact HO
    iintro ⟨HD, HV, HO⟩
    unfold cellWait
    iapply HK $$ HD HV
    iexists _
    iexact HO
  | n + 1, i, h, he, W => by
    have h' : i + 1 + (n + 1) ≤ 128 := by omega
    unfold cellWait
    iintro ⟨HB, HO, HK⟩
    iapply (Transfers.wp_waitBatch EC Variants.none (c : Thread nD τ) none () (N := cellN) rfl (D := D) (u := i * cellN)
      (by have : 0 < cellN := by decide
          rw [← Nat.succ_mul, Nat.mul_comm cellN 128]; exact Nat.mul_lt_mul_of_pos_right (by omega) this) (W := W)) $$ [HB HO]
    · isplitl [HB]; · iexact HB
      iexact HO
    iintro ⟨HB, HO⟩
    iapply (wp_cellWait c sem D k Q n (i + 1) h' (by omega) _)
    isplitl [HB]; · rw [Nat.succ_mul]; iexact HB
    isplitl [HO]; · iexact HO
    iexact HK

end Cert.Kernel.Main

end
-- ==== Proof.KernelProgEq.lean ====
module

public import proofs.«01_k».proof.Proof.KernelProg
public import Idealize.ShloMosaic.Lib.Pipeline.Regions

@[expose] public section

noncomputable section

namespace Cert.Kernel.Main

open Idealize.ShloMosaic Idealize.ShloMosaic.TcCoe
open Idealize.SL Idealize.SL.Sem
open Cert.Kernel Cert.Kernel.Gen

variable {F : FTy → Type} [FloatOps F]

set_option maxRecDepth 1000000 in
set_option maxHeartbeats 0 in
/-- The printed body of the main kernel is the iterated one: by unfolding. -/
theorem body_eq (arg0 : Memref sig .tc .hbm S16x255x80x80 .f32) (harg0 : arg0.IsWhole) (arg1 : Memref sig .tc .vmem S128x6 .f32) (harg1 : arg1.IsWhole)
    (arg2 : Memref sig .tc .vmem S6x128 .f32) (harg2 : arg2.IsWhole) (arg3 : Memref sig .tc .smem S128x8 .i32) (harg3 : arg3.IsWhole)
    (arg4 : Memref sig .tc .vmem S3840x80 .f32) (harg4 : arg4.IsWhole) (arg5 : Memref sig .tc .vmem S3840x80 .f32) (harg5 : arg5.IsWhole)
    (arg6 : Memref sig .tc .vmem S128x85x80 .f32) (harg6 : arg6.IsWhole) (arg7 : DmaSems sig S_) (arg8 : DmaSems sig S_) :
    cc1__main_body (F := F) arg0 harg0 arg1 harg1 arg2 harg2 arg3 harg3 arg4 harg4 arg5 harg5 arg6 harg6 arg7 arg8
      = bodyRun arg0 harg0 arg1 harg1 arg2 harg2 arg3 harg3 arg4 harg4 arg5 harg5 arg6 harg6 arg7 arg8 := by chain_rfl

end Cert.Kernel.Main
-- ==== Proof.KernelMain.lean ====
module

public import proofs.«01_k».proof.Proof.KernelBody
public import proofs.«01_k».proof.Proof.KernelProgEq

@[expose] public section

noncomputable section

namespace Cert.Kernel.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.ValueIdx

variable {F : FTy → Type} [FloatOps F]

local notation "𝕄" => MT nD τ sig Unit (Elt F) ℕ (UU nD τ) ℕ
local notation "EC" => countersEmb (nD := nD) (τ := τ) (sig := sig) (Ix := Unit) (Val := Elt F) (Name := ℕ) (U := UU nD τ) (Lvl := ℕ)

/-! ## The rows the targets name are put in -/

/-- The result's array, staged. -/
abbrev outM : Memref sig .tc .vmem S3840x80 .f32 := Memref.whole cc1_stg3_0

/-- The lanes of a row. -/
abbrev lanes : IVec S1x80 32 := iota .tc S1x80 32 [1] iota_S1x80_d1_w32

/-- Every target's row is inside the result. -/
abbrev RowsIn (M : IVec S128x8 32) : Prop := ∀ t : Fin 128, k1_chk129 (word M t 5)

/-- What target `t`'s trip makes of the result: in the row its word names, its lane is set. -/
def fixStep (s : F .f32) (M : IVec S128x8 32) (t : Fin 128) (f : Vec F S3840x80 .f32) : Vec F S3840x80 .f32 := fun j =>
  if (j 0).val = k1_off259 (word M t 5) 0 then
    k1_pay1 s lanes (word M t 3) (word M t 4) (fun x => f (ix2 (j 0) (x 1))) (ix2 0 (j 1))
  else f j

/-- What the trips before `n` make of it. -/
def fixes (s : F .f32) (M : IVec S128x8 32) (f : Vec F S3840x80 .f32) : ℕ → Vec F S3840x80 .f32
  | 0 => f
  | n + 1 => if h : n < 128 then fixStep s M ⟨n, h⟩ (fixes s M f n) else fixes s M f n

/-- One trip's store is `fixStep`. -/
theorem fix_write (s : F .f32) (M : IVec S128x8 32) (t : Fin 128) (f : Vec F S3840x80 .f32) (h : k1_chk129 (word M t 5)) :
    ((outM.access (Rect.unit (s := S3840x80) (k1_off259 (word M t 5)) S1x80.size (k1_off259_inb _ h))).write (Elt F) f
      (k1_pay1 s lanes (word M t 3) (word M t 4)
        (outM.view.readAt (Elt F) (Rect.unit (s := S3840x80) (k1_off259 (word M t 5)) S1x80.size (k1_off259_inb _ h)).toLoadRect f)) Finset.univ
      : Vec F S3840x80 .f32) = fixStep s M t f := by
  have h0 : k1_off259 (word M t 5) 0 + 1 ≤ 3840 := h 0
  have h1 : k1_off259 (word M t 5) 1 + 80 ≤ 80 := h 1
  have key : ∀ (u : Fin 1) (l : Fin 80), (Rect.unit (s := S3840x80) (k1_off259 (word M t 5)) S1x80.size (k1_off259_inb _ h)).emb (ix2 u l)
      = ix2 (n0 := 3840) (n1 := 80) ⟨k1_off259 (word M t 5) 0, by omega⟩ l := by
    intro u l
    funext a; apply Fin.ext
    have hu := u.isLt
    fin_cases a
    · show k1_off259 (word M t 5) (0 : Fin 2) + 1 * u.val = k1_off259 (word M t 5) (0 : Fin 2); omega
    · show k1_off259 (word M t 5) (1 : Fin 2) + 1 * l.val = l.val; omega
  funext j
  unfold fixStep
  obtain ⟨y, l, rfl⟩ : ∃ (y : Fin 3840) (l : Fin 80), j = ix2 y l := ⟨j 0, j 1, idx2_eta (n := 3840) (m := 80) j⟩
  by_cases hj : y.val = k1_off259 (word M t 5) 0
  · have ey : y = (⟨k1_off259 (word M t 5) 0, by omega⟩ : Fin 3840) := Fin.ext hj
    rw [if_pos (show ((ix2 y l : S3840x80.Idx) 0).val = _ from hj)]
    have e := (outM.access (Rect.unit (s := S3840x80) (k1_off259 (word M t 5)) S1x80.size (k1_off259_inb _ h))).write_emb (Val := Elt F) f
      (k1_pay1 s lanes (word M t 3) (word M t 4)
        (outM.view.readAt (Elt F) (Rect.unit (s := S3840x80) (k1_off259 (word M t 5)) S1x80.size (k1_off259_inb _ h)).toLoadRect f)) Finset.univ (ix2 (0 : Fin 1) l)
    rw [if_pos (Finset.mem_univ _)] at e
    have ee : (outM.access (Rect.unit (s := S3840x80) (k1_off259 (word M t 5)) S1x80.size (k1_off259_inb _ h))).emb (ix2 (0 : Fin 1) l) = (ix2 y l : S3840x80.Idx) := by
      rw [ey]; exact key 0 l
    rw [← ee]
    refine e.trans ?_
    have er : outM.view.readAt (Elt F) (Rect.unit (s := S3840x80) (k1_off259 (word M t 5)) S1x80.size (k1_off259_inb _ h)).toLoadRect f
        = fun x : S1x80.Idx => f (ix2 y (x 1)) := by
      funext x
      obtain ⟨u, k, rfl⟩ : ∃ (u : Fin 1) (k : Fin 80), x = ix2 u k := ⟨x 0, x 1, idx2_eta (n := 1) (m := 80) x⟩
      show f ((Rect.unit (s := S3840x80) (k1_off259 (word M t 5)) S1x80.size (k1_off259_inb _ h)).emb (ix2 u k)) = f (ix2 y k)
      rw [key, ey]
    rw [er]
    rw [ee]
    rfl
  · rw [if_neg (show ¬ ((ix2 y l : S3840x80.Idx) 0).val = _ from hj)]
    refine (outM.access (Rect.unit (s := S3840x80) (k1_off259 (word M t 5)) S1x80.size (k1_off259_inb _ h))).write_of_not_mem (Val := Elt F) f _ _ ?_
    intro hm
    obtain ⟨x, -, hx⟩ := Finset.mem_map.mp hm
    obtain ⟨u, k, rfl⟩ : ∃ (u : Fin 1) (k : Fin 80), x = ix2 u k := ⟨x 0, x 1, idx2_eta (n := 1) (m := 80) x⟩
    have hx' : (ix2 (n0 := 3840) (n1 := 80) ⟨k1_off259 (word M t 5) 0, by omega⟩ k : S3840x80.Idx) = ix2 y l := (key u k).symm.trans hx
    exact hj (congrArg (fun i : S3840x80.Idx => (i 0).val) hx').symm

/-- A word loaded at offsets equal to the literal ones. -/
theorem wp_wordAt (c : Dev nD) (M : IVec S128x8 32) (t j : Nat) (ht : t < 128) (hj : j < 8) {α : Type}
    (off : Fin 2 → Nat) (hoff : off = ![t, j]) (inb : ∀ a, off a + S1x1.size a ≤ S128x8.size a)
    (k : BitVec 32 → KProg F α) (Q : α → sProp 𝕄) :
    iprop(pt c cc1_stg2_0 M ∗ (pt c cc1_stg2_0 M -∗ wpK c (k (word M ⟨t, ht⟩ ⟨j, hj⟩)) Q))
      ⊢ wpK c (smemLoad metaM (Rect.unit (s := S128x8) off S1x1.size inb) numel1_S1x1 rfl >>= fun w : Elt F .i32 => k w) Q := by
  subst hoff
  exact wp_word c M t j ht hj k Q

/-- One trip's program with its operations at the head. -/
def tripRun (s : F .f32) (k : Fin k1_t1_loop.trips) : KProg F Unit :=
  smemLoad metaM (Rect.unit (s := S128x8) (k1_off256 k) S1x1.size (k1_off256_inb k)) numel1_S1x1 rfl >>= fun r : Elt F .i32 =>
  .op (TpuEff.assume (k1_chk129 r) (k1_chk129.dec r)) fun hw =>
  smemLoad metaM (Rect.unit (s := S128x8) (k1_off257 k) S1x1.size (k1_off257_inb k)) numel1_S1x1 rfl >>= fun l : Elt F .i32 =>
  smemLoad metaM (Rect.unit (s := S128x8) (k1_off258 k) S1x1.size (k1_off258_inb k)) numel1_S1x1 rfl >>= fun v : Elt F .i32 =>
  .op (.load outM (Rect.unit (s := S3840x80) (k1_off259 r) S1x80.size (k1_off259_inb r hw.down)).toLoadRect (View.loadsAt_vmem h_S1x80)) fun x =>
  .op (.load outM (Rect.unit (s := S3840x80) (k1_off259 r) S1x80.size (k1_off259_inb r hw.down)).toLoadRect (View.loadsAt_vmem h_S1x80)) fun _ =>
  .op (.store outM (Rect.unit (s := S3840x80) (k1_off259 r) S1x80.size (k1_off259_inb r hw.down)) (k1_pay1 s lanes l v x) Finset.univ (View.stores_vmem_bits_univ h_S1x80 rfl) (.inl rfl)) fun _ =>
  .ret ⟨⟩

/-- One trip: the table is read, the result gets the target's lane. -/
theorem wp_trip (c : Dev nD) (s : F .f32) (M : IVec S128x8 32) (hR : RowsIn M) (f : Vec F S3840x80 .f32) (k : Fin k1_t1_loop.trips) (hk : k.val < 128) :
    iprop(pt c cc1_stg2_0 M ∗ pt c cc1_stg3_0 f)
      ⊢ wpK c (tripRun s k) (fun _ => iprop(pt c cc1_stg2_0 M ∗ pt c cc1_stg3_0 (fixStep s M ⟨k.val, hk⟩ f))) := by
  iintro ⟨HM, HF⟩
  unfold tripRun
  iapply (wp_wordAt c M k.val 5 hk (by decide) (k1_off256 k) (k1_off256_eq k) (k1_off256_inb k)); isplitl [HM]; · iexact HM
  iintro HM
  iapply (wp_assume Variants.none (c : Thread nD τ) none Set.univ (hR ⟨k.val, hk⟩))
  iapply (wp_wordAt c M k.val 3 hk (by decide) (k1_off257 k) (k1_off257_eq k) (k1_off257_inb k)); isplitl [HM]; · iexact HM
  iintro HM
  iapply (wp_wordAt c M k.val 4 hk (by decide) (k1_off258 k) (k1_off258_eq k) (k1_off258_inb k)); isplitl [HM]; · iexact HM
  iintro HM
  iapply (wp_load Variants.none (c : Thread nD τ) none Set.univ (m := outM) (S := Finset.univ) (Finset.subset_univ _)) $$ [HF]
  · iexact HF
  iintro HF
  iapply (wp_load Variants.none (c : Thread nD τ) none Set.univ (m := outM) (S := Finset.univ) (Finset.subset_univ _)) $$ [HF]
  · iexact HF
  iintro HF
  iapply (wp_store Variants.none (c : Thread nD τ) none Set.univ (m := outM) (S := Finset.univ) (Finset.subset_univ _)) $$ [HF]
  · iexact HF
  iintro HF
  rw [Idealize.SL.Sem.wp_ret]
  imodintro
  isplitl [HM]; · iexact HM
  rw [← fix_write s M ⟨k.val, hk⟩ f (hR ⟨k.val, hk⟩)]
  iexact HF

/-- The loop of gathers has a trip for each target. -/
theorem trips_eq : k1_t1_loop.trips = 128 := by decide +kernel

/-! ## The shares of the predictions -/

/-- A buffer's share lends each of `n` transfers its elements at a token of the share. -/
theorem toks_lend (ℓ : Loc nD τ sig) (f : Buf (Elt F) ℓ) (q : PosShare TreeShare) (n : ℕ) (S : Fin n → Finset (Idx ℓ)) :
    (ℓ ↦{q} f : sProp 𝕄) ⊢ iprop((ℓ ↦{Transfers.shareDrop q n} f)
      ∗ (bigSep Finset.univ fun i : Fin n => ℓ ↦[S i]{Transfers.shareTok q n i} f)
      ∗ (bigSep Finset.univ fun i : Fin n => ℓ ↦[Finset.univ \ S i]{Transfers.shareTok q n i} f)) := by
  refine (Transfers.pointsTo_toks_split q n).trans ?_
  refine sep_mono BIBase.Entails.rfl ?_
  refine (bigSep_mono (fun i _ => (pointsTo_split_subset (Finset.subset_univ (S i))).1)).trans ?_
  exact BIBase.Entails.of_eq (bigSep_sep _ _ _)

/-- And takes them back. -/
theorem toks_back (ℓ : Loc nD τ sig) (f : Buf (Elt F) ℓ) (q : PosShare TreeShare) (n : ℕ) (S : Fin n → Finset (Idx ℓ)) :
    iprop((ℓ ↦{Transfers.shareDrop q n} f)
      ∗ (bigSep Finset.univ fun i : Fin n => ℓ ↦[S i]{Transfers.shareTok q n i} f)
      ∗ (bigSep Finset.univ fun i : Fin n => ℓ ↦[Finset.univ \ S i]{Transfers.shareTok q n i} f)) ⊢ (ℓ ↦{q} f : sProp 𝕄) := by
  refine BIBase.Entails.trans ?_ (Transfers.pointsTo_toks_join q n)
  refine sep_mono BIBase.Entails.rfl ?_
  refine BIBase.Entails.trans (BIBase.Entails.of_eq (bigSep_sep _ _ _).symm) ?_
  exact bigSep_mono (fun i _ => (pointsTo_split_subset (Finset.subset_univ (S i))).2)

/-! ## The whole body -/

/-- What the main kernel leaves in its result. -/
def mainOut (P : Vec F S16x255x80x80 .f32) (T : Vec F S128x6 .f32) (U : Vec F S6x128 .f32) (M : IVec S128x8 32) : Vec F S3840x80 .f32 :=
  fixes (k1_pay55 (sparseOf T U (cellVal P M)) (objVal P)) M (k1_pay56 (sparseOf T U (cellVal P M)) (objVal P)) 128

/-- The two semaphores of the copies. -/
abbrev semV (c : Dev nD) (s : DmaSems sig S_) : sProp 𝕄 := semVal ((c : Thread nD τ), .dma s.sem) 0

/-- The loop's trip is `tripRun`. -/
theorem trip_eq (s : F .f32) (k : Fin k1_t1_loop.trips) (h0 h1 h2 h3 h4 h5 h6) :
    (k1_t1_body (F := F) predM h0 (Memref.whole cc1_stg0_0) h1 (Memref.whole cc1_stg1_0) h2 metaM h3 outM h4 objM h5 cellM h6 cc1_scratch2 cc1_scratch3
      s lanes k ⟨⟩ : KProg F Unit) = tripRun s k := by chain_rfl

/-- The loop. -/
theorem wp_trips (c : Dev nD) (s : F .f32) (M : IVec S128x8 32) (hR : RowsIn M) (f : Vec F S3840x80 .f32) (h0 h1 h2 h3 h4 h5 h6)
    (Q : PUnit → sProp 𝕄) :
    iprop((pt c cc1_stg2_0 M ∗ pt c cc1_stg3_0 f) ∗ ((pt c cc1_stg2_0 M ∗ pt c cc1_stg3_0 (fixes s M f 128)) -∗ Q ⟨⟩))
      ⊢ wpK c ((Scf.Loop.for k1_t1_loop k1_t1_ok ⟨⟩ fun k1_t1 _ =>
        k1_t1_body (F := F) predM h0 (Memref.whole cc1_stg0_0) h1 (Memref.whole cc1_stg1_0) h2 metaM h3 outM h4 objM h5 cellM h6 cc1_scratch2 cc1_scratch3
          s lanes k1_t1 ⟨⟩) >>= fun _ => pure ⟨⟩) Q := by
  have hbody : ∀ (k : Fin k1_t1_loop.trips) (acc : Unit),
      iprop(pt c cc1_stg2_0 M ∗ pt c cc1_stg3_0 (fixes s M f k.val))
      ⊢ wpK c (k1_t1_body (F := F) predM h0 (Memref.whole cc1_stg0_0) h1 (Memref.whole cc1_stg1_0) h2 metaM h3 outM h4 objM h5 cellM h6 cc1_scratch2 cc1_scratch3
          s lanes k ⟨⟩) (fun _ => iprop(pt c cc1_stg2_0 M ∗ pt c cc1_stg3_0 (fixes s M f (k.val + 1)))) := by
    intro k acc
    have hk : k.val < 128 := trips_eq ▸ k.isLt
    rw [trip_eq s k h0 h1 h2 h3 h4 h5 h6]
    have e : fixes s M f (k.val + 1) = fixStep s M ⟨k.val, hk⟩ (fixes s M f k.val) := by
      rw [fixes, dif_pos hk]
    rw [e]
    exact wp_trip c s M hR _ k hk
  iintro ⟨H, HK⟩
  iapply (Scf.wp_for_bind Idealize.ShloMosaic.frame (wpE (defs₀ (F := F)) Variants.none (c : Thread nD τ) none) Set.univ
    k1_t1_loop.lb k1_t1_loop.ub k1_t1_loop.st k1_t1_ok (⟨⟩ : Unit) (fun k1_t1 _ =>
        k1_t1_body (F := F) predM h0 (Memref.whole cc1_stg0_0) h1 (Memref.whole cc1_stg1_0) h2 metaM h3 outM h4 objM h5 cellM h6 cc1_scratch2 cc1_scratch3
          s lanes k1_t1 ⟨⟩) (fun k _ => iprop(pt c cc1_stg2_0 M ∗ pt c cc1_stg3_0 (fixes s M f k))) hbody) $$ [H]
  · iexact H
  iintro %acc H
  rw [show (Pure.pure PUnit.unit : KProg F PUnit) = Prog.ret PUnit.unit from rfl]
  rw [Idealize.SL.Sem.wp_ret]
  imodintro
  iapply HK
  rw [show (128 : ℕ) = k1_t1_loop.trips from trips_eq.symm]
  iexact H

/-- A conversion at the head of an entailment. -/
theorem to_eq {A B : sProp 𝕄} (h : A = B) : A ⊢ B := BIBase.Entails.of_eq h

/-- A load at the head of a program, what it reads named by an equation. -/
theorem wp_loadAs (c : Dev nD) {cs : CoreSpace} {s : Shape} {e : EltTy} {m : Memref sig .tc cs s e} {r : LoadRect s} {hl : m.view.LoadsAt r} {α : Type}
    {k : (r.shape.Idx → Elt F e) → KProg F α} {Q : α → sProp 𝕄} {f : Buf (Elt F) (m.view.loc (c : Thread nD τ))} {v : r.shape.Idx → Elt F e}
    (he : m.view.readAt (Elt F) r f = v) :
    (m.view.loc (c : Thread nD τ) ↦{fullShare} f : sProp 𝕄)
      ⊢ iprop(((m.view.loc (c : Thread nD τ) ↦{fullShare} f) -∗ wpK c (k v) Q) -∗ wpK c (.op (.load m r hl) k) Q) := by
  subst he
  exact wp_load Variants.none (c : Thread nD τ) none Set.univ (m := m) (S := Finset.univ) (Finset.subset_univ _)

/-- A store at the head of a program, what it leaves named by an equation. -/
theorem wp_storeAs (c : Dev nD) {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1} {α : Type}
    {k : PUnit → KProg F α} {Q : α → sProp 𝕄} {f v : Buf (Elt F) ((m.access r).loc (c : Thread nD τ))}
    (he : (m.access r).write (Elt F) f w Finset.univ = v) :
    ((m.access r).loc (c : Thread nD τ) ↦{fullShare} f : sProp 𝕄)
      ⊢ iprop((((m.access r).loc (c : Thread nD τ) ↦{fullShare} v) -∗ wpK c (k ⟨⟩) Q) -∗ wpK c (.op (.store m r w Finset.univ hx hm) k) Q) := by
  subst he
  exact wp_store Variants.none (c : Thread nD τ) none Set.univ (m := m) (S := Finset.univ) (Finset.subset_univ _)

/-- Two zeros. -/
theorem zeros2 : (![0, 0] : Fin 2 → Nat) = fun _ => 0 := by funext a; fin_cases a <;> rfl
/-- Three zeros. -/
theorem zeros3 : (![0, 0, 0] : Fin 3 → Nat) = fun _ => 0 := by funext a; fin_cases a <;> rfl

/-- THE MAIN KERNEL: from its arguments staged, the table's blocks and rows in range, it leaves
    `mainOut` in its result, everything else given back. -/
theorem wp_body (c : Dev nD) (P : Vec F S16x255x80x80 .f32) (T : Vec F S128x6 .f32) (U : Vec F S6x128 .f32) (M : IVec S128x8 32)
    (out s0 : Vec F S3840x80 .f32) (s1 : Vec F S128x85x80 .f32) (W : Waits sig Unit) (h0 h1 h2 h3 h4 h5 h6)
    (hM : CellsIn M) (hM1 : ∀ t : Fin 128, k1_chk1 (word M t 0) (word M t 1) (word M t 2))
    (hM2 : ∀ t : Fin 128, k1_chk128 (word M t 0) (word M t 1) (word M t 2)) (hR : RowsIn M) (Q : PUnit → sProp 𝕄) :
    iprop(pt c main_arg0 P ∗ pt c cc1_stg0_0 T ∗ pt c cc1_stg1_0 U ∗ pt c cc1_stg2_0 M ∗ pt c cc1_stg3_0 out
        ∗ pt c cc1_scratch0 s0 ∗ pt c cc1_scratch1 s1 ∗ semV c cc1_scratch2 ∗ semV c cc1_scratch3 ∗ owes (c : Thread nD τ) 0 W
        ∗ ((pt c main_arg0 P ∗ pt c cc1_stg0_0 T ∗ pt c cc1_stg1_0 U ∗ pt c cc1_stg2_0 M ∗ pt c cc1_stg3_0 (mainOut P T U M)
            ∗ pt c cc1_scratch0 (objVal P) ∗ pt c cc1_scratch1 (cellVal P M) ∗ semV c cc1_scratch2 ∗ semV c cc1_scratch3
            ∗ (∃ W', owes (c : Thread nD τ) 0 W')) -∗ Q ⟨⟩))
      ⊢ wpK c (cc1__main_body (F := F) predM h0 (Memref.whole cc1_stg0_0) h1 (Memref.whole cc1_stg1_0) h2 metaM h3 outM h4 objM h5 cellM h6
          cc1_scratch2 cc1_scratch3) Q := by
  rw [body_eq]
  unfold bodyRun
  iintro ⟨HP, HT, HU, HM, HF, Ho, Hc, V0, V1, HO, HK⟩
  ihave HP := (toks_lend (F := F) ((c : Thread nD τ).loc main_arg0) P fullShare 48 (fun i => (objSrc predM i.1 i.2).view.set)) $$ HP
  icases HP with ⟨HP, HPo, HPor⟩
  ihave HP := (toks_lend (F := F) ((c : Thread nD τ).loc main_arg0) P (Transfers.shareDrop fullShare 48) 128
    (fun t => (cellSrc predM (word M t 0) (word M t 1) (word M t 2) (hM t)).view.set)) $$ HP
  icases HP with ⟨HP, HPc, HPcr⟩
  ihave Ho := (to_eq (obj_split c s0)) $$ Ho
  ihave Hc := (to_eq (cell_split c s1)) $$ Hc
  imod (Transfers.batch_alloc' (Lvl := ℕ) EC (c : Thread nD τ) (sm := .dma cc1_scratch2.sem) () objN
    (objD c P (Transfers.shareTok fullShare 48)) (E := Set.univ)) $$ V0 with B0
  imod (Transfers.batch_alloc' (Lvl := ℕ) EC (c : Thread nD τ) (sm := .dma cc1_scratch3.sem) () cellN
    (cellD c P M hM (Transfers.shareTok (Transfers.shareDrop fullShare 48) 128)) (E := Set.univ)) $$ V1 with B1
  iapply (wp_objRun c P s0 (Transfers.shareTok fullShare 48) cc1_scratch2.sem _ Q 48 0 _)
  isplitl [Ho]; · rw [Transfers.pending_zero]; iexact Ho
  isplitl [HPo]; · rw [Transfers.pending_zero]; iexact HPo
  isplitl [B0]; · iexact B0
  iintro B0
  iapply (wp_cellRun c P M hM s1 (Transfers.shareTok (Transfers.shareDrop fullShare 48) 128) cc1_scratch3.sem hM1 _ Q 127 0 _)
  isplitl [HM]; · iexact HM
  isplitl [Hc]; · rw [Transfers.pending_zero]; iexact Hc
  isplitl [HPc]; · rw [Transfers.pending_zero]; iexact HPc
  isplitl [B1]; · iexact B1
  iintro HM Hc HPc B1
  ihave Hc := (pending_take _ (k := 0 + 127) (by decide)) $$ Hc
  icases Hc with ⟨Hc, _⟩
  ihave HPc := (pending_take _ (k := 0 + 127) (by decide)) $$ HPc
  icases HPc with ⟨HPc, _⟩
  iapply (wp_cellStep c P M hM s1 (Transfers.shareTok (Transfers.shareDrop fullShare 48) 128) cc1_scratch3.sem
    k1_chk128 k1_chk128.dec (fun _ _ _ h => h) hM2 _ Q 127 _)
  isplitl [HM]; · iexact HM
  isplitl [Hc]; · iexact Hc
  isplitl [HPc]; · iexact HPc
  isplitl [B1]; · iexact B1
  iintro HM B1
  iapply (wp_loadAs c (m := (Memref.whole cc1_stg0_0 : Memref sig .tc .vmem S128x6 .f32)) (v := T) (Memref.readAt_unit_zero (Elt F) cc1_stg0_0 zeros2 _ _)) $$ [HT]
  · iexact HT
  iintro HT
  iapply (wp_loadAs c (m := (Memref.whole cc1_stg1_0 : Memref sig .tc .vmem S6x128 .f32)) (v := U) (Memref.readAt_unit_zero (Elt F) cc1_stg1_0 zeros2 _ _)) $$ [HU]
  · iexact HU
  iintro HU
  iapply (wp_cellWait c cc1_scratch3.sem _ _ Q 127 0 _ (by decide) W)
  isplitl [B1]; · rw [Nat.zero_mul]; iexact B1
  isplitl [HO]; · iexact HO
  iintro D1 V1 ⟨%W1, HO⟩
  ihave D1 := (show bigSep Finset.univ (cellD c P M hM (Transfers.shareTok (Transfers.shareDrop fullShare 48) 128))
      ⊢ iprop((bigSep Finset.univ fun t : Fin 128 => ((c : Thread nD τ).loc cc1_scratch1) ↦[(cellDst cellM t.1 t.2).view.set]{fullShare} cellVal P M)
        ∗ bigSep Finset.univ (cellS c P M hM (Transfers.shareTok (Transfers.shareDrop fullShare 48) 128))) from
    BIBase.Entails.of_eq (bigSep_sep _ _ _)) $$ D1
  icases D1 with ⟨Hc, HPc⟩
  ihave Hc := (to_eq (cell_split c (cellVal P M)).symm) $$ Hc
  iapply (wp_loadAs c (m := cellM) (v := (cellVal P M)) (Memref.readAt_unit_zero (Elt F) cc1_scratch1 zeros3 _ _)) $$ [Hc]
  · iexact Hc
  iintro Hc
  iapply (wp_objWait c cc1_scratch2.sem _ _ Q 47 0 _ (by decide) W1)
  isplitl [B0]; · rw [Nat.zero_mul]; iexact B0
  isplitl [HO]; · iexact HO
  iintro D0 V0 HO
  ihave D0 := (show bigSep Finset.univ (objD c P (Transfers.shareTok fullShare 48))
      ⊢ iprop((bigSep Finset.univ fun t : Fin 48 => ((c : Thread nD τ).loc cc1_scratch0) ↦[(objDst objM t.1 t.2).view.set]{fullShare} objVal P)
        ∗ bigSep Finset.univ (objS c P (Transfers.shareTok fullShare 48))) from
    BIBase.Entails.of_eq (bigSep_sep _ _ _)) $$ D0
  icases D0 with ⟨Ho, HPo⟩
  ihave Ho := (to_eq (obj_split c (objVal P)).symm) $$ Ho
  iapply (wp_loadAs c (m := objM) (v := (objVal P)) (Memref.readAt_unit_zero (Elt F) cc1_scratch0 zeros2 _ _)) $$ [Ho]
  · iexact Ho
  iintro Ho
  iapply (wp_load Variants.none (c : Thread nD τ) none Set.univ (m := outM) (S := Finset.univ) (Finset.subset_univ _)) $$ [HF]
  · iexact HF
  iintro HF
  iapply (wp_storeAs c (m := outM) (v := k1_pay56 (sparseOf T U (cellVal P M)) (objVal P)) (Memref.write_access_unit_zero_univ (Elt F) cc1_stg3_0 zeros2 _ _ _)) $$ [HF]
  · iexact HF
  iintro HF
  iapply (wp_trips c (k1_pay55 (sparseOf T U (cellVal P M)) (objVal P)) M hR (k1_pay56 (sparseOf T U (cellVal P M)) (objVal P)) h0 h1 h2 h3 h4 h5 h6 Q)
  isplitl [HM HF]
  · isplitl [HM]; · iexact HM
    iexact HF
  iintro ⟨HM, HF⟩
  ihave HP := (toks_back (F := F) ((c : Thread nD τ).loc main_arg0) P (Transfers.shareDrop fullShare 48) 128
    (fun t => (cellSrc predM (word M t 0) (word M t 1) (word M t 2) (hM t)).view.set)) $$ [HP HPc HPcr]
  · isplitl [HP]; · iexact HP
    isplitl [HPc]; · iexact HPc
    iexact HPcr
  ihave HP := (toks_back (F := F) ((c : Thread nD τ).loc main_arg0) P fullShare 48 (fun i => (objSrc predM i.1 i.2).view.set)) $$ [HP HPo HPor]
  · isplitl [HP]; · iexact HP
    isplitl [HPo]; · iexact HPo
    iexact HPor
  iapply HK
  isplitl [HP]; · iexact HP
  isplitl [HT]; · iexact HT
  isplitl [HU]; · iexact HU
  isplitl [HM]; · iexact HM
  isplitl [HF]; · iexact HF
  isplitl [Ho]; · iexact Ho
  isplitl [Hc]; · iexact Hc
  isplitl [V0]; · iexact V0
  isplitl [V1]; · iexact V1
  iexact HO

end Cert.Kernel.Main

end
-- ==== Proof.KernelMeta.lean ====
module

public import proofs.«01_k».proof.Proof.KernelMain

@[expose] public section

noncomputable section

namespace Cert.Kernel.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.ValueIdx

variable {F : FTy → Type} [FloatOps F]

local notation "𝕄" => MT nD τ sig Unit (Elt F) ℕ (UU nD τ) ℕ

/-! ## The table of words -/

/-- The targets' image index, clamped to the batch. -/
def colB (T : Vec F S128x6 .f32) : IVec S128x1 32 := k0_pay17 (k0_pay5 T)
/-- The targets' best anchor. -/
def colA (T : Vec F S128x6 .f32) : IVec S128x1 32 :=
  k0_pay15 (k0_pay8 T) (k0_pay9 T) k0_pay10 (k0_pay11 T) (k0_pay12 T) (k0_pay13 T) k0_pay14
/-- The targets' cell row, clamped to the grid. -/
def colY (T : Vec F S128x6 .f32) : IVec S128x1 32 := k0_pay18 (k0_pay7 T)
/-- The targets' cell lane, clamped to the grid. -/
def colX (T : Vec F S128x6 .f32) : IVec S128x1 32 := k0_pay1 (k0_pay6 T) 79#32 k0_pay19
/-- Whether a target is inside the batch and the grid. -/
def colV (T : Vec F S128x6 .f32) : IVec S128x1 32 := k0_pay3 (k0_pay16 (k0_pay5 T) (k0_pay6 T) (k0_pay7 T))
/-- The row of the result a target's cell is in. -/
def colR (T : Vec F S128x6 .f32) : IVec S128x1 32 := k0_pay2 (colA T) (colB T) (colY T)

/-- Put a column in a table. -/
def setCol (k : Nat) (w : IVec S128x1 32) (f : IVec S128x8 32) : IVec S128x8 32 := fun j =>
  if (j 1).val = k then w (ix2 (j 0) 0) else f j

/-- The table the first kernel leaves. -/
def metaOut (T : Vec F S128x6 .f32) : IVec S128x8 32 :=
  setCol 5 (colR T) <| setCol 4 (colV T) <| setCol 3 (colX T) <| setCol 2 (colY T) <| setCol 1 (colA T) <| setCol 0 (colB T) fun _ => 0#32

/-- The first kernel's result, staged. -/
abbrev tabM : Memref sig .tc .vmem S128x8 .i32 := Memref.whole cc0_stg1_0

/-- A column's store puts the column in. -/
theorem col_write (k : Nat) (hk : k < 8) (inb : ∀ a, (![0, k] : Fin 2 → Nat) a + S128x1.size a ≤ S128x8.size a) (w : IVec S128x1 32) (f : IVec S128x8 32) :
    ((tabM.access (Rect.unit (s := S128x8) ![0, k] S128x1.size inb)).write (Elt F) f w Finset.univ : IVec S128x8 32) = setCol k w f := by
  have key : ∀ (t : Fin 128) (u : Fin 1), (Rect.unit (s := S128x8) ![0, k] S128x1.size inb).emb (ix2 t u) = ix2 (n0 := 128) (n1 := 8) t ⟨k, hk⟩ := by
    intro t u
    have hu := u.isLt
    funext a; apply Fin.ext
    fin_cases a
    · show 0 + 1 * t.val = t.val; omega
    · show k + 1 * u.val = k; omega
  funext j
  obtain ⟨t, l, rfl⟩ : ∃ (t : Fin 128) (l : Fin 8), j = ix2 t l := ⟨j 0, j 1, idx2_eta (n := 128) (m := 8) j⟩
  unfold setCol
  by_cases hl : l.val = k
  · rw [if_pos (show ((ix2 t l : S128x8.Idx) 1).val = k from hl)]
    have el : l = ⟨k, hk⟩ := Fin.ext hl
    have ee : (tabM.access (Rect.unit (s := S128x8) ![0, k] S128x1.size inb)).emb (ix2 t (0 : Fin 1)) = (ix2 t l : S128x8.Idx) := by
      rw [el]; exact key t 0
    rw [← ee]
    refine ((tabM.access (Rect.unit (s := S128x8) ![0, k] S128x1.size inb)).write_emb (Val := Elt F) f w Finset.univ (ix2 t (0 : Fin 1))).trans ?_
    rw [if_pos (Finset.mem_univ _), ee]
    rfl
  · rw [if_neg (show ¬ ((ix2 t l : S128x8.Idx) 1).val = k from hl)]
    refine (tabM.access (Rect.unit (s := S128x8) ![0, k] S128x1.size inb)).write_of_not_mem (Val := Elt F) f _ _ ?_
    intro hm
    obtain ⟨x, -, hx⟩ := Finset.mem_map.mp hm
    obtain ⟨u, v, rfl⟩ : ∃ (u : Fin 128) (v : Fin 1), x = ix2 u v := ⟨x 0, x 1, idx2_eta (n := 128) (m := 1) x⟩
    have hx' : (ix2 (n0 := 128) (n1 := 8) u ⟨k, hk⟩ : S128x8.Idx) = ix2 t l := (key u v).symm.trans hx
    exact hl (congrArg (fun i : S128x8.Idx => (i 1).val) hx').symm

/-- The last two columns' store, after the others, makes the table. -/
theorem tail_write (inb : ∀ a, (![0, 6] : Fin 2 → Nat) a + S128x2.size a ≤ S128x8.size a) (T : Vec F S128x6 .f32) (f : IVec S128x8 32) :
    ((tabM.access (Rect.unit (s := S128x8) ![0, 6] S128x2.size inb)).write (Elt F)
      (setCol 5 (colR T) <| setCol 4 (colV T) <| setCol 3 (colX T) <| setCol 2 (colY T) <| setCol 1 (colA T) <| setCol 0 (colB T) f)
      k0_pay4 Finset.univ : IVec S128x8 32) = metaOut T := by
  have key : ∀ (t : Fin 128) (u : Fin 2), (Rect.unit (s := S128x8) ![0, 6] S128x2.size inb).emb (ix2 t u) = ix2 (n0 := 128) (n1 := 8) t ⟨6 + u.val, by omega⟩ := by
    intro t u
    funext a; apply Fin.ext
    fin_cases a
    · show 0 + 1 * t.val = t.val; omega
    · show 6 + 1 * u.val = 6 + u.val; omega
  funext j
  obtain ⟨t, l, rfl⟩ : ∃ (t : Fin 128) (l : Fin 8), j = ix2 t l := ⟨j 0, j 1, idx2_eta (n := 128) (m := 8) j⟩
  by_cases hl : 6 ≤ l.val
  · have hlt := l.isLt
    have ee : (tabM.access (Rect.unit (s := S128x8) ![0, 6] S128x2.size inb)).emb (ix2 t (⟨l.val - 6, by omega⟩ : Fin 2)) = (ix2 t l : S128x8.Idx) := by
      refine (key t _).trans ?_
      congr 1
      exact Fin.ext (by show 6 + (l.val - 6) = l.val; omega)
    rw [← ee]
    refine ((tabM.access (Rect.unit (s := S128x8) ![0, 6] S128x2.size inb)).write_emb (Val := Elt F) _ _ Finset.univ _).trans ?_
    rw [if_pos (Finset.mem_univ _), ee]
    unfold metaOut setCol
    have e : ((ix2 t l : S128x8.Idx) 1).val = l.val := rfl
    rw [if_neg (by omega), if_neg (by omega), if_neg (by omega), if_neg (by omega), if_neg (by omega), if_neg (by omega)]
    rfl
  · refine ((tabM.access (Rect.unit (s := S128x8) ![0, 6] S128x2.size inb)).write_of_not_mem (Val := Elt F) _ _ _ ?_).trans ?_
    · intro hm
      obtain ⟨x, -, hx⟩ := Finset.mem_map.mp hm
      obtain ⟨u, v, rfl⟩ : ∃ (u : Fin 128) (v : Fin 2), x = ix2 u v := ⟨x 0, x 1, idx2_eta (n := 128) (m := 2) x⟩
      have hx' : (ix2 (n0 := 128) (n1 := 8) u ⟨6 + v.val, by omega⟩ : S128x8.Idx) = ix2 t l := (key u v).symm.trans hx
      have := congrArg (fun i : S128x8.Idx => (i 1).val) hx'
      change 6 + v.val = l.val at this
      omega
    · unfold metaOut setCol
      have e : ((ix2 t l : S128x8.Idx) 1).val = l.val := rfl
      simp only [e]
      split
      · rfl
      split
      · rfl
      split
      · rfl
      split
      · rfl
      split
      · rfl
      split
      · rfl
      omega

/-- The first kernel's program with its operations at the head. -/
def metaRun : KProg F PUnit :=
  .op (.load (Memref.whole cc0_stg0_0 : Memref sig .tc .vmem S128x6 .f32) (Rect.unit (s := S128x6) ![0, 0] S128x6.size inb_S128x6_S128x6_0_0).toLoadRect (View.loadsAt_vmem h_S128x6)) fun T =>
  .op (.load tabM (Rect.unit (s := S128x8) ![0, 0] S128x1.size inb_S128x8_S128x1_0_0).toLoadRect (View.loadsAt_vmem h_S128x1)) fun _ =>
  .op (.store tabM (Rect.unit (s := S128x8) ![0, 0] S128x1.size inb_S128x8_S128x1_0_0) (colB T) Finset.univ (View.stores_vmem_bits_univ h_S128x1 rfl) (.inl rfl)) fun _ =>
  .op (.load tabM (Rect.unit (s := S128x8) ![0, 1] S128x1.size inb_S128x8_S128x1_0_1).toLoadRect (View.loadsAt_vmem h_S128x1)) fun _ =>
  .op (.store tabM (Rect.unit (s := S128x8) ![0, 1] S128x1.size inb_S128x8_S128x1_0_1) (colA T) Finset.univ (View.stores_vmem_bits_univ h_S128x1 rfl) (.inl rfl)) fun _ =>
  .op (.load tabM (Rect.unit (s := S128x8) ![0, 2] S128x1.size inb_S128x8_S128x1_0_2).toLoadRect (View.loadsAt_vmem h_S128x1)) fun _ =>
  .op (.store tabM (Rect.unit (s := S128x8) ![0, 2] S128x1.size inb_S128x8_S128x1_0_2) (colY T) Finset.univ (View.stores_vmem_bits_univ h_S128x1 rfl) (.inl rfl)) fun _ =>
  .op (.load tabM (Rect.unit (s := S128x8) ![0, 3] S128x1.size inb_S128x8_S128x1_0_3).toLoadRect (View.loadsAt_vmem h_S128x1)) fun _ =>
  .op (.store tabM (Rect.unit (s := S128x8) ![0, 3] S128x1.size inb_S128x8_S128x1_0_3) (colX T) Finset.univ (View.stores_vmem_bits_univ h_S128x1 rfl) (.inl rfl)) fun _ =>
  .op (.load tabM (Rect.unit (s := S128x8) ![0, 4] S128x1.size inb_S128x8_S128x1_0_4).toLoadRect (View.loadsAt_vmem h_S128x1)) fun _ =>
  .op (.store tabM (Rect.unit (s := S128x8) ![0, 4] S128x1.size inb_S128x8_S128x1_0_4) (colV T) Finset.univ (View.stores_vmem_bits_univ h_S128x1 rfl) (.inl rfl)) fun _ =>
  .op (.load tabM (Rect.unit (s := S128x8) ![0, 5] S128x1.size inb_S128x8_S128x1_0_5).toLoadRect (View.loadsAt_vmem h_S128x1)) fun _ =>
  .op (.store tabM (Rect.unit (s := S128x8) ![0, 5] S128x1.size inb_S128x8_S128x1_0_5) (colR T) Finset.univ (View.stores_vmem_bits_univ h_S128x1 rfl) (.inl rfl)) fun _ =>
  .op (.load tabM (Rect.unit (s := S128x8) ![0, 6] S128x2.size inb_S128x8_S128x2_0_6).toLoadRect (View.loadsAt_vmem h_S128x2)) fun _ =>
  .op (.store tabM (Rect.unit (s := S128x8) ![0, 6] S128x2.size inb_S128x8_S128x2_0_6) k0_pay4 Finset.univ (View.stores_vmem_bits_univ h_S128x2 rfl) (.inl rfl)) fun _ =>
  .ret ⟨⟩

/-- The first kernel's body is `metaRun`. -/
theorem meta_eq (h0 h1) : (cc0__meta_body (F := F) (Memref.whole cc0_stg0_0) h0 tabM h1 : KProg F PUnit) = metaRun := by chain_rfl

/-- A finished program. -/
theorem wp_done (c : Dev nD) (Q : PUnit → sProp 𝕄) : Q ⟨⟩ ⊢ wpK c (.ret ⟨⟩ : KProg F PUnit) Q := by
  show Q ⟨⟩ ⊢ wp Idealize.ShloMosaic.frame (wpE (defs₀ (F := F)) Variants.none (c : Thread nD τ) none) Set.univ (.ret ⟨⟩) Q
  rw [Idealize.SL.Sem.wp_ret]
  iintro H
  imodintro
  iexact H

/-- THE FIRST KERNEL: it leaves the table of words. -/
theorem wp_meta (c : Dev nD) (T : Vec F S128x6 .f32) (f : IVec S128x8 32) (h0 h1) (Q : PUnit → sProp 𝕄) :
    iprop(pt c cc0_stg0_0 T ∗ pt c cc0_stg1_0 f ∗ ((pt c cc0_stg0_0 T ∗ pt c cc0_stg1_0 (metaOut T)) -∗ Q ⟨⟩))
      ⊢ wpK c (cc0__meta_body (F := F) (Memref.whole cc0_stg0_0) h0 tabM h1) Q := by
  rw [meta_eq]
  unfold metaRun
  iintro ⟨HT, HF, HK⟩
  iapply (wp_loadAs c (m := (Memref.whole cc0_stg0_0 : Memref sig .tc .vmem S128x6 .f32)) (v := T) (Memref.readAt_unit_zero (Elt F) cc0_stg0_0 zeros2 _ _)) $$ [HT]
  · iexact HT
  iintro HT
  iapply (wp_loadAs c (m := tabM) rfl) $$ [HF]; · iexact HF
  iintro HF
  iapply (wp_storeAs c (m := tabM) (col_write (F := F) 0 (by decide) _ (colB T) f)) $$ [HF]; · iexact HF
  iintro HF
  iapply (wp_loadAs c (m := tabM) rfl) $$ [HF]; · iexact HF
  iintro HF
  iapply (wp_storeAs c (m := tabM) (col_write (F := F) 1 (by decide) _ (colA T) _)) $$ [HF]; · iexact HF
  iintro HF
  iapply (wp_loadAs c (m := tabM) rfl) $$ [HF]; · iexact HF
  iintro HF
  iapply (wp_storeAs c (m := tabM) (col_write (F := F) 2 (by decide) _ (colY T) _)) $$ [HF]; · iexact HF
  iintro HF
  iapply (wp_loadAs c (m := tabM) rfl) $$ [HF]; · iexact HF
  iintro HF
  iapply (wp_storeAs c (m := tabM) (col_write (F := F) 3 (by decide) _ (colX T) _)) $$ [HF]; · iexact HF
  iintro HF
  iapply (wp_loadAs c (m := tabM) rfl) $$ [HF]; · iexact HF
  iintro HF
  iapply (wp_storeAs c (m := tabM) (col_write (F := F) 4 (by decide) _ (colV T) _)) $$ [HF]; · iexact HF
  iintro HF
  iapply (wp_loadAs c (m := tabM) rfl) $$ [HF]; · iexact HF
  iintro HF
  iapply (wp_storeAs c (m := tabM) (col_write (F := F) 5 (by decide) _ (colR T) _)) $$ [HF]; · iexact HF
  iintro HF
  iapply (wp_loadAs c (m := tabM) rfl) $$ [HF]; · iexact HF
  iintro HF
  iapply (wp_storeAs c (m := tabM) (tail_write (F := F) _ T f)) $$ [HF]; · iexact HF
  iintro HF
  iapply (wp_done c Q)
  iapply HK
  isplitl [HT]; · iexact HT
  iexact HF

/-! ## The words' ranges -/

/-- A word clamped between nought and a small number is at most the number. -/
theorem clamp_le (n : Nat) (hn : n < 2 ^ 31) (v : BitVec 32) : (IntOp.minsi (BitVec.ofNat 32 n) (IntOp.maxsi 0#32 v)).toNat ≤ n := by
  have hm : (IntOp.maxsi 0#32 v).toInt = (IntOp.maxsi 0#32 v).toNat := by
    unfold IntOp.maxsi
    split
    · rfl
    · next h =>
      have h' : ¬ v.toInt < 0 := by simpa [BitVec.slt] using h
      rw [BitVec.toInt_eq_toNat_cond] at h' ⊢
      split
      · rfl
      · next h2 => rw [if_neg h2] at h'; have := v.isLt; omega
  have hc : (BitVec.ofNat 32 n).toInt = n := by
    rw [BitVec.toInt_eq_toNat_cond, BitVec.toNat_ofNat, Nat.mod_eq_of_lt (by omega), if_pos (by omega)]
  have hc' : (BitVec.ofNat 32 n).toNat = n := by rw [BitVec.toNat_ofNat, Nat.mod_eq_of_lt (by omega)]
  unfold IntOp.minsi
  split
  · omega
  · next h =>
    have h' : ¬ (BitVec.ofNat 32 n).toInt < (IntOp.maxsi 0#32 v).toInt := by simpa [BitVec.slt] using h
    rw [hm, hc] at h'
    omega

/-- A clamped image number is in the batch. -/
theorem colB_le (T : Vec F S128x6 .f32) (i : S128x1.Idx) : (colB T i).toNat ≤ 15 := clamp_le 15 (by decide) _
/-- A clamped row is in the grid. -/
theorem colY_le (T : Vec F S128x6 .f32) (i : S128x1.Idx) : (colY T i).toNat ≤ 79 := clamp_le 79 (by decide) _
/-- A clamped lane is in the grid. -/
theorem colX_le (T : Vec F S128x6 .f32) (i : S128x1.Idx) : (colX T i).toNat ≤ 79 := clamp_le 79 (by decide) _

/-- A choice of two small words is small. -/
theorem select_toNat_le {n : Nat} (c : BitVec 1) {a b : BitVec 32} (ha : a.toNat ≤ n) (hb : b.toNat ≤ n) : (Scalar.select c a b).toNat ≤ n := by
  unfold Scalar.select
  split <;> assumption

/-- A best anchor is one of three. -/
theorem colA_le (T : Vec F S128x6 .f32) (i : S128x1.Idx) : (colA T i).toNat ≤ 2 := by
  refine select_toNat_le _ ?_ (select_toNat_le _ ?_ ?_)
  · show (2#32).toNat ≤ 2; decide
  · show (1#32).toNat ≤ 2; decide
  · show (0#32).toNat ≤ 2; decide

/-- A target's row is its image, its anchor and its cell row. -/
theorem colR_toNat (T : Vec F S128x6 .f32) (i : S128x1.Idx) :
    (colR T i).toNat = ((colB T i).toNat * 3 + (colA T i).toNat) * 80 + (colY T i).toNat := by
  have hb := colB_le T i
  have ha := colA_le T i
  have hy := colY_le T i
  show ((colB T i * 3#32 + colA T i) * 80#32 + colY T i).toNat = _
  simp only [BitVec.toNat_add, BitVec.toNat_mul, BitVec.toNat_ofNat]
  omega

/-- The table's words of a target. -/
theorem word_meta (T : Vec F S128x6 .f32) (t : Fin 128) :
    word (metaOut T) t 0 = colB T (ix2 t 0) ∧ word (metaOut T) t 1 = colA T (ix2 t 0) ∧ word (metaOut T) t 2 = colY T (ix2 t 0)
      ∧ word (metaOut T) t 3 = colX T (ix2 t 0) ∧ word (metaOut T) t 4 = colV T (ix2 t 0) ∧ word (metaOut T) t 5 = colR T (ix2 t 0) :=
  ⟨rfl, rfl, rfl, rfl, rfl, rfl⟩

/-- The table's blocks are inside the predictions. -/
theorem meta_in (T : Vec F S128x6 .f32) : CellsIn (metaOut T) := by
  intro t
  obtain ⟨e0, e1, e2, -⟩ := word_meta T t
  rw [e0, e1, e2]
  have hb := colB_le T (ix2 t 0)
  have ha := colA_le T (ix2 t 0)
  have hy := colY_le T (ix2 t 0)
  intro x
  fin_cases x
  · show (colB T (ix2 t 0)).toNat + 1 ≤ 16; omega
  · show (colA T (ix2 t 0) * 85#32).toNat + 85 ≤ 255
    rw [BitVec.toNat_mul, show (85#32).toNat = 85 from rfl, Nat.mod_eq_of_lt (by omega)]; omega
  · show (colY T (ix2 t 0)).toNat + 1 ≤ 80; omega
  · show 0 + 80 ≤ 80; omega

/-- The first gather's addresses are in range. -/
theorem meta_chk1 (T : Vec F S128x6 .f32) (t : Fin 128) : k1_chk1 (word (metaOut T) t 0) (word (metaOut T) t 1) (word (metaOut T) t 2) :=
  ⟨meta_in T t, meta_in T t⟩

/-- So are every other's. -/
theorem meta_chk128 (T : Vec F S128x6 .f32) (t : Fin 128) : k1_chk128 (word (metaOut T) t 0) (word (metaOut T) t 1) (word (metaOut T) t 2) :=
  meta_in T t

/-- The row a target's word names. -/
theorem off259_row (T : Vec F S128x6 .f32) (t : Fin 128) : k1_off259 (word (metaOut T) t 5) 0 = (colR T (ix2 t 0)).toNat := by
  rfl

/-- The table's rows are inside the result. -/
theorem meta_rows (T : Vec F S128x6 .f32) : RowsIn (metaOut T) := by
  intro t
  have hb := colB_le T (ix2 t 0)
  have ha := colA_le T (ix2 t 0)
  have hy := colY_le T (ix2 t 0)
  have hr := colR_toNat T (ix2 t 0)
  intro x
  fin_cases x
  · show k1_off259 (word (metaOut T) t 5) 0 + 1 ≤ 3840
    rw [off259_row]; omega
  · show 0 + 80 ≤ 80; omega

end Cert.Kernel.Main

end
-- ==== Proof.KernelRun.lean ====
module

public import proofs.«01_k».proof.Proof.KernelMain
public import proofs.«01_k».proof.Proof.KernelMeta
public import proofs.«01_k».proof.Proof.Gen.Kernel.Regions
public import Idealize.ShloMosaic.Lib.Pipeline.RegionArraysD
public import Idealize.ShloMosaic.Lib.Pipeline.ValueKit.Geometry

@[expose] public section

noncomputable section

namespace Cert.Kernel.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.Kernel Cert.Kernel.Gen
open Idealize.ShloMosaic.ValueIdx

variable {F : FTy → Type} [FloatOps F]

local notation "𝕄" => MT nD τ sig Unit (Elt F) ℕ (UU nD τ) ℕ

variable (m : (ℓ : Loc nD τ sig) → Buf (Elt F) ℓ)

/-! ## The buffers between the two kernels -/

/-- The predictions at launch. -/
def theP (c : Dev nD) : Vec F S16x255x80x80 .f32 := m ((c : Thread nD τ).loc main_arg0)
/-- The targets at launch. -/
def theT (c : Dev nD) : Vec F S128x6 .f32 := m ((c : Thread nD τ).loc main_arg1)
/-- The targets transposed. -/
def theU (c : Dev nD) : Vec F S6x128 .f32 := transpose S6x128 [1, 0] (theT m c) transposes_S128x6_S6x128_1_0
/-- The first kernel's table. -/
def theM (c : Dev nD) : IVec S128x8 32 := metaOut (theT m c)
/-- The second kernel's result. -/
def theO (c : Dev nD) : Vec F S3840x80 .f32 := mainOut (theP m c) (theT m c) (theU m c) (theM m c)

/-- What the two regions leave. -/
def outs : Outs (F := F) := fun J r c =>
  if J = 1 then (Function.update (V0 m c) main_call0_v0 (theM m c) : Valuation τ sig (Elt F)) r
  else (Function.update (V0 m c) main_call0_v2 (theO m c) : Valuation τ sig (Elt F)) r

/-- The first region leaves the table. -/
theorem outs_meta (c : Dev nD) : outs m 1 main_call0_v0 c = theM m c := by
  unfold outs; rw [if_pos rfl]; exact Function.update_self ..
/-- The second leaves the result. -/
theorem outs_main (c : Dev nD) : outs m 3 main_call0_v2 c = theO m c := by
  unfold outs; rw [if_neg (by decide)]; exact Function.update_self ..

/-- After the first call its table is there. -/
theorem V1_meta (c : Dev nD) : V1 m (outs m) c main_call0_v0 = theM m c :=
  (Function.update_self ..).trans (outs_meta m c)
/-- After the transposition the transposed targets are there. -/
theorem V2_trans (c : Dev nD) : V2 m (outs m) c main_call0_v1 = theU m c := by
  show StableHlo.after hostOps1 (V1 m (outs m) c) main_call0_v1 = _
  rw [StableHlo.after_cons, StableHlo.after_nil]
  refine (StableHlo.unary_result (Val := Elt F) main_arg1 main_call0_v1 _ _ _ _).trans ?_
  exact congrArg (fun T => transpose S6x128 [1, 0] T transposes_S128x6_S6x128_1_0) (V1_of m (outs m) c main_arg1 (by decide))
/-- The table is still there. -/
theorem V2_meta (c : Dev nD) : V2 m (outs m) c main_call0_v0 = theM m c :=
  (V2_of m (outs m) c main_call0_v0 (by decide)).trans (V1_meta m c)
/-- So are the predictions. -/
theorem V2_arg0 (c : Dev nD) : V2 m (outs m) c main_arg0 = theP m c :=
  (V2_of m (outs m) c main_arg0 (by decide)).trans (V1_of m (outs m) c main_arg0 (by decide))
/-- So are the targets. -/
theorem V2_arg1 (c : Dev nD) : V2 m (outs m) c main_arg1 = theT m c :=
  (V2_of m (outs m) c main_arg1 (by decide)).trans (V1_of m (outs m) c main_arg1 (by decide))
/-- After the second call its result is there. -/
theorem V3_main (c : Dev nD) : V3 m (outs m) c main_call0_v2 = theO m c :=
  (Function.update_self ..).trans (outs_main m c)
/-- The result: the second kernel's, reshaped. -/
theorem V4_res (c : Dev nD) : V4 m (outs m) c main_v0 = shapeCast S16x3x80x80 (theO m c) shapeCasts_S3840x80_S16x3x80x80 := by
  show StableHlo.after hostOps2 (V3 m (outs m) c) main_v0 = _
  rw [StableHlo.after_cons, StableHlo.after_nil]
  refine (StableHlo.reshape_result (Val := Elt F) main_call0_v2 main_v0 rfl shapeCasts_S3840x80_S16x3x80x80 _ _ _).trans ?_
  rw [V3_main]
  rfl

/-! ## The two regions' data -/

/-- The second region's invariant: the predictions, the two semaphores and the buffers that stage nothing. -/
def ΦB (c : Dev nD) : sProp 𝕄 :=
  iprop(pt c main_arg0 (theP m c) ∗ (semV c cc1_scratch2 ∗ semV c cc1_scratch3)
    ∗ Pipeline.scopedRest (Ix := Unit) (Name := ℕ) (U := UU nD τ) (Lvl := ℕ) (Val := Elt F) spec1 c)

/-- The first region's proof data. -/
def dat0 (c : Dev nD) : Dat τ (Elt F) Unit ℕ (UU nD τ) ℕ cfg0 c where
  A w := V0 m c (Pipeline.arrRef spec0 w)
  after w _ := match w with | ⟨0, _⟩ => theT m c | ⟨1, _⟩ => theM m c
  Φ _ := Pipeline.scopedRest (Ix := Unit) (Name := ℕ) (U := UU nD τ) (Lvl := ℕ) (Val := Elt F) spec0 c
  q _ := fullShare
  owed _ := 0

/-- The second region's proof data. -/
def dat1 (c : Dev nD) : Dat τ (Elt F) Unit ℕ (UU nD τ) ℕ cfg1 c where
  A w := V2 m (outs m) c (Pipeline.arrRef spec1 w)
  after w _ := match w with | ⟨0, _⟩ => theT m c | ⟨1, _⟩ => theU m c | ⟨2, _⟩ => theM m c | ⟨3, _⟩ => theO m c
  Φ _ := ΦB m c
  q _ := fullShare
  owed _ := 0

/-- Both regions'. -/
def pdats : (p : Fin 2) → (c : Dev nD) → Dat τ (Elt F) Unit ℕ (UU nD τ) ℕ (cfgs p) c
  | ⟨0, _⟩ => dat0 m | ⟨1, _⟩ => dat1 m | ⟨_ + 2, h⟩ => absurd h (Nat.not_lt.2 (Nat.le_add_left _ _))

/-- The targets' block is the targets. -/
theorem before0_0 (c : Dev nD) (d) : (dat0 m c).before 0 t0_0 d = theT m c := by
  unfold Dat.before; rw [if_pos (by decide)]
  show ((win0_0.blk t0_0).view.read (Elt F) (theT m c) : Vec F S128x6 .f32) = theT m c
  exact Memref.read_access_unit_zero (Elt F) main_arg1 (off := fun a => win0_0.index t0_0 a * win0_0.size a) (funext fun _ => Nat.zero_mul _) _ _
/-- The second call finds the targets in its first window. -/
theorem before1_0 (c : Dev nD) (d) : (dat1 m c).before 0 t1_0 d = theT m c := by
  unfold Dat.before; rw [if_pos (by decide)]
  show ((win1_0.blk t1_0).view.read (Elt F) (V2 m (outs m) c main_arg1) : Vec F S128x6 .f32) = theT m c
  rw [V2_arg1]
  exact Memref.read_access_unit_zero (Elt F) main_arg1 (off := fun a => win1_0.index t1_0 a * win1_0.size a) (funext fun _ => Nat.zero_mul _) _ _
/-- It finds the transposed targets in its second. -/
theorem before1_1 (c : Dev nD) (d) : (dat1 m c).before 1 t1_0 d = theU m c := by
  unfold Dat.before; rw [if_pos (by decide)]
  show ((win1_1.blk t1_0).view.read (Elt F) (V2 m (outs m) c main_call0_v1) : Vec F S6x128 .f32) = theU m c
  rw [V2_trans]
  exact Memref.read_access_unit_zero (Elt F) main_call0_v1 (off := fun a => win1_1.index t1_0 a * win1_1.size a) (funext fun _ => Nat.zero_mul _) _ _
/-- It finds the table in its third. -/
theorem before1_2 (c : Dev nD) (d) : (dat1 m c).before 2 t1_0 d = theM m c := by
  unfold Dat.before; rw [if_pos (by decide)]
  show ((win1_2.blk t1_0).view.read (Elt F) (V2 m (outs m) c main_call0_v0) : IVec S128x8 32) = theM m c
  rw [V2_meta]
  exact Memref.read_access_unit_zero (Elt F) main_call0_v0 (off := fun a => win1_2.index t1_0 a * win1_2.size a) (funext fun _ => Nat.zero_mul _) _ _

/-- The first kernel's body meets its region's obligation. -/
theorem body0 (c : Dev nD) : BodyObligation (dat0 m c) (defs₀ (F := F)) Variants.none () Set.univ := fun t => by
  obtain rfl := fin_N0 t
  rw [bigSep_W0, bigSep_W0]
  simp only [owns_whole_eq]
  rw [show (dat0 m c).Φ t0_0.castSucc = Pipeline.scopedRest spec0 c from rfl, show (dat0 m c).Φ t0_0.succ = Pipeline.scopedRest spec0 c from rfl]
  unfold Dat.owesAt Pipeline.owesWithin
  rw [show (dat0 m c).owed t0_0.castSucc = 0 from rfl, show (dat0 m c).owed t0_0.succ = 0 from rfl]
  iintro ⟨Hr, ⟨%W, %hW, HO⟩, ⟨%d0, %f0, %hf0, H0⟩, ⟨%d1, %f1, %hf1, H1⟩⟩
  rw [before0_0] at hf0
  subst hf0
  iapply (wp_meta c (theT m c) f1 (hstage0_0 0) (hstage0_1 0))
  isplitl [H0]; · iexact H0
  isplitl [H1]; · iexact H1
  iintro ⟨H0, H1⟩
  isplitl [Hr]; · iexact Hr
  isplitl [HO]
  · iexists W; isplitr; · ipureintro; exact fun _ _ => Or.inl trivial
    iexact HO
  isplitl [H0]
  · iexists _; isplitr; swap; (· iexact H0); ipureintro; dsimp only [dat0]
  iexists _; isplitr; swap; (· iexact H1); ipureintro; dsimp only [dat0, theM]

/-- The second kernel's body meets its region's obligation. -/
theorem body1 (c : Dev nD) : BodyObligation (dat1 m c) (defs₀ (F := F)) Variants.none () Set.univ := fun t => by
  obtain rfl := fin_N1 t
  rw [bigSep_W1, bigSep_W1]
  simp only [owns_whole_eq]
  rw [show (dat1 m c).Φ t1_0.castSucc = ΦB m c from rfl, show (dat1 m c).Φ t1_0.succ = ΦB m c from rfl]
  unfold ΦB Dat.owesAt Pipeline.owesWithin
  rw [scopedRest1_eq]
  rw [show (dat1 m c).owed t1_0.castSucc = 0 from rfl, show (dat1 m c).owed t1_0.succ = 0 from rfl]
  iintro ⟨⟨HP, ⟨S0, S1⟩, ⟨R0, R1, ⟨%s0, Hs0⟩, ⟨%s1, Hs1⟩⟩⟩, ⟨%W, %hW, HO⟩, ⟨%d0, %f0, %hf0, H0⟩, ⟨%d1, %f1, %hf1, H1⟩, ⟨%d2, %f2, %hf2, H2⟩, ⟨%d3, %f3, %hf3, H3⟩⟩
  rw [before1_0] at hf0
  rw [before1_1] at hf1
  rw [before1_2] at hf2
  subst hf0 hf1 hf2
  iapply (wp_body c (theP m c) (theT m c) (theU m c) (theM m c) f3 s0 s1 W (Memref.isWhole_whole _) (hstage1_0 0) (hstage1_1 0) (hstage1_2 0)
    (hstage1_3 0) (Memref.isWhole_whole _) (Memref.isWhole_whole _) (meta_in (theT m c)) (meta_chk1 (theT m c)) (meta_chk128 (theT m c)) (meta_rows (theT m c)))
  isplitl [HP]; · iexact HP
  isplitl [H0]; · iexact H0
  isplitl [H1]; · iexact H1
  isplitl [H2]; · iexact H2
  isplitl [H3]; · iexact H3
  isplitl [Hs0]; · iexact Hs0
  isplitl [Hs1]; · iexact Hs1
  isplitl [S0]; · iexact S0
  isplitl [S1]; · iexact S1
  isplitl [HO]; · iexact HO
  iintro ⟨HP, H0, H1, H2, H3, Hs0, Hs1, S0, S1, ⟨%W', HO⟩⟩
  isplitl [HP S0 S1 R0 R1 Hs0 Hs1]
  · isplitl [HP]; · iexact HP
    isplitl [S0 S1]; · isplitl [S0] <;> iassumption
    isplitl [R0]; · iexact R0
    isplitl [R1]; · iexact R1
    isplitl [Hs0]; · iexists _; iexact Hs0
    iexists _; iexact Hs1
  isplitl [HO]
  · iexists W'; isplitr; · ipureintro; exact fun _ _ => Or.inl trivial
    iexact HO
  isplitl [H0]
  · iexists _; isplitr; swap; (· iexact H0); ipureintro; dsimp only [dat1]
  isplitl [H1]
  · iexists _; isplitr; swap; (· iexact H1); ipureintro; dsimp only [dat1]
  isplitl [H2]
  · iexists _; isplitr; swap; (· iexact H2); ipureintro; dsimp only [dat1]
  iexists _; isplitr; swap; (· iexact H3); ipureintro; dsimp only [dat1, theO]

/-! ## What the regions leave in the arrays -/

/-- What the first call's arrays hold at its end. -/
theorem final0 (c : Dev nD) : ∀ w, (dat0 m c).arrAt w cfg0.N = V1 m (outs m) c (Proc.devRef .tc (Pipeline.arrRef spec0 w))
  | ⟨0, _⟩ => ((dat0 m c).arrAt_in 0 rfl _).trans (V1_of m (outs m) c main_arg1 (by decide)).symm
  | ⟨1, _⟩ => ((dat0 m c).arrAt_eq_of_after_last 1 t0_0 (by decide +kernel) (theM m c) (fun j => rfl)).trans (V1_meta m c).symm

/-- What the second call's arrays hold at its end. -/
theorem final1 (c : Dev nD) : ∀ w, (dat1 m c).arrAt w cfg1.N = V3 m (outs m) c (Proc.devRef .tc (Pipeline.arrRef spec1 w))
  | ⟨0, _⟩ => ((dat1 m c).arrAt_in 0 rfl _).trans (V3_of m (outs m) c main_arg1 (by decide)).symm
  | ⟨1, _⟩ => ((dat1 m c).arrAt_in 1 rfl _).trans (V3_of m (outs m) c main_call0_v1 (by decide)).symm
  | ⟨2, _⟩ => ((dat1 m c).arrAt_in 2 rfl _).trans (V3_of m (outs m) c main_call0_v0 (by decide)).symm
  | ⟨3, _⟩ => ((dat1 m c).arrAt_eq_of_after_last 3 t1_0 (by decide +kernel) (theO m c) (fun j => rfl)).trans (V3_main m c).symm

/-! ## The regions and the run -/

/-- What rides along: nothing is owed. -/
abbrev RR (c : Dev nD) : sProp 𝕄 := iprop(∃ W, owes (c : Thread nD τ) (0 : CellTallies nD τ sig Unit) W)
abbrev L : GSem nD τ sig → Finset Unit := fun _ => ∅
abbrev lv : GSem nD τ sig → Unit → ℕ := fun _ _ => 0

/-- The first call's arrays are among those of the launch. -/
theorem sub0 : Pipeline.arrRefs (τ := τ) spec0 ⊆ Pipeline.ucRefs τ sig := Pipeline.arrRefs_sub_ucRefs spec0 (by decide)
/-- So are the second's. -/
theorem sub1 : Pipeline.arrRefs (τ := τ) spec1 ⊆ Pipeline.ucRefs τ sig := Pipeline.arrRefs_sub_ucRefs spec1 (by decide)
/-- The predictions' buffer. -/
abbrev argRef : Finset (DevRef τ sig) := Pipeline.hbmRefs {main_arg0}
/-- The predictions are in none of the second call's windows. -/
theorem subA : argRef ⊆ Pipeline.ucRefs τ sig \ Pipeline.arrRefs (τ := τ) spec1 := by
  intro b hb
  obtain ⟨r, hr, rfl⟩ := Finset.mem_map.mp hb
  obtain rfl := Finset.mem_singleton.mp hr
  refine Finset.mem_sdiff.mpr ⟨Finset.mem_filter.mpr ⟨StableHlo.devRef_mem_tcRefs _, by decide⟩, fun h => ?_⟩
  obtain ⟨x, hx, e⟩ := Finset.mem_map.mp h
  obtain rfl := Proc.devRef_injective _ e
  exact absurd hx (by decide)

/-- The first call leaves the other arrays as they were. -/
theorem off0 (c : Dev nD) : ∀ b ∈ Pipeline.ucRefs τ sig \ Pipeline.arrRefs (τ := τ) spec0, V0 m c b = V1 m (outs m) c b := by
  intro b hb
  refine (Function.update_of_ne (fun e => (Finset.mem_sdiff.mp hb).2 ?_) _ _).symm
  subst e
  exact Finset.mem_map.mpr ⟨main_call0_v0, by decide, rfl⟩
/-- So does the second. -/
theorem off1 (c : Dev nD) : ∀ b ∈ Pipeline.ucRefs τ sig \ Pipeline.arrRefs (τ := τ) spec1, V2 m (outs m) c b = V3 m (outs m) c b := by
  intro b hb
  refine (Function.update_of_ne (fun e => (Finset.mem_sdiff.mp hb).2 ?_) _ _).symm
  subst e
  exact Finset.mem_map.mpr ⟨main_call0_v2, by decide, rfl⟩

/-- The first call's arrays, owned one by one. -/
theorem arrays0 (c : Dev nD) (G) (W : Valuation τ sig (Elt F)) (hG : ∀ w, G w = W (Proc.devRef .tc (Pipeline.arrRef spec0 w))) :
    ((pdats m 0 c).arrays G : sProp 𝕄) = StableHlo.held (c.tc : Thread nD τ) (Pipeline.arrRefs spec0) W :=
  Pipeline.arrays_held (pcfgs (F := F)) adm (pdats m) 0 launch0.toP c ((pdats m 0 c).share_full fun _ => rfl) G W hG
/-- The second call's arrays, owned one by one. -/
theorem arrays1 (c : Dev nD) (G) (W : Valuation τ sig (Elt F)) (hG : ∀ w, G w = W (Proc.devRef .tc (Pipeline.arrRef spec1 w))) :
    ((pdats m 1 c).arrays G : sProp 𝕄) = StableHlo.held (c.tc : Thread nD τ) (Pipeline.arrRefs spec1) W :=
  Pipeline.arrays_held (pcfgs (F := F)) adm (pdats m) 1 launch1.toP c ((pdats m 1 c).share_full fun _ => rfl) G W hG

set_option backward.isDefEq.respectTransparency.types false in
/-- The first region. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body0 m c).loose
  hwaits := Pipeline.hwaits_of_owed_zero _ _ _ _ L lv 0 fun _ _ => rfl
  pre c := iprop(StableHlo.held (c : Thread nD τ) (Pipeline.ucRefs τ sig) (V0 m c) ∗ RR c)
  post c := iprop(StableHlo.held (c : Thread nD τ) (Pipeline.ucRefs τ sig) (V1 m (outs m) c) ∗ RR c)
  X _ := iprop(emp)
  Y _ := iprop(emp)
  Z c := StableHlo.held (c : Thread nD τ) (Pipeline.ucRefs τ sig \ Pipeline.arrRefs (τ := τ) spec0) (V0 m c)
  hentry c := by
    rw [Pipeline.ownSems0_none, Pipeline.prefHeld_of_none _ rfl, StableHlo.held_sub_split (c : Thread nD τ) sub0 (V0 m c),
      arrays0 m c ((pdats m 0 c).arrAt · 0) (V0 m c) (fun _ => rfl)]
    iintro ⟨⟨⟨Ha, Hr⟩, HO⟩, -, -⟩
    imodintro
    isplitl [Ha]; · iexact Ha
    isplitr; · iempintro
    isplitl [HO]
    · unfold Dat.owesAt Pipeline.owesWithin
      icases HO with ⟨%W, HO⟩; iexists W; isplitr; · ipureintro; exact fun _ _ => Or.inl trivial
      iexact HO
    isplitr; · iempintro
    iexact Hr
  hin c := by
    rw [show (pdats m 0 c).Φ 0 = Pipeline.scopedRest (Pipeline.pin (pcfgs (F := F)) adm 0).spec c from rfl]
    iintro ⟨-, -, Hr⟩
    iexact Hr
  hout c := by
    rw [Pipeline.ownSems0_none, show (pdats m 0 c).Φ (Fin.last (Pipeline.pin (pcfgs (F := F)) adm 0).N) = Pipeline.scopedRest (Pipeline.pin (pcfgs (F := F)) adm 0).spec c from rfl]
    iintro Hr
    isplitr; · iempintro
    isplitr; · iempintro
    iexact Hr
  hexit c := by
    rw [StableHlo.held_sub_split (c : Thread nD τ) sub0 (V1 m (outs m) c), arrays0 m c ((pdats m 0 c).arrAt · (Pipeline.pin (pcfgs (F := F)) adm 0).N) (V1 m (outs m) c) (final0 m c),
      StableHlo.held_congr (c : Thread nD τ) (off0 m c)]
    iintro ⟨Ha, HO, -, Hr⟩
    imodintro
    isplitl [Ha Hr]; · isplitl [Ha] <;> iassumption
    unfold Dat.owesAt Pipeline.owesWithin
    icases HO with ⟨%W, -, HO⟩; iexists W; iexact HO

/-- The second kernel's own semaphores. -/
abbrev osem : Fin 2 → SemLoc sig := fun | 0 => .dma cc1_scratch2.sem | 1 => .dma cc1_scratch3.sem
/-- The second call's own counters are its own. -/
theorem ownSemFacts : Pipeline.OwnSemFacts spec1 osem := by decide

omit [FloatOps F] in
/-- Its own counters, one by one. -/
theorem ownSems_eq (c : Dev nD) :
    (Pipeline.ownSems0 (Ix := Unit) (Name := ℕ) (U := UU nD τ) (Lvl := ℕ) (Val := Elt F) (τ := τ) osem c : sProp 𝕄)
      = iprop(semV c cc1_scratch2 ∗ semV c cc1_scratch3) :=
  Pipeline.ownSems0_eq_of_list c osem [0, 1] (by decide) (by decide)

/-- The predictions, held apart from the windows. -/
theorem held_arg (c : Dev nD) :
    (StableHlo.held (c : Thread nD τ) argRef (V2 m (outs m) c) : sProp 𝕄) = pt c main_arg0 (theP m c) := by
  rw [Pipeline.held_hbm, BI.bigSep_singleton, V2_arg0]

set_option backward.isDefEq.respectTransparency.types false in
/-- The second region. -/
def reg1 : RegionSeg (pcfgs (F := F)) adm (pdats m) () defs₀ Variants.none L lv 1 where
  win := launch1.win.to₀
  block_pos := launch1.block_pos
  stage_whole := launch1.stage_whole
  K := Fin 2
  osem := osem
  ho := ownSemFacts
  hbody c := (body1 m c).loose
  hwaits := Pipeline.hwaits_of_owed_zero _ _ _ _ L lv 1 fun _ _ => rfl
  pre c := iprop(StableHlo.held (c : Thread nD τ) (Pipeline.ucRefs τ sig) (V2 m (outs m) c) ∗ RR c)
  post c := iprop(StableHlo.held (c : Thread nD τ) (Pipeline.ucRefs τ sig) (V3 m (outs m) c) ∗ RR c)
  X c := iprop(pt c main_arg0 (theP m c) ∗ (semV c cc1_scratch2 ∗ semV c cc1_scratch3))
  Y c := pt c main_arg0 (theP m c)
  Z c := StableHlo.held (c : Thread nD τ) ((Pipeline.ucRefs τ sig \ Pipeline.arrRefs (τ := τ) spec1) \ argRef) (V2 m (outs m) c)
  hentry c := by
    rw [ownSems_eq, Pipeline.prefHeld_of_none _ rfl, StableHlo.held_sub_split (c : Thread nD τ) sub1 (V2 m (outs m) c),
      StableHlo.held_sub_split (c : Thread nD τ) subA (V2 m (outs m) c), held_arg,
      arrays1 m c ((pdats m 1 c).arrAt · 0) (V2 m (outs m) c) (fun _ => rfl)]
    iintro ⟨⟨⟨Ha, HP, Hr⟩, HO⟩, Hs, -⟩
    imodintro
    isplitl [Ha]; · iexact Ha
    isplitr; · iempintro
    isplitl [HO]
    · unfold Dat.owesAt Pipeline.owesWithin
      icases HO with ⟨%W, HO⟩; iexists W; isplitr; · ipureintro; exact fun _ _ => Or.inl trivial
      iexact HO
    isplitl [HP Hs]; · isplitl [HP] <;> iassumption
    iexact Hr
  hin c := by
    rw [show (pdats m 1 c).Φ 0 = ΦB m c from rfl]; unfold ΦB
    iintro ⟨⟨HP, Hs⟩, -, Hr⟩
    isplitl [HP]; · iexact HP
    isplitl [Hs]; · iexact Hs
    iexact Hr
  hout c := by
    rw [ownSems_eq, show (pdats m 1 c).Φ (Fin.last (Pipeline.pin (pcfgs (F := F)) adm 1).N) = ΦB m c from rfl]; unfold ΦB
    iintro ⟨HP, Hs, Hr⟩
    isplitl [HP]; · iexact HP
    isplitl [Hs]; · iexact Hs
    iexact Hr
  hexit c := by
    rw [StableHlo.held_sub_split (c : Thread nD τ) sub1 (V3 m (outs m) c), arrays1 m c ((pdats m 1 c).arrAt · (Pipeline.pin (pcfgs (F := F)) adm 1).N) (V3 m (outs m) c) (final1 m c),
      ← StableHlo.held_congr (c : Thread nD τ) (off1 m c), StableHlo.held_sub_split (c : Thread nD τ) subA (V2 m (outs m) c), held_arg]
    iintro ⟨Ha, HO, HP, Hr⟩
    imodintro
    isplitl [Ha HP Hr]
    · isplitl [Ha]; · iexact Ha
      isplitl [HP] <;> iassumption
    unfold Dat.owesAt Pipeline.owesWithin
    icases HO with ⟨%W, -, HO⟩; iexists W; iexact HO

/-- The launch element. -/
def u₀ : UU nD τ := (initOf (Pipeline.cells cfgs cellOf_inj) (Pipeline.launchToks cfgs cellOf_inj), 1)

/-- The pipeline library's algebra. -/
abbrev EP : Emb (UR sig nD τ) (MT nD τ sig Unit (Elt F) ℕ (UU nD τ) ℕ) := embL

set_option backward.isDefEq.respectTransparency.types false in
/-- THE RUN: the result is the second kernel's reshaped, the arguments are as launched, every semaphore is back at zero. -/
theorem run_main (ρ : Dev nD → PrngReg) :
    θ_run defs (onTc (τ := τ) (main (F := F))) ⟨m, fun _ => 0, ρ⟩ (fun r => (∀ c : Dev nD,
      r.2.mem ((c.tc : Thread nD τ).loc main_v0) = V4 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (pdats m) () cellOf_inj EP defs₀ Variants.none L lv m ρ main
    (segs m (outs m) Variants.none L lv (fun _ => RR) () (pdats m) (reg0 m) (reg1 m))
    (fun c Q => by
      rewrite [main_chain c, Pipeline.Seg.run_eq_chain,
        show (segs m (outs m) Variants.none L lv (fun _ => RR) () (pdats m) (reg0 m) (reg1 m) c).map Pipeline.Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RR c))
    (Tₙ := fun c => StableHlo.held (c : Thread nD τ) (Pipeline.ucRefs τ sig) (V4 m (outs m) c))
    (hch := fun c => ⟨.rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v0) = V4 m (outs m) c main_v0
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_)
    (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V4 m (outs m) c) s') $$ [Hh HSI]
  · isplitl [Hh] <;> iassumption
  icases Hr with ⟨%h, HSI⟩
  imodintro
  isplitr
  · ipureintro
    exact ⟨h (Proc.devRef .tc main_v0) (Finset.mem_filter.mpr ⟨StableHlo.devRef_mem_tcRefs main_v0, by decide⟩),
      (h (Proc.devRef .tc main_arg0) (Finset.mem_filter.mpr ⟨StableHlo.devRef_mem_tcRefs main_arg0, by decide⟩)).trans (V4_main_arg0 m (outs m) c),
      (h (Proc.devRef .tc main_arg1) (Finset.mem_filter.mpr ⟨StableHlo.devRef_mem_tcRefs main_arg1, by decide⟩)).trans (V4_main_arg1 m (outs m) c)⟩
  · iexact HSI

end Cert.Kernel.Main

end
-- ==== Proof.Same.lean ====
module

public import proofs.«01_k».proof.Proof.KernelRun
public import proofs.«01_k».proof.Proof.Gen.KernelIdeal
public import Idealize.ShloMosaic.Lib.Pipeline.Regions

@[expose] public section

noncomputable section

namespace Cert.Same
open Idealize.ShloMosaic Idealize.SL.Sem

variable {F : FTy → Type} [FloatOps F]

/-- The idealized kernel's text is the kernel's own: a run of one is a run of the other. -/
theorem run_eq (m : (ℓ : Loc Cert.KernelIdeal.nD Cert.KernelIdeal.τ Cert.KernelIdeal.sig) → Buf (Elt F) ℓ) (ρ : Dev Cert.KernelIdeal.nD → PrngReg)
    (Q : PUnit × MemSt Cert.KernelIdeal.nD Cert.KernelIdeal.τ Cert.KernelIdeal.sig (Elt F) → Prop) :
    θ_run (Cert.KernelIdeal.defs (F := F)) (onTc (τ := Cert.KernelIdeal.τ) (Cert.KernelIdeal.main (F := F))) ⟨m, fun _ => 0, ρ⟩ Q
      = θ_run (Cert.Kernel.defs (F := F)) (onTc (τ := Cert.Kernel.τ) (Cert.Kernel.main (F := F))) ⟨m, fun _ => 0, ρ⟩ Q := by chain_rfl

/-- The idealized kernel's run. -/
theorem run_ideal (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_v0)
          = shapeCast Cert.Kernel.S16x3x80x80 (Cert.Kernel.Main.theO (F := F) m c) Cert.Kernel.Gen.shapeCasts_S3840x80_S16x3x80x80
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) := by
  rw [run_eq]
  refine (θ_run _ _ _).mono ?_ (Cert.Kernel.Main.run_main (F := F) m ρ)
  exact fun r h => ⟨fun c => ⟨((h.1 c).1).trans (Cert.Kernel.Main.V4_res m c), (h.1 c).2⟩, h.2⟩

end Cert.Same
end
-- ==== Proof.Frames.lean ====
module

public import proofs.«01_k».proof.Defs
public import proofs.«01_k».proof.Proof.Same
public import proofs.«01_k».proof.Proof.Gen.ReferenceIdeal
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Frames

/-- The kernel ends, leaves its two arguments as they were and every counter at zero. -/
theorem kernel : Cert.quiescent_Kernel := fun m g _ =>
  (θ_run _ _ _).mono (fun _ h => ⟨fun c => ⟨(h.1 c).2.1, (h.1 c).2.2⟩, h.2⟩) (Cert.Kernel.Main.run_main (F := Bits) m g)

/-- The same of the kernel read at the extended reals. -/
theorem kernelIdeal : Cert.quiescent_KernelIdeal := fun m g _ =>
  (θ_run _ _ _).mono (fun _ h => ⟨fun c => ⟨(h.1 c).2.1, (h.1 c).2.2⟩, h.2⟩) (Cert.Same.run_ideal (F := Ideal) m g)

/-- The reference ends and leaves its arguments as they were; it has no counters. -/
theorem referenceIdeal : Cert.quiescent_ReferenceIdeal := fun m g _ =>
  (θ_run _ _ _).mono (fun r h => ⟨fun c => (h c).2, sem_eq_zero_of_no_sems (by decide) r.2⟩)
    (Cert.ReferenceIdeal.Value.run (F := Ideal) m g)

end Cert.Frames

end
-- ==== Proof.Marks.lean ====
module

public import Idealize.ShloMosaic.Lib.IdealHost
public import Idealize.ShloMosaic.Lib.Routing.OpsSet

@[expose] public section

noncomputable section

namespace Cert.Yolo
open Idealize.ShloMosaic Idealize.ShloMosaic.Routing
open scoped Classical BigOperators

/-! ## Marked cells -/

section Marks
variable {n : ℕ} {I : Type} {A : Type}

/-- `t` counts, and no later number that counts has its place. -/
def Last (ok : Fin n → Prop) (cell : Fin n → I) (t : Fin n) : Prop := ok t ∧ ∀ t', t < t' → ok t' → cell t' ≠ cell t

/-- A marked place has a last number. -/
theorem exists_last (ok : Fin n → Prop) (cell : Fin n → I) {c : I} (h : ∃ t, ok t ∧ cell t = c) : ∃ t, Last ok cell t ∧ cell t = c := by
  obtain ⟨t₀, h₀⟩ := h
  have hne : (Finset.univ.filter fun t => ok t ∧ cell t = c).Nonempty := ⟨t₀, by simpa using h₀⟩
  have hm := Finset.max'_mem _ hne
  rw [Finset.mem_filter] at hm
  refine ⟨_, ⟨hm.2.1, fun t' hlt hok he => ?_⟩, hm.2.2⟩
  have hle := Finset.le_max' (Finset.univ.filter fun t => ok t ∧ cell t = c) t' (by simp [hok, he.trans hm.2.2])
  exact absurd hlt (not_lt.2 hle)

/-- A place has one last number. -/
theorem last_unique {ok : Fin n → Prop} {cell : Fin n → I} {t t' : Fin n} (h : Last ok cell t) (h' : Last ok cell t') (e : cell t = cell t') : t = t' := by
  rcases lt_trichotomy t t' with hl | hl | hl
  · exact absurd e.symm (h.2 t' hl h'.1)
  · exact hl
  · exact absurd e (h'.2 t hl h.1)

/-- A sum over the marked places is the sum over the last numbers. -/
theorem sum_marked [AddCommMonoid A] [Fintype I] (ok : Fin n → Prop) (cell : Fin n → I) (f : I → A) :
    (∑ c, if ∃ t, ok t ∧ cell t = c then f c else 0) = ∑ t, if Last ok cell t then f (cell t) else 0 := by
  rw [← Finset.sum_filter, ← Finset.sum_filter]
  symm
  refine Finset.sum_bij (fun t _ => cell t) ?_ ?_ ?_ ?_
  · intro t ht
    rw [Finset.mem_filter] at ht ⊢
    exact ⟨Finset.mem_univ _, t, ht.2.1, rfl⟩
  · intro t ht t' ht' e
    rw [Finset.mem_filter] at ht ht'
    exact last_unique ht.2 ht'.2 e
  · intro c hc
    rw [Finset.mem_filter] at hc
    obtain ⟨t, ht, e⟩ := exists_last ok cell hc.2
    exact ⟨t, Finset.mem_filter.2 ⟨Finset.mem_univ _, ht⟩, e⟩
  · intro t _
    rfl

end Marks

/-! ## Scatters -/

/-- A left fold that overwrites: what the last writer wrote. -/
theorem foldl_last {α β : Type} (l : List β) (hit : β → Prop) (v : β → α) (a : α) (k : β) (l₁ l₂ : List β) (e : l = l₁ ++ k :: l₂)
    (hk : hit k) (hl : ∀ b ∈ l₂, ¬ hit b) : l.foldl (fun r b => if hit b then v b else r) a = v k := by
  subst e
  rw [List.foldl_append, List.foldl_cons, if_pos hk]
  generalize v k = w
  induction l₂ with
  | nil => rfl
  | cons b l ih =>
    rw [List.foldl_cons, if_neg (hl b (by simp))]
    exact ih fun b' hb => hl b' (by simp [hb])

/-- A scatter that overwrites holds, where its last update lands, that update. -/
theorem scatter_last {α : Type} {s si u : Shape} {w : Nat} (d : ScatterDims s si u) (x0 : s.Idx → α) (idx : IVec si w) (upd : u.Idx → α)
    (ι : s.Idx) (k : u.Idx) (hk : d.resultIdx? k idx = some ι)
    (hl : ∀ k', u.rowMajor k < u.rowMajor k' → d.resultIdx? k' idx ≠ some ι) : Host.scatter d (fun _ b => b) x0 idx upd ι = upd k := by
  rw [scatter_at]
  have hmem : u.rowMajor k ∈ List.finRange u.numel := List.mem_finRange _
  obtain ⟨l₁, l₂, e⟩ := List.append_of_mem hmem
  have hp : (List.finRange u.numel).Pairwise (· < ·) := List.pairwise_lt_finRange _
  rw [e, List.pairwise_append] at hp
  have h := foldl_last (List.finRange u.numel) (fun n => d.resultIdx? (u.rowMajor.symm n) idx = some ι) (fun n => upd (u.rowMajor.symm n)) (x0 ι)
    (u.rowMajor k) l₁ l₂ e (by rw [Equiv.symm_apply_apply]; exact hk) (fun b hb => by
      have := List.rel_of_pairwise_cons hp.2.1 hb
      refine hl _ ?_
      rw [Equiv.apply_symm_apply]; exact this)
  rw [Equiv.symm_apply_apply] at h
  rw [← h]
  congr
  funext a n
  by_cases hh : d.resultIdx? (u.rowMajor.symm n) idx = some ι <;> simp [hh]

/-! ## Real numbers among the extended reals -/

/-- A sum of reals. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The cost of a logit without its target. -/
def softplus (r : ℝ) : ℝ := max r 0 + Real.log (1 + Real.exp (-|r|))

/-- The cost of a logit without its target, as the programs compute it. -/
def cost (x : EReal) : EReal := max x 0 + Ideal.log1p (Ideal.exp (-(max x (-x))))

/-- The larger of two reals. -/
theorem coe_max (a b : ℝ) : ((max a b : ℝ) : EReal) = max (a : EReal) b := (EReal.coe_strictMono.monotone.map_max)

/-- It is a real number at a real logit. -/
theorem cost_coe (r : ℝ) : cost r = (softplus r : EReal) := by
  unfold cost softplus Ideal.log1p
  have e1 : max (r : EReal) (-(r : EReal)) = ((|r| : ℝ) : EReal) := by
    rw [← EReal.coe_neg, ← coe_max, abs_eq_max_neg]
  rw [e1, ← EReal.coe_neg, Ideal.exp_coe]
  have e2 : (1 : EReal) + (Real.exp (-|r|) : EReal) = ((1 + Real.exp (-|r|) : ℝ) : EReal) := by
    rw [EReal.coe_add, EReal.coe_one]
  rw [e2, Ideal.log_coe, if_neg (by have := Real.exp_pos (-|r|); linarith), EReal.coe_add, coe_max, EReal.coe_zero]

/-- A choice of reals. -/
theorem coe_ite (p : Prop) (a b : ℝ) : ((if p then a else b : ℝ) : EReal) = if p then (a : EReal) else b := by
  split <;> rfl

end Cert.Yolo
end
-- ==== Proof.Targets.lean ====
module

public import proofs.«01_k».proof.Proof.KernelMeta
public import proofs.«01_k».proof.Proof.Marks
public import Idealize.ShloMosaic.Lib.WordCmp

@[expose] public section

noncomputable section

namespace Cert.Yolo
open Idealize.ShloMosaic Idealize.ShloMosaic.ValueIdx
open Cert.Kernel

/-! ## What the targets say -/

/-- Both bits of a conjunction. -/
theorem andi_one (a b : BitVec 1) : IntOp.andi a b = 1#1 ↔ a = 1#1 ∧ b = 1#1 := by
  revert a b; decide

/-- A bit of a truth value. -/
theorem ofBool_one (b : Bool) : BitVec.ofBool b = 1#1 ↔ b = true := by cases b <;> decide

/-- The comparison for at least. -/
theorem sge_one (a b : BitVec 32) : IntOp.cmpi .sge a b = 1#1 ↔ b.toInt ≤ a.toInt := by
  rw [WordCmp.cmpi_sge_eq, ofBool_one, decide_eq_true_iff]

/-- The comparison for less. -/
theorem slt_one (a b : BitVec 32) : IntOp.cmpi .slt a b = 1#1 ↔ a.toInt < b.toInt := by
  rw [WordCmp.cmpi_slt_eq, ofBool_one, decide_eq_true_iff]

/-- The comparison for more. -/
theorem sgt_one (a b : BitVec 32) : IntOp.cmpi .sgt a b = 1#1 ↔ b.toInt < a.toInt := by
  rw [WordCmp.cmpi_sgt_eq, ofBool_one, decide_eq_true_iff]

/-- The comparison for equal. -/
theorem eq_one (a b : BitVec 32) : IntOp.cmpi .eq a b = 1#1 ↔ a = b := by
  rw [WordCmp.cmpi_eq_eq, ofBool_one, decide_eq_true_iff]

/-- A word between zero and `k` is a number below `k`. -/
theorem word_range (a : BitVec 32) (k : ℕ) (h0 : 0 ≤ a.toInt) (h1 : a.toInt < k) : a.toNat < k ∧ a.toInt = a.toNat := by
  have e : a.toInt = a.toNat := by
    rw [WordCmp.toInt_nonneg_iff_lt_half] at h0
    exact WordCmp.toInt_eq_toNat_of_lt_half h0
  exact ⟨by omega, e⟩

variable (T : Vec Ideal S128x6 .f32)

/-- The number of cells on a side. -/
def eighty : EReal := Ideal.ofBits .f32 0x42A00000#32
/-- The small constant. -/
def eps : EReal := Ideal.ofBits .f32 0x358637BD#32

/-- The image a target is in. -/
def img (t : Fin 128) : BitVec 32 := Ideal.fptosi 32 (T (ix2 t 0))
/-- The class of a target. -/
def cls (t : Fin 128) : BitVec 32 := Ideal.fptosi 32 (T (ix2 t 1))
/-- The lane of a target's cell. -/
def cx (t : Fin 128) : BitVec 32 := Ideal.fptosi 32 (T (ix2 t 2) * eighty)
/-- The row of a target's cell. -/
def cy (t : Fin 128) : BitVec 32 := Ideal.fptosi 32 (T (ix2 t 3) * eighty)
/-- The area a target shares with an anchor. -/
def inter (t : Fin 128) (aw ah : EReal) : EReal := min (T (ix2 t 4) * eighty) aw * min (T (ix2 t 5) * eighty) ah
/-- The overlap of a target and an anchor. -/
def iou (t : Fin 128) (aw ah area : EReal) : EReal :=
  Ideal.div (inter T t aw ah) (T (ix2 t 4) * eighty * (T (ix2 t 5) * eighty) + area - inter T t aw ah + eps)
/-- The overlaps with the three anchors. -/
def iou0 (t : Fin 128) : EReal := iou T t (Ideal.ofBits .f32 0x3FA00000#32) (Ideal.ofBits .f32 0x3FD00000#32) (Ideal.ofBits .f32 0x40020000#32)
def iou1 (t : Fin 128) : EReal := iou T t (Ideal.ofBits .f32 0x40000000#32) (Ideal.ofBits .f32 0x40700000#32) (Ideal.ofBits .f32 0x40F00000#32)
def iou2 (t : Fin 128) : EReal := iou T t (Ideal.ofBits .f32 0x40840000#32) (Ideal.ofBits .f32 0x40380000#32) (Ideal.ofBits .f32 0x413DC000#32)
/-- The anchor of a target. -/
def best (t : Fin 128) : BitVec 32 :=
  Scalar.select (Ideal.cmp .ogt (iou2 T t) (max (iou0 T t) (iou1 T t))) 2#32 (Scalar.select (Ideal.cmp .ogt (iou1 T t) (iou0 T t)) 1#32 0#32)
/-- Whether a target is in the batch and the grid, as a bit. -/
def okBit (t : Fin 128) : BitVec 1 :=
  IntOp.andi (IntOp.andi (IntOp.andi (IntOp.andi (IntOp.andi (IntOp.cmpi .sge (img T t) 0#32) (IntOp.cmpi .slt (img T t) 16#32))
    (IntOp.cmpi .sge (cx T t) 0#32)) (IntOp.cmpi .slt (cx T t) 80#32)) (IntOp.cmpi .sge (cy T t) 0#32)) (IntOp.cmpi .slt (cy T t) 80#32)
/-- Whether its class is one, too. -/
def okcBit (t : Fin 128) : BitVec 1 :=
  IntOp.andi (IntOp.andi (okBit T t) (IntOp.cmpi .sge (cls T t) 0#32)) (IntOp.cmpi .slt (cls T t) 80#32)
/-- Whether a target is in the batch and the grid. -/
def ok (t : Fin 128) : Prop := okBit T t = 1#1
/-- Whether its class is one, too. -/
def okc (t : Fin 128) : Prop := okcBit T t = 1#1

/-- The cell's number. -/
def keyVal (t : Fin 128) : BitVec 32 :=
  IntOp.addi (IntOp.addi (IntOp.muli (IntOp.addi (IntOp.muli (img T t) 3#32) (best T t)) 6400#32) (IntOp.muli (cy T t) 80#32)) (cx T t)
/-- The number by which the kernel compares cells. -/
def key (t : Fin 128) : BitVec 32 := Scalar.select (okBit T t) (keyVal T t) (IntOp.subi 4294967295#32 (BitVec.ofNat 32 t.val))
/-- The number by which it compares cells and classes. -/
def pkey (t : Fin 128) : BitVec 32 :=
  Scalar.select (okcBit T t) (IntOp.addi (IntOp.muli (key T t) 80#32) (cls T t)) (IntOp.subi 4294967295#32 (BitVec.ofNat 32 t.val))

/-- The cell a target is in. -/
def cell (t : Fin 128) : S16x3x80x80.Idx :=
  ix4 ⟨(img T t).toNat % 16, Nat.mod_lt _ (by decide)⟩ ⟨(best T t).toNat % 3, Nat.mod_lt _ (by decide)⟩
    ⟨(cy T t).toNat % 80, Nat.mod_lt _ (by decide)⟩ ⟨(cx T t).toNat % 80, Nat.mod_lt _ (by decide)⟩
/-- The class of a target as an index. -/
def kcls (t : Fin 128) : Fin 80 := ⟨(cls T t).toNat % 80, Nat.mod_lt _ (by decide)⟩

/-- A best anchor is one of three. -/
theorem best_lt (t : Fin 128) : (best T t).toNat < 3 := by
  have h : (best T t).toNat ≤ 2 := by
    refine Cert.Kernel.Main.select_toNat_le _ ?_ (Cert.Kernel.Main.select_toNat_le _ ?_ ?_) <;> decide
  omega

/-- A target in the batch and the grid is in the batch and the grid. -/
theorem ok_iff (t : Fin 128) : ok T t ↔ (((((0 ≤ (img T t).toInt ∧ (img T t).toInt < 16) ∧ 0 ≤ (cx T t).toInt) ∧ (cx T t).toInt < 80)
    ∧ 0 ≤ (cy T t).toInt) ∧ (cy T t).toInt < 80) := by
  unfold ok okBit
  simp only [andi_one, sge_one, slt_one]
  rfl

/-- What it is to be in the grid with a class that exists. -/
theorem okc_iff (t : Fin 128) : okc T t ↔ (ok T t ∧ 0 ≤ (cls T t).toInt) ∧ (cls T t).toInt < 80 := by
  unfold okc okcBit ok
  simp only [andi_one, sge_one, slt_one]
  rfl

/-- Its words as numbers. -/
theorem ok_words {t : Fin 128} (h : ok T t) : ((img T t).toNat < 16 ∧ (img T t).toInt = (img T t).toNat)
    ∧ ((cx T t).toNat < 80 ∧ (cx T t).toInt = (cx T t).toNat) ∧ ((cy T t).toNat < 80 ∧ (cy T t).toInt = (cy T t).toNat) := by
  obtain ⟨⟨⟨⟨⟨h1, h2⟩, h3⟩, h4⟩, h5⟩, h6⟩ := (ok_iff T t).1 h
  exact ⟨word_range _ 16 h1 h2, word_range _ 80 h3 h4, word_range _ 80 h5 h6⟩

/-- The words of such a target. -/
theorem okc_words {t : Fin 128} (h : okc T t) : ok T t ∧ (cls T t).toNat < 80 ∧ (cls T t).toInt = (cls T t).toNat := by
  obtain ⟨⟨h1, h2⟩, h3⟩ := (okc_iff T t).1 h
  exact ⟨h1, word_range _ 80 h2 h3⟩

/-- A cell's number, computed. -/
theorem key_toNat {t : Fin 128} (h : ok T t) :
    (key T t).toNat = ((img T t).toNat * 3 + (best T t).toNat) * 6400 + (cy T t).toNat * 80 + (cx T t).toNat := by
  obtain ⟨⟨h1, -⟩, ⟨h2, -⟩, ⟨h3, -⟩⟩ := ok_words T h
  have h4 := best_lt T t
  unfold key
  rw [WordCmp.select_of_eq_one h]
  unfold keyVal IntOp.addi IntOp.muli
  simp only [BitVec.toNat_add, BitVec.toNat_mul, BitVec.toNat_ofNat]
  omega

/-- Two targets' cells have one number exactly when they are one cell. -/
theorem key_eq_iff {t t' : Fin 128} (h : ok T t) (h' : ok T t') : key T t = key T t' ↔ cell T t = cell T t' := by
  have e := key_toNat T h
  have e' := key_toNat T h'
  obtain ⟨⟨h1, -⟩, ⟨h2, -⟩, ⟨h3, -⟩⟩ := ok_words T h
  obtain ⟨⟨g1, -⟩, ⟨g2, -⟩, ⟨g3, -⟩⟩ := ok_words T h'
  have h4 := best_lt T t
  have g4 := best_lt T t'
  constructor
  · intro hk
    rw [hk] at e
    have : (img T t).toNat = (img T t').toNat ∧ (best T t).toNat = (best T t').toNat ∧ (cy T t).toNat = (cy T t').toNat ∧ (cx T t).toNat = (cx T t').toNat := by
      omega
    unfold cell
    simp only [this]
  · intro hc
    have c0 := congrArg (fun i : S16x3x80x80.Idx => (i 0).val) hc
    have c1 := congrArg (fun i : S16x3x80x80.Idx => (i 1).val) hc
    have c2 := congrArg (fun i : S16x3x80x80.Idx => (i 2).val) hc
    have c3 := congrArg (fun i : S16x3x80x80.Idx => (i 3).val) hc
    change (img T t).toNat % 16 = (img T t').toNat % 16 at c0
    change (best T t).toNat % 3 = (best T t').toNat % 3 at c1
    change (cy T t).toNat % 80 = (cy T t').toNat % 80 at c2
    change (cx T t).toNat % 80 = (cx T t').toNat % 80 at c3
    apply BitVec.eq_of_toNat_eq
    omega

/-- Two targets' cells and classes have one number exactly when they are one cell and one class. -/
theorem pkey_eq_iff {t t' : Fin 128} (h : okc T t) (h' : okc T t') :
    pkey T t = pkey T t' ↔ (cell T t, kcls T t) = (cell T t', kcls T t') := by
  obtain ⟨ht, hc, -⟩ := okc_words T h
  obtain ⟨ht', hc', -⟩ := okc_words T h'
  have e := key_toNat T ht
  have e' := key_toNat T ht'
  obtain ⟨⟨h1, -⟩, ⟨h2, -⟩, ⟨h3, -⟩⟩ := ok_words T ht
  obtain ⟨⟨g1, -⟩, ⟨g2, -⟩, ⟨g3, -⟩⟩ := ok_words T ht'
  have h4 := best_lt T t
  have g4 := best_lt T t'
  have p : (pkey T t).toNat = (key T t).toNat * 80 + (cls T t).toNat := by
    unfold pkey
    rw [WordCmp.select_of_eq_one h]
    unfold IntOp.addi IntOp.muli
    simp only [BitVec.toNat_add, BitVec.toNat_mul, BitVec.toNat_ofNat]
    omega
  have p' : (pkey T t').toNat = (key T t').toNat * 80 + (cls T t').toNat := by
    unfold pkey
    rw [WordCmp.select_of_eq_one h']
    unfold IntOp.addi IntOp.muli
    simp only [BitVec.toNat_add, BitVec.toNat_mul, BitVec.toNat_ofNat]
    omega
  have k : pkey T t = pkey T t' ↔ key T t = key T t' ∧ (cls T t).toNat = (cls T t').toNat := by
    constructor
    · intro hk
      rw [hk] at p
      exact ⟨BitVec.eq_of_toNat_eq (by omega), by omega⟩
    · rintro ⟨hk, hc⟩
      exact BitVec.eq_of_toNat_eq (by rw [p, p', hk, hc])
  rw [k, key_eq_iff T ht ht', Prod.mk.injEq]
  unfold kcls
  rw [Fin.mk.injEq, Nat.mod_eq_of_lt hc, Nat.mod_eq_of_lt hc']

/-- The last target of its cell. -/
def Win (t : Fin 128) : Prop := Last (ok T) (cell T) t
/-- The last target of its cell and class. -/
def Winc (t : Fin 128) : Prop := Last (okc T) (fun t => (cell T t, kcls T t)) t

end Cert.Yolo
end
-- ==== Proof.KernelCols.lean ====
module

public import proofs.«01_k».proof.Proof.Targets

@[expose] public section

noncomputable section

namespace Cert.Yolo
open Idealize.ShloMosaic Idealize.ShloMosaic.ValueIdx
open Cert.Kernel Cert.Kernel.Gen Cert.Kernel.Main
open scoped Classical BigOperators

/-! ## The kernel's vectors, target by target -/

section Cols
variable (T : Vec Ideal S128x6 .f32)

/-- A column of the targets. -/
theorem col_at (k : ℕ) (hk : k < 6) (h : S128x6.Slices ![0, k] S128x1) :
    extractStridedSlice S128x1 ![0, k] T h = fun j => T (ix2 (j 0) ⟨k, hk⟩) := by
  funext j
  refine congrArg T (funext fun a => Fin.ext ?_)
  have h1 : (j 1).val < 1 := (j 1).isLt
  fin_cases a
  · show 0 + (j 0).val = (j 0).val; omega
  · show k + (j 1).val = k; omega

/-- The targets, transposed. -/
def flip : Vec Ideal S6x128 .f32 := transpose S6x128 [1, 0] T transposes_S128x6_S6x128_1_0

/-- A row of the transposed targets. -/
theorem row_at (k : ℕ) (hk : k < 6) (h : S6x128.Slices ![k, 0] S1x128) :
    extractStridedSlice S1x128 ![k, 0] (k1_pay20 (flip T)) h = fun j => T (ix2 (j 1) ⟨k, hk⟩) := by
  funext j
  have h0 : (j 0).val < 1 := (j 0).isLt
  have e : k1_pay20 (flip T) = flip T := by
    show shapeCast S6x128 (flip T) _ = _
    funext i
    exact congrArg (flip T) (Shape.reshapeEquiv_self _ i)
  rw [e]
  refine congrArg T (funext fun a => Fin.ext ?_)
  fin_cases a
  · show 0 + (j 1).val = (j 1).val; omega
  · show k + (j 0).val = k; omega

/-- The column of box centres along x. -/
theorem c2 : k1_pay2 T = fun j => T (ix2 (j 0) 2) := by unfold k1_pay2; exact col_at T 2 (by decide) _
/-- The column of box centres along y. -/
theorem c3 : k1_pay3 T = fun j => T (ix2 (j 0) 3) := by unfold k1_pay3; exact col_at T 3 (by decide) _
/-- The column of box widths. -/
theorem c4 : k1_pay4 T = fun j => T (ix2 (j 0) 4) := by unfold k1_pay4; exact col_at T 4 (by decide) _
/-- The column of box heights. -/
theorem c5 : k1_pay5 T = fun j => T (ix2 (j 0) 5) := by unfold k1_pay5; exact col_at T 5 (by decide) _
/-- The column of image numbers. -/
theorem c6 : k1_pay6 T = fun j => img T (j 0) := congrArg (fptosi 32) (col_at T 0 (by decide) _)
/-- The column of class numbers. -/
theorem c7 : k1_pay7 T = fun j => cls T (j 0) := congrArg (fptosi 32) (col_at T 1 (by decide) _)
/-- The column of cells along x. -/
theorem c8 : k1_pay8 (k1_pay2 T) (Scalar.ofBits .f32 0x42A00000#32 : Ideal .f32) = fun j => cx T (j 0) := by rw [c2]; rfl
/-- The column of cells along y. -/
theorem c9 : k1_pay9 (k1_pay3 T) = fun j => cy T (j 0) := by rw [c3]; rfl
/-- The column of best anchors. -/
theorem c18 : k1_pay18 (k1_pay14 (k1_pay4 T) (k1_pay5 T)) (k1_pay15 (k1_pay4 T) (k1_pay5 T)) (k1_pay16 (k1_pay4 T) (k1_pay5 T)) (k1_pay17 (k1_pay4 T) (k1_pay5 T))
    = fun j => best T (j 0) := by rw [c4, c5]; rfl
/-- The column of bits that say whether a target is in the batch and the grid. -/
theorem c19 : k1_pay19 (fun j => img T (j 0)) (fun j => cx T (j 0)) (fun j => cy T (j 0)) = fun j => okBit T (j 0) := rfl
/-- The column of bits that say the same and that the class exists. -/
theorem c31 : k1_pay31 (fun j => cls T (j 0)) (fun j => okBit T (j 0)) = fun j => okcBit T (j 0) := rfl

/-- The row of image numbers. -/
theorem r22 : k1_pay22 (flip T) = fun j => img T (j 1) := congrArg (fptosi 32) (row_at T 0 (by decide) _)
/-- The row of class numbers. -/
theorem r23 : k1_pay23 (flip T) = fun j => cls T (j 1) := congrArg (fptosi 32) (row_at T 1 (by decide) _)
/-- The row of cells along x. -/
theorem r24 : k1_pay24 (flip T) = fun j => cx T (j 1) :=
  congrArg (fun v => fptosi 32 (mulf v (broadcast S1x128 (Scalar.ofBits .f32 0x42A00000#32 : Ideal .f32)))) (row_at T 2 (by decide) _)
/-- The row of cells along y. -/
theorem r25 : k1_pay25 (flip T) = fun j => cy T (j 1) :=
  congrArg (fun v => fptosi 32 (mulf v (broadcast S1x128 (Scalar.ofBits .f32 0x42A00000#32 : Ideal .f32)))) (row_at T 3 (by decide) _)
/-- The row of widths in cells. -/
theorem r26 : k1_pay26 (flip T) = fun j => T (ix2 (j 1) 4) * eighty :=
  congrArg (fun v => mulf v (broadcast S1x128 (Scalar.ofBits .f32 0x42A00000#32 : Ideal .f32))) (row_at T 4 (by decide) _)
/-- The row of box heights. -/
theorem r21 : k1_pay21 (flip T) = fun j => T (ix2 (j 1) 5) := by unfold k1_pay21; exact row_at T 5 (by decide) _
/-- The row of best anchors. -/
theorem r28 : k1_pay28 (k1_pay21 (flip T)) (k1_pay26 (flip T)) (k1_pay27 (F := Ideal)) = fun j => best T (j 1) := by rw [r21, r26]; rfl
/-- The row of bits that say whether a target is in the batch and the grid. -/
theorem r29 : k1_pay29 (fun j => img T (j 1)) (fun j => cx T (j 1)) (fun j => cy T (j 1)) = fun j => okBit T (j 1) := rfl

/-- A number along an axis. -/
theorem iota_axis (s : Shape) (a : Fin s.rank) (h : s.Iotas .tc 32 [a]) (i : s.Idx) : iota .tc s 32 [a] h i = BitVec.ofNat 32 (i a).val := by
  show BitVec.ofNat 32 (0 * s.size a + (i a).val) = _
  rw [Nat.zero_mul, Nat.zero_add]

/-- The column of cell keys. -/
theorem c30 : k1_pay30 (fun j => img T (j 0)) (fun j => cx T (j 0)) (fun j => cy T (j 0)) (fun j => best T (j 0)) (fun j => okBit T (j 0)) = fun j => key T (j 0) := by
  funext j
  show Scalar.select (okBit T (j 0)) (keyVal T (j 0)) (IntOp.subi 4294967295#32 (iota .tc S128x1 32 [0] iota_S128x1_d0_w32 j)) = _
  rw [iota_axis]; rfl

/-- The column of cell and class keys. -/
theorem c32 : k1_pay32 (fun j => img T (j 0)) (fun j => cls T (j 0)) (fun j => cx T (j 0)) (fun j => cy T (j 0)) (fun j => best T (j 0)) (fun j => okBit T (j 0)) = fun j => pkey T (j 0) := by
  unfold k1_pay32
  dsimp only
  rw [c30, c31]
  funext j
  show Scalar.select (okcBit T (j 0)) _ (IntOp.subi 4294967295#32 (iota .tc S128x1 32 [0] iota_S128x1_d0_w32 j)) = _
  rw [iota_axis]; rfl

/-- The number of a target, along the row. -/
abbrev rowNo : IVec S1x128 32 := iota .tc S1x128 32 [1] iota_S1x128_d1_w32

/-- The row of cell keys. -/
theorem r33 : k1_pay33 (fun j => img T (j 1)) (fun j => cx T (j 1)) (fun j => cy T (j 1)) (fun j => best T (j 1)) (fun j => okBit T (j 1)) rowNo 3#32 = fun j => key T (j 1) := by
  funext j
  show Scalar.select (okBit T (j 1)) (keyVal T (j 1)) (IntOp.subi 4294967295#32 (iota .tc S1x128 32 [1] iota_S1x128_d1_w32 j)) = _
  rw [iota_axis]; rfl

/-- Comparing with zero. -/
theorem ofIdeal (v : Vec Ideal S128 .f32) (t : S128.Idx) :
    cmpf .ogt v (broadcast S128 (Scalar.ofBits .f32 0x00000000#32 : Ideal .f32)) t = 1#1 ↔ (0 : EReal) < v t := by
  rw [← Ideal.ofBits_zero_f32]
  exact (ofBool_one _).trans decide_eq_true_iff

/-- The largest of a row of ones and zeros is above zero exactly when there is a one. -/
theorem any_row (D : IVec S128x128 1) (hφ hacc) (t : Fin 128) :
    cmpf .ogt (multiReduction .maximumf [1] S128 (select D (broadcast S128x128 (Scalar.ofBits .f32 0x3F800000#32 : Ideal .f32))
      (broadcast S128x128 (Scalar.ofBits .f32 0x00000000#32 : Ideal .f32))) 0xFF800000#32 reduces_S128x128_S128 hφ hacc)
      (broadcast S128 (Scalar.ofBits .f32 0x00000000#32 : Ideal .f32)) (ix1 t) = 1#1 ↔ ∃ c, D (ix2 t c) = 1#1 := by
  rw [ofIdeal, Ideal.multiReduction_maximumf_single]
  have hb : (FloatOps.ofBits .f32 0xFF800000#32 : Ideal .f32) = (⊥ : EReal) := by
    show Ideal.ofBits .f32 0xFF800000#32 = ⊥
    simp [Ideal.ofBits, Ideal.ieee]
  rw [hb]
  refine (Finset.lt_fold_max (f := _) (s := Finset.univ) (b := (⊥ : EReal)) (0 : EReal)).trans ?_
  have hl : ∀ c : Fin 128, reduces_S128x128_S128.lift (ix1 t) c = (ix2 t c : S128x128.Idx) := fun c => by
    funext a; fin_cases a <;> rfl
  constructor
  · rintro (h | ⟨c, -, h⟩)
    · exact absurd h (by simp)
    · refine ⟨c, ?_⟩
      by_contra hn
      have : D (ix2 t c) = 0#1 := by
        revert hn; generalize D (ix2 t c) = b; revert b; decide
      change (0 : EReal) < Scalar.select (D (reduces_S128x128_S128.lift (ix1 t) c)) (Ideal.ofBits .f32 0x3F800000#32) (Ideal.ofBits .f32 0x00000000#32) at h
      rw [hl c, WordCmp.select_of_eq_zero this, Ideal.ofBits_zero_f32] at h
      exact lt_irrefl _ h
  · rintro ⟨c, hc⟩
    refine Or.inr ⟨c, Finset.mem_univ _, ?_⟩
    show (0 : EReal) < Scalar.select (D (reduces_S128x128_S128.lift (ix1 t) c)) (Ideal.ofBits .f32 0x3F800000#32) (Ideal.ofBits .f32 0x00000000#32)
    rw [hl c, WordCmp.select_of_eq_one hc, Ideal.ofBits_one_f32]
    exact zero_lt_one

end Cols
end Cert.Yolo
end
-- ==== Proof.KernelGather.lean ====
module

public import proofs.«01_k».proof.Proof.KernelCols

@[expose] public section

noncomputable section

namespace Cert.Yolo
open Idealize.ShloMosaic Idealize.ShloMosaic.ValueIdx
open Cert.Kernel Cert.Kernel.Gen Cert.Kernel.Main
open scoped Classical BigOperators

/-! ## The kernel's gathered cells -/

section Gather
variable (P : Vec Ideal S16x255x80x80 .f32) (T : Vec Ideal S128x6 .f32)

/-- A word kept between zero and `n`. -/
def clamp (n : ℕ) (v : BitVec 32) : BitVec 32 := IntOp.minsi (BitVec.ofNat 32 n) (IntOp.maxsi 0#32 v)

/-- A word in the range is itself. -/
theorem clamp_in (n : ℕ) (hn : n < 2 ^ 31) (v : BitVec 32) (h0 : 0 ≤ v.toInt) (h1 : v.toInt ≤ n) : clamp n v = v := by
  have e : IntOp.maxsi 0#32 v = v := by
    unfold IntOp.maxsi
    split
    · next h => exact absurd (show (0#32).toInt > v.toInt by simpa [BitVec.slt, BitVec.sle] using h) (by simpa using h0)
    · rfl
  unfold clamp
  rw [e]
  have en : (BitVec.ofNat 32 n).toInt = n := by
    rw [BitVec.toInt_eq_toNat_of_lt (by rw [BitVec.toNat_ofNat]; omega), BitVec.toNat_ofNat]; omega
  unfold IntOp.minsi
  split
  · next h =>
    have hle : (BitVec.ofNat 32 n).toInt ≤ v.toInt := by
      first
      | exact BitVec.sle_iff_toInt_le.1 h
      | exact le_of_lt (BitVec.slt_iff_toInt_lt.1 h)
    exact BitVec.eq_of_toInt_eq (by omega)
  · rfl

/-- The first call's column of image numbers. -/
theorem m5 : k0_pay5 T = fun j => img T (j 0) := congrArg (fptosi 32) (col_at T 0 (by decide) _)
/-- Its column of cells along x. -/
theorem m6 : k0_pay6 T = fun j => cx T (j 0) := by
  unfold k0_pay6; dsimp only; rw [col_at T 2 (by decide)]; rfl
/-- Its column of cells along y. -/
theorem m7 : k0_pay7 T = fun j => cy T (j 0) := by
  unfold k0_pay7; dsimp only; rw [col_at T 3 (by decide)]; rfl
/-- Its column of widths in cells. -/
theorem m8 : k0_pay8 T = fun j => T (ix2 (j 0) 4) * eighty := by
  unfold k0_pay8; dsimp only; rw [col_at T 4 (by decide)]; rfl
/-- Its column of heights in cells. -/
theorem m9 : k0_pay9 T = fun j => T (ix2 (j 0) 5) * eighty := by
  unfold k0_pay9; dsimp only; rw [col_at T 5 (by decide)]; rfl

/-- Its clamped image number of a target. -/
theorem colB_at (t : Fin 128) : colB T (ix2 t 0) = clamp 15 (img T t) := by unfold colB; rw [m5]; rfl
/-- Its clamped row of a target. -/
theorem colY_at (t : Fin 128) : colY T (ix2 t 0) = clamp 79 (cy T t) := by unfold colY; rw [m7]; rfl
/-- Its clamped lane of a target. -/
theorem colX_at (t : Fin 128) : colX T (ix2 t 0) = clamp 79 (cx T t) := by unfold colX; rw [m6]; rfl
/-- Its best anchor of a target. -/
theorem colA_at (t : Fin 128) : colA T (ix2 t 0) = best T t := by
  unfold colA k0_pay13 k0_pay11 k0_pay12; dsimp only; rw [m8, m9]; rfl
/-- Its bit of a target, as a word. -/
theorem colV_at (t : Fin 128) : colV T (ix2 t 0) = (okBit T t).setWidth 32 := by
  unfold colV; rw [m5, m6, m7]; rfl

/-- A cell's channel, as the predictions are laid out. -/
def chanIdx (c : S16x3x80x80.Idx) (k : Fin 85) : S16x255x80x80.Idx :=
  ix4 (c 0) ⟨85 * (c 1).val + k.val, by have : (c 1).val < 3 := (c 1).isLt; have := k.isLt; omega⟩ (c 2) (c 3)
/-- A cell's channel. -/
def chan (c : S16x3x80x80.Idx) (k : Fin 85) : EReal := P (chanIdx c k)

/-- What is gathered for a target in the grid is its cell. -/
theorem gathered {t : Fin 128} (h : ok T t) (k : Fin 85) :
    cellVal P (metaOut T) (ix3 t k ⟨(cx T t).toNat % 80, Nat.mod_lt _ (by decide)⟩) = chan P (cell T t) k := by
  obtain ⟨⟨h1, e1⟩, ⟨h2, e2⟩, ⟨h3, e3⟩⟩ := ok_words T h
  have hb := best_lt T t
  refine congrArg P (funext fun a => Fin.ext ?_)
  have hk := k.isLt
  fin_cases a
  · show (colB T (ix2 t 0)).toNat % 16 = (img T t).toNat % 16
    rw [colB_at, clamp_in 15 (by decide) _ (by omega) (by omega)]
  · show (((colA T (ix2 t 0)) * 85#32).toNat + k.val) % 255 = 85 * ((best T t).toNat % 3) + k.val
    rw [colA_at, BitVec.toNat_mul]
    change ((best T t).toNat * 85 % 2 ^ 32 + k.val) % 255 = _
    rw [Nat.mod_eq_of_lt (show (best T t).toNat * 85 < 2 ^ 32 by omega), Nat.mod_eq_of_lt hb, Nat.mod_eq_of_lt (by omega), Nat.mul_comm]
  · show (colY T (ix2 t 0)).toNat % 80 = (cy T t).toNat % 80
    rw [colY_at, clamp_in 79 (by decide) _ (by omega) (by omega)]
  · rfl

/-- One more axis of one element. -/
theorem cast_31 {α : Type} (v : S128x1.Idx → α) : shapeCast S128x1x1 v shapeCasts_S128x1_S128x1x1 = fun i => v (ix2 (i 0) 0) := by
  funext i
  refine congrArg v (Shape.reshapeEquiv_eq_of_rowMajor _ ?_)
  have h1 : (i 1).val < 1 := (i 1).isLt
  have h2 : (i 2).val < 1 := (i 2).isLt
  rw [Shape.rowMajor_val_two, Shape.rowMajor_val_three]
  show (i 0).val * 1 + 0 = ((i 0).val * 1 + (i 1).val) * 1 + (i 2).val
  omega

/-- The kernel's sum over the lanes picks the target's. -/
theorem picked {t : Fin 128} (h : ok T t) (k : Fin 85) :
    k1_pay38 (fun j => cx T (j 0)) (cellVal P (metaOut T)) (ix2 t k) = chan P (cell T t) k := by
  obtain ⟨-, ⟨h2, e2⟩, -⟩ := ok_words T h
  rw [← gathered P T h k]
  unfold k1_pay38
  dsimp only
  rw [cast_31]
  refine (Ideal.multiReduction_add_single _ _ _ _ _ _).trans ?_
  have hl : ∀ x : Fin 80, reduces_S128x85x80_S128x85.lift (ix2 t k) x = (ix3 t k x : S128x85x80.Idx) := fun x => by
    funext a; fin_cases a <;> rfl
  have key : ∀ x : Fin 80, Scalar.select (IntOp.cmpi .eq (iota .tc S128x85x80 32 [2] iota_S128x85x80_d2_w32 (ix3 t k x)) (clamp 79 (cx T t)))
      (cellVal P (metaOut T) (ix3 t k x)) (Ideal.ofBits .f32 0x00000000#32 : EReal)
      = if x = ⟨(cx T t).toNat % 80, Nat.mod_lt _ (by decide)⟩ then cellVal P (metaOut T) (ix3 t k x) else 0 := by
    intro x
    rw [iota_axis, clamp_in 79 (by decide) _ (by omega) (by omega)]
    have hx := x.isLt
    change Scalar.select (IntOp.cmpi .eq (BitVec.ofNat 32 x.val) _) _ _ = _
    by_cases hc : x.val = (cx T t).toNat
    · rw [WordCmp.select_of_eq_one ((eq_one _ _).2 (by rw [hc]; simp)), if_pos (Fin.ext (by simp only; omega))]
    · have hne : ¬ BitVec.ofNat 32 x.val = cx T t := fun e => hc (by
        have := congrArg BitVec.toNat e
        rw [BitVec.toNat_ofNat] at this
        omega)
      have hz : IntOp.cmpi .eq (BitVec.ofNat 32 x.val) (cx T t) = 0#1 := by
        have := mt (eq_one (BitVec.ofNat 32 x.val) (cx T t)).1 hne
        revert this; generalize IntOp.cmpi .eq (BitVec.ofNat 32 x.val) (cx T t) = b; revert b; decide
      rw [WordCmp.select_of_eq_zero hz, if_neg (fun e => hc (by have := congrArg Fin.val e; simp only at this; omega)), Ideal.ofBits_zero_f32]
  refine (Finset.sum_congr rfl fun x _ => ?_ : _ = ∑ x : Fin 80, if x = ⟨(cx T t).toNat % 80, Nat.mod_lt _ (by decide)⟩ then cellVal P (metaOut T) (ix3 t k x) else (0 : EReal)).trans ?_
  · rw [← key x]
    show Scalar.select (IntOp.cmpi .eq (iota .tc S128x85x80 32 [2] iota_S128x85x80_d2_w32 (reduces_S128x85x80_S128x85.lift (ix2 t k) x)) _) (cellVal P (metaOut T) (reduces_S128x85x80_S128x85.lift (ix2 t k) x)) _ = _
    rw [hl x]
    rfl
  · rw [Finset.sum_ite_eq' Finset.univ, if_pos (Finset.mem_univ _)]

/-- A number of targets' marks are the mark of the vector. -/
theorem cast_21 {α : Type} (v : S128.Idx → α) : shapeCast S128x1 v shapeCasts_S128_S128x1 = fun i => v (ix1 (i 0)) := by
  funext i
  refine congrArg v (Shape.reshapeEquiv_eq_of_rowMajor _ ?_)
  have h1 : (i 1).val < 1 := (i 1).isLt
  rw [Shape.rowMajor_val_one, Shape.rowMajor_val_two]
  show (i 0).val = (i 0).val * 1 + (i 1).val
  omega

/-- Exclusive or with one is the negation. -/
theorem xor_one (b : BitVec 1) : IntOp.xori b 1#1 = 1#1 ↔ ¬ b = 1#1 := by revert b; decide

/-- A mark as a number. -/
def mark (p : Prop) : EReal := if p then 1 else 0

/-- A bit as a float is a mark. -/
theorem mark_bit (b : BitVec 1) (p : Prop) (h : b = 1#1 ↔ p) : (((b.setWidth 32).toInt : ℝ) : EReal) = mark p := by
  unfold mark
  by_cases hp : p
  · rw [if_pos hp, h.2 hp]; norm_num
  · have hb : b = 0#1 := by
      have := mt h.1 hp
      revert this; clear h hp; revert b; decide
    rw [if_neg hp, hb]; norm_num

/-- Later, as the kernel finds it. -/
theorem later (t c : Fin 128) : IntOp.cmpi .sgt (iota .tc S128x128 32 [1] iota_S128x128_d1_w32 (ix2 t c)) (iota .tc S128x128 32 [0] iota_S128x128_d0_w32 (ix2 t c)) = 1#1 ↔ t < c := by
  rw [iota_axis, iota_axis, sgt_one]
  have h : ∀ x : Fin 128, (BitVec.ofNat 32 x.val).toInt = x.val := fun x => by
    have := x.isLt
    rw [BitVec.toInt_eq_toNat_of_lt (by rw [BitVec.toNat_ofNat]; omega), BitVec.toNat_ofNat]; omega
  change (BitVec.ofNat 32 t.val).toInt < (BitVec.ofNat 32 c.val).toInt ↔ _
  rw [h, h, Fin.lt_def]
  exact Int.ofNat_lt

/-- A target is the last of its place when no later one that counts has its number. -/
theorem last_iff {I : Type} (okb : Fin 128 → BitVec 1) (num : Fin 128 → BitVec 32) (place : Fin 128 → I)
    (hn : ∀ t t', okb t = 1#1 → okb t' = 1#1 → (num t = num t' ↔ place t = place t')) (t : Fin 128) (D : IVec S128x128 1)
    (hD : ∀ c, D (ix2 t c) = IntOp.andi (IntOp.andi (IntOp.cmpi .eq (num t) (num c))
      (IntOp.cmpi .sgt (iota .tc S128x128 32 [1] iota_S128x128_d1_w32 (ix2 t c)) (iota .tc S128x128 32 [0] iota_S128x128_d0_w32 (ix2 t c)))) (okb c)) :
    (okb t = 1#1 ∧ ¬ ∃ c, D (ix2 t c) = 1#1) ↔ Last (fun t => okb t = 1#1) place t := by
  unfold Last
  refine and_congr_right fun hok => ?_
  rw [not_exists]
  refine forall_congr' fun c => ?_
  rw [hD c, andi_one, andi_one, eq_one, later]
  constructor
  · intro h hlt hc he
    exact h ⟨⟨(hn t c hok hc).2 he.symm, hlt⟩, hc⟩
  · rintro h ⟨⟨he, hlt⟩, hc⟩
    exact h hlt hc ((hn t c hok hc).1 he).symm

/-- The targets the kernel counts are the last of their cell. -/
theorem winner : k1_pay36 (F := Ideal) (k1_pay34 (F := Ideal) (fun j => okBit T (j 0)) (fun j => img T (j 1)) (fun j => cx T (j 1)) (fun j => cy T (j 1)) (fun j => best T (j 1))
      (fun j => okBit T (j 1)) (iota .tc S128x128 32 [0] iota_S128x128_d0_w32) (iota .tc S128x128 32 [1] iota_S128x128_d1_w32) rowNo (fun j => key T (j 0)) 3#32)
    = fun j => mark (Win T (j 0)) := by
  funext j
  refine mark_bit _ _ ?_
  unfold k1_pay34
  dsimp only
  rw [r33, cast_21]
  refine (andi_one _ _).trans ((and_congr Iff.rfl ((xor_one _).trans (not_congr (any_row _ _ _ (j 0))))).trans ?_)
  exact last_iff (okBit T) (key T) (cell T) (fun t t' h h' => key_eq_iff T h h') (j 0) _ fun c => rfl

/-- The targets whose class it counts are the last of their cell and class. -/
theorem winnerc : k1_pay37 (F := Ideal) (fun j => okcBit T (j 0)) (k1_pay35 (fun j => img T (j 1)) (fun j => cls T (j 1)) (fun j => cx T (j 1)) (fun j => cy T (j 1)) (fun j => best T (j 1))
      (fun j => okBit T (j 1)) (iota .tc S128x128 32 [0] iota_S128x128_d0_w32) (iota .tc S128x128 32 [1] iota_S128x128_d1_w32) rowNo (fun j => pkey T (j 0)) 3#32)
      (Scalar.ofBits .f32 0x3F800000#32 : Ideal .f32)
    = fun j => mark (Winc T (j 0)) := by
  funext j
  refine mark_bit _ _ ?_
  unfold k1_pay35
  dsimp only
  rw [r33, cast_21]
  refine (andi_one _ _).trans ((and_congr Iff.rfl ((xor_one _).trans (not_congr (any_row _ _ _ (j 0))))).trans ?_)
  refine last_iff (okcBit T) (pkey T) (fun t => (cell T t, kcls T t)) (fun t t' h h' => pkey_eq_iff T h h') (j 0) _ fun c => ?_
  show IntOp.andi (IntOp.andi (IntOp.cmpi .eq (pkey T (j 0)) (Scalar.select (okcBit T c) (IntOp.addi (IntOp.muli (key T c) 80#32) (cls T c)) (IntOp.subi 4294967295#32 (rowNo (ix2 0 c))))) _) _ = _
  have e : rowNo (ix2 0 c) = BitVec.ofNat 32 c.val := iota_axis _ _ _ _
  rw [e]
  rfl

end Gather
end Cert.Yolo
end
-- ==== Proof.RefCols.lean ====
module

public import proofs.«01_k».proof.Proof.Targets
public import proofs.«01_k».proof.Proof.KernelGather
public import proofs.«01_k».proof.Proof.Gen.ReferenceIdeal.Run
public import Idealize.ShloMosaic.Lib.ValueIdx
public import Idealize.ShloMosaic.Lib.IdealHost

@[expose] public section

noncomputable section

namespace Cert.Yolo
open Idealize.ShloMosaic Idealize.ShloMosaic.ValueIdx
open Cert.ReferenceIdeal Cert.ReferenceIdeal.Gen Cert.ReferenceIdeal.Value
open scoped Classical BigOperators

/-! ## The reference's vectors, target by target -/

section Shapes
variable {α : Type}

/-- Columns of a table. -/
theorem cols2 {n m q : ℕ} (k : ℕ) (v : (⟨2, ![n, m]⟩ : Shape).Idx → α) (h : (⟨2, ![n, m]⟩ : Shape).Slices ![0, k] ⟨2, ![n, q]⟩)
    (a : Fin n) (b : Fin q) (hb : k + b.val < m) : extractStridedSlice ⟨2, ![n, q]⟩ ![0, k] v h (ix2 a b) = v (ix2 a ⟨k + b.val, hb⟩) := by
  refine congrArg v (funext fun x => Fin.ext ?_)
  fin_cases x
  · show 0 + a.val = a.val; omega
  · rfl

/-- A column as a vector. -/
theorem drop2 {n : ℕ} (v : (⟨2, ![n, 1]⟩ : Shape).Idx → α) (h : (⟨2, ![n, 1]⟩ : Shape).ShapeCasts ⟨1, ![n]⟩) (a : Fin n) :
    shapeCast ⟨1, ![n]⟩ v h (ix1 a) = v (ix2 a 0) := by
  refine congrArg v (Shape.reshapeEquiv_eq_of_rowMajor _ ?_)
  rw [Shape.rowMajor_val_one, Shape.rowMajor_val_two]
  show a.val * 1 + 0 = a.val
  omega

/-- Last columns of a table of tables. -/
theorem cols3 {n p m q : ℕ} (k : ℕ) (v : (⟨3, ![n, p, m]⟩ : Shape).Idx → α) (h : (⟨3, ![n, p, m]⟩ : Shape).Slices ![0, 0, k] ⟨3, ![n, p, q]⟩)
    (a : Fin n) (c : Fin p) (b : Fin q) (hb : k + b.val < m) : extractStridedSlice ⟨3, ![n, p, q]⟩ ![0, 0, k] v h (ix3 a c b) = v (ix3 a c ⟨k + b.val, hb⟩) := by
  refine congrArg v (funext fun x => Fin.ext ?_)
  fin_cases x
  · show 0 + a.val = a.val; omega
  · show 0 + c.val = c.val; omega
  · rfl

/-- A last column as a table. -/
theorem drop3 {n p : ℕ} (v : (⟨3, ![n, p, 1]⟩ : Shape).Idx → α) (h : (⟨3, ![n, p, 1]⟩ : Shape).ShapeCasts ⟨2, ![n, p]⟩) (a : Fin n) (c : Fin p) :
    shapeCast ⟨2, ![n, p]⟩ v h (ix2 a c) = v (ix3 a c 0) := by
  refine congrArg v (Shape.reshapeEquiv_eq_of_rowMajor _ ?_)
  rw [Shape.rowMajor_val_two, Shape.rowMajor_val_three]
  show (a.val * p + c.val) * 1 + 0 = a.val * p + c.val
  omega

/-- A table of targets spread over the anchors. -/
theorem spread_left (v : S128x2.Idx → α) (t : Fin 128) (a : Fin 3) (k : Fin 2) :
    broadcastInDim S128x3x2 ![0, 1, 2] bcast_S128x1x2_S128x3x2_0_1_2 (broadcastInDim S128x1x2 ![0, 2] bcast_S128x2_S128x1x2_0_2 v) (ix3 t a k) = v (ix2 t k) := by
  unfold broadcastInDim
  exact congrArg v (funext fun x => by fin_cases x <;> rfl)

/-- A table of anchors spread over the targets. -/
theorem spread_right (v : S3x2.Idx → α) (t : Fin 128) (a : Fin 3) (k : Fin 2) :
    broadcastInDim S128x3x2 ![0, 1, 2] bcast_S1x3x2_S128x3x2_0_1_2 (broadcastInDim S1x3x2 ![1, 2] bcast_S3x2_S1x3x2_1_2 v) (ix3 t a k) = v (ix2 a k) := by
  unfold broadcastInDim
  exact congrArg v (funext fun x => by fin_cases x <;> rfl)

/-- A fold over three numbers. -/
theorem fold3 (f : α → α → α) [Std.Commutative f] [Std.Associative f] (b : α) (x : Fin 3 → α) :
    (Finset.univ : Finset (Fin 3)).fold f b x = f (x 0) (f (x 1) (f (x 2) b)) := by
  have e : (Finset.univ : Finset (Fin 3)) = insert 0 (insert 1 {2}) := by decide
  rw [e, Finset.fold_insert (by decide), Finset.fold_insert (by decide), Finset.fold_singleton]

/-- A reduction over three columns. -/
theorem reduce3 (f : α → α → α) [Std.Commutative f] [Std.Associative f] (x : S128x3.Idx → α) (init : S_.Idx → α) (t : Fin 128) :
    Host.reduce f x init reducesTo_S128x3_S128_d1 h_S_ (ix1 t)
      = f (x (ix2 t 0)) (f (x (ix2 t 1)) (f (x (ix2 t 2)) (init (Shape.Idx.first h_S_)))) := by
  have hr : S128x3.Reduces [1] S128 := by decide
  have hl : ∀ a : Fin 3, hr.lift (ix1 t) a = (ix2 t a : S128x3.Idx) := fun a => by
    funext x; fin_cases x <;> rfl
  refine (Host.reduce_eq_fold_single f x init reducesTo_S128x3_S128_d1 hr h_S_ (ix1 t)).trans ((fold3 f _ _).trans ?_)
  rw [← hl 0, ← hl 1, ← hl 2]
  rfl

end Shapes

section Cols
variable (V0 : Valuation τ sig (Elt Ideal))

/-- The targets. -/
def argT : Vec Ideal S128x6 .f32 := V0 (Proc.devRef .tc main_arg1)
/-- The predictions. -/
def argP : Vec Ideal S16x255x80x80 .f32 := V0 (Proc.devRef .tc main_arg0)

/-- The reference's image numbers. -/
theorem img_ref (t : Fin 128) : (res_main_v34 V0 : IVec S128 32) (ix1 t) = img (argT V0) t :=
  congrArg (Ideal.fptosi 32) ((drop2 (extractStridedSlice S128x1 ![0, 0] (argT V0) slices_S128x6_S128x1_0_0) shapeCasts_S128x1_S128 t).trans (cols2 0 (argT V0) _ t 0 (by decide)))
/-- Its class numbers. -/
theorem cls_ref (t : Fin 128) : (res_main_v31 V0 : IVec S128 32) (ix1 t) = cls (argT V0) t :=
  congrArg (Ideal.fptosi 32) ((drop2 (extractStridedSlice S128x1 ![0, 1] (argT V0) slices_S128x6_S128x1_0_1) shapeCasts_S128x1_S128 t).trans (cols2 1 (argT V0) _ t 0 (by decide)))
/-- Its boxes. -/
theorem box_ref (t : Fin 128) (j : Fin 4) : (res_main_v28 V0 : Vec Ideal S128x4 .f32) (ix2 t j) = argT V0 (ix2 t ⟨2 + j.val, by omega⟩) :=
  cols2 2 (argT V0) slices_S128x6_S128x4_0_2 t j (by omega)
/-- Its boxes in cells. -/
theorem grid_ref (t : Fin 128) (j : Fin 4) : (res_main_v36 V0 : Vec Ideal S128x4 .f32) (ix2 t j) = argT V0 (ix2 t ⟨2 + j.val, by omega⟩) * eighty :=
  congrArg (fun x : EReal => x * eighty) (box_ref V0 t j)
/-- Its cells along x. -/
theorem cx_ref (t : Fin 128) : (res_main_v78 V0 : IVec S128 32) (ix1 t) = cx (argT V0) t :=
  congrArg (Ideal.fptosi 32) (((drop2 (extractStridedSlice S128x1 ![0, 0] (res_main_v36 V0 : Vec Ideal S128x4 .f32) slices_S128x4_S128x1_0_0) shapeCasts_S128x1_S128 t).trans
    (cols2 0 (res_main_v36 V0 : Vec Ideal S128x4 .f32) _ t 0 (by decide))).trans (grid_ref V0 t 0))
/-- Its cells along y. -/
theorem cy_ref (t : Fin 128) : (res_main_v81 V0 : IVec S128 32) (ix1 t) = cy (argT V0) t :=
  congrArg (Ideal.fptosi 32) (((drop2 (extractStridedSlice S128x1 ![0, 1] (res_main_v36 V0 : Vec Ideal S128x4 .f32) slices_S128x4_S128x1_0_1) shapeCasts_S128x1_S128 t).trans
    (cols2 1 (res_main_v36 V0 : Vec Ideal S128x4 .f32) _ t 0 (by decide))).trans (grid_ref V0 t 1))
/-- Its widths and heights in cells. -/
theorem size_ref (t : Fin 128) (j : Fin 2) : (res_main_v37 V0 : Vec Ideal S128x2 .f32) (ix2 t j) = argT V0 (ix2 t ⟨4 + j.val, by omega⟩) * eighty :=
  (cols2 2 (res_main_v36 V0 : Vec Ideal S128x4 .f32) slices_S128x4_S128x2_0_2 t j (by omega)).trans ((grid_ref V0 t ⟨2 + j.val, by omega⟩).trans
    (congrArg (fun x : Fin 6 => argT V0 (ix2 t x) * eighty) (Fin.ext (show 2 + (2 + j.val) = 4 + j.val by omega))))

/-- The anchors, in cells. -/
def anchor (a : Fin 3) (k : Fin 2) : EReal :=
  Ideal.div (Ideal.ofBits .f32 (lit0 ⟨a.val * 2 + k.val, by omega⟩)) (Ideal.ofBits .f32 0x41000000#32)

/-- Its anchors in cells. -/
theorem anchor_ref (a : Fin 3) (k : Fin 2) : (res_main_v2 V0 : Vec Ideal S3x2 .f32) (ix2 a k) = anchor a k := by
  have e : Shape.reshapeEquiv shapeCasts_S6_S3x2 (ix2 a k) = (ix1 ⟨a.val * 2 + k.val, by omega⟩ : S6.Idx) :=
    Shape.reshapeEquiv_eq_of_rowMajor _ (by rw [Shape.rowMajor_val_one, Shape.rowMajor_val_two]; rfl)
  show Ideal.div (Ideal.ofBits .f32 (lit0 (S6.rowMajor (Shape.reshapeEquiv shapeCasts_S6_S3x2 (ix2 a k))))) _ = _
  rw [e]
  refine congrArg (fun i => Ideal.div (Ideal.ofBits .f32 (lit0 i)) (Ideal.ofBits .f32 0x41000000#32)) (Fin.ext ?_)
  rw [Shape.rowMajor_val_one]

/-- The reference's overlap. -/
theorem inter_ref (t : Fin 128) (a : Fin 3) : (res_main_v47 V0 : Vec Ideal S128x3 .f32) (ix2 t a) = inter (argT V0) t (anchor a 0) (anchor a 1) := by
  have e : ∀ k : Fin 2, (res_main_v42 V0 : Vec Ideal S128x3x2 .f32) (ix3 t a k) = min (argT V0 (ix2 t ⟨4 + k.val, by omega⟩) * eighty) (anchor a k) := fun k => by
    rw [← size_ref, ← anchor_ref V0]
    have h1 := spread_left (res_main_v37 V0 : Vec Ideal S128x2 .f32) t a k
    have h2 := spread_right (res_main_v2 V0 : Vec Ideal S3x2 .f32) t a k
    exact congrArg₂ (fun x y : EReal => min x y) h1 h2
  have d : ∀ k : Fin 2, ∀ h, shapeCast S128x3 (extractStridedSlice S128x3x1 ![0, 0, k.val] (res_main_v42 V0 : Vec Ideal S128x3x2 .f32) h) shapeCasts_S128x3x1_S128x3 (ix2 t a)
      = min (argT V0 (ix2 t ⟨4 + k.val, by omega⟩) * eighty) (anchor a k) := fun k h =>
    ((drop3 _ _ t a).trans (cols3 k.val (res_main_v42 V0 : Vec Ideal S128x3x2 .f32) h t a 0 (by show k.val + 0 < 2; omega))).trans (e k)
  exact congrArg₂ (fun x y : EReal => x * y) (d 0 slices_S128x3x2_S128x3x1_0_0_0) (d 1 slices_S128x3x2_S128x3x1_0_0_1)

/-- Its overlaps. -/
theorem iou_ref (t : Fin 128) (a : Fin 3) : (res_main_v66 V0 : Vec Ideal S128x3 .f32) (ix2 t a) = iou (argT V0) t (anchor a 0) (anchor a 1) (anchor a 0 * anchor a 1) := by
  have s : ∀ k : Fin 2, ∀ h, shapeCast S128 (extractStridedSlice S128x1 ![0, k.val] (res_main_v37 V0 : Vec Ideal S128x2 .f32) h) shapeCasts_S128x1_S128 (ix1 t)
      = argT V0 (ix2 t ⟨4 + k.val, by omega⟩) * eighty := fun k h =>
    ((drop2 _ _ t).trans (cols2 k.val (res_main_v37 V0 : Vec Ideal S128x2 .f32) h t 0 (by show k.val + 0 < 2; omega))).trans (size_ref V0 t k)
  have q : ∀ k : Fin 2, ∀ h, shapeCast S3 (extractStridedSlice S3x1 ![0, k.val] (res_main_v2 V0 : Vec Ideal S3x2 .f32) h) shapeCasts_S3x1_S3 (ix1 a) = anchor a k := fun k h =>
    ((drop2 _ _ a).trans (cols2 k.val (res_main_v2 V0 : Vec Ideal S3x2 .f32) h a 0 (by show k.val + 0 < 2; omega))).trans (anchor_ref V0 a k)
  unfold iou
  rw [← inter_ref, ← q 0 slices_S3x2_S3x1_0_0, ← q 1 slices_S3x2_S3x1_0_1]
  have s0 := s 0 slices_S128x2_S128x1_0_0
  have s1 := s 1 slices_S128x2_S128x1_0_1
  change _ = argT V0 (ix2 t 4) * eighty at s0
  change _ = argT V0 (ix2 t 5) * eighty at s1
  rw [← s0, ← s1]
  rfl

/-- Its anchors' sizes are the kernel's constants. -/
theorem anchors : anchor 0 0 = Ideal.ofBits .f32 0x3FA00000#32 ∧ anchor 0 1 = Ideal.ofBits .f32 0x3FD00000#32
    ∧ anchor 1 0 = Ideal.ofBits .f32 0x40000000#32 ∧ anchor 1 1 = Ideal.ofBits .f32 0x40700000#32
    ∧ anchor 2 0 = Ideal.ofBits .f32 0x40840000#32 ∧ anchor 2 1 = Ideal.ofBits .f32 0x40380000#32 := by
  have h8 : Ideal.ofBits .f32 0x41000000#32 = ((8 : ℝ) : EReal) := by
    simp [Ideal.ofBits, Ideal.ieee, -EReal.coe_mul]; norm_num
  have h : ∀ (b c : BitVec 32) (x y : ℝ), Ideal.ofBits .f32 b = (x : EReal) → Ideal.ofBits .f32 c = (y : EReal) → x = 8 * y →
      Ideal.div (Ideal.ofBits .f32 b) (Ideal.ofBits .f32 0x41000000#32) = Ideal.ofBits .f32 c := by
    intro b c x y hb hc hxy
    rw [hb, hc, h8, Ideal.div_coe (by norm_num), ← EReal.coe_mul, hxy]
    congr 1; ring
  refine ⟨?_, ?_, ?_, ?_, ?_, ?_⟩
  · exact h 0x41200000#32 _ 10 1.25 (by simp [Ideal.ofBits, Ideal.ieee, -EReal.coe_mul]; norm_num) (by simp [Ideal.ofBits, Ideal.ieee, -EReal.coe_mul]; norm_num) (by norm_num)
  · exact h 0x41500000#32 _ 13 1.625 (by simp [Ideal.ofBits, Ideal.ieee, -EReal.coe_mul]; norm_num) (by simp [Ideal.ofBits, Ideal.ieee, -EReal.coe_mul]; norm_num) (by norm_num)
  · exact h 0x41800000#32 _ 16 2 (by simp [Ideal.ofBits, Ideal.ieee, -EReal.coe_mul]; norm_num) (by simp [Ideal.ofBits, Ideal.ieee, -EReal.coe_mul]; norm_num) (by norm_num)
  · exact h 0x41F00000#32 _ 30 3.75 (by simp [Ideal.ofBits, Ideal.ieee, -EReal.coe_mul]; norm_num) (by simp [Ideal.ofBits, Ideal.ieee, -EReal.coe_mul]; norm_num) (by norm_num)
  · exact h 0x42040000#32 _ 33 4.125 (by simp [Ideal.ofBits, Ideal.ieee, -EReal.coe_mul]; norm_num) (by simp [Ideal.ofBits, Ideal.ieee, -EReal.coe_mul]; norm_num) (by norm_num)
  · exact h 0x41B80000#32 _ 23 2.875 (by simp [Ideal.ofBits, Ideal.ieee, -EReal.coe_mul]; norm_num) (by simp [Ideal.ofBits, Ideal.ieee, -EReal.coe_mul]; norm_num) (by norm_num)

/-- So are their areas. -/
theorem areas : anchor 0 0 * anchor 0 1 = Ideal.ofBits .f32 0x40020000#32 ∧ anchor 1 0 * anchor 1 1 = Ideal.ofBits .f32 0x40F00000#32
    ∧ anchor 2 0 * anchor 2 1 = Ideal.ofBits .f32 0x413DC000#32 := by
  obtain ⟨e0, e1, e2, e3, e4, e5⟩ := anchors
  have h : ∀ (a b c : BitVec 32) (x y z : ℝ), Ideal.ofBits .f32 a = (x : EReal) → Ideal.ofBits .f32 b = (y : EReal) → Ideal.ofBits .f32 c = (z : EReal) → x * y = z →
      Ideal.ofBits .f32 a * Ideal.ofBits .f32 b = Ideal.ofBits .f32 c := by
    intro a b c x y z ha hb hc hxy
    rw [ha, hb, hc, ← EReal.coe_mul, hxy]
  rw [e0, e1, e2, e3, e4, e5]
  refine ⟨h _ _ _ 1.25 1.625 2.03125 ?_ ?_ ?_ (by norm_num), h _ _ _ 2 3.75 7.5 ?_ ?_ ?_ (by norm_num), h _ _ _ 4.125 2.875 11.859375 ?_ ?_ ?_ (by norm_num)⟩ <;>
    (simp [Ideal.ofBits, Ideal.ieee, -EReal.coe_mul]; norm_num)

/-- Its overlaps with the three anchors are the kernel's. -/
theorem ious (t : Fin 128) : (res_main_v66 V0 : Vec Ideal S128x3 .f32) (ix2 t 0) = iou0 (argT V0) t ∧ (res_main_v66 V0 : Vec Ideal S128x3 .f32) (ix2 t 1) = iou1 (argT V0) t
    ∧ (res_main_v66 V0 : Vec Ideal S128x3 .f32) (ix2 t 2) = iou2 (argT V0) t := by
  obtain ⟨e0, e1, e2, e3, e4, e5⟩ := anchors
  obtain ⟨a0, a1, a2⟩ := areas
  refine ⟨?_, ?_, ?_⟩
  · rw [iou_ref, a0, e0, e1]; rfl
  · rw [iou_ref, a1, e2, e3]; rfl
  · rw [iou_ref, a2, e4, e5]; rfl

/-- The first of three that is largest. -/
theorem first_largest (x y z : EReal) :
    IntOp.minsi (Scalar.select (Ideal.cmp .oeq x (max x (max y (max z ⊥)))) 0#32 3#32)
      (IntOp.minsi (Scalar.select (Ideal.cmp .oeq y (max x (max y (max z ⊥)))) 1#32 3#32)
        (IntOp.minsi (Scalar.select (Ideal.cmp .oeq z (max x (max y (max z ⊥)))) 2#32 3#32) 2147483647#32))
    = Scalar.select (Ideal.cmp .ogt z (max x y)) 2#32 (Scalar.select (Ideal.cmp .ogt y x) 1#32 0#32) := by
  have ho : ∀ a b : EReal, Ideal.cmp .oeq a b = BitVec.ofBool (decide (a = b)) := fun a b => rfl
  have hg : ∀ a b : EReal, Ideal.cmp .ogt a b = BitVec.ofBool (decide (b < a)) := fun a b => rfl
  rw [ho, ho, ho, hg, hg, max_bot_right]
  by_cases h2 : max x y < z
  · have hx : x ≠ max x (max y z) := ne_of_lt (lt_of_le_of_lt (le_max_left x y) (lt_of_lt_of_le h2 (by simp)))
    have hy : y ≠ max x (max y z) := ne_of_lt (lt_of_le_of_lt (le_max_right x y) (lt_of_lt_of_le h2 (by simp)))
    have hz : z = max x (max y z) := by
      rw [← max_assoc, max_eq_right h2.le]
    rw [decide_eq_false hx, decide_eq_false hy, decide_eq_true hz, decide_eq_true h2]
    rfl
  · have hm : max x (max y z) = max x y := by rw [← max_assoc, max_eq_left (not_lt.1 h2)]
    rw [hm, decide_eq_false h2]
    by_cases h1 : x < y
    · rw [max_eq_right h1.le, decide_eq_false (ne_of_lt h1), decide_eq_true rfl, decide_eq_true h1]
      generalize decide (z = y) = b
      revert b; decide
    · rw [max_eq_left (not_lt.1 h1), decide_eq_true rfl, decide_eq_false h1]
      generalize decide (y = x) = b
      generalize decide (z = x) = c
      revert b c; decide

/-- The least number whose value is the given one. -/
theorem least (x : Vec Ideal S128x3 .f32) (M : Vec Ideal S128 .f32) (t : Fin 128) :
    Host.reduce IntOp.minsi (select (cmpf (F := Ideal) (φ := .f32) .oeq x (broadcastInDim S128x3 ![0, 1] bcast_S128x1_S128x3_0_1 (broadcastInDim (α := Ideal .f32) S128x1 ![0] bcast_S128_S128x1_0 M)))
        (broadcastInDim S128x3 ![1] bcast_S3_S128x3_1 (iotaInDim S3 32 0)) (broadcastInDim S128x3 ![] bcast_S_S128x3 (constantI S_ 32 3#32)))
      (constantI S_ 32 2147483647#32) reducesTo_S128x3_S128_d1 h_S_ (ix1 t)
    = IntOp.minsi (Scalar.select (Ideal.cmp .oeq (x (ix2 t 0)) (M (ix1 t))) 0#32 3#32)
      (IntOp.minsi (Scalar.select (Ideal.cmp .oeq (x (ix2 t 1)) (M (ix1 t))) 1#32 3#32)
        (IntOp.minsi (Scalar.select (Ideal.cmp .oeq (x (ix2 t 2)) (M (ix1 t))) 2#32 3#32) 2147483647#32)) := by
  refine (reduce3 (IntOp.minsi (w := 32)) _ _ t).trans ?_
  have e : broadcastInDim (α := Ideal .f32) S128x1 ![0] bcast_S128_S128x1_0 M = fun j => M (ix1 (j 0)) := by
    unfold broadcastInDim
    funext j
    exact congrArg M (funext fun x => by fin_cases x; rfl)
  rw [e]
  rfl

/-- The reference's anchor is the kernel's. -/
theorem best_ref (t : Fin 128) : (res_main_v75 V0 : IVec S128 32) (ix1 t) = best (argT V0) t := by
  obtain ⟨e0, e1, e2⟩ := ious V0 t
  have hb : Ideal.ofBits .f32 0xFF800000#32 = (⊥ : EReal) := by simp [Ideal.ofBits, Ideal.ieee]
  have hm : Host.reduce (α := Ideal .f32) FloatOps.maximumf (res_main_v66 V0 : Vec Ideal S128x3 .f32) (constant S_ .f32 0xFF800000#32) reducesTo_S128x3_S128_d1 h_S_ (ix1 t)
      = max (iou0 (argT V0) t) (max (iou1 (argT V0) t) (max (iou2 (argT V0) t) ⊥)) := by
    rw [← e0, ← e1, ← e2, ← hb]
    exact reduce3 _ _ _ t
  unfold best
  rw [← first_largest, ← hm, ← e0, ← e1, ← e2]
  exact least _ _ t

end Cols
end Cert.Yolo
end
-- ==== Proof.RefMarks.lean ====
module

public import proofs.«01_k».proof.Proof.RefCols
public import Idealize.ShloMosaic.Lib.Routing.OpsPair

@[expose] public section

noncomputable section

namespace Cert.Yolo
open Idealize.ShloMosaic Idealize.ShloMosaic.ValueIdx Idealize.ShloMosaic.Routing
open Cert.ReferenceIdeal Cert.ReferenceIdeal.Gen Cert.ReferenceIdeal.Value
open scoped Classical BigOperators

/-! ## The reference's marks -/

abbrev dMark := scatter_S16x3x80x80_S128x4_S128_n_0123_0123_1
abbrev dClass := scatter_S16x3x80x80x80_S128x5_S128_n_01234_01234_1
abbrev dBox := scatter_S16x3x80x80x4_S128x4_S128x4_1_0123_0123_1

/-- Where a mark starts. -/
theorem mark_start (t : Fin 128) (idx : IVec S128x4 32) (a : Fin 4) : dMark.start (ix1 t) idx a = (idx (ix2 t a)).toInt := by
  fin_cases a <;> (refine congrArg (fun i => (idx i).toInt) (funext fun b => ?_); fin_cases b <;> rfl)
/-- A mark has no window. -/
theorem mark_window (t : Fin 128) (a : Fin 4) : dMark.window (ix1 t) a = 0 := by
  fin_cases a <;> rfl
/-- Where a class mark starts. -/
theorem class_start (t : Fin 128) (idx : IVec S128x5 32) (a : Fin 5) : dClass.start (ix1 t) idx a = (idx (ix2 t a)).toInt := by
  fin_cases a <;> (refine congrArg (fun i => (idx i).toInt) (funext fun b => ?_); fin_cases b <;> rfl)
/-- A class mark has no window. -/
theorem class_window (t : Fin 128) (a : Fin 5) : dClass.window (ix1 t) a = 0 := by
  fin_cases a <;> rfl
/-- Where a box starts, along a cell's axes. -/
theorem box_start (t : Fin 128) (j : Fin 4) (idx : IVec S128x4 32) (a : Fin 4) : dBox.start (ix2 t j) idx (Fin.castSucc a) = (idx (ix2 t a)).toInt := by
  fin_cases a <;> (refine congrArg (fun i => (idx i).toInt) (funext fun b => ?_); fin_cases b <;> rfl)
/-- A box starts at its first coordinate. -/
theorem box_start_last (t : Fin 128) (j : Fin 4) (idx : IVec S128x4 32) : dBox.start (ix2 t j) idx (Fin.last 4) = 0 := rfl
/-- A box has no window along a cell's axes. -/
theorem box_window (t : Fin 128) (j : Fin 4) (a : Fin 4) : dBox.window (ix2 t j) (Fin.castSucc a) = 0 := by
  fin_cases a <;> rfl
/-- Its window is its coordinates. -/
theorem box_window_last (t : Fin 128) (j : Fin 4) : dBox.window (ix2 t j) (Fin.last 4) = j.val := rfl

/-- Four columns side by side. -/
theorem columns4 (x0 x1 x2 x3 : S128x1.Idx → BitVec 32) (h) (t : Fin 128) :
    (concatenate S128x4 1 [⟨S128x1, x0⟩, ⟨S128x1, x1⟩, ⟨S128x1, x2⟩, ⟨S128x1, x3⟩] h (ix2 t 0) = x0 (ix2 t 0))
    ∧ (concatenate S128x4 1 [⟨S128x1, x0⟩, ⟨S128x1, x1⟩, ⟨S128x1, x2⟩, ⟨S128x1, x3⟩] h (ix2 t 1) = x1 (ix2 t 0))
    ∧ (concatenate S128x4 1 [⟨S128x1, x0⟩, ⟨S128x1, x1⟩, ⟨S128x1, x2⟩, ⟨S128x1, x3⟩] h (ix2 t 2) = x2 (ix2 t 0))
    ∧ (concatenate S128x4 1 [⟨S128x1, x0⟩, ⟨S128x1, x1⟩, ⟨S128x1, x2⟩, ⟨S128x1, x3⟩] h (ix2 t 3) = x3 (ix2 t 0)) := by
  refine ⟨?_, ?_, ?_, ?_⟩
  · exact congrArg x0 (funext fun x => by fin_cases x <;> rfl)
  · exact congrArg x1 (funext fun x => by fin_cases x <;> rfl)
  · exact congrArg x2 (funext fun x => by fin_cases x <;> rfl)
  · exact congrArg x3 (funext fun x => by fin_cases x <;> rfl)

/-- Five columns side by side. -/
theorem columns5 (x0 x1 x2 x3 x4 : S128x1.Idx → BitVec 32) (h) (t : Fin 128) :
    (concatenate S128x5 1 [⟨S128x1, x0⟩, ⟨S128x1, x1⟩, ⟨S128x1, x2⟩, ⟨S128x1, x3⟩, ⟨S128x1, x4⟩] h (ix2 t 0) = x0 (ix2 t 0))
    ∧ (concatenate S128x5 1 [⟨S128x1, x0⟩, ⟨S128x1, x1⟩, ⟨S128x1, x2⟩, ⟨S128x1, x3⟩, ⟨S128x1, x4⟩] h (ix2 t 1) = x1 (ix2 t 0))
    ∧ (concatenate S128x5 1 [⟨S128x1, x0⟩, ⟨S128x1, x1⟩, ⟨S128x1, x2⟩, ⟨S128x1, x3⟩, ⟨S128x1, x4⟩] h (ix2 t 2) = x2 (ix2 t 0))
    ∧ (concatenate S128x5 1 [⟨S128x1, x0⟩, ⟨S128x1, x1⟩, ⟨S128x1, x2⟩, ⟨S128x1, x3⟩, ⟨S128x1, x4⟩] h (ix2 t 3) = x3 (ix2 t 0))
    ∧ (concatenate S128x5 1 [⟨S128x1, x0⟩, ⟨S128x1, x1⟩, ⟨S128x1, x2⟩, ⟨S128x1, x3⟩, ⟨S128x1, x4⟩] h (ix2 t 4) = x4 (ix2 t 0)) := by
  refine ⟨?_, ?_, ?_, ?_, ?_⟩
  · exact congrArg x0 (funext fun x => by fin_cases x <;> rfl)
  · exact congrArg x1 (funext fun x => by fin_cases x <;> rfl)
  · exact congrArg x2 (funext fun x => by fin_cases x <;> rfl)
  · exact congrArg x3 (funext fun x => by fin_cases x <;> rfl)
  · exact congrArg x4 (funext fun x => by fin_cases x <;> rfl)

/-- A word counted from the end where it is below zero. -/
def wrap (n : BitVec 32) (w : BitVec 32) : BitVec 32 := Scalar.select (IntOp.cmpi .slt w 0#32) (IntOp.addi w n) w

/-- A word not below zero is not wrapped. -/
theorem wrap_in (n w : BitVec 32) (h : 0 ≤ w.toInt) : wrap n w = w := by
  refine WordCmp.select_of_eq_zero ?_ _ _
  have : ¬ IntOp.cmpi .slt w 0#32 = 1#1 := fun q => by
    have := (slt_one _ _).1 q
    have z : (0#32).toInt = 0 := by decide
    omega
  revert this; generalize IntOp.cmpi .slt w 0#32 = b; revert b; decide

/-- A vector of indices as a column. -/
def colOf (n : BitVec 32) (w : IVec S128 32) : S128x1.Idx → BitVec 32 :=
  broadcastInDim S128x1 ![0] bcast_S128_S128x1_0 (select (cmpi .slt w (broadcastInDim S128 ![] bcast_S_S128 (constantI S_ 32 0#32)))
    (addi w (broadcastInDim S128 ![] bcast_S_S128 (constantI S_ 32 n))) w)

/-- A row of that column. -/
theorem colOf_at (n : BitVec 32) (w : IVec S128 32) (t : Fin 128) : colOf n w (ix2 t 0) = wrap n (w (ix1 t)) := by
  have e : broadcastInDim S128x1 ![0] bcast_S128_S128x1_0 (select (cmpi .slt w (broadcastInDim S128 ![] bcast_S_S128 (constantI S_ 32 0#32)))
    (addi w (broadcastInDim S128 ![] bcast_S_S128 (constantI S_ 32 n))) w) (ix2 t 0) = (select (cmpi .slt w (broadcastInDim S128 ![] bcast_S_S128 (constantI S_ 32 0#32)))
    (addi w (broadcastInDim S128 ![] bcast_S_S128 (constantI S_ 32 n))) w) (ix1 t) := by
    unfold broadcastInDim
    exact congrArg _ (funext fun x => by fin_cases x; rfl)
  exact e.trans rfl

/-- The indices of the targets' cells. -/
def cellCols (b a y x : IVec S128 32) : IVec S128x4 32 :=
  concatenate S128x4 1 [⟨S128x1, colOf 16#32 b⟩, ⟨S128x1, colOf 3#32 a⟩, ⟨S128x1, colOf 80#32 y⟩, ⟨S128x1, colOf 80#32 x⟩] concatenates_S128x1_S128x1_S128x1_S128x1_S128x4_d1

/-- The indices of the targets' cells and classes. -/
def classCols (b a y x k : IVec S128 32) : IVec S128x5 32 :=
  concatenate S128x5 1 [⟨S128x1, colOf 16#32 b⟩, ⟨S128x1, colOf 3#32 a⟩, ⟨S128x1, colOf 80#32 y⟩, ⟨S128x1, colOf 80#32 x⟩, ⟨S128x1, colOf 80#32 k⟩]
    concatenates_S128x1_S128x1_S128x1_S128x1_S128x1_S128x5_d1

section Marks
variable (V0 : Valuation τ sig (Elt Ideal))

/-- The indices the reference scatters cells at. -/
abbrev refCells : IVec S128x4 32 := cellCols (res_main_v97 V0) (res_main_v75 V0) (res_main_v81 V0) (res_main_v78 V0)
/-- The indices it scatters classes at. -/
abbrev refClasses : IVec S128x5 32 := classCols (res_main_v130 V0) (res_main_v75 V0) (res_main_v81 V0) (res_main_v78 V0) (res_main_v31 V0)

/-- In the batch and the grid, except that the image is not asked to be above zero. -/
def inBit (T : Vec Ideal S128x6 .f32) (t : Fin 128) : BitVec 1 :=
  IntOp.andi (IntOp.andi (IntOp.andi (IntOp.andi (IntOp.cmpi .slt (img T t) 16#32) (IntOp.cmpi .sge (cx T t) 0#32)) (IntOp.cmpi .slt (cx T t) 80#32))
    (IntOp.cmpi .sge (cy T t) 0#32)) (IntOp.cmpi .slt (cy T t) 80#32)

/-- The reference's bits are these. -/
theorem in_ref (t : Fin 128) : (res_main_v95 V0 : IVec S128 1) (ix1 t) = inBit (argT V0) t := by
  unfold inBit
  rw [← img_ref, ← cx_ref, ← cy_ref]; rfl

/-- With the image not below zero they say that the target is in the batch and the grid. -/
theorem in_iff (T : Vec Ideal S128x6 .f32) (t : Fin 128) (h : 0 ≤ (img T t).toInt) : inBit T t = 1#1 ↔ ok T t := by
  unfold inBit
  rw [ok_iff]
  simp only [andi_one, sge_one, slt_one]
  have z : (0#32).toInt = 0 := by decide
  have z16 : (16#32).toInt = 16 := by decide
  have z80 : (80#32).toInt = 80 := by decide
  rw [z, z16, z80]
  tauto

/-- The image number the reference scatters a cell at. -/
theorem image_ref (t : Fin 128) : (res_main_v97 V0 : IVec S128 32) (ix1 t) = Scalar.select (inBit (argT V0) t) (img (argT V0) t) 16#32 := by
  rw [← in_ref, ← img_ref]; rfl

/-- The image number it scatters a class at. -/
theorem imagec_ref (t : Fin 128) : (res_main_v130 V0 : IVec S128 32) (ix1 t)
    = Scalar.select (IntOp.andi (inBit (argT V0) t) (IntOp.cmpi .slt (cls (argT V0) t) 80#32)) (img (argT V0) t) 16#32 := by
  rw [← in_ref, ← img_ref, ← cls_ref]; rfl

/-- Not one is zero. -/
theorem bit_zero {b : BitVec 1} (h : ¬ b = 1#1) : b = 0#1 := by revert h; revert b; decide

/-- A best anchor is not below zero. -/
theorem toInt_best (T : Vec Ideal S128x6 .f32) (t : Fin 128) : (best T t).toInt = (best T t).toNat := by
  have := best_lt T t
  exact BitVec.toInt_eq_toNat_of_lt (by omega)

/-- Where a target's words name a cell. -/
theorem words_cell (T : Vec Ideal S128x6 .f32) {t : Fin 128} (h : ok T t) (c : S16x3x80x80.Idx) :
    ((wrap 16#32 (img T t)).toInt = (c 0).val ∧ (wrap 3#32 (best T t)).toInt = (c 1).val ∧ (wrap 80#32 (cy T t)).toInt = (c 2).val
      ∧ (wrap 80#32 (cx T t)).toInt = (c 3).val) ↔ cell T t = c := by
  obtain ⟨⟨h1, e1⟩, ⟨h2, e2⟩, ⟨h3, e3⟩⟩ := ok_words T h
  have hb := best_lt T t
  have eb := toInt_best T t
  rw [wrap_in _ _ (by omega), wrap_in _ _ (by omega), wrap_in _ _ (by omega), wrap_in _ _ (by omega), e1, e2, e3, eb]
  constructor
  · rintro ⟨q0, q1, q2, q3⟩
    funext a
    apply Fin.ext
    fin_cases a
    · show (img T t).toNat % 16 = (c 0).val; omega
    · show (best T t).toNat % 3 = (c 1).val; omega
    · show (cy T t).toNat % 80 = (c 2).val; omega
    · show (cx T t).toNat % 80 = (c 3).val; omega
  · rintro rfl
    refine ⟨?_, ?_, ?_, ?_⟩
    · show _ = (((img T t).toNat % 16 : ℕ) : Int); omega
    · show _ = (((best T t).toNat % 3 : ℕ) : Int); omega
    · show _ = (((cy T t).toNat % 80 : ℕ) : Int); omega
    · show _ = (((cx T t).toNat % 80 : ℕ) : Int); omega

/-- The row of indices of a target is a cell exactly when the target is in the grid and the cell is its. -/
theorem row_iff (hi : ∀ t, 0 ≤ (img (argT V0) t).toInt) (t : Fin 128) (c : S16x3x80x80.Idx) :
    ((refCells V0 (ix2 t 0)).toInt = (c 0).val ∧ (refCells V0 (ix2 t 1)).toInt = (c 1).val ∧ (refCells V0 (ix2 t 2)).toInt = (c 2).val
      ∧ (refCells V0 (ix2 t 3)).toInt = (c 3).val) ↔ ok (argT V0) t ∧ cell (argT V0) t = c := by
  unfold refCells cellCols
  obtain ⟨q0, q1, q2, q3⟩ := columns4 (colOf 16#32 (res_main_v97 V0)) (colOf 3#32 (res_main_v75 V0)) (colOf 80#32 (res_main_v81 V0)) (colOf 80#32 (res_main_v78 V0))
    concatenates_S128x1_S128x1_S128x1_S128x1_S128x4_d1 t
  rw [q0, q1, q2, q3, colOf_at, colOf_at, colOf_at, colOf_at, image_ref, best_ref, cy_ref, cx_ref]
  by_cases h : ok (argT V0) t
  · rw [WordCmp.select_of_eq_one ((in_iff _ t (hi t)).2 h), words_cell _ h]
    tauto
  · rw [WordCmp.select_of_eq_zero (bit_zero (mt (in_iff _ t (hi t)).1 h))]
    have g : (c 0).val < 16 := (c 0).isLt
    have z : (wrap 16#32 16#32).toInt = 16 := by decide
    rw [z]
    constructor
    · rintro ⟨q, -⟩; omega
    · rintro ⟨q, -⟩; exact absurd q h

/-- The same of the row of a cell and a class. -/
theorem rowc_iff (hi : ∀ t, 0 ≤ (img (argT V0) t).toInt) (hk : ∀ t, 0 ≤ (cls (argT V0) t).toInt) (t : Fin 128) (c : S16x3x80x80.Idx) (k : Fin 80) :
    ((refClasses V0 (ix2 t 0)).toInt = (c 0).val ∧ (refClasses V0 (ix2 t 1)).toInt = (c 1).val ∧ (refClasses V0 (ix2 t 2)).toInt = (c 2).val
      ∧ (refClasses V0 (ix2 t 3)).toInt = (c 3).val ∧ (refClasses V0 (ix2 t 4)).toInt = k.val)
      ↔ okc (argT V0) t ∧ (cell (argT V0) t, kcls (argT V0) t) = (c, k) := by
  unfold refClasses classCols
  obtain ⟨q0, q1, q2, q3, q4⟩ := columns5 (colOf 16#32 (res_main_v130 V0)) (colOf 3#32 (res_main_v75 V0)) (colOf 80#32 (res_main_v81 V0)) (colOf 80#32 (res_main_v78 V0))
    (colOf 80#32 (res_main_v31 V0)) concatenates_S128x1_S128x1_S128x1_S128x1_S128x1_S128x5_d1 t
  rw [q0, q1, q2, q3, q4, colOf_at, colOf_at, colOf_at, colOf_at, colOf_at, imagec_ref, best_ref, cy_ref, cx_ref, cls_ref]
  have hb : IntOp.andi (inBit (argT V0) t) (IntOp.cmpi .slt (cls (argT V0) t) 80#32) = 1#1 ↔ okc (argT V0) t := by
    have z80 : (80#32).toInt = 80 := by decide
    rw [andi_one, in_iff _ t (hi t), slt_one, z80, okc_iff]
    have := hk t
    tauto
  by_cases h : okc (argT V0) t
  · obtain ⟨ho, hl, e⟩ := okc_words _ h
    have sel : Scalar.select (IntOp.andi (inBit (argT V0) t) (IntOp.cmpi .slt (cls (argT V0) t) 80#32)) (img (argT V0) t) 16#32 = img (argT V0) t :=
      WordCmp.select_of_eq_one (hb.2 h) _ _
    rw [sel, wrap_in _ (cls (argT V0) t) (hk t), e, Prod.mk.injEq, ← words_cell _ ho]
    have hkk : ((cls (argT V0) t).toNat : Int) = k.val ↔ kcls (argT V0) t = k := by
      unfold kcls
      rw [Fin.ext_iff]
      show _ ↔ (cls (argT V0) t).toNat % 80 = k.val
      omega
    rw [hkk]
    exact ⟨fun ⟨p0, p1, p2, p3, p4⟩ => ⟨h, ⟨p0, p1, p2, p3⟩, p4⟩, fun ⟨_, ⟨p0, p1, p2, p3⟩, p4⟩ => ⟨p0, p1, p2, p3, p4⟩⟩
  · rw [WordCmp.select_of_eq_zero (bit_zero (mt hb.1 h))]
    have g : (c 0).val < 16 := (c 0).isLt
    have z : (wrap 16#32 16#32).toInt = 16 := by decide
    rw [z]
    constructor
    · rintro ⟨q, -⟩; omega
    · rintro ⟨q, -⟩; exact absurd q h

/-- Where a target's mark lands. -/
theorem mark_lands (hi : ∀ t, 0 ≤ (img (argT V0) t).toInt) (t : Fin 128) (c : S16x3x80x80.Idx) :
    dMark.resultIdx? (ix1 t) (refCells V0) = some c ↔ ok (argT V0) t ∧ cell (argT V0) t = c := by
  rw [resultIdx?_eq_some, ← row_iff V0 hi]
  constructor
  · intro h
    have q : ∀ a : Fin 4, (refCells V0 (ix2 t a)).toInt = (c a).val := fun a => by
      have := h a
      rw [mark_start, mark_window] at this
      simpa using this
    exact ⟨q 0, q 1, q 2, q 3⟩
  · rintro ⟨q0, q1, q2, q3⟩ a
    rw [mark_start, mark_window]
    fin_cases a
    · simpa using q0
    · simpa using q1
    · simpa using q2
    · simpa using q3

/-- The place of a cell's class. -/
def atClass (c : S16x3x80x80.Idx) (k : Fin 80) : S16x3x80x80x80.Idx := ix5 (c 0) (c 1) (c 2) (c 3) k

/-- The place of a cell's box coordinate. -/
def atBox (c : S16x3x80x80.Idx) (j : Fin 4) : S16x3x80x80x4.Idx := ix5 (c 0) (c 1) (c 2) (c 3) j

/-- Where its class mark lands. -/
theorem class_lands (hi : ∀ t, 0 ≤ (img (argT V0) t).toInt) (hk : ∀ t, 0 ≤ (cls (argT V0) t).toInt) (t : Fin 128) (c : S16x3x80x80.Idx) (k : Fin 80) :
    dClass.resultIdx? (ix1 t) (refClasses V0) = some (atClass c k) ↔ okc (argT V0) t ∧ (cell (argT V0) t, kcls (argT V0) t) = (c, k) := by
  rw [resultIdx?_eq_some, ← rowc_iff V0 hi hk]
  constructor
  · intro h
    have q : ∀ a : Fin 5, (refClasses V0 (ix2 t a)).toInt = (atClass c k a).val := fun a => by
      have := h a
      rw [class_start, class_window] at this
      simpa using this
    exact ⟨q 0, q 1, q 2, q 3, q 4⟩
  · rintro ⟨q0, q1, q2, q3, q4⟩ a
    rw [class_start, class_window]
    fin_cases a
    · exact ((add_zero _).trans q0)
    · exact ((add_zero _).trans q1)
    · exact ((add_zero _).trans q2)
    · exact ((add_zero _).trans q3)
    · exact ((add_zero _).trans q4)

/-- Where its box lands. -/
theorem box_lands (hi : ∀ t, 0 ≤ (img (argT V0) t).toInt) (t : Fin 128) (i : Fin 4) (c : S16x3x80x80.Idx) (j : Fin 4) :
    dBox.resultIdx? (ix2 t i) (refCells V0) = some (atBox c j) ↔ (ok (argT V0) t ∧ cell (argT V0) t = c) ∧ i = j := by
  rw [resultIdx?_eq_some, ← row_iff V0 hi]
  constructor
  · intro h
    have q : ∀ a : Fin 4, (refCells V0 (ix2 t a)).toInt = (atBox c j (Fin.castSucc a)).val := fun a => by
      have := h (Fin.castSucc a)
      rw [box_start, box_window] at this
      simpa using this
    have l := h (Fin.last 4)
    rw [box_start_last, box_window_last] at l
    have l' : (0 : Int) + i.val = j.val := l
    exact ⟨⟨q 0, q 1, q 2, q 3⟩, Fin.ext (by omega)⟩
  · rintro ⟨⟨q0, q1, q2, q3⟩, rfl⟩ a
    refine Fin.lastCases ?_ (fun a => ?_) a
    · rw [box_start_last, box_window_last]
      show (0 : Int) + i.val = i.val
      omega
    · rw [box_start, box_window]
      fin_cases a
      · exact ((add_zero _).trans q0)
      · exact ((add_zero _).trans q1)
      · exact ((add_zero _).trans q2)
      · exact ((add_zero _).trans q3)

/-- The reference's marks of cells. -/
theorem marks_ref (hi : ∀ t, 0 ≤ (img (argT V0) t).toInt) (c : S16x3x80x80.Idx) :
    (res_main_v125 V0 : Vec Ideal S16x3x80x80 .f32) c = mark (∃ t, ok (argT V0) t ∧ cell (argT V0) t = c) := by
  have e : (res_main_v125 V0 : Vec Ideal S16x3x80x80 .f32) = Host.scatter dMark (fun _ b => b) (broadcastInDim (α := Ideal .f32) S16x3x80x80 ![] bcast_S_S16x3x80x80 (constant (F := Ideal) S_ .f32 0x00000000#32))
      (refCells V0) (broadcastInDim (α := Ideal .f32) S128 ![] bcast_S_S128 (constant (F := Ideal) S_ .f32 0x3F800000#32)) := rfl
  rw [e]
  unfold mark
  split
  · next h =>
    obtain ⟨t, h⟩ := h
    exact scatter_set_hit dMark _ _ _ c (1 : EReal) (fun k _ => Ideal.ofBits_one_f32) (ix1 t) ((mark_lands V0 hi t c).2 h)
  · next h =>
    refine (scatter_set_miss dMark _ _ _ c fun k hk => h ⟨k 0, (mark_lands V0 hi (k 0) c).1 ?_⟩).trans Ideal.ofBits_zero_f32
    rw [← hk]; congr 1; exact (eq_ix1 k).symm

/-- The reference's marks of classes. -/
def classMarks : Vec Ideal S16x3x80x80x80 .f32 :=
  Host.scatter dClass (fun _ b => b) (broadcastInDim (α := Ideal .f32) S16x3x80x80x80 ![] bcast_S_S16x3x80x80x80 (constant (F := Ideal) S_ .f32 0x00000000#32))
      (refClasses V0) (broadcastInDim (α := Ideal .f32) S128 ![] bcast_S_S128 (constant (F := Ideal) S_ .f32 0x3F800000#32))

/-- They are set where a target names the cell and the class. -/
theorem classMarks_ref (hi : ∀ t, 0 ≤ (img (argT V0) t).toInt) (hk : ∀ t, 0 ≤ (cls (argT V0) t).toInt) (c : S16x3x80x80.Idx) (k : Fin 80) :
    classMarks V0 (atClass c k) = mark (∃ t, okc (argT V0) t ∧ (cell (argT V0) t, kcls (argT V0) t) = (c, k)) := by
  unfold classMarks mark
  split
  · next h =>
    obtain ⟨t, h⟩ := h
    exact scatter_set_hit dClass _ _ _ _ (1 : EReal) (fun k _ => Ideal.ofBits_one_f32) (ix1 t) ((class_lands V0 hi hk t c k).2 h)
  · next h =>
    refine (scatter_set_miss dClass _ _ _ _ fun u hu => h ⟨u 0, (class_lands V0 hi hk (u 0) c k).1 ?_⟩).trans Ideal.ofBits_zero_f32
    rw [← hu]; congr 1; exact (eq_ix1 u).symm

/-- The reference's box of a cell is its last target's. -/
theorem boxes_ref (hi : ∀ t, 0 ≤ (img (argT V0) t).toInt) {t : Fin 128} (h : Win (argT V0) t) (j : Fin 4) :
    (res_main_v191 V0 : Vec Ideal S16x3x80x80x4 .f32) (atBox (cell (argT V0) t) j)
      = argT V0 (ix2 t ⟨2 + j.val, by omega⟩) := by
  have e : (res_main_v191 V0 : Vec Ideal S16x3x80x80x4 .f32) = Host.scatter dBox (fun _ b => b) (broadcastInDim (α := Ideal .f32) S16x3x80x80x4 ![] bcast_S_S16x3x80x80x4 (constant (F := Ideal) S_ .f32 0x00000000#32))
      (refCells V0) (res_main_v28 V0 : Vec Ideal S128x4 .f32) := rfl
  rw [e, ← box_ref V0 t j]
  refine scatter_last dBox _ _ _ _ (ix2 t j) ((box_lands V0 hi t j _ j).2 ⟨⟨h.1, rfl⟩, rfl⟩) fun k hlt hk => ?_
  have hk' : dBox.resultIdx? (ix2 (k 0) (k 1)) (refCells V0) = some (atBox (cell (argT V0) t) j) := by
    rw [← hk]; congr 1; exact (eq_ix2 k).symm
  obtain ⟨⟨ho, hc⟩, hj⟩ := (box_lands V0 hi (k 0) (k 1) (cell (argT V0) t) j).1 hk'
  rw [Fin.lt_def, Shape.rowMajor_val_two, Shape.rowMajor_val_two] at hlt
  have hlt' : t.val * 4 + j.val < (k 0).val * 4 + (k 1).val := hlt
  have hj' : (k 1).val = j.val := congrArg Fin.val hj
  exact h.2 (k 0) (Fin.lt_def.2 (by omega)) ho hc

end Marks
end Cert.Yolo
end
-- ==== Proof.KernelValue.lean ====
module

public import proofs.«01_k».proof.Proof.KernelGather

@[expose] public section

noncomputable section

namespace Cert.Yolo
open Idealize.ShloMosaic Idealize.ShloMosaic.ValueIdx
open Cert.Kernel Cert.Kernel.Gen Cert.Kernel.Main
open scoped Classical BigOperators

/-! ## The kernel's result as sums over targets and cells -/

section Value
variable (P : Vec Ideal S16x255x80x80 .f32) (T : Vec Ideal S128x6 .f32)

/-- The kernel's sum of a table is the sum of its elements. -/
theorem total {N M : ℕ} (v : Vec Ideal ⟨2, ![N, M]⟩ .f32) (h : (⟨2, ![N, M]⟩ : Shape).ShapeCasts ⟨3, ![1, N, M]⟩)
    (hr : (⟨3, ![1, N, M]⟩ : Shape).Reduces [1, 2] S1) (hc : S1.ShapeCasts S1x1x1) (hφ hacc) (hp) :
    extractAt ![0, 0, 0] (shapeCast S1x1x1 (multiReduction (F := Ideal) (φ := .f32) .add [1, 2] S1 (shapeCast ⟨3, ![1, N, M]⟩ v h) 0x00000000#32 hr hφ hacc) hc) hp
      = ∑ a : Fin N, ∑ b : Fin M, (v (ix2 a b) : EReal) := by
  rw [← sum_idx2 (fun i => (v i : EReal)), ← Equiv.sum_comp (Shape.reshapeEquiv h) (fun i => (v i : EReal))]
  exact Ideal.multiReduction_add_total (shapeCast ⟨3, ![1, N, M]⟩ v h) _ hr (by decide) hφ hacc _

/-- A mark times a value. -/
theorem mark_mul {p : Prop} {x y : EReal} (h : p → x = y) : mark p * x = if p then y else 0 := by
  unfold mark
  split
  · next hp => rw [one_mul, h hp]
  · rw [zero_mul]

/-- One half. -/
def half : EReal := Ideal.ofBits .f32 0x3F000000#32
/-- The logistic function. -/
def sig (x : EReal) : EReal :=
  Ideal.div (Ideal.ofBits .f32 0x3F800000#32) (Ideal.ofBits .f32 0x3F800000#32 + Ideal.exp (Ideal.ofBits .f32 0x00000000#32 - x))
/-- The width of a target's anchor. -/
def wide (t : Fin 128) : EReal :=
  Scalar.select (IntOp.cmpi .eq (best T t) 0#32) (Ideal.ofBits .f32 0x41200000#32)
    (Scalar.select (IntOp.cmpi .eq (best T t) 1#32) (Ideal.ofBits .f32 0x41800000#32) (Ideal.ofBits .f32 0x42040000#32))
/-- The height of a target's anchor. -/
def high (t : Fin 128) : EReal :=
  Scalar.select (IntOp.cmpi .eq (best T t) 0#32) (Ideal.ofBits .f32 0x41500000#32)
    (Scalar.select (IntOp.cmpi .eq (best T t) 1#32) (Ideal.ofBits .f32 0x41F00000#32) (Ideal.ofBits .f32 0x41B80000#32))
/-- How far a cell's lane offset is from a target's. -/
def dX (t : Fin 128) (a : EReal) : EReal := sig a - (Ideal.div (T (ix2 t 2)) (Ideal.ofBits .f32 0x41000000#32) - (((cx T t).toInt : ℝ) : EReal))
/-- How far its row offset is. -/
def dY (t : Fin 128) (a : EReal) : EReal := sig a - (Ideal.div (T (ix2 t 3)) (Ideal.ofBits .f32 0x41000000#32) - (((cy T t).toInt : ℝ) : EReal))
/-- How far its width is. -/
def dW (t : Fin 128) (a : EReal) : EReal := a - Ideal.log (Ideal.div (T (ix2 t 4)) (wide T t) + eps)
/-- How far its height is. -/
def dH (t : Fin 128) (a : EReal) : EReal := a - Ideal.log (Ideal.div (T (ix2 t 5)) (high T t) + eps)
/-- The loss of a target's box. -/
def boxOf (t : Fin 128) (a b c d : EReal) : EReal := dX T t a * dX T t a + dY T t b * dY T t b + dW T t c * dW T t c + dH T t d * dH T t d
/-- The loss of a target's box at its cell. -/
def box (t : Fin 128) : EReal := boxOf T t (chan P (cell T t) 0) (chan P (cell T t) 1) (chan P (cell T t) 2) (chan P (cell T t) 3)
/-- The channel of a class. -/
def clsChan (k : Fin 80) : Fin 85 := ⟨5 + k.val, by have := k.isLt; omega⟩

/-- The targets' losses. -/
def sparse : EReal :=
  ((0 - ∑ t, if Win T t then chan P (cell T t) 4 else 0)
    + half * ((∑ t, if Win T t then ∑ k, cost (chan P (cell T t) (clsChan k)) else 0)
      - ∑ t, if Winc T t then chan P (cell T t) (clsChan (kcls T t)) else 0))
  + ∑ t, if Win T t then box P T t else 0

/-- The gathered cells. -/
abbrev cells : Vec Ideal S128x85x80 .f32 := cellVal P (metaOut T)

/-- A channel of the picked lanes. -/
theorem slice_at (v : Vec Ideal S128x85 .f32) (k : ℕ) (hk : k < 85) (h : S128x85.Slices ![0, k] S128x1) (t : Fin 128) :
    extractStridedSlice S128x1 ![0, k] v h (ix2 t 0) = v (ix2 t ⟨k, hk⟩) := by
  refine congrArg v (funext fun a => Fin.ext ?_)
  fin_cases a
  · show 0 + t.val = t.val; omega
  · show k + 0 = k; omega

/-- The class channels of the picked lanes. -/
theorem slice_cls (v : Vec Ideal S128x85 .f32) (h : S128x85.Slices ![0, 5] S128x80) (t : Fin 128) (k : Fin 80) :
    extractStridedSlice S128x80 ![0, 5] v h (ix2 t k) = v (ix2 t (clsChan k)) := by
  refine congrArg v (funext fun a => Fin.ext ?_)
  fin_cases a
  · show 0 + t.val = t.val; omega
  · rfl

/-- A logit's cost as the kernel writes it. -/
theorem costK (x : EReal) : max x (Ideal.ofBits .f32 0x00000000#32) + Ideal.log1p (Ideal.exp (Ideal.ofBits .f32 0x00000000#32 - max x (-x))) = cost x := by
  rw [Ideal.ofBits_zero_f32, sub_eq_add_neg, zero_add]; rfl

/-- A target that wins its cell is in the grid. -/
theorem win_ok {t : Fin 128} (h : Win T t) : ok T t := h.1

/-- The objectness the kernel subtracts. -/
theorem objectness : k1_pay44 (fun j => cx T (j 0)) (fun j => mark (Win T (j 0))) (cells P T) = ∑ t, if Win T t then chan P (cell T t) 4 else 0 := by
  refine (total _ _ _ _ _ _ _).trans (Finset.sum_congr rfl fun t _ => ?_)
  rw [Fin.sum_univ_one]
  exact mark_mul fun h => (slice_at _ 4 (by decide) slices_S128x85_o0_4_S128x1 t).trans (picked P T h.1 4)

/-- The class costs it adds. -/
theorem classes : k1_pay45 (fun j => mark (Win T (j 0))) (k1_pay43 (fun j => cx T (j 0)) (cells P T))
    = ∑ t, if Win T t then ∑ k, cost (chan P (cell T t) (clsChan k)) else 0 := by
  refine (total _ _ _ _ _ _ _).trans (Finset.sum_congr rfl fun t _ => ?_)
  have e : ∀ k : Fin 80, mark (Win T t) * cost (k1_pay43 (fun j => cx T (j 0)) (cells P T) (ix2 t k))
      = if Win T t then cost (chan P (cell T t) (clsChan k)) else 0 := fun k =>
    mark_mul fun h => congrArg cost ((slice_cls _ slices_S128x85_o0_5_S128x80 t k).trans (picked P T h.1 (clsChan k)))
  refine (Finset.sum_congr rfl fun k _ => (?_ : _ = if Win T t then cost (chan P (cell T t) (clsChan k)) else 0)).trans ?_
  · rw [← e k, ← costK]; rfl
  · split <;> simp

/-- The class logits it subtracts. -/
theorem classed : k1_pay46 (fun j => cls T (j 0)) (fun j => mark (Winc T (j 0))) (k1_pay43 (fun j => cx T (j 0)) (cells P T))
    = ∑ t, if Winc T t then chan P (cell T t) (clsChan (kcls T t)) else 0 := by
  refine (total _ _ _ _ _ _ _).trans (Finset.sum_congr rfl fun t _ => ?_)
  have e : ∀ k : Fin 80, mark (Winc T t) * Scalar.select (IntOp.cmpi .eq (BitVec.ofNat 32 k.val) (cls T t)) (k1_pay43 (fun j => cx T (j 0)) (cells P T) (ix2 t k)) (Ideal.ofBits .f32 0x00000000#32 : EReal)
      = if Winc T t then (if k = kcls T t then chan P (cell T t) (clsChan k) else 0) else 0 := by
    intro k
    refine mark_mul fun h => ?_
    obtain ⟨ho, hl, -⟩ := okc_words T h.1
    have hk := k.isLt
    by_cases hc : k.val = (cls T t).toNat
    · rw [WordCmp.select_of_eq_one ((eq_one _ _).2 (by rw [hc]; simp)), if_pos (Fin.ext (by unfold kcls; simp only; omega))]
      exact (slice_cls _ slices_S128x85_o0_5_S128x80 t k).trans (picked P T ho (clsChan k))
    · have hne : ¬ BitVec.ofNat 32 k.val = cls T t := fun e => hc (by
        have := congrArg BitVec.toNat e
        rw [BitVec.toNat_ofNat] at this
        omega)
      have hz : IntOp.cmpi .eq (BitVec.ofNat 32 k.val) (cls T t) = 0#1 := by
        have := mt (eq_one (BitVec.ofNat 32 k.val) (cls T t)).1 hne
        revert this; generalize IntOp.cmpi .eq (BitVec.ofNat 32 k.val) (cls T t) = b; revert b; decide
      rw [WordCmp.select_of_eq_zero hz, if_neg (fun e => hc (by have := congrArg Fin.val e; unfold kcls at this; simp only at this; omega)), Ideal.ofBits_zero_f32]
  refine (Finset.sum_congr rfl fun k _ => (?_ : _ = if Winc T t then (if k = kcls T t then chan P (cell T t) (clsChan k) else 0) else 0)).trans ?_
  · rw [← e k, mul_comm]
    have hi : iota .tc S128x80 32 [1] iota_S128x80_d1_w32 (ix2 t k) = BitVec.ofNat 32 k.val := iota_axis _ _ _ _
    rw [← hi]; rfl
  · split
    · rw [Finset.sum_ite_eq' Finset.univ, if_pos (Finset.mem_univ _)]
    · simp

/-- The box losses it adds. -/
theorem boxes : k1_pay50 (k1_pay2 T) (k1_pay3 T) (k1_pay4 T) (k1_pay5 T) (fun j => cx T (j 0)) (fun j => cy T (j 0)) (fun j => mark (Win T (j 0)))
      (k1_pay39 (fun j => cx T (j 0)) (cells P T)) (k1_pay40 (fun j => cx T (j 0)) (cells P T)) (k1_pay41 (fun j => cx T (j 0)) (cells P T))
      (k1_pay42 (fun j => cx T (j 0)) (cells P T)) (k1_pay47 (F := Ideal) (fun j => best T (j 0))) (k1_pay48 (F := Ideal) (fun j => best T (j 0))) (k1_pay49 (F := Ideal))
    = ∑ t, if Win T t then box P T t else 0 := by
  rw [c2, c3, c4, c5]
  refine (total _ _ _ _ _ _ _).trans (Finset.sum_congr rfl fun t _ => ?_)
  rw [Fin.sum_univ_one]
  refine (mark_mul fun h => ?_ : mark (Win T t) * boxOf T t _ _ _ _ = _)
  unfold box
  congr 1
  · exact (slice_at _ 0 (by decide) slices_S128x85_o0_0_S128x1 t).trans (picked P T h.1 0)
  · exact (slice_at _ 1 (by decide) slices_S128x85_o0_1_S128x1 t).trans (picked P T h.1 1)
  · exact (slice_at _ 2 (by decide) slices_S128x85_o0_2_S128x1 t).trans (picked P T h.1 2)
  · exact (slice_at _ 3 (by decide) slices_S128x85_o0_3_S128x1 t).trans (picked P T h.1 3)

/-- The kernel's scalar of the targets' losses. -/
theorem sparse_read : sparseOf T (flip T) (cells P T) = sparse P T := by
  unfold sparseOf
  dsimp only
  rw [c6, c7, c8, c9, c18, r22, r23, r24, r25, r28, c19, r29, c30, c31, c32, winner, winnerc, objectness, classes, classed, boxes]
  show ((Ideal.ofBits .f32 0x00000000#32 - _) + half * _) + _ = sparse P T
  rw [Ideal.ofBits_zero_f32]
  rfl

/-- Where a cell is in the kernel's result. -/
def pos (c : S16x3x80x80.Idx) : S3840x80.Idx :=
  ix2 ⟨((c 0).val * 3 + (c 1).val) * 80 + (c 2).val, by
    have h0 : (c 0).val < 16 := (c 0).isLt
    have h1 : (c 1).val < 3 := (c 1).isLt
    have h2 : (c 2).val < 80 := (c 2).isLt
    omega⟩ (c 3)

/-- The result's last reshape. -/
theorem pos_cast {α : Type} (v : S3840x80.Idx → α) (h : S3840x80.ShapeCasts S16x3x80x80) : shapeCast S16x3x80x80 v h = fun c => v (pos c) := by
  funext c
  refine congrArg v (Shape.reshapeEquiv_eq_of_rowMajor _ ?_)
  rw [Shape.rowMajor_val_two, Shape.rowMajor_val_four]
  rfl

/-- Every cell's objectness is where the kernel looks for it. -/
theorem obj_at (c : S16x3x80x80.Idx) : objVal P (pos c) = chan P c 4 := by
  have h0 : (c 0).val < 16 := (c 0).isLt
  have h1 : (c 1).val < 3 := (c 1).isLt
  have h2 : (c 2).val < 80 := (c 2).isLt
  refine congrArg P (funext fun a => Fin.ext ?_)
  fin_cases a
  · show (((c 0).val * 3 + (c 1).val) * 80 + (c 2).val) / 80 / 3 = (c 0).val; omega
  · show 4 + 85 * ((((c 0).val * 3 + (c 1).val) * 80 + (c 2).val) / 80 % 3) = 85 * (c 1).val + 4; omega
  · show (((c 0).val * 3 + (c 1).val) * 80 + (c 2).val) % 80 = (c 2).val; omega
  · rfl

/-- The objectness costs of all cells. -/
def dense : EReal := ∑ c : S16x3x80x80.Idx, cost (chan P c 4)

/-- The kernel's sum over all cells. -/
theorem dense_read (s : EReal) : k1_pay55 (F := Ideal) s (objVal P) = s + dense P := by
  have e : k1_pay54 (F := Ideal) (objVal P) = fun j => cost (objVal P j) := by
    funext j; rw [← costK]; rfl
  unfold k1_pay55
  dsimp only
  rw [e]
  refine congrArg (s + ·) ((total _ _ _ _ _ _ _).trans ?_)
  rw [← sum_idx2 (fun i => cost (objVal P i))]
  have hc : S3840x80.ShapeCasts S16x3x80x80 := by decide
  rw [← Equiv.sum_comp (Shape.reshapeEquiv hc) (fun i => cost (objVal P i))]
  refine Finset.sum_congr rfl fun c _ => ?_
  rw [← obj_at]
  exact congrFun (pos_cast (fun j => cost (objVal P j)) hc) c

/-- A cell is the target's when its row and its lane are. -/
theorem cell_eq_iff {t : Fin 128} (h : ok T t) (c : S16x3x80x80.Idx) :
    cell T t = c ↔ (pos c 0).val = (colR T (ix2 t 0)).toNat ∧ BitVec.ofNat 32 (c 3).val = colX T (ix2 t 0) := by
  obtain ⟨⟨h1, e1⟩, ⟨h2, e2⟩, ⟨h3, e3⟩⟩ := ok_words T h
  have hb := best_lt T t
  rw [colR_toNat, colA_at, colB_at, colY_at, colX_at, clamp_in 15 (by decide) _ (by omega) (by omega), clamp_in 79 (by decide) _ (by omega) (by omega),
    clamp_in 79 (by decide) _ (by omega) (by omega)]
  have g0 : (c 0).val < 16 := (c 0).isLt
  have g1 : (c 1).val < 3 := (c 1).isLt
  have g2 : (c 2).val < 80 := (c 2).isLt
  have g3 : (c 3).val < 80 := (c 3).isLt
  constructor
  · rintro rfl
    constructor
    · show ((img T t).toNat % 16 * 3 + (best T t).toNat % 3) * 80 + (cy T t).toNat % 80 = _
      rw [Nat.mod_eq_of_lt h1, Nat.mod_eq_of_lt hb, Nat.mod_eq_of_lt h3]
    · show BitVec.ofNat 32 ((cx T t).toNat % 80) = _
      rw [Nat.mod_eq_of_lt h2]; simp
  · rintro ⟨hr, hx⟩
    change ((c 0).val * 3 + (c 1).val) * 80 + (c 2).val = _ at hr
    have hx' := congrArg BitVec.toNat hx
    rw [BitVec.toNat_ofNat] at hx'
    funext a
    apply Fin.ext
    fin_cases a
    · show (img T t).toNat % 16 = (c 0).val; omega
    · show (best T t).toNat % 3 = (c 1).val; omega
    · show (cy T t).toNat % 80 = (c 2).val; omega
    · show (cx T t).toNat % 80 = (c 3).val; omega

/-- A bit as a word is positive exactly when it is set. -/
theorem valid_pos (b : BitVec 1) : IntOp.cmpi .sgt (b.setWidth 32) 0#32 = 1#1 ↔ b = 1#1 := by revert b; decide

/-- A trip sets the cell of its target, if the target is in the grid. -/
theorem fix_at (s : EReal) (t : Fin 128) (f : Vec Ideal S3840x80 .f32) (c : S16x3x80x80.Idx) :
    fixStep (F := Ideal) s (metaOut T) t f (pos c) = if ok T t ∧ cell T t = c then s else f (pos c) := by
  have hrow : (k1_off259 (word (metaOut T) t 5) 0) = (colR T (ix2 t 0)).toNat := off259_row T t
  have hl : lanes (ix2 0 (pos c 1)) = BitVec.ofNat 32 (c 3).val := iota_axis _ _ _ _
  have hself : shapeCast S1x80 (fun x : S1x80.Idx => f (ix2 (pos c 0) (x 1))) shapeCasts_S1x80_S1x80 (ix2 0 (pos c 1)) = f (pos c) :=
    (congrArg (fun x : S1x80.Idx => f (ix2 (pos c 0) (x 1))) (Shape.reshapeEquiv_self shapeCasts_S1x80_S1x80 (ix2 0 (pos c 1)))).trans rfl
  unfold fixStep
  rw [hrow]
  have e : k1_pay1 (F := Ideal) s lanes (word (metaOut T) t 3) (word (metaOut T) t 4) (fun x => f (ix2 (pos c 0) (x 1))) (ix2 0 (pos c 1))
      = Scalar.select (IntOp.andi (IntOp.cmpi .eq (BitVec.ofNat 32 (c 3).val) (colX T (ix2 t 0))) (IntOp.cmpi .sgt ((okBit T t).setWidth 32) 0#32)) s (f (pos c)) := by
    rw [← hl, ← hself, ← colV_at]; rfl
  rw [e]
  by_cases h : ok T t
  · have hc := cell_eq_iff T h c
    by_cases hcell : cell T t = c
    · obtain ⟨hr, hx⟩ := hc.1 hcell
      rw [if_pos hr, if_pos ⟨h, hcell⟩, WordCmp.select_of_eq_one ((andi_one _ _).2 ⟨(eq_one _ _).2 hx, (valid_pos _).2 h⟩)]
    · rw [if_neg (fun q : _ ∧ _ => hcell q.2)]
      split
      · next hr =>
        refine WordCmp.select_of_eq_zero ?_ _ _
        have : ¬ IntOp.andi (IntOp.cmpi .eq (BitVec.ofNat 32 (c 3).val) (colX T (ix2 t 0))) (IntOp.cmpi .sgt ((okBit T t).setWidth 32) 0#32) = 1#1 := fun q =>
          hcell (hc.2 ⟨hr, (eq_one _ _).1 ((andi_one _ _).1 q).1⟩)
        revert this; generalize IntOp.andi _ _ = b; revert b; decide
      · rfl
  · rw [if_neg (fun q : _ ∧ _ => h q.1)]
    split
    · refine WordCmp.select_of_eq_zero ?_ _ _
      have : ¬ IntOp.andi (IntOp.cmpi .eq (BitVec.ofNat 32 (c 3).val) (colX T (ix2 t 0))) (IntOp.cmpi .sgt ((okBit T t).setWidth 32) 0#32) = 1#1 := fun q =>
        h ((valid_pos _).1 ((andi_one _ _).1 q).2)
      revert this; generalize IntOp.andi _ _ = b; revert b; decide
    · rfl

/-- The trips set the cells of the targets in the grid. -/
theorem fixes_at (s : EReal) (f : Vec Ideal S3840x80 .f32) (c : S16x3x80x80.Idx) (n : ℕ) (hn : n ≤ 128) :
    fixes (F := Ideal) s (metaOut T) f n (pos c) = if ∃ t : Fin 128, t.val < n ∧ ok T t ∧ cell T t = c then s else f (pos c) := by
  induction n with
  | zero => rw [if_neg (by rintro ⟨t, h, -⟩; exact absurd h (Nat.not_lt_zero _))]; rfl
  | succ n ih =>
    rw [fixes, dif_pos (by omega), fix_at, ih (by omega)]
    by_cases h : ok T ⟨n, by omega⟩ ∧ cell T ⟨n, by omega⟩ = c
    · rw [if_pos h, if_pos ⟨⟨n, by omega⟩, Nat.lt_succ_self n, h⟩]
    · rw [if_neg h]
      refine if_congr ⟨fun ⟨t, ht, q⟩ => ⟨t, by omega, q⟩, fun ⟨t, ht, q⟩ => ⟨t, ?_, q⟩⟩ rfl rfl
      rcases Nat.lt_succ_iff_lt_or_eq.1 ht with hlt | heq
      · exact hlt
      · exact absurd ((show t = ⟨n, by omega⟩ from Fin.ext heq) ▸ q) h

/-- The kernel's result. -/
def kernelOut : Vec Ideal S16x3x80x80 .f32 := fun c =>
  if ∃ t, ok T t ∧ cell T t = c then sparse P T + dense P else (sparse P T + dense P) + half * cost (chan P c 4)

/-- The kernel computes it. -/
theorem kernel_value (h : S3840x80.ShapeCasts S16x3x80x80) : shapeCast S16x3x80x80 (mainOut P T (flip T) (metaOut T)) h = kernelOut P T := by
  rw [pos_cast]
  funext c
  unfold mainOut
  rw [show sparseOf T (flip T) (cellVal P (metaOut T)) = sparse P T from sparse_read P T, dense_read]
  refine (fixes_at T _ _ c 128 le_rfl).trans ?_
  unfold kernelOut
  refine if_congr ⟨fun ⟨t, _, q⟩ => ⟨t, q⟩, fun ⟨t, q⟩ => ⟨t, t.isLt, q⟩⟩ rfl ?_
  have e : k1_pay54 (F := Ideal) (objVal P) = fun j => cost (objVal P j) := by
    funext j; rw [← costK]; rfl
  unfold k1_pay56
  rw [e, dense_read, ← obj_at]
  rfl

end Value
end Cert.Yolo
end
-- ==== Proof.RefValue.lean ====
module

public import proofs.«01_k».proof.Proof.RefMarks
public import proofs.«01_k».proof.Proof.KernelValue

@[expose] public section

noncomputable section

namespace Cert.Yolo
open Idealize.ShloMosaic Idealize.ShloMosaic.ValueIdx
open Cert.ReferenceIdeal Cert.ReferenceIdeal.Gen Cert.ReferenceIdeal.Value
open scoped Classical BigOperators

/-! ## The reference's result, cell by cell -/

section Cells
variable {α : Type}

/-- A channel of a table of cells. -/
theorem chan_slice {M : ℕ} (n : ℕ) (hn : n < M) (v : (⟨5, ![16, 3, 80, 80, M]⟩ : Shape).Idx → α)
    (h : (⟨5, ![16, 3, 80, 80, M]⟩ : Shape).Slices ![0, 0, 0, 0, n] S16x3x80x80x1) (hc : S16x3x80x80x1.ShapeCasts S16x3x80x80) (c : S16x3x80x80.Idx) :
    shapeCast S16x3x80x80 (extractStridedSlice S16x3x80x80x1 ![0, 0, 0, 0, n] v h) hc c = v (ix5 (c 0) (c 1) (c 2) (c 3) ⟨n, hn⟩) := by
  have e : Shape.reshapeEquiv hc c = (ix5 (c 0) (c 1) (c 2) (c 3) 0 : S16x3x80x80x1.Idx) := by
    refine Shape.reshapeEquiv_eq_of_rowMajor _ ?_
    rw [Shape.rowMajor_val_four, Shape.rowMajor_val_five]
    show ((((c 0).val * 3 + (c 1).val) * 80 + (c 2).val) * 80 + (c 3).val) * 1 + 0 = (((c 0).val * 3 + (c 1).val) * 80 + (c 2).val) * 80 + (c 3).val
    omega
  show extractStridedSlice S16x3x80x80x1 ![0, 0, 0, 0, n] v h (Shape.reshapeEquiv hc c) = _
  rw [e]
  refine congrArg v (funext fun a => Fin.ext ?_)
  fin_cases a
  · show 0 + (c 0).val = (c 0).val; omega
  · show 0 + (c 1).val = (c 1).val; omega
  · show 0 + (c 2).val = (c 2).val; omega
  · show 0 + (c 3).val = (c 3).val; omega
  · rfl

/-- The last channels of a table of cells. -/
theorem chan_slices {M q : ℕ} (n : ℕ) (v : (⟨5, ![16, 3, 80, 80, M]⟩ : Shape).Idx → α)
    (h : (⟨5, ![16, 3, 80, 80, M]⟩ : Shape).Slices ![0, 0, 0, 0, n] ⟨5, ![16, 3, 80, 80, q]⟩) (c : S16x3x80x80.Idx) (k : Fin q) (hk : n + k.val < M) :
    extractStridedSlice ⟨5, ![16, 3, 80, 80, q]⟩ ![0, 0, 0, 0, n] v h (ix5 (c 0) (c 1) (c 2) (c 3) k) = v (ix5 (c 0) (c 1) (c 2) (c 3) ⟨n + k.val, hk⟩) := by
  refine congrArg v (funext fun a => Fin.ext ?_)
  fin_cases a
  · show 0 + (c 0).val = (c 0).val; omega
  · show 0 + (c 1).val = (c 1).val; omega
  · show 0 + (c 2).val = (c 2).val; omega
  · show 0 + (c 3).val = (c 3).val; omega
  · rfl

/-- A lane's number spread over the cells. -/
theorem spread_lane (v : S80.Idx → α) (c : S16x3x80x80.Idx) :
    broadcastInDim S16x3x80x80 ![0, 1, 2, 3] bcast_S1x1x1x80_S16x3x80x80_0_1_2_3 (shapeCast S1x1x1x80 v shapeCasts_S80_S1x1x1x80) c = v (ix1 (c 3)) := by
  unfold broadcastInDim
  refine congrArg v (Shape.reshapeEquiv_eq_of_rowMajor _ ?_)
  rw [Shape.rowMajor_val_four, Shape.rowMajor_val_one]
  show (c 3).val = ((0 * 1 + 0) * 1 + 0) * 80 + (c 3).val
  omega

/-- A row's number spread over the cells. -/
theorem spread_row (v : S80.Idx → α) (c : S16x3x80x80.Idx) :
    broadcastInDim S16x3x80x80 ![0, 1, 2, 3] bcast_S1x1x80x1_S16x3x80x80_0_1_2_3 (shapeCast S1x1x80x1 v shapeCasts_S80_S1x1x80x1) c = v (ix1 (c 2)) := by
  unfold broadcastInDim
  refine congrArg v (Shape.reshapeEquiv_eq_of_rowMajor _ ?_)
  rw [Shape.rowMajor_val_four, Shape.rowMajor_val_one]
  show (c 2).val = ((0 * 1 + 0) * 80 + (c 2).val) * 1 + 0
  omega

/-- The anchors as a table over cells' axes. -/
theorem anchors_cast (v : S3x2.Idx → α) (a : Fin 3) (k : Fin 2) :
    shapeCast S1x3x1x1x2 v shapeCasts_S3x2_S1x3x1x1x2 (ix5 0 a 0 0 k) = v (ix2 a k) := by
  refine congrArg v (Shape.reshapeEquiv_eq_of_rowMajor _ ?_)
  rw [Shape.rowMajor_val_five, Shape.rowMajor_val_two]
  show a.val * 2 + k.val = (((0 * 3 + a.val) * 1 + 0) * 1 + 0) * 2 + k.val
  omega

/-- That table spread over the cells. -/
theorem spread_anchor (v : S1x3x1x1x2.Idx → α) (c : S16x3x80x80.Idx) (k : Fin 2) :
    broadcastInDim S16x3x80x80x2 ![0, 1, 2, 3, 4] bcast_S1x3x1x1x2_S16x3x80x80x2_0_1_2_3_4 v (ix5 (c 0) (c 1) (c 2) (c 3) k) = v (ix5 0 (c 1) 0 0 k) := by
  unfold broadcastInDim
  exact congrArg v (funext fun x => by fin_cases x <;> rfl)

/-- A table of cells spread over the classes. -/
theorem spread_class (v : S16x3x80x80.Idx → α) (c : S16x3x80x80.Idx) (k : Fin 80) :
    broadcastInDim S16x3x80x80x80 ![0, 1, 2, 3, 4] bcast_S16x3x80x80x1_S16x3x80x80x80_0_1_2_3_4
      (broadcastInDim S16x3x80x80x1 ![0, 1, 2, 3] bcast_S16x3x80x80_S16x3x80x80x1_0_1_2_3 v) (atClass c k) = v c := by
  unfold broadcastInDim
  exact congrArg v (funext fun x => by fin_cases x <;> rfl)

/-- A cell and a class together. -/
def cellClass : S16x3x80x80.Idx × Fin 80 ≃ S16x3x80x80x80.Idx where
  toFun p := atClass p.1 p.2
  invFun i := (ix4 (i 0) (i 1) (i 2) (i 3), i 4)
  left_inv p := Prod.ext (funext fun x => by fin_cases x <;> rfl) rfl
  right_inv i := funext fun x => by fin_cases x <;> rfl

/-- A sum over cells and classes is a sum over the classes of each cell. -/
theorem sum_class (f : S16x3x80x80x80.Idx → EReal) : ∑ i, f i = ∑ c : S16x3x80x80.Idx, ∑ k : Fin 80, f (atClass c k) := by
  rw [← Equiv.sum_comp cellClass f, Fintype.sum_prod_type]
  rfl

end Cells

section Loss
variable (V0 : Valuation τ Cert.ReferenceIdeal.sig (Elt Ideal))

/-- The channels as an axis of their own. -/
theorem cast_chan (P : Vec Ideal S16x255x80x80 .f32) (h : S16x255x80x80.ShapeCasts S16x3x85x80x80) (c : S16x3x80x80.Idx) (k : Fin 85) :
    shapeCast S16x3x85x80x80 P h (ix5 (c 0) (c 1) k (c 2) (c 3)) = chan P c k := by
  refine congrArg P (Shape.reshapeEquiv_eq_of_rowMajor _ ?_)
  rw [Shape.rowMajor_val_five]
  unfold chanIdx
  rw [Shape.rowMajor_val_four]
  show (((c 0).val * 255 + (85 * (c 1).val + k.val)) * 80 + (c 2).val) * 80 + (c 3).val
    = ((((c 0).val * 3 + (c 1).val) * 85 + k.val) * 80 + (c 2).val) * 80 + (c 3).val
  omega

/-- The reference's view of the predictions. -/
theorem view_ref (c : S16x3x80x80.Idx) (k : Fin 85) :
    (res_main_v4 V0 : Vec Ideal S16x3x80x80x85 .f32) (ix5 (c 0) (c 1) (c 2) (c 3) k) = chan (argP V0) c k := by
  have e : transposes_S16x3x85x80x80_S16x3x80x80x85_0_1_3_4_2.src (ix5 (c 0) (c 1) (c 2) (c 3) k : S16x3x80x80x85.Idx)
      = (ix5 (c 0) (c 1) k (c 2) (c 3) : S16x3x85x80x80.Idx) := funext fun x => by fin_cases x <;> rfl
  exact (congrArg (shapeCast S16x3x85x80x80 (argP V0) shapeCasts_S16x255x80x80_S16x3x85x80x80) e).trans (cast_chan (argP V0) _ c k)

/-- The objectness, cell by cell. -/
theorem obj_ref (c : S16x3x80x80.Idx) : (res_main_v26 V0 : Vec Ideal S16x3x80x80 .f32) c = chan (argP V0) c 4 :=
  (chan_slice 4 (by decide) (res_main_v4 V0 : Vec Ideal S16x3x80x80x85 .f32) slices_S16x3x80x80x85_S16x3x80x80x1_0_0_0_0_4 shapeCasts_S16x3x80x80x1_S16x3x80x80 c).trans (view_ref V0 c 4)

/-- The class logits, cell by cell. -/
theorem logit_ref (c : S16x3x80x80.Idx) (k : Fin 80) : (res_main_v27 V0 : Vec Ideal S16x3x80x80x80 .f32) (atClass c k) = chan (argP V0) c (clsChan k) :=
  (chan_slices 5 (res_main_v4 V0 : Vec Ideal S16x3x80x80x85 .f32) slices_S16x3x80x80x85_S16x3x80x80x80_0_0_0_0_5 c k (by have := k.isLt; omega)).trans (view_ref V0 c (clsChan k))

/-- The logistic function as the reference writes it. -/
theorem sigR (x : EReal) : Ideal.div (Ideal.ofBits .f32 0x3F800000#32) (Ideal.ofBits .f32 0x3F800000#32 + Ideal.exp (-x)) = sig x := by
  unfold sig
  rw [Ideal.ofBits_zero_f32, sub_eq_add_neg, zero_add]

/-- A number's word below eighty. -/
theorem small_word (n : ℕ) (h : n < 80) : (BitVec.ofNat 32 n).toInt = n := by
  rw [BitVec.toInt_eq_toNat_of_lt] <;> rw [BitVec.toNat_ofNat, Nat.mod_eq_of_lt (by omega)]
  omega

/-- The cells' numbers. -/
theorem lane_ref (n : Fin 80) : (res_main_v235 V0 : Vec Ideal S80 .f32) (ix1 n) = (((n.val : Int) : ℝ) : EReal) := by
  rw [← small_word n.val n.isLt]; rfl

/-- The logarithm of a cell's box side over its anchor's. -/
theorem side_ref (c : S16x3x80x80.Idx) (k : Fin 2) :
    (res_main_v258 V0 : Vec Ideal S16x3x80x80x2 .f32) (ix5 (c 0) (c 1) (c 2) (c 3) k)
      = Ideal.log (Ideal.div ((res_main_v191 V0 : Vec Ideal S16x3x80x80x4 .f32) (atBox c ⟨2 + k.val, by omega⟩)) (anchor (c 1) k * Ideal.ofBits .f32 0x41000000#32) + eps) := by
  have e1 := chan_slices 2 (res_main_v191 V0 : Vec Ideal S16x3x80x80x4 .f32) slices_S16x3x80x80x4_S16x3x80x80x2_0_0_0_0_2 c k (by have := k.isLt; omega)
  have e2 := spread_anchor (α := Ideal .f32) (mulf (shapeCast S1x3x1x1x2 (res_main_v2 V0 : Vec Ideal S3x2 .f32) shapeCasts_S3x2_S1x3x1x1x2)
    (broadcastInDim S1x3x1x1x2 ![] bcast_S_S1x3x1x1x2 (constant (F := Ideal) S_ .f32 0x41000000#32))) c k
  have e3 := anchors_cast (res_main_v2 V0 : Vec Ideal S3x2 .f32) (c 1) k
  exact congrArg₂ (fun a b => Ideal.log (Ideal.div a b + eps)) e1
    (e2.trans (congrArg (· * Ideal.ofBits .f32 0x41000000#32) (e3.trans (anchor_ref V0 (c 1) k))))

/-- A target's anchor in pixels. -/
theorem anchor_px (T : Vec Ideal S128x6 .f32) (t : Fin 128) (c : S16x3x80x80.Idx) (h : (c 1).val = (best T t).toNat) :
    anchor (c 1) 0 * Ideal.ofBits .f32 0x41000000#32 = wide T t ∧ anchor (c 1) 1 * Ideal.ofBits .f32 0x41000000#32 = high T t := by
  obtain ⟨e0, e1, e2, e3, e4, e5⟩ := anchors
  have m : ∀ (a b c : BitVec 32) (x y z : ℝ), Ideal.ofBits .f32 a = (x : EReal) → Ideal.ofBits .f32 b = (y : EReal) → Ideal.ofBits .f32 c = (z : EReal) → x * y = z →
      Ideal.ofBits .f32 a * Ideal.ofBits .f32 b = Ideal.ofBits .f32 c := by
    intro a b c x y z ha hb hc hxy
    rw [ha, hb, hc, ← EReal.coe_mul, hxy]
  have hb := best_lt T t
  unfold wide high
  have cases : best T t = 0#32 ∨ best T t = 1#32 ∨ best T t = 2#32 := by
    rcases (by omega : (best T t).toNat = 0 ∨ (best T t).toNat = 1 ∨ (best T t).toNat = 2) with q | q | q
    · exact Or.inl (BitVec.eq_of_toNat_eq (by rw [q]; rfl))
    · exact Or.inr (Or.inl (BitVec.eq_of_toNat_eq (by rw [q]; rfl)))
    · exact Or.inr (Or.inr (BitVec.eq_of_toNat_eq (by rw [q]; rfl)))
  rcases cases with q | q | q <;> rw [q] at h ⊢
  · rw [show c 1 = (0 : Fin 3) from Fin.ext h, e0, e1]
    exact ⟨m _ _ 0x41200000#32 1.25 8 10 (by simp [Ideal.ofBits, Ideal.ieee, -EReal.coe_mul]; norm_num) (by simp [Ideal.ofBits, Ideal.ieee, -EReal.coe_mul]; norm_num)
        (by simp [Ideal.ofBits, Ideal.ieee, -EReal.coe_mul]; norm_num) (by norm_num),
      m _ _ 0x41500000#32 1.625 8 13 (by simp [Ideal.ofBits, Ideal.ieee, -EReal.coe_mul]; norm_num) (by simp [Ideal.ofBits, Ideal.ieee, -EReal.coe_mul]; norm_num)
        (by simp [Ideal.ofBits, Ideal.ieee, -EReal.coe_mul]; norm_num) (by norm_num)⟩
  · rw [show c 1 = (1 : Fin 3) from Fin.ext h, e2, e3]
    exact ⟨m _ _ 0x41800000#32 2 8 16 (by simp [Ideal.ofBits, Ideal.ieee, -EReal.coe_mul]; norm_num) (by simp [Ideal.ofBits, Ideal.ieee, -EReal.coe_mul]; norm_num)
        (by simp [Ideal.ofBits, Ideal.ieee, -EReal.coe_mul]; norm_num) (by norm_num),
      m _ _ 0x41F00000#32 3.75 8 30 (by simp [Ideal.ofBits, Ideal.ieee, -EReal.coe_mul]; norm_num) (by simp [Ideal.ofBits, Ideal.ieee, -EReal.coe_mul]; norm_num)
        (by simp [Ideal.ofBits, Ideal.ieee, -EReal.coe_mul]; norm_num) (by norm_num)⟩
  · rw [show c 1 = (2 : Fin 3) from Fin.ext h, e4, e5]
    exact ⟨m _ _ 0x42040000#32 4.125 8 33 (by simp [Ideal.ofBits, Ideal.ieee, -EReal.coe_mul]; norm_num) (by simp [Ideal.ofBits, Ideal.ieee, -EReal.coe_mul]; norm_num)
        (by simp [Ideal.ofBits, Ideal.ieee, -EReal.coe_mul]; norm_num) (by norm_num),
      m _ _ 0x41B80000#32 2.875 8 23 (by simp [Ideal.ofBits, Ideal.ieee, -EReal.coe_mul]; norm_num) (by simp [Ideal.ofBits, Ideal.ieee, -EReal.coe_mul]; norm_num)
        (by simp [Ideal.ofBits, Ideal.ieee, -EReal.coe_mul]; norm_num) (by norm_num)⟩

/-- A target's cell is of its anchor. -/
theorem cell_anchor (T : Vec Ideal S128x6 .f32) (t : Fin 128) : (cell T t 1).val = (best T t).toNat := by
  show (best T t).toNat % 3 = _
  exact Nat.mod_eq_of_lt (best_lt T t)

variable {V0} (hi : ∀ t, 0 ≤ (img (argT V0) t).toInt)
include hi

/-- The reference's offset along x at the cell of a target that wins it. -/
theorem x_ref {t : Fin 128} (h : Win (argT V0) t) :
    (res_main_v259 V0 : Vec Ideal S16x3x80x80 .f32) (cell (argT V0) t) = dX (argT V0) t (chan (argP V0) (cell (argT V0) t) 0) := by
  obtain ⟨-, ⟨h3, e3⟩, -⟩ := ok_words _ h.1
  have e1 := (chan_slice 0 (by decide) (res_main_v4 V0 : Vec Ideal S16x3x80x80x85 .f32) slices_S16x3x80x80x85_S16x3x80x80x1_0_0_0_0_0 shapeCasts_S16x3x80x80x1_S16x3x80x80
    (cell (argT V0) t)).trans (view_ref V0 (cell (argT V0) t) 0)
  have e2 := (chan_slice 0 (by decide) (res_main_v191 V0 : Vec Ideal S16x3x80x80x4 .f32) slices_S16x3x80x80x4_S16x3x80x80x1_0_0_0_0_0 shapeCasts_S16x3x80x80x1_S16x3x80x80
    (cell (argT V0) t)).trans (boxes_ref V0 hi h 0)
  have e4 : (res_main_v235 V0 : Vec Ideal S80 .f32) (ix1 (cell (argT V0) t 3)) = (((cx (argT V0) t).toInt : ℝ) : EReal) := by
    refine (lane_ref V0 _).trans ?_
    have : ((cell (argT V0) t 3).val : Int) = (cx (argT V0) t).toInt := by
      show (((cx (argT V0) t).toNat % 80 : ℕ) : Int) = _
      omega
    rw [this]
  have e3 := (spread_lane (res_main_v235 V0 : Vec Ideal S80 .f32) (cell (argT V0) t)).trans e4
  unfold dX
  rw [← sigR]
  exact congrArg₂ (· - ·) (congrArg (fun x => Ideal.div (Ideal.ofBits .f32 0x3F800000#32) (Ideal.ofBits .f32 0x3F800000#32 + Ideal.exp (-x))) e1)
    (congrArg₂ (· - ·) (congrArg (fun x => Ideal.div x (Ideal.ofBits .f32 0x41000000#32)) e2) e3)

/-- Its offset along y there. -/
theorem y_ref {t : Fin 128} (h : Win (argT V0) t) :
    (res_main_v264 V0 : Vec Ideal S16x3x80x80 .f32) (cell (argT V0) t) = dY (argT V0) t (chan (argP V0) (cell (argT V0) t) 1) := by
  obtain ⟨-, -, ⟨h3, e3⟩⟩ := ok_words _ h.1
  have e1 := (chan_slice 1 (by decide) (res_main_v4 V0 : Vec Ideal S16x3x80x80x85 .f32) slices_S16x3x80x80x85_S16x3x80x80x1_0_0_0_0_1 shapeCasts_S16x3x80x80x1_S16x3x80x80
    (cell (argT V0) t)).trans (view_ref V0 (cell (argT V0) t) 1)
  have e2 := (chan_slice 1 (by decide) (res_main_v191 V0 : Vec Ideal S16x3x80x80x4 .f32) slices_S16x3x80x80x4_S16x3x80x80x1_0_0_0_0_1 shapeCasts_S16x3x80x80x1_S16x3x80x80
    (cell (argT V0) t)).trans (boxes_ref V0 hi h 1)
  have e4 : (res_main_v235 V0 : Vec Ideal S80 .f32) (ix1 (cell (argT V0) t 2)) = (((cy (argT V0) t).toInt : ℝ) : EReal) := by
    refine (lane_ref V0 _).trans ?_
    have : ((cell (argT V0) t 2).val : Int) = (cy (argT V0) t).toInt := by
      show (((cy (argT V0) t).toNat % 80 : ℕ) : Int) = _
      omega
    rw [this]
  have e3 := (spread_row (res_main_v235 V0 : Vec Ideal S80 .f32) (cell (argT V0) t)).trans e4
  unfold dY
  rw [← sigR]
  exact congrArg₂ (· - ·) (congrArg (fun x => Ideal.div (Ideal.ofBits .f32 0x3F800000#32) (Ideal.ofBits .f32 0x3F800000#32 + Ideal.exp (-x))) e1)
    (congrArg₂ (· - ·) (congrArg (fun x => Ideal.div x (Ideal.ofBits .f32 0x41000000#32)) e2) e3)

/-- Its width there. -/
theorem w_ref {t : Fin 128} (h : Win (argT V0) t) :
    (res_main_v272 V0 : Vec Ideal S16x3x80x80 .f32) (cell (argT V0) t) = dW (argT V0) t (chan (argP V0) (cell (argT V0) t) 2) := by
  have e1 := (chan_slice 2 (by decide) (res_main_v4 V0 : Vec Ideal S16x3x80x80x85 .f32) slices_S16x3x80x80x85_S16x3x80x80x1_0_0_0_0_2 shapeCasts_S16x3x80x80x1_S16x3x80x80
    (cell (argT V0) t)).trans (view_ref V0 (cell (argT V0) t) 2)
  have e2 := (chan_slice 0 (by decide) (res_main_v258 V0 : Vec Ideal S16x3x80x80x2 .f32) slices_S16x3x80x80x2_S16x3x80x80x1_0_0_0_0_0 shapeCasts_S16x3x80x80x1_S16x3x80x80
    (cell (argT V0) t)).trans (side_ref V0 (cell (argT V0) t) 0)
  have e3 := boxes_ref V0 hi h 2
  have e4 := (anchor_px (argT V0) t _ (cell_anchor (argT V0) t)).1
  unfold dW
  exact congrArg₂ (· - ·) e1 (e2.trans (congrArg₂ (fun a b => Ideal.log (Ideal.div a b + eps)) e3 e4))

/-- Its height there. -/
theorem h_ref {t : Fin 128} (h : Win (argT V0) t) :
    (res_main_v280 V0 : Vec Ideal S16x3x80x80 .f32) (cell (argT V0) t) = dH (argT V0) t (chan (argP V0) (cell (argT V0) t) 3) := by
  have e1 := (chan_slice 3 (by decide) (res_main_v4 V0 : Vec Ideal S16x3x80x80x85 .f32) slices_S16x3x80x80x85_S16x3x80x80x1_0_0_0_0_3 shapeCasts_S16x3x80x80x1_S16x3x80x80
    (cell (argT V0) t)).trans (view_ref V0 (cell (argT V0) t) 3)
  have e2 := (chan_slice 1 (by decide) (res_main_v258 V0 : Vec Ideal S16x3x80x80x2 .f32) slices_S16x3x80x80x2_S16x3x80x80x1_0_0_0_0_1 shapeCasts_S16x3x80x80x1_S16x3x80x80
    (cell (argT V0) t)).trans (side_ref V0 (cell (argT V0) t) 1)
  have e3 := boxes_ref V0 hi h 3
  have e4 := (anchor_px (argT V0) t _ (cell_anchor (argT V0) t)).2
  unfold dH
  exact congrArg₂ (· - ·) e1 (e2.trans (congrArg₂ (fun a b => Ideal.log (Ideal.div a b + eps)) e3 e4))

end Loss

/-! ## Its sums -/

section Sums

/-- The one place of a scalar. -/
def only : S_.Idx := fun a => a.elim0

/-- A scalar spread over the cells. -/
theorem scalar_at {α : Type} (v : S_.Idx → α) (c : S16x3x80x80.Idx) : broadcastInDim S16x3x80x80 ![] bcast_S_S16x3x80x80 v c = v only := by
  unfold broadcastInDim
  exact congrArg v (funext fun a => a.elim0)

/-- The reference's sum over the cells. -/
theorem sum4 (x : Vec Ideal S16x3x80x80 .f32) (j : S_.Idx) :
    Host.reduceAdd (F := Ideal) x (constant (F := Ideal) S_ .f32 0x00000000#32) reducesTo_S16x3x80x80_S_d0_1_2_3 h_S_ j = ∑ c, (x c : EReal) := by
  refine (hostReduceAdd_apply _ _ _ _ _).trans ((Ideal.hostReduceAdd_total _ (fun b => b.elim0) _ _ _).trans ?_)
  exact (congrArg (· + ∑ c, (x c : EReal)) Ideal.ofBits_zero_f32).trans (zero_add _)

/-- Its sum over the cells and the classes. -/
theorem sum5 (x : Vec Ideal S16x3x80x80x80 .f32) (j : S_.Idx) :
    Host.reduceAdd (F := Ideal) x (constant (F := Ideal) S_ .f32 0x00000000#32) reducesTo_S16x3x80x80x80_S_d0_1_2_3_4 h_S_ j
      = ∑ p : S16x3x80x80.Idx × Fin 80, (x (atClass p.1 p.2) : EReal) := by
  refine (hostReduceAdd_apply _ _ _ _ _).trans ((Ideal.hostReduceAdd_total _ (fun b => b.elim0) _ _ _).trans ?_)
  refine ((congrArg (· + ∑ c, (x c : EReal)) Ideal.ofBits_zero_f32).trans (zero_add _)).trans ?_
  exact (Equiv.sum_comp cellClass (fun i => (x i : EReal))).symm

variable (V0 : Valuation τ Cert.ReferenceIdeal.sig (Elt Ideal))

/-- The class losses. -/
def clsT : Vec Ideal S16x3x80x80x80 .f32 :=
  mulf (F := Ideal) (φ := .f32) (addf (F := Ideal) (φ := .f32) (subf (F := Ideal) (φ := .f32)
      (maximumf (F := Ideal) (φ := .f32) (res_main_v27 V0) (broadcastInDim S16x3x80x80x80 ![] bcast_S_S16x3x80x80x80 (constant (F := Ideal) S_ .f32 0x00000000#32)))
      (mulf (F := Ideal) (φ := .f32) (res_main_v27 V0) (classMarks V0)))
      (Host.log1p (F := Ideal) (φ := .f32) (Host.exp (F := Ideal) (φ := .f32) (Host.negf (F := Ideal) (φ := .f32) (Host.absf (F := Ideal) (φ := .f32) (res_main_v27 V0))))))
    (broadcastInDim S16x3x80x80x80 ![0, 1, 2, 3, 4] bcast_S16x3x80x80x1_S16x3x80x80x80_0_1_2_3_4
      (broadcastInDim S16x3x80x80x1 ![0, 1, 2, 3] bcast_S16x3x80x80_S16x3x80x80x1_0_1_2_3 (res_main_v125 V0)))

/-- A coordinate's losses. -/
def sqT (v : Vec Ideal S16x3x80x80 .f32) : Vec Ideal S16x3x80x80 .f32 :=
  mulf (F := Ideal) (φ := .f32) (mulf (F := Ideal) (φ := .f32) v v) (res_main_v125 V0)

/-- The objectness losses against a mark. -/
def objT (m : Vec Ideal S16x3x80x80 .f32) : Vec Ideal S16x3x80x80 .f32 :=
  addf (F := Ideal) (φ := .f32) (subf (F := Ideal) (φ := .f32)
      (maximumf (F := Ideal) (φ := .f32) (res_main_v26 V0) (broadcastInDim S16x3x80x80 ![] bcast_S_S16x3x80x80 (constant (F := Ideal) S_ .f32 0x00000000#32)))
      (mulf (F := Ideal) (φ := .f32) (res_main_v26 V0) m))
    (Host.log1p (F := Ideal) (φ := .f32) (Host.exp (F := Ideal) (φ := .f32) (Host.negf (F := Ideal) (φ := .f32) (Host.absf (F := Ideal) (φ := .f32) (res_main_v26 V0)))))

/-- A sum over the cells, a scalar. -/
def sumT (v : Vec Ideal S16x3x80x80 .f32) : Vec Ideal S_ .f32 :=
  mulf (F := Ideal) (φ := .f32) (constant (F := Ideal) S_ .f32 0x3F800000#32)
    (Host.reduceAdd (F := Ideal) (φ := .f32) v (constant (F := Ideal) S_ .f32 0x00000000#32) reducesTo_S16x3x80x80_S_d0_1_2_3 h_S_)

/-- That scalar is the sum. -/
theorem sumT_only (v : Vec Ideal S16x3x80x80 .f32) : sumT v only = ∑ c, (v c : EReal) :=
  (congrArg₂ (· * ·) Ideal.ofBits_one_f32 (sum4 v only)).trans (one_mul _)

/-- The classes' and the boxes' losses. -/
def headT : Vec Ideal S_ .f32 :=
  addf (F := Ideal) (φ := .f32) (mulf (F := Ideal) (φ := .f32) (constant (F := Ideal) S_ .f32 0x3F000000#32)
      (Host.reduceAdd (F := Ideal) (φ := .f32) (clsT V0) (constant (F := Ideal) S_ .f32 0x00000000#32) reducesTo_S16x3x80x80x80_S_d0_1_2_3_4 h_S_))
    (addf (F := Ideal) (φ := .f32) (addf (F := Ideal) (φ := .f32) (addf (F := Ideal) (φ := .f32) (sumT (sqT V0 (res_main_v259 V0))) (sumT (sqT V0 (res_main_v264 V0))))
      (sumT (sqT V0 (res_main_v272 V0)))) (sumT (sqT V0 (res_main_v280 V0))))

/-- That scalar is its sums. -/
theorem head_only : headT V0 only = half * (∑ p : S16x3x80x80.Idx × Fin 80, (clsT V0 (atClass p.1 p.2) : EReal))
    + (∑ c, (sqT V0 (res_main_v259 V0) c : EReal) + ∑ c, (sqT V0 (res_main_v264 V0) c : EReal) + ∑ c, (sqT V0 (res_main_v272 V0) c : EReal)
      + ∑ c, (sqT V0 (res_main_v280 V0) c : EReal)) :=
  congrArg₂ (· + ·) (congrArg (half * ·) (sum5 (clsT V0) only))
    (congrArg₂ (· + ·) (congrArg₂ (· + ·) (congrArg₂ (· + ·) (sumT_only _) (sumT_only _)) (sumT_only _)) (sumT_only _))

/-- No mark. -/
def noMark : Vec Ideal S16x3x80x80 .f32 := broadcastInDim S16x3x80x80 ![] bcast_S_S16x3x80x80 (constant (F := Ideal) S_ .f32 0x00000000#32)

/-- The last loss, cell by cell. -/
def restT : Vec Ideal S16x3x80x80 .f32 :=
  mulf (F := Ideal) (φ := .f32) (mulf (F := Ideal) (φ := .f32) (broadcastInDim S16x3x80x80 ![] bcast_S_S16x3x80x80 (constant (F := Ideal) S_ .f32 0x3F000000#32)) (objT V0 noMark))
    (subf (F := Ideal) (φ := .f32) (broadcastInDim S16x3x80x80 ![] bcast_S_S16x3x80x80 (constant (F := Ideal) S_ .f32 0x3F800000#32)) (res_main_v125 V0))

/-- The reference's result is these three together. -/
theorem whole : (res_main_v288 V0 : Vec Ideal S16x3x80x80 .f32)
    = addf (F := Ideal) (φ := .f32) (broadcastInDim S16x3x80x80 ![] bcast_S_S16x3x80x80 (headT V0))
      (addf (F := Ideal) (φ := .f32) (broadcastInDim S16x3x80x80 ![] bcast_S_S16x3x80x80 (sumT (objT V0 (res_main_v125 V0)))) (restT V0)) := rfl

/-- The reference's result as its sums. -/
theorem sums_ref (c : S16x3x80x80.Idx) : (res_main_v288 V0 : Vec Ideal S16x3x80x80 .f32) c
    = (half * (∑ p : S16x3x80x80.Idx × Fin 80, (clsT V0 (atClass p.1 p.2) : EReal))
      + (∑ c, (sqT V0 (res_main_v259 V0) c : EReal) + ∑ c, (sqT V0 (res_main_v264 V0) c : EReal) + ∑ c, (sqT V0 (res_main_v272 V0) c : EReal)
        + ∑ c, (sqT V0 (res_main_v280 V0) c : EReal)))
      + (∑ c, (objT V0 (res_main_v125 V0) c : EReal) + restT V0 c) := by
  rw [whole]
  exact congrArg₂ (· + ·) ((scalar_at (headT V0) c).trans (head_only V0))
    (congrArg (· + restT V0 c) ((scalar_at (sumT (objT V0 (res_main_v125 V0))) c).trans (sumT_only _)))

end Sums
end Cert.Yolo
end
-- ==== Proof.Meet.lean ====
module

public import proofs.«01_k».proof.Proof.RefValue

@[expose] public section

noncomputable section

namespace Cert.Yolo
open Idealize.ShloMosaic Idealize.ShloMosaic.ValueIdx
open Cert.ReferenceIdeal Cert.ReferenceIdeal.Gen Cert.ReferenceIdeal.Value
open scoped Classical BigOperators

/-! ## The two results are one -/

/-- A sum of differences of real numbers. -/
theorem sum_diff {ι : Type} [Fintype ι] (f a b : ι → EReal) (x y : ι → ℝ) (ha : ∀ i, a i = (x i : EReal)) (hb : ∀ i, b i = (y i : EReal))
    (hf : ∀ i, f i = a i - b i) : ∑ i, f i = ∑ i, a i - ∑ i, b i := by
  have e : ∀ i, f i = ((x i - y i : ℝ) : EReal) := fun i => by rw [hf, ha, hb, EReal.coe_sub]
  rw [Finset.sum_congr rfl fun i _ => e i, Finset.sum_congr rfl fun i _ => ha i, Finset.sum_congr rfl fun i _ => hb i, ← coe_sum, ← coe_sum, ← coe_sum, ← EReal.coe_sub,
    Finset.sum_sub_distrib]

/-- A logit's loss against a mark, from its cost. -/
theorem loss_mark (x m : EReal) : (max x (Ideal.ofBits .f32 0x00000000#32) - x * m) + Ideal.log1p (Ideal.exp (-(max x (-x)))) = cost x - x * m := by
  unfold cost
  rw [Ideal.ofBits_zero_f32, sub_eq_add_neg, sub_eq_add_neg, add_right_comm]

/-- A value times a mark. -/
theorem mul_mark (x : EReal) (p : Prop) : x * mark p = if p then x else 0 := by
  unfold mark
  split
  · rw [mul_one]
  · rw [mul_zero]

/-- A cell that a target names. -/
def Marked (T : Vec Ideal S128x6 .f32) (c : S16x3x80x80.Idx) : Prop := ∃ t, ok T t ∧ cell T t = c

/-- A cell and a class that a target names. -/
def MarkedC (T : Vec Ideal S128x6 .f32) (q : S16x3x80x80.Idx × Fin 80) : Prop := ∃ t, okc T t ∧ (cell T t, kcls T t) = q

/-- A sum over the cells that targets name is a sum over the targets that win one. -/
theorem sum_cells (T : Vec Ideal S128x6 .f32) (f : S16x3x80x80.Idx → EReal) :
    (∑ c, if Marked T c then f c else 0) = ∑ t, if Win T t then f (cell T t) else 0 := by
  refine Eq.trans (Finset.sum_congr rfl fun c _ => ?_) ((sum_marked (ok T) (cell T) f).trans (Finset.sum_congr rfl fun t _ => ?_))
  · by_cases h : Marked T c
    · rw [if_pos h, if_pos (show ∃ t, ok T t ∧ cell T t = c from h)]
    · rw [if_neg h, if_neg (show ¬ ∃ t, ok T t ∧ cell T t = c from h)]
  · by_cases h : Win T t
    · rw [if_pos h, if_pos (show Last (ok T) (cell T) t from h)]
    · rw [if_neg h, if_neg (show ¬ Last (ok T) (cell T) t from h)]

/-- The same of cells and classes. -/
theorem sum_classes (T : Vec Ideal S128x6 .f32) (f : S16x3x80x80.Idx × Fin 80 → EReal) :
    (∑ q, if MarkedC T q then f q else 0) = ∑ t, if Winc T t then f (cell T t, kcls T t) else 0 := by
  refine Eq.trans (Finset.sum_congr rfl fun c _ => ?_) ((sum_marked (okc T) (fun t => (cell T t, kcls T t)) f).trans (Finset.sum_congr rfl fun t _ => ?_))
  · by_cases h : MarkedC T c
    · rw [if_pos h, if_pos (show ∃ t, okc T t ∧ (cell T t, kcls T t) = c from h)]
    · rw [if_neg h, if_neg (show ¬ ∃ t, okc T t ∧ (cell T t, kcls T t) = c from h)]
  · by_cases h : Winc T t
    · rw [if_pos h, if_pos (show Last (okc T) (fun t => (cell T t, kcls T t)) t from h)]
    · rw [if_neg h, if_neg (show ¬ Last (okc T) (fun t => (cell T t, kcls T t)) t from h)]

/-- The classes' channels come after the objectness. -/
theorem clsChan_ge (k : Fin 80) : 4 ≤ (clsChan k).val := by
  show 4 ≤ 5 + k.val
  omega

section Meet
variable {V0 : Valuation τ Cert.ReferenceIdeal.sig (Elt Ideal)} (hi : ∀ t, 0 ≤ (img (argT V0) t).toInt)
include hi

/-- The reference's class loss at a cell and a class. -/
theorem clsT_at (hk : ∀ t, 0 ≤ (cls (argT V0) t).toInt) (c : S16x3x80x80.Idx) (k : Fin 80) : (clsT V0 (atClass c k) : EReal)
    = (if Marked (argT V0) c then cost (chan (argP V0) c (clsChan k)) else 0)
      - (if MarkedC (argT V0) (c, k) then chan (argP V0) c (clsChan k) else 0) := by
  have e1 := logit_ref V0 c k
  have e2 := classMarks_ref V0 hi hk c k
  have e3 := (spread_class (res_main_v125 V0 : Vec Ideal S16x3x80x80 .f32) c k).trans (marks_ref V0 hi c)
  have e : (clsT V0 (atClass c k) : EReal) = ((max (chan (argP V0) c (clsChan k)) (Ideal.ofBits .f32 0x00000000#32)
      - chan (argP V0) c (clsChan k) * mark (MarkedC (argT V0) (c, k)))
      + Ideal.log1p (Ideal.exp (-(max (chan (argP V0) c (clsChan k)) (-(chan (argP V0) c (clsChan k))))))) * mark (Marked (argT V0) c) := by
    refine congrArg₂ (· * ·) (congrArg₂ (· + ·) (congrArg₂ (· - ·) (congrArg (fun x => max x (Ideal.ofBits .f32 0x00000000#32)) e1) (congrArg₂ (· * ·) e1 e2))
      (congrArg (fun x => Ideal.log1p (Ideal.exp (-(max x (-x))))) e1)) e3
  rw [e, loss_mark, mul_mark, mul_mark]
  by_cases h : Marked (argT V0) c
  · rw [if_pos h, if_pos h]
  · have h' : ¬ MarkedC (argT V0) (c, k) := fun ⟨t, ho, q⟩ =>
      h ⟨t, (okc_words _ ho).1, congrArg Prod.fst q⟩
    rw [if_neg h, if_neg h, if_neg h', sub_zero]

/-- Its objectness loss at a cell. -/
theorem objT_at (c : S16x3x80x80.Idx) : (objT V0 (res_main_v125 V0) c : EReal)
    = cost (chan (argP V0) c 4) - (if Marked (argT V0) c then chan (argP V0) c 4 else 0) := by
  have e1 := obj_ref V0 c
  have e2 := marks_ref V0 hi c
  rw [← mul_mark, ← loss_mark]
  exact congrArg₂ (· + ·) (congrArg₂ (· - ·) (congrArg (fun x => max x (Ideal.ofBits .f32 0x00000000#32)) e1) (congrArg₂ (· * ·) e1 e2))
      (congrArg (fun x => Ideal.log1p (Ideal.exp (-(max x (-x))))) e1)

/-- Its last loss at a cell. -/
theorem restT_at (c : S16x3x80x80.Idx) : (restT V0 c : EReal)
    = if Marked (argT V0) c then 0 else half * cost (chan (argP V0) c 4) := by
  have e1 := obj_ref V0 c
  have e2 := marks_ref V0 hi c
  have e3 : (objT V0 noMark c : EReal) = cost (chan (argP V0) c 4) := by
    have q : (objT V0 noMark c : EReal) = (max (chan (argP V0) c 4) (Ideal.ofBits .f32 0x00000000#32) - chan (argP V0) c 4 * (0 : EReal))
        + Ideal.log1p (Ideal.exp (-(max (chan (argP V0) c 4) (-(chan (argP V0) c 4))))) :=
      congrArg₂ (· + ·) (congrArg₂ (· - ·) (congrArg (fun x => max x (Ideal.ofBits .f32 0x00000000#32)) e1) (congrArg₂ (· * ·) e1 Ideal.ofBits_zero_f32))
        (congrArg (fun x => Ideal.log1p (Ideal.exp (-(max x (-x))))) e1)
    rw [q, loss_mark, mul_zero, sub_zero]
  have e : (restT V0 c : EReal) = (half * cost (chan (argP V0) c 4)) * (1 - mark (Marked (argT V0) c)) :=
    congrArg₂ (· * ·) (congrArg (half * ·) e3) (congrArg₂ (· - ·) Ideal.ofBits_one_f32 e2)
  rw [e]
  unfold mark
  split
  · rw [show (1 : EReal) - 1 = 0 by rw [← EReal.coe_one, ← EReal.coe_sub, sub_self, EReal.coe_zero], mul_zero]
  · rw [sub_zero, mul_one]

/-- A coordinate's losses, target by target. -/
theorem sqT_sum (v : Vec Ideal S16x3x80x80 .f32) (d : Fin 128 → EReal) (h : ∀ t, Win (argT V0) t → v (cell (argT V0) t) = d t) :
    ∑ c, (sqT V0 v c : EReal) = ∑ t, if Win (argT V0) t then d t * d t else 0 := by
  have e : ∀ c, (sqT V0 v c : EReal) = if Marked (argT V0) c then (v c * v c : EReal) else 0 := fun c => by
    refine Eq.trans ?_ (mul_mark (v c * v c : EReal) (Marked (argT V0) c))
    exact congrArg (fun x : EReal => (v c * v c : EReal) * x) (marks_ref V0 hi c)
  refine (Finset.sum_congr rfl fun c _ => e c).trans ((sum_cells (argT V0) (fun c => (v c * v c : EReal))).trans ?_)
  refine Finset.sum_congr rfl fun t _ => ?_
  by_cases q : Win (argT V0) t
  · rw [if_pos q, if_pos q, h t q]
  · rw [if_neg q, if_neg q]

/-- The boxes' losses. -/
theorem box_sum : ∑ c, (sqT V0 (res_main_v259 V0) c : EReal) + ∑ c, (sqT V0 (res_main_v264 V0) c : EReal) + ∑ c, (sqT V0 (res_main_v272 V0) c : EReal)
        + ∑ c, (sqT V0 (res_main_v280 V0) c : EReal) = ∑ t, if Win (argT V0) t then box (argP V0) (argT V0) t else 0 := by
  rw [sqT_sum hi _ _ fun t h => x_ref hi h, sqT_sum hi _ _ fun t h => y_ref hi h, sqT_sum hi _ _ fun t h => w_ref hi h, sqT_sum hi _ _ fun t h => h_ref hi h,
    ← Finset.sum_add_distrib, ← Finset.sum_add_distrib, ← Finset.sum_add_distrib]
  refine Finset.sum_congr rfl fun t _ => ?_
  by_cases q : Win (argT V0) t
  · simp only [if_pos q]; rfl
  · simp only [if_neg q, add_zero]

/-- The classes' losses. -/
theorem class_sum (hk : ∀ t, 0 ≤ (cls (argT V0) t).toInt) (p : S16x3x80x80.Idx → Fin 85 → ℝ) (hp : ∀ c k, 4 ≤ k.val → chan (argP V0) c k = (p c k : EReal)) :
    (∑ q : S16x3x80x80.Idx × Fin 80, (clsT V0 (atClass q.1 q.2) : EReal))
      = (∑ t, if Win (argT V0) t then ∑ k, cost (chan (argP V0) (cell (argT V0) t) (clsChan k)) else 0)
        - ∑ t, if Winc (argT V0) t then chan (argP V0) (cell (argT V0) t) (clsChan (kcls (argT V0) t)) else 0 := by
  refine (sum_diff _ (fun q : S16x3x80x80.Idx × Fin 80 => if Marked (argT V0) q.1 then cost (chan (argP V0) q.1 (clsChan q.2)) else 0)
    (fun q : S16x3x80x80.Idx × Fin 80 => if MarkedC (argT V0) q then chan (argP V0) q.1 (clsChan q.2) else 0)
    (fun q => if Marked (argT V0) q.1 then softplus (p q.1 (clsChan q.2)) else 0)
    (fun q => if MarkedC (argT V0) q then p q.1 (clsChan q.2) else 0)
    (fun q => ?_) (fun q => ?_) (fun q => clsT_at hi hk q.1 q.2)).trans ?_
  · show (if _ then cost (chan (argP V0) q.1 (clsChan q.2)) else 0) = _
    rw [hp _ _ (clsChan_ge q.2), cost_coe]; exact (coe_ite _ _ _).symm
  · show (if _ then chan (argP V0) q.1 (clsChan q.2) else 0) = _
    rw [hp _ _ (clsChan_ge q.2)]; exact (coe_ite _ _ _).symm
  · refine congrArg₂ (· - ·) ?_ (sum_classes (argT V0) (fun q => chan (argP V0) q.1 (clsChan q.2)))
    refine Fintype.sum_prod_type _ |>.trans ((Finset.sum_congr rfl fun c _ => ?_).trans
      (sum_cells (argT V0) (fun c => ∑ k, cost (chan (argP V0) c (clsChan k)))))
    by_cases q : Marked (argT V0) c
    · simp only [if_pos q]
    · simp only [if_neg q, Finset.sum_const_zero]

/-- The objectness losses. -/
theorem obj_sum (p : S16x3x80x80.Idx → Fin 85 → ℝ) (hp : ∀ c k, 4 ≤ k.val → chan (argP V0) c k = (p c k : EReal)) :
    (∑ c, (objT V0 (res_main_v125 V0) c : EReal)) = dense (argP V0) - ∑ t, if Win (argT V0) t then chan (argP V0) (cell (argT V0) t) 4 else 0 := by
  refine (sum_diff _ (fun c => cost (chan (argP V0) c 4)) (fun c => if Marked (argT V0) c then chan (argP V0) c 4 else 0)
    (fun c => softplus (p c 4)) (fun c => if Marked (argT V0) c then p c 4 else 0)
    (fun c => ?_) (fun c => ?_) (fun c => objT_at hi c)).trans ?_
  · show cost (chan (argP V0) c 4) = _
    rw [hp _ _ le_rfl, cost_coe]
  · show (if _ then chan (argP V0) c 4 else 0) = _
    rw [hp _ _ le_rfl]; exact (coe_ite _ _ _).symm
  · exact congrArg (dense (argP V0) - ·) (sum_cells (argT V0) (fun c => chan (argP V0) c 4))

/-- The reference's result is the kernel's. -/
theorem meet (hk : ∀ t, 0 ≤ (cls (argT V0) t).toInt) (p : S16x3x80x80.Idx → Fin 85 → ℝ) (hp : ∀ c k, 4 ≤ k.val → chan (argP V0) c k = (p c k : EReal)) :
    (res_main_v288 V0 : Vec Ideal S16x3x80x80 .f32) = kernelOut (argP V0) (argT V0) := by
  funext c
  rw [sums_ref, box_sum hi, class_sum hi hk p hp, obj_sum hi p hp, restT_at hi]
  unfold kernelOut sparse
  generalize (∑ t, if Win (argT V0) t then chan (argP V0) (cell (argT V0) t) 4 else 0) = S
  generalize half * ((∑ t, if Win (argT V0) t then ∑ k, cost (chan (argP V0) (cell (argT V0) t) (clsChan k)) else 0)
        - ∑ t, if Winc (argT V0) t then chan (argP V0) (cell (argT V0) t) (clsChan (kcls (argT V0) t)) else 0) = C
  generalize (∑ t, if Win (argT V0) t then box (argP V0) (argT V0) t else 0) = B
  generalize dense (argP V0) = D
  generalize half * cost (chan (argP V0) c 4) = R
  have e : ∀ r : EReal, (C + B) + (D - S + r) = (0 - S + C + B + D) + r := fun r => by
    rw [sub_eq_add_neg, sub_eq_add_neg, zero_add]
    ac_rfl
  by_cases h : Marked (argT V0) c
  · rw [if_pos h, if_pos (show ∃ t, ok (argT V0) t ∧ cell (argT V0) t = c from h)]
    exact (e 0).trans (add_zero _)
  · rw [if_neg h, if_neg (show ¬ ∃ t, ok (argT V0) t ∧ cell (argT V0) t = c from h)]
    exact e R

end Meet
end Cert.Yolo
end
-- ==== Proof.Agree.lean ====
module

public import proofs.«01_k».proof.Defs
public import proofs.«01_k».proof.Proof.Meet
public import proofs.«01_k».proof.Proof.Frames
public import Idealize.ShloMosaic.Lib.ReduceAll
public import Idealize.ShloMosaic.Lib.Claim

@[expose] public section

noncomputable section

namespace Cert.Agree
open Idealize.ShloMosaic Idealize.ShloMosaic.ValueIdx Idealize.ShloMosaic.TcCoe Idealize.ShloMosaic.StableHlo Idealize.SL.Sem
open Cert.Yolo

/-! ## What the precondition says, and the claim -/

/-- The side conditions of the precondition's operations. -/
instance facts : Cert.Pre_finite_and_counted.Facts := by constructor <;> decide

section Pre
variable (P : Vec Ideal Cert.KernelIdeal.S16x255x80x80 .f32) (T : Vec Ideal Cert.KernelIdeal.S128x6 .f32)

/-- A magnitude below infinity is a real number's. -/
theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  have hl : max x (-x) < ⊤ := of_decide_eq_true ((ofBool_one _).1 h)
  induction x using EReal.rec with
  | bot => simp at hl
  | top => simp at hl
  | coe r => exact ⟨r, rfl⟩

/-- The logits are the channels from the fourth on. -/
theorem logits_at {α : Type} (v : Cert.Pre_finite_and_counted.S16x3x85x80x80.Idx → α)
    (h : Cert.Pre_finite_and_counted.S16x3x85x80x80.Slices ![0, 0, 4, 0, 0] Cert.Pre_finite_and_counted.S16x3x81x80x80)
    (c : Cert.KernelIdeal.S16x3x80x80.Idx) (k : Fin 85) (hk : 4 ≤ k.val) :
    extractStridedSlice Cert.Pre_finite_and_counted.S16x3x81x80x80 ![0, 0, 4, 0, 0] v h (ix5 (c 0) (c 1) ⟨k.val - 4, by omega⟩ (c 2) (c 3))
      = v (ix5 (c 0) (c 1) k (c 2) (c 3)) := by
  refine congrArg v (funext fun a => Fin.ext ?_)
  fin_cases a
  · show 0 + (c 0).val = (c 0).val; omega
  · show 0 + (c 1).val = (c 1).val; omega
  · show 4 + (k.val - 4) = k.val; omega
  · show 0 + (c 2).val = (c 2).val; omega
  · show 0 + (c 3).val = (c 3).val; omega

/-- What the precondition says. -/
theorem pre_holds (h : Cert.Pre_finite_and_counted.fn (F := Ideal) P T = fun _ => 1#1) :
    (∃ p : Cert.KernelIdeal.S16x3x80x80.Idx → Fin 85 → ℝ, ∀ c k, 4 ≤ k.val → chan P c k = (p c k : EReal)) ∧ (∀ t, 0 ≤ (img T t).toInt) ∧ ∀ t, 0 ≤ (cls T t).toInt := by
  have h0 := congrFun h only
  have z : (0#32).toInt = 0 := by decide
  obtain ⟨h1, h2⟩ := (andi_one _ _).1 h0
  obtain ⟨h3, h4⟩ := (andi_one _ _).1 h1
  have sub : Subsingleton Cert.Pre_finite_and_counted.S_.Idx := ⟨fun a b => funext fun i => i.elim0⟩
  refine ⟨?_, fun t => ?_, fun t => ?_⟩
  · have q : ∀ c k, ∃ r : ℝ, 4 ≤ k.val → chan P c k = (r : EReal) := fun c k => by
      by_cases hk : 4 ≤ k.val
      · have e := (logits_at _ facts.slices_S16x3x85x80x80_S16x3x81x80x80_0_0_4_0_0 c k hk).trans
          (cast_chan P facts.shapeCasts_S16x255x80x80_S16x3x85x80x80 c k)
        obtain ⟨r, hr⟩ := real_of_lt _ (Host.reduce_andi_all _ _ _ _ _ h3 (ix5 (c 0) (c 1) ⟨k.val - 4, by omega⟩ (c 2) (c 3)))
        exact ⟨r, fun _ => e.symm.trans hr⟩
      · exact ⟨0, fun h => absurd h hk⟩
    exact ⟨fun c k => (q c k).choose, fun c k => (q c k).choose_spec⟩
  · have q := (sge_one _ _).1 (Host.reduce_andi_all _ _ _ _ _ h4 (ix1 t))
    have e := (drop2 _ facts.shapeCasts_S128x1_S128 t).trans (cols2 0 T facts.slices_S128x6_S128x1_0_0 t 0 (by decide))
    exact (z.symm.le.trans q).trans_eq (congrArg (fun x => (Ideal.fptosi 32 x).toInt) e)
  · have q := (sge_one _ _).1 (Host.reduce_andi_all _ _ _ _ _ h2 (ix1 t))
    have e := (drop2 _ facts.shapeCasts_S128x1_S128 t).trans (cols2 1 T facts.slices_S128x6_S128x1_0_1 t 0 (by decide))
    exact (z.symm.le.trans q).trans_eq (congrArg (fun x => (Ideal.fptosi 32 x).toInt) e)

end Pre

/-- The kernel and the reference, both read at the extended reals, end with the same result. -/
theorem algebraic : Cert.algebraic_KernelIdeal_ReferenceIdeal_pre_finite_and_counted (hKernelIdeal := Cert.KernelIdeal.Gen.facts)
    (hReferenceIdeal := Cert.ReferenceIdeal.Gen.facts) (hPre_finite_and_counted := facts) := by
  intro m g m' g' hpre hargs
  refine ⟨fun c => kernelOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run _ _ _).mono (fun r h c => ⟨((h.1 c).1).trans ?_, (h.1 c).2⟩) (Cert.Same.run_ideal (F := Ideal) m g)
    exact kernel_value _ _ _
  · refine (θ_run _ _ _).mono (fun r h c => ⟨((h c).1).trans ?_, (h c).2⟩) (Cert.ReferenceIdeal.Value.run (F := Ideal) m' g')
    obtain ⟨⟨p, hp⟩, hi, hk⟩ := pre_holds _ _ (hpre c)
    have eP : argP (launchContents m' c) = m ((c.tc : Thread Cert.KernelIdeal.nD Cert.KernelIdeal.τ).loc Cert.KernelIdeal.main_arg0) := (hargs c).1
    have eT : argT (launchContents m' c) = m ((c.tc : Thread Cert.KernelIdeal.nD Cert.KernelIdeal.τ).loc Cert.KernelIdeal.main_arg1) := (hargs c).2
    rw [← eP] at hp
    rw [← eT] at hi hk
    refine Eq.trans ?_ (congrArg₂ kernelOut eP eT)
    exact meet hi hk p hp

end Cert.Agree
end
-- ==== Proof.lean ====
/- The proof of the certificate's claims, put together from its modules. -/
module

public import proofs.«01_k».proof.Defs
public import proofs.«01_k».proof.Proof.Frames
public import proofs.«01_k».proof.Proof.Agree

@[expose] public section

noncomputable section

namespace Cert.Proof

/-- Everything that the certificate claims. -/
theorem claim : Cert.Claim :=
  ⟨Cert.Kernel.Gen.facts, Cert.KernelIdeal.Gen.facts, Cert.ReferenceIdeal.Gen.facts, Cert.Agree.facts,
    Cert.Frames.kernel, Cert.Frames.kernelIdeal, fun m g _ => Cert.Frames.kernelIdeal m g trivial,
    Cert.Frames.referenceIdeal, fun m g _ => Cert.Frames.referenceIdeal m g trivial, trivial, Cert.Agree.algebraic⟩

end Cert.Proof

end
